-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_augmented [hPre_augmented : Cert.Pre_augmented.Facts] (m : (ℓ : Loc Cert.KernelIdeal.nD Cert.KernelIdeal.τ Cert.KernelIdeal.sig) → Buf (Elt Ideal) ℓ) : Prop :=
  ∀ c : Dev Cert.KernelIdeal.nD,
    (Cert.Pre_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_augmented [hPre_augmented : Cert.Pre_augmented.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_augmented [hKernelIdeal : Cert.KernelIdeal.Facts] [hPre_augmented : Cert.Pre_augmented.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_augmented m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_augmented [hReferenceIdeal : Cert.ReferenceIdeal.Facts] [hPre_augmented : Cert.Pre_augmented.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_augmented m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "slope0" .f32 0x3F38AA3B#32 (((1 / 2) * (Real.log 2)⁻¹ : ℝ) : EReal)
  ∧ IdealRules.named_const.Statement Cert.KernelIdeal.κ "slope1" .f32 0x3EB8AA3B#32 (((1 / 4) * (Real.log 2)⁻¹ : ℝ) : EReal)
  ∧ IdealRules.named_const.Statement Cert.KernelIdeal.κ "slope2" .f32 0x3E38AA3B#32 (((1 / 8) * (Real.log 2)⁻¹ : ℝ) : EReal)
  ∧ IdealRules.named_const.Statement Cert.KernelIdeal.κ "slope3" .f32 0x3DB8AA3B#32 (((1 / 16) * (Real.log 2)⁻¹ : ℝ) : EReal)
  ∧ IdealRules.named_const.Statement Cert.KernelIdeal.κ "slope4" .f32 0x3D38AA3B#32 (((1 / 32) * (Real.log 2)⁻¹ : ℝ) : EReal)
  ∧ IdealRules.named_const.Statement Cert.KernelIdeal.κ "slope5" .f32 0x3CB8AA3B#32 (((1 / 64) * (Real.log 2)⁻¹ : ℝ) : EReal)
  ∧ IdealRules.named_const.Statement Cert.KernelIdeal.κ "slope6" .f32 0x3C38AA3B#32 (((1 / 128) * (Real.log 2)⁻¹ : ℝ) : EReal)
  ∧ IdealRules.named_const.Statement Cert.KernelIdeal.κ "slope7" .f32 0x3BB8AA3B#32 (((1 / 256) * (Real.log 2)⁻¹ : ℝ) : EReal)
  ∧ IdealRules.named_const.Statement Cert.KernelIdeal.κ "big" .f32 0x7149F2CA#32 ⊤
  ∧ IdealRules.named_const.Statement Cert.KernelIdeal.κ "neg" .f32 0xF149F2CA#32 ⊥

def algebraic_KernelIdeal_ReferenceIdeal_pre_augmented [hKernelIdeal : Cert.KernelIdeal.Facts] [hReferenceIdeal : Cert.ReferenceIdeal.Facts] [hPre_augmented : Cert.Pre_augmented.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_augmented m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  IdealRules.named_const.Statement Cert.Kernel4Ideal.κ "scale" .f32 0x3E0293EE#32 (((Real.sqrt 128)⁻¹ * (Real.log 2)⁻¹ : ℝ) : EReal)

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "qscale" .f32 0x3E38AA3B#32 (((1 / 8) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)) (v12 : (c : Dev Cert.Kernel6Ideal.nD) → Buf (Elt Ideal) ((c.tc : Thread Cert.Kernel6Ideal.nD Cert.Kernel6Ideal.τ).loc Cert.Kernel6Ideal.main_v0_12)) (v13 : (c : Dev Cert.Kernel6Ideal.nD) → Buf (Elt Ideal) ((c.tc : Thread Cert.Kernel6Ideal.nD Cert.Kernel6Ideal.τ).loc Cert.Kernel6Ideal.main_v0_13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_v0_12) = v12 c
          ∧ r.2.mem ((c.tc : Thread Cert.Kernel6Ideal.nD Cert.Kernel6Ideal.τ).loc Cert.Kernel6Ideal.main_v0_13) = v13 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_v82) = v2 c
          ∧ r.2.mem ((c.tc : Thread Cert.Reference6Ideal.nD Cert.Reference6Ideal.τ).loc Cert.Reference6Ideal.main_v83) = v3 c
          ∧ r.2.mem ((c.tc : Thread Cert.Reference6Ideal.nD Cert.Reference6Ideal.τ).loc Cert.Reference6Ideal.main_v60) = v4 c
          ∧ r.2.mem ((c.tc : Thread Cert.Reference6Ideal.nD Cert.Reference6Ideal.τ).loc Cert.Reference6Ideal.main_v84) = v5 c
          ∧ r.2.mem ((c.tc : Thread Cert.Reference6Ideal.nD Cert.Reference6Ideal.τ).loc Cert.Reference6Ideal.main_v91) = v6 c
          ∧ r.2.mem ((c.tc : Thread Cert.Reference6Ideal.nD Cert.Reference6Ideal.τ).loc Cert.Reference6Ideal.main_v92) = v7 c
          ∧ r.2.mem ((c.tc : Thread Cert.Reference6Ideal.nD Cert.Reference6Ideal.τ).loc Cert.Reference6Ideal.main_v93) = v8 c
          ∧ r.2.mem ((c.tc : Thread Cert.Reference6Ideal.nD Cert.Reference6Ideal.τ).loc Cert.Reference6Ideal.main_v94) = v9 c
          ∧ r.2.mem ((c.tc : Thread Cert.Reference6Ideal.nD Cert.Reference6Ideal.τ).loc Cert.Reference6Ideal.main_v95) = v10 c
          ∧ r.2.mem ((c.tc : Thread Cert.Reference6Ideal.nD Cert.Reference6Ideal.τ).loc Cert.Reference6Ideal.main_v96) = v11 c
          ∧ r.2.mem ((c.tc : Thread Cert.Reference6Ideal.nD Cert.Reference6Ideal.τ).loc Cert.Reference6Ideal.main_v97) = v12 c
          ∧ r.2.mem ((c.tc : Thread Cert.Reference6Ideal.nD Cert.Reference6Ideal.τ).loc Cert.Reference6Ideal.main_v98) = v13 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v101) = v0 c
          ∧ r.2.mem ((c.tc : Thread Cert.Reference7Ideal.nD Cert.Reference7Ideal.τ).loc Cert.Reference7Ideal.main_v102) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_augmented : Cert.Pre_augmented.Facts) (hPre_finite : Cert.Pre_finite.Facts),
    quiescent_Kernel (hKernel := hKernel)
    ∧ quiescent_KernelIdeal (hKernelIdeal := hKernelIdeal)
    ∧ quiescent_KernelIdeal_pre_augmented (hKernelIdeal := hKernelIdeal) (hPre_augmented := hPre_augmented)
    ∧ quiescent_ReferenceIdeal (hReferenceIdeal := hReferenceIdeal)
    ∧ quiescent_ReferenceIdeal_pre_augmented (hReferenceIdeal := hReferenceIdeal) (hPre_augmented := hPre_augmented)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_augmented (hKernelIdeal := hKernelIdeal) (hReferenceIdeal := hReferenceIdeal) (hPre_augmented := hPre_augmented)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_augmented.lean ====
abbrev S2x512x8192 : Shape := ⟨3, ![2, 512, 8192]⟩
abbrev S2x2x512x128 : Shape := ⟨4, ![2, 2, 512, 128]⟩
abbrev S2x2x208x512 : Shape := ⟨4, ![2, 2, 208, 512]⟩
abbrev S2x32x8192 : Shape := ⟨3, ![2, 32, 8192]⟩
abbrev S2x2x512x1 : Shape := ⟨4, ![2, 2, 512, 1]⟩
abbrev S_ : Shape := ⟨0, ![]⟩
abbrev S2x2x1x512 : Shape := ⟨4, ![2, 2, 1, 512]⟩
abbrev S2x2x128x512 : Shape := ⟨4, ![2, 2, 128, 512]⟩

class Facts : Prop where
  slices_S2x2x512x128_S2x2x512x1_0_0_0_64 : S2x2x512x128.Slices ![0, 0, 0, 64] S2x2x512x1
  bitsLt_bf16_f32 : FTy.bits .bf16 < FTy.bits .f32
  bcast_S_S2x2x512x1 : S_.BroadcastsInDim S2x2x512x1 (![] : Fin 0 → Fin S2x2x512x1.rank)
  slices_S2x2x208x512_S2x2x1x512_0_0_64_0 : S2x2x208x512.Slices ![0, 0, 64, 0] S2x2x1x512
  slices_S2x2x208x512_S2x2x128x512_0_0_80_0 : S2x2x208x512.Slices ![0, 0, 80, 0] S2x2x128x512
  bcast_S_S2x2x128x512 : S_.BroadcastsInDim S2x2x128x512 (![] : Fin 0 → Fin S2x2x128x512.rank)
  bcast_S_S2x2x1x512 : S_.BroadcastsInDim S2x2x1x512 (![] : Fin 0 → Fin S2x2x1x512.rank)

variable [Facts]

def fn_part1 {F : FTy → Type} [FloatOps F] (main_v1 : FVec F S2x2x512x1 .f32) (main_v6 : IVec S2x2x512x1 32) (main_v8 : FVec F S2x2x1x512 .f32) (main_v10 : FVec F S2x2x128x512 .f32) (main_v13 : IVec S2x2x128x512 32) (main_v16 : IVec S2x2x128x512 32) (main_v18 : IVec S2x2x128x512 32) : IVec S2x2x512x1 1 × IVec S2x2x1x512 1 × IVec S2x2x128x512 1 :=
  let main_v19 : IVec S2x2x128x512 1 := cmpi .slt main_v13 main_v18
  let main_c_4 : IVec S_ 32 := constantI S_ 32 31#32
  let main_v20 : IVec S2x2x128x512 32 := broadcastInDim S2x2x128x512 ![] bcast_S_S2x2x128x512 main_c_4
  let main_v21 : IVec S2x2x128x512 32 := addi main_v13 main_v20
  let main_v22 : IVec S2x2x128x512 1 := cmpi .sge main_v21 main_v16
  let main_v23 : IVec S2x2x128x512 1 := andi main_v19 main_v22
  let main_cst : FVec F S_ .f32 := constant S_ .f32 0x3F800000#32
  let main_v24 : FVec F S2x2x128x512 .f32 := broadcastInDim S2x2x128x512 ![] bcast_S_S2x2x128x512 main_cst
  let main_cst_5 : FVec F S_ .f32 := constant S_ .f32 0x00000000#32
  let main_v25 : FVec F S2x2x128x512 .f32 := broadcastInDim S2x2x128x512 ![] bcast_S_S2x2x128x512 main_cst_5
  let main_v26 : FVec F S2x2x128x512 .f32 := select main_v23 main_v24 main_v25
  let main_v27 : FVec F S2x2x512x1 .f32 := sitofp .f32 main_v6
  let main_v28 : IVec S2x2x512x1 1 := cmpf .oeq main_v1 main_v27
  let main_cst_6 : FVec F S_ .f32 := constant S_ .f32 0x3F800000#32
  let main_v29 : FVec F S2x2x1x512 .f32 := broadcastInDim S2x2x1x512 ![] bcast_S_S2x2x1x512 main_cst_6
  let main_v30 : IVec S2x2x1x512 1 := cmpf .oeq main_v8 main_v29
  let main_v31 : IVec S2x2x128x512 1 := cmpf .oeq main_v10 main_v26
  (main_v28, main_v30, main_v31)

def fn {F : FTy → Type} [FloatOps F] (main_arg0 : FVec F S2x512x8192 .bf16) (main_arg1 : FVec F S2x2x512x128 .bf16) (main_arg2 : FVec F S2x2x208x512 .bf16) (main_arg3 : FVec F S2x32x8192 .f32) : IVec S2x2x512x1 1 × IVec S2x2x1x512 1 × IVec S2x2x128x512 1 :=
  let main_v0 : FVec F S2x2x512x1 .bf16 := (extractStridedSlice S2x2x512x1 ![0, 0, 0, 64] · slices_S2x2x512x128_S2x2x512x1_0_0_0_64) main_arg1
  let main_v1 : FVec F S2x2x512x1 .f32 := (extf .f32 · bitsLt_bf16_f32) main_v0
  let main_v2 : IVec S2x2x512x1 32 := iotaInDim S2x2x512x1 32 2
  let main_c : IVec S_ 32 := constantI S_ 32 127#32
  let main_v3 : IVec S2x2x512x1 32 := broadcastInDim S2x2x512x1 ![] bcast_S_S2x2x512x1 main_c
  let main_v4 : IVec S2x2x512x1 32 := andi main_v2 main_v3
  let main_c_0 : IVec S_ 32 := constantI S_ 32 16#32
  let main_v5 : IVec S2x2x512x1 32 := broadcastInDim S2x2x512x1 ![] bcast_S_S2x2x512x1 main_c_0
  let main_v6 : IVec S2x2x512x1 32 := muli main_v4 main_v5
  let main_v7 : FVec F S2x2x1x512 .bf16 := (extractStridedSlice S2x2x1x512 ![0, 0, 64, 0] · slices_S2x2x208x512_S2x2x1x512_0_0_64_0) main_arg2
  let main_v8 : FVec F S2x2x1x512 .f32 := (extf .f32 · bitsLt_bf16_f32) main_v7
  let main_v9 : FVec F S2x2x128x512 .bf16 := (extractStridedSlice S2x2x128x512 ![0, 0, 80, 0] · slices_S2x2x208x512_S2x2x128x512_0_0_80_0) main_arg2
  let main_v10 : FVec F S2x2x128x512 .f32 := (extf .f32 · bitsLt_bf16_f32) main_v9
  let main_v11 : IVec S2x2x128x512 32 := iotaInDim S2x2x128x512 32 3
  let main_c_1 : IVec S_ 32 := constantI S_ 32 16#32
  let main_v12 : IVec S2x2x128x512 32 := broadcastInDim S2x2x128x512 ![] bcast_S_S2x2x128x512 main_c_1
  let main_v13 : IVec S2x2x128x512 32 := muli main_v11 main_v12
  let main_v14 : IVec S2x2x128x512 32 := iotaInDim S2x2x128x512 32 2
  let main_c_2 : IVec S_ 32 := constantI S_ 32 64#32
  let main_v15 : IVec S2x2x128x512 32 := broadcastInDim S2x2x128x512 ![] bcast_S_S2x2x128x512 main_c_2
  let main_v16 : IVec S2x2x128x512 32 := muli main_v14 main_v15
  let main_c_3 : IVec S_ 32 := constantI S_ 32 64#32
  let main_v17 : IVec S2x2x128x512 32 := broadcastInDim S2x2x128x512 ![] bcast_S_S2x2x128x512 main_c_3
  let main_v18 : IVec S2x2x128x512 32 := addi main_v16 main_v17
  fn_part1 (F := F) main_v1 main_v6 main_v8 main_v10 main_v13 main_v16 main_v18
-- ==== Pre_finite.lean ====
abbrev S16384x1024 : Shape := ⟨2, ![16384, 1024]⟩
abbrev S1x1024 : Shape := ⟨2, ![1, 1024]⟩
abbrev S1024x512 : Shape := ⟨2, ![1024, 512]⟩
abbrev S2x256x1024 : Shape := ⟨3, ![2, 256, 1024]⟩
abbrev S512x1024 : Shape := ⟨2, ![512, 1024]⟩
abbrev S_ : Shape := ⟨0, ![]⟩
abbrev S2x256x512 : Shape := ⟨3, ![2, 256, 512]⟩

class Facts : Prop where
  bcast_S_S1x1024 : S_.BroadcastsInDim S1x1024 (![] : Fin 0 → Fin S1x1024.rank)
  bitsLt_bf16_f32 : FTy.bits .bf16 < FTy.bits .f32
  bcast_S_S1024x512 : S_.BroadcastsInDim S1024x512 (![] : Fin 0 → Fin S1024x512.rank)
  slices_S2x256x1024_S2x256x512_0_0_0 : S2x256x1024.Slices ![0, 0, 0] S2x256x512
  bcast_S_S2x256x512 : S_.BroadcastsInDim S2x256x512 (![] : Fin 0 → Fin S2x256x512.rank)

variable [Facts]

def fn {F : FTy → Type} [FloatOps F] (main_arg0 : FVec F S16384x1024 .f32) (main_arg1 : FVec F S1x1024 .f32) (main_arg2 : FVec F S1024x512 .bf16) (main_arg3 : FVec F S2x256x1024 .bf16) (main_arg4 : FVec F S512x1024 .bf16) : IVec S1x1024 1 × IVec S1024x512 1 × IVec S2x256x512 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x512 .f32 := (extf .f32 · bitsLt_bf16_f32) main_arg2
  let main_v4 : FVec F S1024x512 .f32 := Host.absf main_v3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_v7 : FVec F S2x256x512 .bf16 := (extractStridedSlice S2x256x512 ![0, 0, 0] · slices_S2x256x1024_S2x256x512_0_0_0) main_arg3
  let main_v8 : FVec F S2x256x512 .f32 := (extf .f32 · bitsLt_bf16_f32) main_v7
  let main_v9 : FVec F S2x256x512 .f32 := Host.absf main_v8
  let main_cst_1 : FVec F S_ .f32 := constant S_ .f32 0x7F800000#32
  let main_v10 : FVec F S2x256x512 .f32 := broadcastInDim S2x256x512 ![] bcast_S_S2x256x512 main_cst_1
  let main_v11 : IVec S2x256x512 1 := cmpf .olt main_v9 main_v10
  (main_v2, main_v6, main_v11)
-- ==== Kernel.lean ====
abbrev S2x512x8192 : Shape := ⟨3, ![2, 512, 8192]⟩
abbrev S2x2x512x128 : Shape := ⟨4, ![2, 2, 512, 128]⟩
abbrev S2x2x208x512 : Shape := ⟨4, ![2, 2, 208, 512]⟩
abbrev S2x32x8192 : Shape := ⟨3, ![2, 32, 8192]⟩
abbrev S2x2x128x8192 : Shape := ⟨4, ![2, 2, 128, 8192]⟩
abbrev S2x32x2x8x128 : Shape := ⟨5, ![2, 32, 2, 8, 128]⟩
abbrev S1x512x512 : Shape := ⟨3, ![1, 512, 512]⟩
abbrev S1x2x512x128 : Shape := ⟨4, ![1, 2, 512, 128]⟩
abbrev S1x2x208x512 : Shape := ⟨4, ![1, 2, 208, 512]⟩
abbrev S1x32x512 : Shape := ⟨3, ![1, 32, 512]⟩
abbrev S1x2x128x512 : Shape := ⟨4, ![1, 2, 128, 512]⟩
abbrev S1x2x2x8x128 : Shape := ⟨5, ![1, 2, 2, 8, 128]⟩
abbrev S2x2x1x1024 : Shape := ⟨4, ![2, 2, 1, 1024]⟩
abbrev S2x2x208x1024 : Shape := ⟨4, ![2, 2, 208, 1024]⟩
abbrev S32x512 : Shape := ⟨2, ![32, 512]⟩
abbrev S1x256 : Shape := ⟨2, ![1, 256]⟩
abbrev S1x1024 : Shape := ⟨2, ![1, 1024]⟩
abbrev S1x64x256 : Shape := ⟨3, ![1, 64, 256]⟩
abbrev S64x256 : Shape := ⟨2, ![64, 256]⟩
abbrev S64x1024 : Shape := ⟨2, ![64, 1024]⟩
abbrev S128x1024 : Shape := ⟨2, ![128, 1024]⟩
abbrev S1x1x256x128 : Shape := ⟨4, ![1, 1, 256, 128]⟩
abbrev S256x128 : Shape := ⟨2, ![256, 128]⟩
abbrev S256x1024 : Shape := ⟨2, ![256, 1024]⟩
abbrev S16x8x1024 : Shape := ⟨3, ![16, 8, 1024]⟩
abbrev S8x1024 : Shape := ⟨2, ![8, 1024]⟩
abbrev S1024 : Shape := ⟨1, ![1024]⟩
abbrev S1x1x1x1024 : Shape := ⟨4, ![1, 1, 1, 1024]⟩
abbrev S1x1x208x256 : Shape := ⟨4, ![1, 1, 208, 256]⟩
abbrev S208x256 : Shape := ⟨2, ![208, 256]⟩
abbrev S208x1024 : Shape := ⟨2, ![208, 1024]⟩
abbrev S1x1x208x1024 : Shape := ⟨4, ![1, 1, 208, 1024]⟩
abbrev S2x1x1024 : Shape := ⟨3, ![2, 1, 1024]⟩
abbrev S1x2x1x1024 : Shape := ⟨4, ![1, 2, 1, 1024]⟩
abbrev S2x208x1024 : Shape := ⟨3, ![2, 208, 1024]⟩
abbrev S1x2x208x1024 : Shape := ⟨4, ![1, 2, 208, 1024]⟩
abbrev S256x256 : Shape := ⟨2, ![256, 256]⟩
abbrev S512x256 : Shape := ⟨2, ![512, 256]⟩
abbrev S1x512x256 : Shape := ⟨3, ![1, 512, 256]⟩
abbrev S256 : Shape := ⟨1, ![256]⟩
abbrev S8x256 : Shape := ⟨2, ![8, 256]⟩
abbrev S1x1x64x256 : Shape := ⟨4, ![1, 1, 64, 256]⟩
abbrev S8x64 : Shape := ⟨2, ![8, 64]⟩
abbrev S8x128 : Shape := ⟨2, ![8, 128]⟩
abbrev S1x1x1x8x128 : Shape := ⟨5, ![1, 1, 1, 8, 128]⟩
abbrev S128x256 : Shape := ⟨2, ![128, 256]⟩
abbrev S1x1x128x256 : Shape := ⟨4, ![1, 1, 128, 256]⟩

abbrev nBuf : Space → Nat
  | .hbm => 7
  | .vmem => 16
  | .smem => 0
  | _ => 0

abbrev bufTy : (tb : Table) → Fin (tcTables nBuf tb) → BufTy
  | .hbm, ⟨0, _⟩ => ⟨S2x512x8192, .bf16⟩
  | .hbm, ⟨1, _⟩ => ⟨S2x2x512x128, .bf16⟩
  | .hbm, ⟨2, _⟩ => ⟨S2x2x208x512, .bf16⟩
  | .hbm, ⟨3, _⟩ => ⟨S2x32x8192, .f32⟩
  | .hbm, ⟨4, _⟩ => ⟨S2x512x8192, .f32⟩
  | .hbm, ⟨5, _⟩ => ⟨S2x2x128x8192, .bf16⟩
  | .hbm, ⟨6, _⟩ => ⟨S2x32x2x8x128, .i32⟩
  | .local _ .vmem, ⟨0, _⟩ => ⟨S1x512x512, .bf16⟩
  | .local _ .vmem, ⟨1, _⟩ => ⟨S1x512x512, .bf16⟩
  | .local _ .vmem, ⟨2, _⟩ => ⟨S1x2x512x128, .bf16⟩
  | .local _ .vmem, ⟨3, _⟩ => ⟨S1x2x512x128, .bf16⟩
  | .local _ .vmem, ⟨4, _⟩ => ⟨S1x2x208x512, .bf16⟩
  | .local _ .vmem, ⟨5, _⟩ => ⟨S1x2x208x512, .bf16⟩
  | .local _ .vmem, ⟨6, _⟩ => ⟨S1x32x512, .f32⟩
  | .local _ .vmem, ⟨7, _⟩ => ⟨S1x32x512, .f32⟩
  | .local _ .vmem, ⟨8, _⟩ => ⟨S1x512x512, .f32⟩
  | .local _ .vmem, ⟨9, _⟩ => ⟨S1x512x512, .f32⟩
  | .local _ .vmem, ⟨10, _⟩ => ⟨S1x2x128x512, .bf16⟩
  | .local _ .vmem, ⟨11, _⟩ => ⟨S1x2x128x512, .bf16⟩
  | .local _ .vmem, ⟨12, _⟩ => ⟨S1x2x2x8x128, .i32⟩
  | .local _ .vmem, ⟨13, _⟩ => ⟨S1x2x2x8x128, .i32⟩
  | .local _ .vmem, ⟨14, _⟩ => ⟨S2x2x1x1024, .f32⟩
  | .local _ .vmem, ⟨15, _⟩ => ⟨S2x2x208x1024, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  v84
def k0_mult2 (i : grid0.Coords) : BitVec 32 :=
  let arg1 : BitVec 32 := BitVec.ofNat 32 (i 1).val
  let c2_i32_0 : BitVec 32 := 2#32
  let v3 : BitVec 32 := Scalar.muli arg1 c2_i32_0
  let c1_i32 : BitVec 32 := 1#32
  let v4 : BitVec 32 := Scalar.addi v3 c1_i32
  let c256_i32_1 : BitVec 32 := 256#32
  let v5 : BitVec 32 := Scalar.muli v4 c256_i32_1
  let c256_i32_16 : BitVec 32 := 256#32
  let v43 : BitVec 32 := Scalar.addi v5 c256_i32_16
  let c32_i32_17 : BitVec 32 := 32#32
  let v44 : BitVec 32 := Scalar.subi v43 c32_i32_17
  let c0_i32_19 : BitVec 32 := 0#32
  let v46 : BitVec 1 := Scalar.cmpi .sgt v44 c0_i32_19
  let v47 : BitVec 32 := Scalar.extui v46
  let c0_i32_20 : BitVec 32 := 0#32
  let v48 : BitVec 1 := Scalar.cmpi .slt v44 c0_i32_20
  let v49 : BitVec 32 := Scalar.extui v48
  let v50 : BitVec 32 := Scalar.subi v47 v49
  let c16_i32_18 : BitVec 32 := 16#32
  let c0_i32_21 : BitVec 32 := 0#32
  let v51 : BitVec 1 := Scalar.cmpi .sgt c16_i32_18 c0_i32_21
  let v52 : BitVec 32 := Scalar.extui v51
  let c0_i32_22 : BitVec 32 := 0#32
  let v53 : BitVec 1 := Scalar.cmpi .slt c16_i32_18 c0_i32_22
  let v54 : BitVec 32 := Scalar.extui v53
  let v55 : BitVec 32 := Scalar.subi v52 v54
  let v56 : BitVec 1 := Scalar.cmpi .ne v50 v55
  let v57 : BitVec 32 := Scalar.remsi v44 c16_i32_18
  let c0_i32_23 : BitVec 32 := 0#32
  let v58 : BitVec 1 := Scalar.cmpi .ne v57 c0_i32_23
  let v59 : BitVec 1 := Scalar.andi v56 v58
  let v45 : BitVec 32 := Scalar.divsi v44 c16_i32_18
  let c1_i32_24 : BitVec 32 := 1#32
  let v60 : BitVec 32 := Scalar.subi v45 c1_i32_24
  let v61 : BitVec 32 := Scalar.select v59 v60 v45
  let c0_i32_26 : BitVec 32 := 0#32
  let v63 : BitVec 1 := Scalar.cmpi .sgt v61 c0_i32_26
  let v64 : BitVec 32 := Scalar.extui v63
  let c0_i32_27 : BitVec 32 := 0#32
  let v65 : BitVec 1 := Scalar.cmpi .slt v61 c0_i32_27
  let v66 : BitVec 32 := Scalar.extui v65
  let v67 : BitVec 32 := Scalar.subi v64 v66
  let c128_i32_25 : BitVec 32 := 128#32
  let c0_i32_28 : BitVec 32 := 0#32
  let v68 : BitVec 1 := Scalar.cmpi .sgt c128_i32_25 c0_i32_28
  let v69 : BitVec 32 := Scalar.extui v68
  let c0_i32_29 : BitVec 32 := 0#32
  let v70 : BitVec 1 := Scalar.cmpi .slt c128_i32_25 c0_i32_29
  let v71 : BitVec 32 := Scalar.extui v70
  let v72 : BitVec 32 := Scalar.subi v69 v71
  let v73 : BitVec 1 := Scalar.cmpi .ne v67 v72
  let v74 : BitVec 32 := Scalar.remsi v61 c128_i32_25
  let c0_i32_30 : BitVec 32 := 0#32
  let v75 : BitVec 1 := Scalar.cmpi .ne v74 c0_i32_30
  let v76 : BitVec 1 := Scalar.andi v73 v75
  let v62 : BitVec 32 := Scalar.divsi v61 c128_i32_25
  let c1_i32_31 : BitVec 32 := 1#32
  let v77 : BitVec 32 := Scalar.subi v62 c1_i32_31
  let v78 : BitVec 32 := Scalar.select v76 v77 v62
  let c1_i32_32 : BitVec 32 := 1#32
  let v79 : BitVec 32 := Scalar.addi v78 c1_i32_32
  let c2_i32_35 : BitVec 32 := 2#32
  let v82 : BitVec 32 := Scalar.subi v79 c2_i32_35
  let c0_i32_36 : BitVec 32 := 0#32
  let v83 : BitVec 32 := Scalar.maxsi v82 c0_i32_36
  let c128_i32_38 : BitVec 32 := 128#32
  let v86 : BitVec 32 := Scalar.muli v83 c128_i32_38
  v86
def k0_cond5 (i : grid0.Coords) : BitVec 1 :=
  let arg1 : BitVec 32 := BitVec.ofNat 32 (i 1).val
  let c2_i32_0 : BitVec 32 := 2#32
  let v3 : BitVec 32 := Scalar.muli arg1 c2_i32_0
  let c1_i32 : BitVec 32 := 1#32
  let v4 : BitVec 32 := Scalar.addi v3 c1_i32
  let c256_i32_1 : BitVec 32 := 256#32
  let v5 : BitVec 32 := Scalar.muli v4 c256_i32_1
  let c256_i32_109 : BitVec 32 := 256#32
  let v216 : BitVec 32 := Scalar.addi v5 c256_i32_109
  let c0_i32_110 : BitVec 32 := 0#32
  let v218 : BitVec 1 := Scalar.cmpi .sgt v216 c0_i32_110
  let v219 : BitVec 32 := Scalar.extui v218
  let c0_i32_111 : BitVec 32 := 0#32
  let v220 : BitVec 1 := Scalar.cmpi .slt v216 c0_i32_111
  let v221 : BitVec 32 := Scalar.extui v220
  let v222 : BitVec 32 := Scalar.subi v219 v221
  let c64_i32 : BitVec 32 := 64#32
  let c0_i32_112 : BitVec 32 := 0#32
  let v223 : BitVec 1 := Scalar.cmpi .sgt c64_i32 c0_i32_112
  let v224 : BitVec 32 := Scalar.extui v223
  let c0_i32_113 : BitVec 32 := 0#32
  let v225 : BitVec 1 := Scalar.cmpi .slt c64_i32 c0_i32_113
  let v226 : BitVec 32 := Scalar.extui v225
  let v227 : BitVec 32 := Scalar.subi v224 v226
  let v228 : BitVec 1 := Scalar.cmpi .ne v222 v227
  let v229 : BitVec 32 := Scalar.remsi v216 c64_i32
  let c0_i32_114 : BitVec 32 := 0#32
  let v230 : BitVec 1 := Scalar.cmpi .ne v229 c0_i32_114
  let v231 : BitVec 1 := Scalar.andi v228 v230
  let v217 : BitVec 32 := Scalar.divsi v216 c64_i32
  let c1_i32_115 : BitVec 32 := 1#32
  let v232 : BitVec 32 := Scalar.subi v217 c1_i32_115
  let v233 : BitVec 32 := Scalar.select v231 v232 v217
  let c0_i32_116 : BitVec 32 := 0#32
  let v234 : BitVec 1 := Scalar.cmpi .sgt v233 c0_i32_116
  let c64_i32_117 : BitVec 32 := 64#32
  let v235 : BitVec 1 := Scalar.cmpi .sle v233 c64_i32_117
  let v236 : BitVec 1 := Scalar.andi v234 v235
  let v237 : BitVec 32 := Scalar.extui v236
  let c0_i32_118 : BitVec 32 := 0#32
  let v238 : BitVec 1 := Scalar.cmpi .ne v237 c0_i32_118
  v238

def k0_off1 (i : grid0.Coords) (c0_i32 : BitVec 32) : Fin 4 → Nat :=
  let c0_162 : Index := 0#32
  let c0_163 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v290 : Index := Scalar.indexCast v85
  let c0_164 : Index := 0#32
  ![0, 0, v290.toNat, 0]
def k0_off2 (i : grid0.Coords) (c0_i32 : BitVec 32) : Fin 4 → Nat :=
  let c0_166 : Index := 0#32
  let c1_167 : Index := 1#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v295 : Index := Scalar.indexCast v85
  let c0_168 : Index := 0#32
  ![0, 1, v295.toNat, 0]
def k0_off3 (i : grid0.Coords) (c0_i32 : BitVec 32) : Fin 4 → Nat :=
  let c0_205 : Index := 0#32
  let c0_206 : Index := 0#32
  let c0_207 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v470 : Index := Scalar.indexCast v85
  ![0, 0, 0, v470.toNat]
def k0_off4 (i : grid0.Coords) (c0_i32 : BitVec 32) : Fin 4 → Nat :=
  let c0_209 : Index := 0#32
  let c1_210 : Index := 1#32
  let c0_211 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v479 : Index := Scalar.indexCast v85
  ![0, 1, 0, v479.toNat]
def k0_cond6 (i : grid0.Coords) : BitVec 1 :=
  let arg1 : BitVec 32 := BitVec.ofNat 32 (i 1).val
  let c2_i32_0 : BitVec 32 := 2#32
  let v3 : BitVec 32 := Scalar.muli arg1 c2_i32_0
  let c1_i32 : BitVec 32 := 1#32
  let v4 : BitVec 32 := Scalar.addi v3 c1_i32
  let c256_i32_1 : BitVec 32 := 256#32
  let v5 : BitVec 32 := Scalar.muli v4 c256_i32_1
  let c256_i32_109 : BitVec 32 := 256#32
  let v216 : BitVec 32 := Scalar.addi v5 c256_i32_109
  let c0_i32_110 : BitVec 32 := 0#32
  let v218 : BitVec 1 := Scalar.cmpi .sgt v216 c0_i32_110
  let v219 : BitVec 32 := Scalar.extui v218
  let c0_i32_111 : BitVec 32 := 0#32
  let v220 : BitVec 1 := Scalar.cmpi .slt v216 c0_i32_111
  let v221 : BitVec 32 := Scalar.extui v220
  let v222 : BitVec 32 := Scalar.subi v219 v221
  let c64_i32 : BitVec 32 := 64#32
  let c0_i32_112 : BitVec 32 := 0#32
  let v223 : BitVec 1 := Scalar.cmpi .sgt c64_i32 c0_i32_112
  let v224 : BitVec 32 := Scalar.extui v223
  let c0_i32_113 : BitVec 32 := 0#32
  let v225 : BitVec 1 := Scalar.cmpi .slt c64_i32 c0_i32_113
  let v226 : BitVec 32 := Scalar.extui v225
  let v227 : BitVec 32 := Scalar.subi v224 v226
  let v228 : BitVec 1 := Scalar.cmpi .ne v222 v227
  let v229 : BitVec 32 := Scalar.remsi v216 c64_i32
  let c0_i32_114 : BitVec 32 := 0#32
  let v230 : BitVec 1 := Scalar.cmpi .ne v229 c0_i32_114
  let v231 : BitVec 1 := Scalar.andi v228 v230
  let v217 : BitVec 32 := Scalar.divsi v216 c64_i32
  let c1_i32_115 : BitVec 32 := 1#32
  let v232 : BitVec 32 := Scalar.subi v217 c1_i32_115
  let v233 : BitVec 32 := Scalar.select v231 v232 v217
  let c64_i32_119 : BitVec 32 := 64#32
  let v239 : BitVec 1 := Scalar.cmpi .sgt v233 c64_i32_119
  let c128_i32_120 : BitVec 32 := 128#32
  let v240 : BitVec 1 := Scalar.cmpi .sle v233 c128_i32_120
  let v241 : BitVec 1 := Scalar.andi v239 v240
  let v242 : BitVec 32 := Scalar.extui v241
  let c0_i32_121 : BitVec 32 := 0#32
  let v243 : BitVec 1 := Scalar.cmpi .ne v242 c0_i32_121
  v243

def k0_off5 (i : grid0.Coords) (c0_i32 : BitVec 32) : Fin 4 → Nat :=
  let c0_162 : Index := 0#32
  let c0_163 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v290 : Index := Scalar.indexCast v85
  let c0_164 : Index := 0#32
  ![0, 0, v290.toNat, 0]
def k0_off6 (i : grid0.Coords) (c0_i32 : BitVec 32) : Fin 4 → Nat :=
  let c0_166 : Index := 0#32
  let c1_167 : Index := 1#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v295 : Index := Scalar.indexCast v85
  let c0_168 : Index := 0#32
  ![0, 1, v295.toNat, 0]
def k0_off7 (i : grid0.Coords) (c0_i32 : BitVec 32) : Fin 4 → Nat :=
  let c0_205 : Index := 0#32
  let c0_206 : Index := 0#32
  let c0_207 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v470 : Index := Scalar.indexCast v85
  ![0, 0, 0, v470.toNat]
def k0_off8 (i : grid0.Coords) (c0_i32 : BitVec 32) : Fin 4 → Nat :=
  let c0_209 : Index := 0#32
  let c1_210 : Index := 1#32
  let c0_211 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v2 : BitVec 32 := Scalar.muli v1 c256_i32
  let c256_i32_2 : BitVec 32 := 256#32
  let v6 : BitVec 32 := Scalar.addi v2 c256_i32_2
  let c32_i32 : BitVec 32 := 32#32
  let v7 : BitVec 32 := Scalar.subi v6 c32_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c0_i32_9 : BitVec 32 := 0#32
  let v26 : BitVec 1 := Scalar.cmpi .sgt v24 c0_i32_9
  let v27 : BitVec 32 := Scalar.extui v26
  let c0_i32_10 : BitVec 32 := 0#32
  let v28 : BitVec 1 := Scalar.cmpi .slt v24 c0_i32_10
  let v29 : BitVec 32 := Scalar.extui v28
  let v30 : BitVec 32 := Scalar.subi v27 v29
  let c128_i32 : BitVec 32 := 128#32
  let c0_i32_11 : BitVec 32 := 0#32
  let v31 : BitVec 1 := Scalar.cmpi .sgt c128_i32 c0_i32_11
  let v32 : BitVec 32 := Scalar.extui v31
  let c0_i32_12 : BitVec 32 := 0#32
  let v33 : BitVec 1 := Scalar.cmpi .slt c128_i32 c0_i32_12
  let v34 : BitVec 32 := Scalar.extui v33
  let v35 : BitVec 32 := Scalar.subi v32 v34
  let v36 : BitVec 1 := Scalar.cmpi .ne v30 v35
  let v37 : BitVec 32 := Scalar.remsi v24 c128_i32
  let c0_i32_13 : BitVec 32 := 0#32
  let v38 : BitVec 1 := Scalar.cmpi .ne v37 c0_i32_13
  let v39 : BitVec 1 := Scalar.andi v36 v38
  let v25 : BitVec 32 := Scalar.divsi v24 c128_i32
  let c1_i32_14 : BitVec 32 := 1#32
  let v40 : BitVec 32 := Scalar.subi v25 c1_i32_14
  let v41 : BitVec 32 := Scalar.select v39 v40 v25
  let c1_i32_15 : BitVec 32 := 1#32
  let v42 : BitVec 32 := Scalar.addi v41 c1_i32_15
  let c2_i32_33 : BitVec 32 := 2#32
  let v80 : BitVec 32 := Scalar.subi v42 c2_i32_33
  let c0_i32_34 : BitVec 32 := 0#32
  let v81 : BitVec 32 := Scalar.maxsi v80 c0_i32_34
  let c128_i32_37 : BitVec 32 := 128#32
  let v84 : BitVec 32 := Scalar.muli v81 c128_i32_37
  let v85 : BitVec 32 := v84
  let v479 : Index := Scalar.indexCast v85
  ![0, 1, 0, v479.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x208x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2x8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "big" => some ⊤
  | "neg" => some ⊥
  | "slope0" => some (((1 / 2) * (Real.log 2)⁻¹ : ℝ) : EReal)
  | "slope1" => some (((1 / 4) * (Real.log 2)⁻¹ : ℝ) : EReal)
  | "slope2" => some (((1 / 8) * (Real.log 2)⁻¹ : ℝ) : EReal)
  | "slope3" => some (((1 / 16) * (Real.log 2)⁻¹ : ℝ) : EReal)
  | "slope4" => some (((1 / 32) * (Real.log 2)⁻¹ : ℝ) : EReal)
  | "slope5" => some (((1 / 64) * (Real.log 2)⁻¹ : ℝ) : EReal)
  | "slope6" => some (((1 / 128) * (Real.log 2)⁻¹ : ℝ) : EReal)
  | "slope7" => some (((1 / 256) * (Real.log 2)⁻¹ : ℝ) : EReal)
  | _ => none
-- ==== ReferenceIdeal.lean ====
abbrev S2x512x8192 : Shape := ⟨3, ![2, 512, 8192]⟩
abbrev S2x2x512x128 : Shape := ⟨4, ![2, 2, 512, 128]⟩
abbrev S2x2x208x512 : Shape := ⟨4, ![2, 2, 208, 512]⟩
abbrev S2x32x8192 : Shape := ⟨3, ![2, 32, 8192]⟩
abbrev S1x2x4x1x1 : Shape := ⟨5, ![1, 2, 4, 1, 1]⟩
abbrev S_ : Shape := ⟨0, ![]⟩
abbrev S2x2x4x64x8192 : Shape := ⟨5, ![2, 2, 4, 64, 8192]⟩
abbrev S2x2x512x64 : Shape := ⟨4, ![2, 2, 512, 64]⟩
abbrev S2x2x64x512 : Shape := ⟨4, ![2, 2, 64, 512]⟩
abbrev S2x24x8192 : Shape := ⟨3, ![2, 24, 8192]⟩
abbrev S2x2x4x3x8192 : Shape := ⟨5, ![2, 2, 4, 3, 8192]⟩
abbrev S8192x512 : Shape := ⟨2, ![8192, 512]⟩
abbrev S1x1x1x8192x512 : Shape := ⟨5, ![1, 1, 1, 8192, 512]⟩
abbrev S2x2x4x8192x512 : Shape := ⟨5, ![2, 2, 4, 8192, 512]⟩
abbrev S1x2x4x8192x512 : Shape := ⟨5, ![1, 2, 4, 8192, 512]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x2x4x1x8192 : Shape := ⟨5, ![2, 2, 4, 1, 8192]⟩
abbrev S512x128 : Shape := ⟨2, ![512, 128]⟩
abbrev S2x2x4x8192x128 : Shape := ⟨5, ![2, 2, 4, 8192, 128]⟩
abbrev S2x2x8192x128 : Shape := ⟨4, ![2, 2, 8192, 128]⟩
abbrev S8192x128 : Shape := ⟨2, ![8192, 128]⟩
abbrev S1x1x8192x128 : Shape := ⟨4, ![1, 1, 8192, 128]⟩
abbrev S2x2x8192x128x1 : Shape := ⟨5, ![2, 2, 8192, 128, 1]⟩
abbrev S2x2x8192x1x128 : Shape := ⟨5, ![2, 2, 8192, 1, 128]⟩
abbrev S128x128 : Shape := ⟨2, ![128, 128]⟩
abbrev S2x2x8192x128x128 : Shape := ⟨5, ![2, 2, 8192, 128, 128]⟩
abbrev S1x1x1x128x128 : Shape := ⟨5, ![1, 1, 1, 128, 128]⟩
abbrev S2x2x128x8192 : Shape := ⟨4, ![2, 2, 128, 8192]⟩
abbrev S2x2x32x256x128 : Shape := ⟨5, ![2, 2, 32, 256, 128]⟩
abbrev S2x2x32x128 : Shape := ⟨4, ![2, 2, 32, 128]⟩
abbrev S2x32x2x128 : Shape := ⟨4, ![2, 32, 2, 128]⟩
abbrev S2x32x2x1x128 : Shape := ⟨5, ![2, 32, 2, 1, 128]⟩
abbrev S2x32x2x8x128 : Shape := ⟨5, ![2, 32, 2, 8, 128]⟩

abbrev nBuf : Space → Nat
  | .hbm => 177
  | .vmem => 0
  | .smem => 0
  | _ => 0

abbrev hbmTy0_0 (i : Nat) : BufTy := match i % 128 with
  | 0 => ⟨S2x512x8192, .bf16⟩
  | 1 => ⟨S2x2x512x128, .bf16⟩
  | 2 => ⟨S2x2x208x512, .bf16⟩
  | 3 => ⟨S2x32x8192, .f32⟩
  | 4 => ⟨S1x2x4x1x1, .i32⟩
  | 5 => ⟨S_, .i32⟩
  | 6 => ⟨S1x2x4x1x1, .i32⟩
  | 7 => ⟨S1x2x4x1x1, .i32⟩
  | 8 => ⟨S1x2x4x1x1, .i32⟩
  | 9 => ⟨S1x2x4x1x1, .i32⟩
  | 10 => ⟨S_, .i32⟩
  | 11 => ⟨S1x2x4x1x1, .i32⟩
  | 12 => ⟨S1x2x4x1x1, .i32⟩
  | 13 => ⟨S1x2x4x1x1, .f32⟩
  | 14 => ⟨S_, .f32⟩
  | 15 => ⟨S1x2x4x1x1, .f32⟩
  | 16 => ⟨S1x2x4x1x1, .f32⟩
  | 17 => ⟨S2x512x8192, .f32⟩
  | 18 => ⟨S2x2x4x64x8192, .f32⟩
  | 19 => ⟨S2x2x512x64, .bf16⟩
  | 20 => ⟨S2x2x512x64, .f32⟩
  | 21 => ⟨S2x2x64x512, .bf16⟩
  | 22 => ⟨S2x2x64x512, .f32⟩
  | 23 => ⟨S2x24x8192, .f32⟩
  | 24 => ⟨S2x2x4x3x8192, .f32⟩
  | 25 => ⟨S8192x512, .i32⟩
  | 26 => ⟨S8192x512, .i32⟩
  | 27 => ⟨S_, .i32⟩
  | 28 => ⟨S8192x512, .i32⟩
  | 29 => ⟨S8192x512, .i32⟩
  | 30 => ⟨S_, .i32⟩
  | 31 => ⟨S8192x512, .i32⟩
  | 32 => ⟨S8192x512, .i32⟩
  | 33 => ⟨S8192x512, .i1⟩
  | 34 => ⟨S1x1x1x8192x512, .i1⟩
  | 35 => ⟨S2x2x4x8192x512, .f32⟩
  | 36 => ⟨S_, .f32⟩
  | 37 => ⟨S_, .f32⟩
  | 38 => ⟨S2x2x4x8192x512, .f32⟩
  | 39 => ⟨S2x2x4x8192x512, .f32⟩
  | 40 => ⟨S8192x512, .i32⟩
  | 41 => ⟨S8192x512, .f32⟩
  | 42 => ⟨S1x1x1x8192x512, .f32⟩
  | 43 => ⟨S1x2x4x8192x512, .f32⟩
  | 44 => ⟨S1x2x4x8192x512, .f32⟩
  | 45 => ⟨S1x2x4x8192x512, .f32⟩
  | 46 => ⟨S2x2x4x8192x512, .f32⟩
  | 47 => ⟨S2x2x4x8192x512, .f32⟩
  | 48 => ⟨S_, .f32⟩
  | 49 => ⟨S_, .f32⟩
  | 50 => ⟨S2x2x4x8192x512, .i1⟩
  | 51 => ⟨S2x2x4x8192x512, .f32⟩
  | 52 => ⟨S2x2x4x8192x512, .f32⟩
  | 53 => ⟨S_, .f32⟩
  | 54 => ⟨S2x2x4x8192, .f32⟩
  | 55 => ⟨S2x2x4x8192x1, .f32⟩
  | 56 => ⟨S2x2x4x8192x512, .f32⟩
  | 57 => ⟨S2x2x4x8192x512, .f32⟩
  | 58 => ⟨S2x2x4x8192x512, .f32⟩
  | 59 => ⟨S_, .f32⟩
  | 60 => ⟨S_, .f32⟩
  | 61 => ⟨S2x2x4x8192x512, .i1⟩
  | 62 => ⟨S2x2x4x8192x512, .f32⟩
  | 63 => ⟨S2x2x4x8192x512, .f32⟩
  | 64 => ⟨S_, .f32⟩
  | 65 => ⟨S2x2x4x8192, .f32⟩
  | 66 => ⟨S2x2x4x8192x1, .f32⟩
  | 67 => ⟨S_, .f32⟩
  | 68 => ⟨S2x2x4x8192x1, .f32⟩
  | 69 => ⟨S2x2x4x8192x1, .f32⟩
  | 70 => ⟨S2x2x4x8192x512, .f32⟩
  | 71 => ⟨S2x2x4x8192x512, .f32⟩
  | 72 => ⟨S2x2x64x4x8192, .f32⟩
  | 73 => ⟨S2x2x4x64x8192, .f32⟩
  | 74 => ⟨S2x2x4x1x8192, .f32⟩
  | 75 => ⟨S2x2x4x64x8192, .f32⟩
  | 76 => ⟨S2x2x4x64x8192, .f32⟩
  | 77 => ⟨S2x512x8192, .f32⟩
  | 78 => ⟨S512x128, .i32⟩
  | 79 => ⟨S_, .i32⟩
  | 80 => ⟨S512x128, .i32⟩
  | 81 => ⟨S512x128, .i32⟩
  | 82 => ⟨S512x128, .i32⟩
  | 83 => ⟨S_, .i32⟩
  | 84 => ⟨S512x128, .i32⟩
  | 85 => ⟨S512x128, .i32⟩
  | 86 => ⟨S_, .i32⟩
  | 87 => ⟨S512x128, .i32⟩
  | 88 => ⟨S512x128, .i32⟩
  | 89 => ⟨S512x128, .i1⟩
  | 90 => ⟨S_, .i32⟩
  | 91 => ⟨S512x128, .i32⟩
  | 92 => ⟨S512x128, .i32⟩
  | 93 => ⟨S512x128, .i1⟩
  | 94 => ⟨S512x128, .i1⟩
  | 95 => ⟨S_, .f32⟩
  | 96 => ⟨S_, .f32⟩
  | 97 => ⟨S512x128, .f32⟩
  | 98 => ⟨S512x128, .f32⟩
  | 99 => ⟨S512x128, .f32⟩
  | 100 => ⟨S2x2x4x8192x128, .f32⟩
  | 101 => ⟨S_, .f32⟩
  | 102 => ⟨S2x2x8192x128, .f32⟩
  | 103 => ⟨S8192x128, .i32⟩
  | 104 => ⟨S_, .i32⟩
  | 105 => ⟨S8192x128, .i32⟩
  | 106 => ⟨S8192x128, .i32⟩
  | 107 => ⟨S8192x128, .i32⟩
  | 108 => ⟨S_, .i32⟩
  | 109 => ⟨S8192x128, .i32⟩
  | 110 => ⟨S8192x128, .i1⟩
  | 111 => ⟨S8192x128, .i1⟩
  | 112 => ⟨S8192x128, .i1⟩
  | 113 => ⟨S_, .i32⟩
  | 114 => ⟨S8192x128, .i32⟩
  | 115 => ⟨S8192x128, .i32⟩
  | 116 => ⟨S8192x128, .i1⟩
  | 117 => ⟨S8192x128, .i1⟩
  | 118 => ⟨S8192x128, .i1⟩
  | 119 => ⟨S1x1x8192x128, .i1⟩
  | 120 => ⟨S1x1x8192x128, .i1⟩
  | 121 => ⟨S_, .f32⟩
  | 122 => ⟨S_, .f32⟩
  | 123 => ⟨S2x2x8192x128, .i1⟩
  | 124 => ⟨S2x2x8192x128, .f32⟩
  | 125 => ⟨S2x2x8192x128, .f32⟩
  | 126 => ⟨S_, .f32⟩
  | 127 => ⟨S_, .f32⟩
  | _ => ⟨S2x512x8192, .bf16⟩

abbrev hbmTy0_1 (i : Nat) : BufTy := match i % 128 with
  | 0 => ⟨S2x2x8192x128, .i1⟩
  | 1 => ⟨S2x2x8192x128, .f32⟩
  | 2 => ⟨S2x2x8192x128, .f32⟩
  | 3 => ⟨S2x2x8192x128x1, .f32⟩
  | 4 => ⟨S2x2x8192x1x128, .f32⟩
  | 5 => ⟨S128x128, .i32⟩
  | 6 => ⟨S128x128, .i32⟩
  | 7 => ⟨S128x128, .i1⟩
  | 8 => ⟨S2x2x8192x128x128, .f32⟩
  | 9 => ⟨S2x2x8192x128x128, .f32⟩
  | 10 => ⟨S2x2x8192x128x128, .i1⟩
  | 11 => ⟨S2x2x8192x128x128, .f32⟩
  | 12 => ⟨S2x2x8192x128x128, .f32⟩
  | 13 => ⟨S2x2x8192x128x128, .i1⟩
  | 14 => ⟨S1x1x1x128x128, .i1⟩
  | 15 => ⟨S2x2x8192x128x128, .i1⟩
  | 16 => ⟨S2x2x8192x128x128, .i1⟩
  | 17 => ⟨S2x2x8192x128x128, .i1⟩
  | 18 => ⟨S_, .f32⟩
  | 19 => ⟨S_, .f32⟩
  | 20 => ⟨S2x2x8192x128x128, .f32⟩
  | 21 => ⟨S2x2x8192x128x128, .f32⟩
  | 22 => ⟨S2x2x8192x128x128, .f32⟩
  | 23 => ⟨S2x2x8192x128x128, .f32⟩
  | 24 => ⟨S_, .f32⟩
  | 25 => ⟨S2x2x8192x128, .f32⟩
  | 26 => ⟨S_, .f32⟩
  | 27 => ⟨S2x2x8192x128, .f32⟩
  | 28 => ⟨S2x2x8192x128, .i1⟩
  | 29 => ⟨S2x2x8192x128, .i1⟩
  | 30 => ⟨S2x2x8192x128, .i1⟩
  | 31 => ⟨S_, .f32⟩
  | 32 => ⟨S_, .f32⟩
  | 33 => ⟨S2x2x8192x128, .f32⟩
  | 34 => ⟨S2x2x8192x128, .f32⟩
  | 35 => ⟨S2x2x8192x128, .f32⟩
  | 36 => ⟨S2x2x128x8192, .f32⟩
  | 37 => ⟨S2x2x128x8192, .bf16⟩
  | 38 => ⟨S2x2x32x256x128, .f32⟩
  | 39 => ⟨S2x2x32x256x128, .f32⟩
  | 40 => ⟨S_, .f32⟩
  | 41 => ⟨S2x2x32x128, .f32⟩
  | 42 => ⟨S_, .f32⟩
  | 43 => ⟨S2x2x32x128, .f32⟩
  | 44 => ⟨S2x2x32x128, .i1⟩
  | 45 => ⟨S2x2x32x128, .i32⟩
  | 46 => ⟨S2x32x2x128, .i32⟩
  | 47 => ⟨S2x32x2x1x128, .i32⟩
  | 48 => ⟨S2x32x2x8x128, .i32⟩
  | _ => ⟨S2x512x8192, .bf16⟩

abbrev hbmTy (i : Nat) : BufTy := match i / 128 with
  | 0 => hbmTy0_0 i
  | 1 => hbmTy0_1 i
  | _ => ⟨S2x512x8192, .bf16⟩

abbrev bufTy : (tb : Table) → Fin (tcTables nBuf tb) → BufTy
  | .hbm, ⟨i, _⟩ => hbmTy i
  | _, _ => ⟨S2x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v88 : Ref sig .tc := ⟨.hbm, 125, rfl⟩
abbrev main_cst_20 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_21 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_cst_24 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_25 : Ref sig .tc := ⟨.hbm, 159, rfl⟩
abbrev main_cst_26 : Ref sig .tc := ⟨.hbm, 160, rfl⟩
abbrev main_call6_v0 : Ref sig .tc := ⟨.hbm, 161, rfl⟩
abbrev main_call6_v1 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_27 : Ref sig .tc := ⟨.hbm, 168, rfl⟩
abbrev main_v117 : Ref sig .tc := ⟨.hbm, 169, rfl⟩
abbrev main_cst_28 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1x1024 : Shape := ⟨2, ![1, 1024]⟩
abbrev S1024x2048 : Shape := ⟨2, ![1024, 2048]⟩
abbrev S1x2048 : Shape := ⟨2, ![1, 2048]⟩
abbrev S4x128x128 : Shape := ⟨3, ![4, 128, 128]⟩
abbrev S128x4 : Shape := ⟨2, ![128, 4]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024x512 : Shape := ⟨2, ![1024, 512]⟩
abbrev S64x5632 : Shape := ⟨2, ![64, 5632]⟩
abbrev S176x1024 : Shape := ⟨2, ![176, 1024]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩
abbrev S128x512 : Shape := ⟨2, ![128, 512]⟩

abbrev nBuf : Space → Nat
  | .hbm => 17
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S4x128x128, .f32⟩
  | .hbm, ⟨8, _⟩ => ⟨S128x4, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x5632, .f32⟩
  | .hbm, ⟨13, _⟩ => ⟨S2816x1024, .f32⟩
  | .hbm, ⟨14, _⟩ => ⟨S16384x1024, .f32⟩
  | .hbm, ⟨15, _⟩ => ⟨S1024x5632, .bf16⟩
  | .hbm, ⟨16, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S4x128x128, .f32⟩
  | .local _ .vmem, ⟨12, _⟩ => ⟨S128x4, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S64x5632, .f32⟩
  | .local _ .vmem, ⟨17, _⟩ => ⟨S64x5632, .f32⟩
  | .local _ .vmem, ⟨18, _⟩ => ⟨S176x1024, .f32⟩
  | .local _ .vmem, ⟨19, _⟩ => ⟨S176x1024, .f32⟩
  | .local _ .vmem, ⟨20, _⟩ => ⟨S1024x1024, .f32⟩
  | .local _ .vmem, ⟨21, _⟩ => ⟨S1024x1024, .f32⟩
  | .local _ .vmem, ⟨22, _⟩ => ⟨S64x5632, .bf16⟩
  | .local _ .vmem, ⟨23, _⟩ => ⟨S64x5632, .bf16⟩
  | .local _ .vmem, ⟨24, _⟩ => ⟨S176x1024, .bf16⟩
  | .local _ .vmem, ⟨25, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S16384x512 : Shape := ⟨2, ![16384, 512]⟩
abbrev S1x1024 : Shape := ⟨2, ![1, 1024]⟩
abbrev S1024x2048 : Shape := ⟨2, ![1024, 2048]⟩
abbrev S1x2048 : Shape := ⟨2, ![1, 2048]⟩
abbrev S4x128x128 : Shape := ⟨3, ![4, 128, 128]⟩
abbrev S128x4 : Shape := ⟨2, ![128, 4]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S128x128 : Shape := ⟨2, ![128, 128]⟩
abbrev S1x128x128 : Shape := ⟨3, ![1, 128, 128]⟩
abbrev S128x128x4x128 : Shape := ⟨4, ![128, 128, 4, 128]⟩
abbrev S4x128x128x128 : Shape := ⟨4, ![4, 128, 128, 128]⟩
abbrev S1x128x4x1 : Shape := ⟨4, ![1, 128, 4, 1]⟩
abbrev S16384 : Shape := ⟨1, ![16384]⟩
abbrev S16384x1 : Shape := ⟨2, ![16384, 1]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S4x128x128, .f32⟩
  | .hbm, ⟨8, _⟩ => ⟨S128x4, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x5632, .f32⟩
  | .hbm, ⟨13, _⟩ => ⟨S2816x1024, .f32⟩
  | .hbm, ⟨14, _⟩ => ⟨S_, .f32⟩
  | .hbm, ⟨15, _⟩ => ⟨S128x128, .f32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S4x128x128, .f32⟩
  | .hbm, ⟨27, _⟩ => ⟨S4x128x128, .f32⟩
  | .hbm, ⟨28, _⟩ => ⟨S16384x512, .f32⟩
  | .hbm, ⟨29, _⟩ => ⟨S128x128x4x128, .f32⟩
  | .hbm, ⟨30, _⟩ => ⟨S4x128x128x128, .f32⟩
  | .hbm, ⟨31, _⟩ => ⟨S128x128x4x128, .f32⟩
  | .hbm, ⟨32, _⟩ => ⟨S1x128x4x1, .f32⟩
  | .hbm, ⟨33, _⟩ => ⟨S128x128x4x128, .f32⟩
  | .hbm, ⟨34, _⟩ => ⟨S128x128x4x128, .f32⟩
  | .hbm, ⟨35, _⟩ => ⟨S16384x512, .f32⟩
  | .hbm, ⟨36, _⟩ => ⟨S16384x512, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1024x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x2048, .f32⟩
  | .hbm, ⟨63, _⟩ => ⟨S16384x2048, .f32⟩
  | .hbm, ⟨64, _⟩ => ⟨S16384x1024, .f32⟩
  | .hbm, ⟨65, _⟩ => ⟨S16384x512, .f32⟩
  | .hbm, ⟨66, _⟩ => ⟨S512x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S512x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S1024x1024, .f32⟩
  | .hbm, ⟨75, _⟩ => ⟨S16384x1024, .f32⟩
  | .hbm, ⟨76, _⟩ => ⟨S16384x1024, .f32⟩
  | .hbm, ⟨77, _⟩ => ⟨S1024x5632, .bf16⟩
  | .hbm, ⟨78, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x512 : Shape := ⟨2, ![1024, 512]⟩
abbrev S2x256x1024 : Shape := ⟨3, ![2, 256, 1024]⟩
abbrev S512x1024 : Shape := ⟨2, ![512, 1024]⟩
abbrev S1024x1024 : Shape := ⟨2, ![1024, 1024]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x512, .bf16⟩
  | .hbm, ⟨3, _⟩ => ⟨S2x256x1024, .bf16⟩
  | .hbm, ⟨4, _⟩ => ⟨S512x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "scale" => some (((Real.sqrt 128)⁻¹ * (Real.log 2)⁻¹ : ℝ) : EReal)
  | _ => none
-- ==== Reference4Ideal.lean ====
abbrev S16384x1024 : Shape := ⟨2, ![16384, 1024]⟩
abbrev S1x1024 : Shape := ⟨2, ![1, 1024]⟩
abbrev S1024x512 : Shape := ⟨2, ![1024, 512]⟩
abbrev S2x256x1024 : Shape := ⟨3, ![2, 256, 1024]⟩
abbrev S512x1024 : Shape := ⟨2, ![512, 1024]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S2x8192x4x128 : Shape := ⟨4, ![2, 8192, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x512, .bf16⟩
  | .hbm, ⟨3, _⟩ => ⟨S2x256x1024, .bf16⟩
  | .hbm, ⟨4, _⟩ => ⟨S512x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x512, .f32⟩
  | .hbm, ⟨21, _⟩ => ⟨S16384x512, .f32⟩
  | .hbm, ⟨22, _⟩ => ⟨S2x8192x4x128, .f32⟩
  | .hbm, ⟨23, _⟩ => ⟨S2x256x1024, .f32⟩
  | .hbm, ⟨24, _⟩ => ⟨S2x256x2x4x128, .f32⟩
  | .hbm, ⟨25, _⟩ => ⟨S2x256x1x4x128, .f32⟩
  | .hbm, ⟨26, _⟩ => ⟨S2x256x4x128, .f32⟩
  | .hbm, ⟨27, _⟩ => ⟨S2x4x8192x256, .f32⟩
  | .hbm, ⟨28, _⟩ => ⟨S_, .f32⟩
  | .hbm, ⟨29, _⟩ => ⟨S_, .f32⟩
  | .hbm, ⟨30, _⟩ => ⟨S2x4x8192x256, .f32⟩
  | .hbm, ⟨31, _⟩ => ⟨S2x4x8192x256, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x256, .f32⟩
  | .hbm, ⟨39, _⟩ => ⟨S2x4x8192x256, .f32⟩
  | .hbm, ⟨40, _⟩ => ⟨S2x4x8192x256, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x256, .f32⟩
  | .hbm, ⟨45, _⟩ => ⟨S2x4x8192x256, .f32⟩
  | .hbm, ⟨46, _⟩ => ⟨S2x256x1x4x128, .f32⟩
  | .hbm, ⟨47, _⟩ => ⟨S2x256x4x128, .f32⟩
  | .hbm, ⟨48, _⟩ => ⟨S2x4x128x8192, .f32⟩
  | .hbm, ⟨49, _⟩ => ⟨S2x8192x4x128, .f32⟩
  | .hbm, ⟨50, _⟩ => ⟨S16384x512, .f32⟩
  | .hbm, ⟨51, _⟩ => ⟨S512x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel5.lean ====
abbrev S2x256x1024 : Shape := ⟨3, ![2, 256, 1024]⟩
abbrev S1x1024 : Shape := ⟨2, ![1, 1024]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x1024, .bf16⟩
  | .hbm, ⟨3, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x256x1024 : Shape := ⟨3, ![2, 256, 1024]⟩
abbrev S1x1024 : Shape := ⟨2, ![1, 1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x1024, .bf16⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S1024x1024, .f32⟩
  | .hbm, ⟨20, _⟩ => ⟨S2x256x1024, .f32⟩
  | .hbm, ⟨21, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1x512 : Shape := ⟨2, ![1, 512]⟩
abbrev S1024x1792 : Shape := ⟨2, ![1024, 1792]⟩
abbrev S864x1024 : Shape := ⟨2, ![864, 1024]⟩
abbrev S1024x2048 : Shape := ⟨2, ![1024, 2048]⟩
abbrev S512x1024 : Shape := ⟨2, ![512, 1024]⟩
abbrev S1024x1024 : Shape := ⟨2, ![1024, 1024]⟩
abbrev S1024x512 : Shape := ⟨2, ![1024, 512]⟩
abbrev S2x512x8192 : Shape := ⟨3, ![2, 512, 8192]⟩
abbrev S16384x256 : Shape := ⟨2, ![16384, 256]⟩
abbrev S2x4x8192x128 : Shape := ⟨4, ![2, 4, 8192, 128]⟩
abbrev S2x4x80x8192 : Shape := ⟨4, ![2, 4, 80, 8192]⟩
abbrev S16384x512 : Shape := ⟨2, ![16384, 512]⟩
abbrev S2x32x8192 : Shape := ⟨3, ![2, 32, 8192]⟩
abbrev S64x2048 : Shape := ⟨2, ![64, 2048]⟩
abbrev S32x1024 : Shape := ⟨2, ![32, 1024]⟩
abbrev S64x1024 : Shape := ⟨2, ![64, 1024]⟩
abbrev S64x512 : Shape := ⟨2, ![64, 512]⟩
abbrev S1x512x1024 : Shape := ⟨3, ![1, 512, 1024]⟩
abbrev S1024x256 : Shape := ⟨2, ![1024, 256]⟩
abbrev S1x4x1024x128 : Shape := ⟨4, ![1, 4, 1024, 128]⟩
abbrev S1x4x80x1024 : Shape := ⟨4, ![1, 4, 80, 1024]⟩
abbrev S1x32x1024 : Shape := ⟨3, ![1, 32, 1024]⟩
abbrev S1024 : Shape := ⟨1, ![1024]⟩
abbrev S1024x1 : Shape := ⟨2, ![1024, 1]⟩
abbrev S1024x128 : Shape := ⟨2, ![1024, 128]⟩
abbrev S80x1024 : Shape := ⟨2, ![80, 1024]⟩
abbrev S1x1x1024x128 : Shape := ⟨4, ![1, 1, 1024, 128]⟩
abbrev S1x1x80x1024 : Shape := ⟨4, ![1, 1, 80, 1024]⟩

abbrev nBuf : Space → Nat
  | .hbm => 26
  | .vmem => 48
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x512, .f32⟩
  | .hbm, ⟨3, _⟩ => ⟨S1024x1792, .bf16⟩
  | .hbm, ⟨4, _⟩ => ⟨S864x1024, .bf16⟩
  | .hbm, ⟨5, _⟩ => ⟨S1024x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x512, .f32⟩
  | .hbm, ⟨10, _⟩ => ⟨S1024x1024, .f32⟩
  | .hbm, ⟨11, _⟩ => ⟨S512x1024, .f32⟩
  | .hbm, ⟨12, _⟩ => ⟨S2x512x8192, .bf16⟩
  | .hbm, ⟨13, _⟩ => ⟨S16384x256, .f32⟩
  | .hbm, ⟨14, _⟩ => ⟨S2x4x8192x128, .bf16⟩
  | .hbm, ⟨15, _⟩ => ⟨S2x4x80x8192, .bf16⟩
  | .hbm, ⟨16, _⟩ => ⟨S16384x512, .f32⟩
  | .hbm, ⟨17, _⟩ => ⟨S16384x512, .bf16⟩
  | .hbm, ⟨18, _⟩ => ⟨S2x32x8192, .f32⟩
  | .hbm, ⟨19, _⟩ => ⟨S1024x2048, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1024x512, .bf16⟩
  | .hbm, ⟨24, _⟩ => ⟨S1024x1024, .bf16⟩
  | .hbm, ⟨25, _⟩ => ⟨S512x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x512, .f32⟩
  | .local _ .vmem, ⟨4, _⟩ => ⟨S1024x1792, .bf16⟩
  | .local _ .vmem, ⟨5, _⟩ => ⟨S864x1024, .bf16⟩
  | .local _ .vmem, ⟨6, _⟩ => ⟨S64x2048, .f32⟩
  | .local _ .vmem, ⟨7, _⟩ => ⟨S64x2048, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S64x1024, .f32⟩
  | .local _ .vmem, ⟨13, _⟩ => ⟨S64x1024, .f32⟩
  | .local _ .vmem, ⟨14, _⟩ => ⟨S64x512, .f32⟩
  | .local _ .vmem, ⟨15, _⟩ => ⟨S64x512, .f32⟩
  | .local _ .vmem, ⟨16, _⟩ => ⟨S64x1024, .f32⟩
  | .local _ .vmem, ⟨17, _⟩ => ⟨S64x1024, .f32⟩
  | .local _ .vmem, ⟨18, _⟩ => ⟨S32x1024, .f32⟩
  | .local _ .vmem, ⟨19, _⟩ => ⟨S32x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1024x256, .f32⟩
  | .local _ .vmem, ⟨23, _⟩ => ⟨S1024x256, .f32⟩
  | .local _ .vmem, ⟨24, _⟩ => ⟨S1x4x1024x128, .bf16⟩
  | .local _ .vmem, ⟨25, _⟩ => ⟨S1x4x1024x128, .bf16⟩
  | .local _ .vmem, ⟨26, _⟩ => ⟨S1x4x80x1024, .bf16⟩
  | .local _ .vmem, ⟨27, _⟩ => ⟨S1x4x80x1024, .bf16⟩
  | .local _ .vmem, ⟨28, _⟩ => ⟨S1024x512, .f32⟩
  | .local _ .vmem, ⟨29, _⟩ => ⟨S1024x512, .f32⟩
  | .local _ .vmem, ⟨30, _⟩ => ⟨S1024x512, .bf16⟩
  | .local _ .vmem, ⟨31, _⟩ => ⟨S1024x512, .bf16⟩
  | .local _ .vmem, ⟨32, _⟩ => ⟨S1x32x1024, .f32⟩
  | .local _ .vmem, ⟨33, _⟩ => ⟨S1x32x1024, .f32⟩
  | .local _ .vmem, ⟨34, _⟩ => ⟨S64x2048, .bf16⟩
  | .local _ .vmem, ⟨35, _⟩ => ⟨S64x2048, .bf16⟩
  | .local _ .vmem, ⟨36, _⟩ => ⟨S32x1024, .bf16⟩
  | .local _ .vmem, ⟨37, _⟩ => ⟨S32x1024, .bf16⟩
  | .local _ .vmem, ⟨38, _⟩ => ⟨S32x1024, .bf16⟩
  | .local _ .vmem, ⟨39, _⟩ => ⟨S32x1024, .bf16⟩
  | .local _ .vmem, ⟨40, _⟩ => ⟨S64x1024, .bf16⟩
  | .local _ .vmem, ⟨41, _⟩ => ⟨S64x1024, .bf16⟩
  | .local _ .vmem, ⟨42, _⟩ => ⟨S64x512, .bf16⟩
  | .local _ .vmem, ⟨43, _⟩ => ⟨S64x512, .bf16⟩
  | .local _ .vmem, ⟨44, _⟩ => ⟨S64x1024, .bf16⟩
  | .local _ .vmem, ⟨45, _⟩ => ⟨S64x1024, .bf16⟩
  | .local _ .vmem, ⟨46, _⟩ => ⟨S32x1024, .bf16⟩
  | .local _ .vmem, ⟨47, _⟩ => ⟨S32x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev main_v0_12 : Ref sig .tc := ⟨.hbm, 24, rfl⟩
abbrev main_v0_13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S864x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x80x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Kernel6Ideal.lean ====
variable {F : FTy → Type} [FloatOps F] [Named F]
def κ : String → Option EReal := fun
  | "qscale" => some (((1 / 8) * (Real.log 2)⁻¹ : ℝ) : EReal)
  | _ => none
-- ==== Reference6Ideal.lean ====
abbrev S16384x1024 : Shape := ⟨2, ![16384, 1024]⟩
abbrev S1x1024 : Shape := ⟨2, ![1, 1024]⟩
abbrev S1x512 : Shape := ⟨2, ![1, 512]⟩
abbrev S1024x1792 : Shape := ⟨2, ![1024, 1792]⟩
abbrev S864x1024 : Shape := ⟨2, ![864, 1024]⟩
abbrev S1024x2048 : Shape := ⟨2, ![1024, 2048]⟩
abbrev S512x1024 : Shape := ⟨2, ![512, 1024]⟩
abbrev S1024x1024 : Shape := ⟨2, ![1024, 1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S16384x1792 : Shape := ⟨2, ![16384, 1792]⟩
abbrev S2x8192x1024 : Shape := ⟨3, ![2, 8192, 1024]⟩
abbrev S2x8192x864 : Shape := ⟨3, ![2, 8192, 864]⟩
abbrev S2x864x8192 : Shape := ⟨3, ![2, 864, 8192]⟩
abbrev S2x512x8192 : Shape := ⟨3, ![2, 512, 8192]⟩
abbrev S2x4x8192x128 : Shape := ⟨4, ![2, 4, 8192, 128]⟩
abbrev S16384x512 : Shape := ⟨2, ![16384, 512]⟩
abbrev S2x8192x4x128 : Shape := ⟨4, ![2, 8192, 4, 128]⟩
abbrev S2x4x80x8192 : Shape := ⟨4, ![2, 4, 80, 8192]⟩
abbrev S2x320x8192 : Shape := ⟨3, ![2, 320, 8192]⟩
abbrev S16384x256 : Shape := ⟨2, ![16384, 256]⟩
abbrev S2x32x8192 : Shape := ⟨3, ![2, 32, 8192]⟩

abbrev nBuf : Space → Nat
  | .hbm => 138
  | .vmem => 0
  | .smem => 0
  | _ => 0

abbrev hbmTy0_0 (i : Nat) : BufTy := match i % 128 with
  | 0 => ⟨S16384x1024, .f32⟩
  | 1 => ⟨S1x1024, .f32⟩
  | 2 => ⟨S1x512, .f32⟩
  | 3 => ⟨S1024x1792, .bf16⟩
  | 4 => ⟨S864x1024, .bf16⟩
  | 5 => ⟨S1024x2048, .f32⟩
  | 6 => ⟨S512x1024, .f32⟩
  | 7 => ⟨S512x1024, .f32⟩
  | 8 => ⟨S1024x1024, .f32⟩
  | 9 => ⟨S1024x512, .f32⟩
  | 10 => ⟨S1024x1024, .f32⟩
  | 11 => ⟨S512x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S16384x1024, .f32⟩
  | 26 => ⟨S16384x1024, .f32⟩
  | 27 => ⟨S1024x1792, .f32⟩
  | 28 => ⟨S16384x1792, .f32⟩
  | 29 => ⟨S864x1024, .f32⟩
  | 30 => ⟨S2x8192x1024, .f32⟩
  | 31 => ⟨S2x8192x864, .f32⟩
  | 32 => ⟨S2x864x8192, .f32⟩
  | 33 => ⟨S2x512x8192, .f32⟩
  | 34 => ⟨S_, .f32⟩
  | 35 => ⟨S_, .f32⟩
  | 36 => ⟨S_, .f32⟩
  | 37 => ⟨S_, .f32⟩
  | 38 => ⟨S2x512x8192, .f32⟩
  | 39 => ⟨S2x512x8192, .f32⟩
  | 40 => ⟨S2x4x8192x128, .i32⟩
  | 41 => ⟨S2x4x8192x128, .i32⟩
  | 42 => ⟨S_, .i32⟩
  | 43 => ⟨S2x4x8192x128, .i32⟩
  | 44 => ⟨S2x4x8192x128, .i32⟩
  | 45 => ⟨S16384x512, .f32⟩
  | 46 => ⟨S2x8192x4x128, .f32⟩
  | 47 => ⟨S2x4x8192x128, .f32⟩
  | 48 => ⟨S_, .i32⟩
  | 49 => ⟨S2x4x8192x128, .i32⟩
  | 50 => ⟨S2x4x8192x128, .i1⟩
  | 51 => ⟨S_, .i32⟩
  | 52 => ⟨S2x4x8192x128, .i32⟩
  | 53 => ⟨S2x4x8192x128, .i1⟩
  | 54 => ⟨S2x4x8192x128, .i1⟩
  | 55 => ⟨S_, .i32⟩
  | 56 => ⟨S_, .i32⟩
  | 57 => ⟨S2x4x8192x128, .i32⟩
  | 58 => ⟨S2x4x8192x128, .i32⟩
  | 59 => ⟨S2x4x8192x128, .f32⟩
  | 60 => ⟨S2x4x8192x128, .f32⟩
  | 61 => ⟨S2x4x80x8192, .i32⟩
  | 62 => ⟨S_, .i32⟩
  | 63 => ⟨S2x4x80x8192, .i32⟩
  | 64 => ⟨S2x4x80x8192, .i1⟩
  | 65 => ⟨S_, .f32⟩
  | 66 => ⟨S_, .f32⟩
  | 67 => ⟨S2x4x80x8192, .f32⟩
  | 68 => ⟨S2x4x80x8192, .f32⟩
  | 69 => ⟨S2x4x80x8192, .f32⟩
  | 70 => ⟨S2x320x8192, .f32⟩
  | 71 => ⟨S2x4x80x8192, .f32⟩
  | 72 => ⟨S2x4x80x8192, .f32⟩
  | 73 => ⟨S2x4x80x8192, .f32⟩
  | 74 => ⟨S16384x1024, .f32⟩
  | 75 => ⟨S16384x1024, .f32⟩
  | 76 => ⟨S16384x1024, .f32⟩
  | 77 => ⟨S_, .f32⟩
  | 78 => ⟨S16384x1024, .f32⟩
  | 79 => ⟨S16384x1024, .f32⟩
  | 80 => ⟨S16384x1024, .f32⟩
  | 81 => ⟨S_, .f32⟩
  | 82 => ⟨S16384x1024, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S16384x512, .f32⟩
  | 93 => ⟨S16384x512, .f32⟩
  | 94 => ⟨S_, .f32⟩
  | 95 => ⟨S16384, .f32⟩
  | 96 => ⟨S16384x1, .f32⟩
  | 97 => ⟨S_, .f32⟩
  | 98 => ⟨S16384x1, .f32⟩
  | 99 => ⟨S16384x1, .f32⟩
  | 100 => ⟨S16384x512, .f32⟩
  | 101 => ⟨S16384x512, .f32⟩
  | 102 => ⟨S16384x512, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x1, .f32⟩
  | 113 => ⟨S16384x512, .f32⟩
  | 114 => ⟨S16384x512, .f32⟩
  | 115 => ⟨S16384x512, .f32⟩
  | 116 => ⟨S16384x512, .f32⟩
  | 117 => ⟨S2x512x8192, .bf16⟩
  | 118 => ⟨S16384x256, .f32⟩
  | 119 => ⟨S2x4x8192x128, .bf16⟩
  | 120 => ⟨S2x4x80x8192, .bf16⟩
  | 121 => ⟨S16384x512, .bf16⟩
  | 122 => ⟨S2x32x8192, .f32⟩
  | 123 => ⟨S2x32x8192, .f32⟩
  | 124 => ⟨S2x32x8192, .f32⟩
  | 125 => ⟨S_, .f32⟩
  | 126 => ⟨S2x32x8192, .f32⟩
  | 127 => ⟨S2x32x8192, .f32⟩
  | _ => ⟨S16384x1024, .f32⟩

abbrev hbmTy0_1 (i : Nat) : BufTy := match i % 128 with
  | 0 => ⟨S_, .f32⟩
  | 1 => ⟨S2x32x8192, .f32⟩
  | 2 => ⟨S2x32x8192, .f32⟩
  | 3 => ⟨S1024x2048, .bf16⟩
  | 4 => ⟨S512x1024, .bf16⟩
  | 5 => ⟨S512x1024, .bf16⟩
  | 6 => ⟨S1024x1024, .bf16⟩
  | 7 => ⟨S1024x512, .bf16⟩
  | 8 => ⟨S1024x1024, .bf16⟩
  | 9 => ⟨S512x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_call0_v0 : Ref sig .tc := ⟨.hbm, 56, rfl⟩
abbrev main_call0_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_19 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩

abbrev nD : Nat := 1
abbrev τ : Topo := Topo.v7x

variable {F : FTy → Type} [FloatOps F]
-- ==== Kernel7.lean ====
abbrev S2x8192x256 : Shape := ⟨3, ![2, 8192, 256]⟩
abbrev S2x32x128 : Shape := ⟨3, ![2, 32, 128]⟩
abbrev S2x32x128x256 : Shape := ⟨4, ![2, 32, 128, 256]⟩
abbrev S256x128 : Shape := ⟨2, ![256, 128]⟩
abbrev S128x256 : Shape := ⟨2, ![128, 256]⟩
abbrev S2x2x512x128 : Shape := ⟨4, ![2, 2, 512, 128]⟩
abbrev S2x2x208x512 : Shape := ⟨4, ![2, 2, 208, 512]⟩
abbrev S1x8192x128 : Shape := ⟨3, ![1, 8192, 128]⟩
abbrev S1x2x512x128 : Shape := ⟨4, ![1, 2, 512, 128]⟩
abbrev S1x2x208x512 : Shape := ⟨4, ![1, 2, 208, 512]⟩
abbrev S512x256 : Shape := ⟨2, ![512, 256]⟩
abbrev S1x512x128 : Shape := ⟨3, ![1, 512, 128]⟩
abbrev S512x128 : Shape := ⟨2, ![512, 128]⟩
abbrev S1x1x128 : Shape := ⟨3, ![1, 1, 128]⟩
abbrev S1x128 : Shape := ⟨2, ![1, 128]⟩
abbrev S1x1x128x256 : Shape := ⟨4, ![1, 1, 128, 256]⟩
abbrev S256x256 : Shape := ⟨2, ![256, 256]⟩
abbrev S128x512 : Shape := ⟨2, ![128, 512]⟩
abbrev S16x512 : Shape := ⟨2, ![16, 512]⟩
abbrev S1x1x512x128 : Shape := ⟨4, ![1, 1, 512, 128]⟩
abbrev S64x512 : Shape := ⟨2, ![64, 512]⟩
abbrev S1x1x64x512 : Shape := ⟨4, ![1, 1, 64, 512]⟩
abbrev S1x1x16x512 : Shape := ⟨4, ![1, 1, 16, 512]⟩
abbrev S1x1x128x512 : Shape := ⟨4, ![1, 1, 128, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x8192x256, .f32⟩
  | .hbm, ⟨1, _⟩ => ⟨S2x32x128, .f32⟩
  | .hbm, ⟨2, _⟩ => ⟨S2x32x128x256, .bf16⟩
  | .hbm, ⟨3, _⟩ => ⟨S256x128, .bf16⟩
  | .hbm, ⟨4, _⟩ => ⟨S128x256, .bf16⟩
  | .hbm, ⟨5, _⟩ => ⟨S2x2x512x128, .bf16⟩
  | .hbm, ⟨6, _⟩ => ⟨S2x2x208x512, .bf16⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S2x32x128, .f32⟩
  | .local _ .vmem, ⟨5, _⟩ => ⟨S2x32x128x256, .bf16⟩
  | .local _ .vmem, ⟨6, _⟩ => ⟨S256x128, .bf16⟩
  | .local _ .vmem, ⟨7, _⟩ => ⟨S128x256, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S1x2x208x512, .bf16⟩
  | .local _ .vmem, ⟨11, _⟩ => ⟨S1x2x208x512, .bf16⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x208x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S2x8192x256 : Shape := ⟨3, ![2, 8192, 256]⟩
abbrev S2x32x128 : Shape := ⟨3, ![2, 32, 128]⟩
abbrev S2x32x128x256 : Shape := ⟨4, ![2, 32, 128, 256]⟩
abbrev S256x128 : Shape := ⟨2, ![256, 128]⟩
abbrev S128x256 : Shape := ⟨2, ![128, 256]⟩
abbrev S2x8192x128 : Shape := ⟨3, ![2, 8192, 128]⟩
abbrev S1x32x128 : Shape := ⟨3, ![1, 32, 128]⟩
abbrev S32x128 : Shape := ⟨2, ![32, 128]⟩
abbrev S1x32x128x256 : Shape := ⟨4, ![1, 32, 128, 256]⟩
abbrev S32x128x256 : Shape := ⟨3, ![32, 128, 256]⟩
abbrev S2x512x16x128 : Shape := ⟨4, ![2, 512, 16, 128]⟩
abbrev S2x511x16x128 : Shape := ⟨4, ![2, 511, 16, 128]⟩
abbrev S2x1x16x128 : Shape := ⟨4, ![2, 1, 16, 128]⟩
abbrev S2x512x32x128 : Shape := ⟨4, ![2, 512, 32, 128]⟩
abbrev S1x1x32x128 : Shape := ⟨4, ![1, 1, 32, 128]⟩
abbrev S2x512x4096 : Shape := ⟨3, ![2, 512, 4096]⟩
abbrev S4096x256 : Shape := ⟨2, ![4096, 256]⟩
abbrev S2x512x256 : Shape := ⟨3, ![2, 512, 256]⟩
abbrev S_ : Shape := ⟨0, ![]⟩
abbrev S2x512x128 : Shape := ⟨3, ![2, 512, 128]⟩
abbrev S2x2x512x64 : Shape := ⟨4, ![2, 2, 512, 64]⟩
abbrev S2x512x2x64 : Shape := ⟨4, ![2, 512, 2, 64]⟩
abbrev S2x2x512x128 : Shape := ⟨4, ![2, 2, 512, 128]⟩
abbrev S2x2x16x512 : Shape := ⟨4, ![2, 2, 16, 512]⟩
abbrev S2x2x128x512 : Shape := ⟨4, ![2, 2, 128, 512]⟩
abbrev S2x2x64x512 : Shape := ⟨4, ![2, 2, 64, 512]⟩
abbrev S2x2x208x512 : Shape := ⟨4, ![2, 2, 208, 512]⟩

abbrev nBuf : Space → Nat
  | .hbm => 135
  | .vmem => 0
  | .smem => 0
  | _ => 0

abbrev hbmTy0_0 (i : Nat) : BufTy := match i % 128 with
  | 0 => ⟨S2x8192x256, .f32⟩
  | 1 => ⟨S2x32x128, .f32⟩
  | 2 => ⟨S2x32x128x256, .bf16⟩
  | 3 => ⟨S256x128, .bf16⟩
  | 4 => ⟨S128x256, .bf16⟩
  | 5 => ⟨S2x8192x128, .f32⟩
  | 6 => ⟨S1x32x128, .f32⟩
  | 7 => ⟨S32x128, .f32⟩
  | 8 => ⟨S1x32x128x256, .bf16⟩
  | 9 => ⟨S32x128x256, .bf16⟩
  | 10 => ⟨S2x512x16x128, .f32⟩
  | 11 => ⟨S2x511x16x128, .f32⟩
  | 12 => ⟨S2x1x16x128, .f32⟩
  | 13 => ⟨S2x512x16x128, .f32⟩
  | 14 => ⟨S2x512x32x128, .f32⟩
  | 15 => ⟨S1x1x32x128, .f32⟩
  | 16 => ⟨S2x512x32x128, .f32⟩
  | 17 => ⟨S2x512x32x128, .f32⟩
  | 18 => ⟨S2x512x4096, .f32⟩
  | 19 => ⟨S32x128x256, .f32⟩
  | 20 => ⟨S4096x256, .f32⟩
  | 21 => ⟨S2x512x256, .f32⟩
  | 22 => ⟨S2x512x256, .f32⟩
  | 23 => ⟨S2x512x256, .f32⟩
  | 24 => ⟨S_, .f32⟩
  | 25 => ⟨S2x512x256, .f32⟩
  | 26 => ⟨S2x512x256, .f32⟩
  | 27 => ⟨S2x512x256, .f32⟩
  | 28 => ⟨S_, .f32⟩
  | 29 => ⟨S2x512x256, .f32⟩
  | 30 => ⟨S2x512x256, .f32⟩
  | 31 => ⟨S2x512x256, .f32⟩
  | 32 => ⟨S_, .f32⟩
  | 33 => ⟨S2x512x256, .f32⟩
  | 34 => ⟨S2x512x256, .f32⟩
  | 35 => ⟨S_, .f32⟩
  | 36 => ⟨S2x512x256, .f32⟩
  | 37 => ⟨S2x512x256, .f32⟩
  | 38 => ⟨S2x512x256, .f32⟩
  | 39 => ⟨S256x128, .f32⟩
  | 40 => ⟨S2x512x128, .f32⟩
  | 41 => ⟨S2x8192x128, .f32⟩
  | 42 => ⟨S1x32x128, .f32⟩
  | 43 => ⟨S32x128, .f32⟩
  | 44 => ⟨S1x32x128x256, .bf16⟩
  | 45 => ⟨S32x128x256, .bf16⟩
  | 46 => ⟨S2x512x16x128, .f32⟩
  | 47 => ⟨S2x511x16x128, .f32⟩
  | 48 => ⟨S2x1x16x128, .f32⟩
  | 49 => ⟨S2x512x16x128, .f32⟩
  | 50 => ⟨S2x512x32x128, .f32⟩
  | 51 => ⟨S1x1x32x128, .f32⟩
  | 52 => ⟨S2x512x32x128, .f32⟩
  | 53 => ⟨S2x512x32x128, .f32⟩
  | 54 => ⟨S2x512x4096, .f32⟩
  | 55 => ⟨S32x128x256, .f32⟩
  | 56 => ⟨S4096x256, .f32⟩
  | 57 => ⟨S2x512x256, .f32⟩
  | 58 => ⟨S2x512x256, .f32⟩
  | 59 => ⟨S2x512x256, .f32⟩
  | 60 => ⟨S_, .f32⟩
  | 61 => ⟨S2x512x256, .f32⟩
  | 62 => ⟨S2x512x256, .f32⟩
  | 63 => ⟨S2x512x256, .f32⟩
  | 64 => ⟨S_, .f32⟩
  | 65 => ⟨S2x512x256, .f32⟩
  | 66 => ⟨S2x512x256, .f32⟩
  | 67 => ⟨S2x512x256, .f32⟩
  | 68 => ⟨S_, .f32⟩
  | 69 => ⟨S2x512x256, .f32⟩
  | 70 => ⟨S2x512x256, .f32⟩
  | 71 => ⟨S_, .f32⟩
  | 72 => ⟨S2x512x256, .f32⟩
  | 73 => ⟨S2x512x256, .f32⟩
  | 74 => ⟨S2x512x256, .f32⟩
  | 75 => ⟨S128x256, .f32⟩
  | 76 => ⟨S256x128, .f32⟩
  | 77 => ⟨S2x512x128, .f32⟩
  | 78 => ⟨S2x2x512x64, .i32⟩
  | 79 => ⟨S2x2x512x64, .i32⟩
  | 80 => ⟨S_, .i32⟩
  | 81 => ⟨S2x2x512x64, .i32⟩
  | 82 => ⟨S2x2x512x64, .i1⟩
  | 83 => ⟨S_, .i32⟩
  | 84 => ⟨S2x2x512x64, .i32⟩
  | 85 => ⟨S2x2x512x64, .i32⟩
  | 86 => ⟨S_, .i32⟩
  | 87 => ⟨S2x2x512x64, .i32⟩
  | 88 => ⟨S2x2x512x64, .i32⟩
  | 89 => ⟨S_, .i32⟩
  | 90 => ⟨S_, .i32⟩
  | 91 => ⟨S2x2x512x64, .i32⟩
  | 92 => ⟨S2x2x512x64, .i32⟩
  | 93 => ⟨S2x2x512x64, .f32⟩
  | 94 => ⟨S2x512x2x64, .f32⟩
  | 95 => ⟨S2x2x512x64, .f32⟩
  | 96 => ⟨S2x2x512x128, .f32⟩
  | 97 => ⟨S2x2x16x512, .i32⟩
  | 98 => ⟨S_, .i32⟩
  | 99 => ⟨S2x2x16x512, .i32⟩
  | 100 => ⟨S2x2x16x512, .i1⟩
  | 101 => ⟨S_, .f32⟩
  | 102 => ⟨S_, .f32⟩
  | 103 => ⟨S2x2x16x512, .f32⟩
  | 104 => ⟨S2x2x16x512, .f32⟩
  | 105 => ⟨S2x2x16x512, .f32⟩
  | 106 => ⟨S2x2x128x512, .i32⟩
  | 107 => ⟨S_, .i32⟩
  | 108 => ⟨S2x2x128x512, .i32⟩
  | 109 => ⟨S2x2x128x512, .i32⟩
  | 110 => ⟨S2x2x128x512, .i32⟩
  | 111 => ⟨S_, .i32⟩
  | 112 => ⟨S2x2x128x512, .i32⟩
  | 113 => ⟨S2x2x128x512, .i32⟩
  | 114 => ⟨S_, .i32⟩
  | 115 => ⟨S2x2x128x512, .i32⟩
  | 116 => ⟨S2x2x128x512, .i32⟩
  | 117 => ⟨S2x2x128x512, .i1⟩
  | 118 => ⟨S_, .i32⟩
  | 119 => ⟨S2x2x128x512, .i32⟩
  | 120 => ⟨S2x2x128x512, .i32⟩
  | 121 => ⟨S2x2x128x512, .i1⟩
  | 122 => ⟨S2x2x128x512, .i1⟩
  | 123 => ⟨S_, .f32⟩
  | 124 => ⟨S_, .f32⟩
  | 125 => ⟨S2x2x128x512, .f32⟩
  | 126 => ⟨S2x2x128x512, .f32⟩
  | 127 => ⟨S2x2x128x512, .f32⟩
  | _ => ⟨S2x8192x256, .f32⟩

abbrev hbmTy0_1 (i : Nat) : BufTy := match i % 128 with
  | 0 => ⟨S2x512x2x64, .f32⟩
  | 1 => ⟨S2x2x64x512, .f32⟩
  | 2 => ⟨S2x2x16x512, .f32⟩
  | 3 => ⟨S2x2x128x512, .f32⟩
  | 4 => ⟨S2x2x208x512, .f32⟩
  | 5 => ⟨S2x2x512x128, .bf16⟩
  | 6 => ⟨S2x2x208x512, .bf16⟩
  | _ => ⟨S2x8192x256, .f32⟩

abbrev hbmTy (i : Nat) : BufTy := match i / 128 with
  | 0 => hbmTy0_0 i
  | 1 => hbmTy0_1 i
  | _ => ⟨S2x8192x256, .f32⟩

abbrev bufTy : (tb : Table) → Fin (tcTables nBuf tb) → BufTy
  | .hbm, ⟨i, _⟩ => hbmTy i
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c : Ref sig .tc := ⟨.hbm, 80, rfl⟩
abbrev main_v67 : Ref sig .tc := ⟨.hbm, 81, rfl⟩
abbrev main_v68 : Ref sig .tc := ⟨.hbm, 82, rfl⟩
abbrev main_c_7 : Ref sig .tc := ⟨.hbm, 83, rfl⟩
abbrev main_v69 : Ref sig .tc := ⟨.hbm, 84, rfl⟩
abbrev main_v70 : Ref sig .tc := ⟨.hbm, 85, rfl⟩
abbrev main_c_8 : Ref sig .tc := ⟨.hbm, 86, rfl⟩
abbrev main_v71 : Ref sig .tc := ⟨.hbm, 87, rfl⟩
abbrev main_v72 : Ref sig .tc := ⟨.hbm, 88, rfl⟩
abbrev main_c_9 : Ref sig .tc := ⟨.hbm, 89, rfl⟩
abbrev main_call0_v0 : Ref sig .tc := ⟨.hbm, 90, rfl⟩
abbrev main_call0_v1 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_10 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_cst_12 : Ref sig .tc := ⟨.hbm, 102, rfl⟩
abbrev main_call1_v0 : Ref sig .tc := ⟨.hbm, 103, rfl⟩
abbrev main_call1_v1 : Ref sig .tc := ⟨.hbm, 104, rfl⟩
abbrev main_v81 : Ref sig .tc := ⟨.hbm, 105, rfl⟩
abbrev main_v82 : Ref sig .tc := ⟨.hbm, 106, rfl⟩
abbrev main_c_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_14 : Ref sig .tc := ⟨.hbm, 111, rfl⟩
abbrev main_v86 : Ref sig .tc := ⟨.hbm, 112, rfl⟩
abbrev main_v87 : Ref sig .tc := ⟨.hbm, 113, rfl⟩
abbrev main_c_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_17 : Ref sig .tc := ⟨.hbm, 123, rfl⟩
abbrev main_cst_18 : Ref sig .tc := ⟨.hbm, 124, rfl⟩
abbrev main_call2_v0 : Ref sig .tc := ⟨.hbm, 125, rfl⟩
abbrev main_call2_v1 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Proof.Item.lean ====
module

public import proofs.«01_k».proof.Proof.Gen.KernelIdeal.Value

/-! # One query block of one head group

The call handles two blocks of 256 queries per grid point and two groups of four heads in each: four items that do the
same thing to different operands. This module states what an item does once, as functions of the blocks it loads, and
shows that what the call stores is these functions at the loaded blocks. -/

@[expose] public section

set_option maxRecDepth 16384

noncomputable section

namespace Cert.KernelIdeal.Cmp

open Cert.KernelIdeal Cert.KernelIdeal.Gen Idealize.ShloMosaic Idealize.ShloMosaic.TcCoe Idealize.SL.Sem

variable {F : FTy → Type} [FloatOps F] [Named F]

/-- The rows below the queries: the slope rounded, what the rounding left, zeros. -/
def featRows (sl : FVec F S1x1024 .f32) : FVec F S64x1024 .bf16 :=
  truncf .bf16
    (select (cmpi .eq (iota .tc S64x1024 32 [0] iota_S64x1024_d0_w32) (broadcast S64x1024 0#32))
      (broadcastTo S64x1024 (shapeCast S1x1024 (extf .f32 (truncf .bf16 sl bitsLt_bf16_f32) bitsLt_bf16_f32)
        shapeCasts_S1x1024_S1x1024) broadcasts_S1x1024_S64x1024)
      (select (cmpi .eq (iota .tc S64x1024 32 [0] iota_S64x1024_d0_w32) (broadcast S64x1024 1#32))
        (broadcastTo S64x1024 (shapeCast S1x1024 (subf sl (extf .f32 (truncf .bf16 sl bitsLt_bf16_f32) bitsLt_bf16_f32))
          shapeCasts_S1x1024_S1x1024) broadcasts_S1x1024_S64x1024)
        (broadcast S64x1024 (Scalar.ofBits .f32 0x00000000#32)))) bitsLt_bf16_f32

/-- The four heads' queries side by side over the feature rows. -/
def qaug (q0 q1 q2 q3 : Vec F S1x64x256 .bf16) (sl : FVec F S1x1024 .f32) : FVec F S128x1024 .bf16 :=
  concatenate S128x1024 0
    [⟨S64x1024, concatenate S64x1024 1
      [⟨S64x256, shapeCast S64x256 q0 shapeCasts_S1x64x256_S64x256⟩,
       ⟨S64x256, shapeCast S64x256 q1 shapeCasts_S1x64x256_S64x256⟩,
       ⟨S64x256, shapeCast S64x256 q2 shapeCasts_S1x64x256_S64x256⟩,
       ⟨S64x256, shapeCast S64x256 q3 shapeCasts_S1x64x256_S64x256⟩]
      concatenates_S64x256_S64x256_S64x256_S64x256_S64x1024_d1⟩, ⟨S64x1024, featRows sl⟩]
    concatenates_S64x1024_S64x1024_S128x1024_d0

/-- The scores of 256 keys. -/
def scores (kt : Vec F S1x1x256x128 .bf16) (qa : FVec F S128x1024 .bf16) : FVec F S256x1024 .f32 :=
  matmul dot_S256x128_S128x1024_S256x1024_1_0_0_1_n_n none (shapeCast S256x128 kt shapeCasts_S1x1x256x128_S256x128) qa
    (constant S256x1024 .f32 0x00000000#32)

/-- The tail's mask: nothing where the key's last token is no later than the query, `-∞` elsewhere. -/
def tailBias (tc start : BitVec 32) : FVec F S256x1024 .f32 :=
  have b : FVec F S256x256 .f32 :=
    select (cmpi .sle (subi (addi (muli (broadcast S256x256 16#32)
        (addi (broadcast S256x256 (Scalar.muli tc 128#32)) (iota .tc S256x256 32 [0] iota_S256x256_d0_w32)))
        (broadcast S256x256 31#32)) (broadcast S256x256 start)) (iota .tc S256x256 32 [1] iota_S256x256_d1_w32))
      (broadcast S256x256 (Scalar.ofBits .f32 0x00000000#32))
      (broadcast S256x256 (Named.named κ "neg" 0xF149F2CA#32))
  concatenate S256x1024 1 [⟨S256x256, b⟩, ⟨S256x256, b⟩, ⟨S256x256, b⟩, ⟨S256x256, b⟩]
    concatenates_S256x256_S256x256_S256x256_S256x256_S256x1024_d1

/-- The slope times a distance in tokens. -/
def dist (sl : FVec F S1x1024 .f32) (w : BitVec 32) : FVec F S1x1024 .f32 :=
  mulf sl (broadcast S1x1024 (Scalar.sitofp .f32 w))

/-- What is taken off the scores of key chunk `u` of the tail. -/
def tailDist (sl : FVec F S1x1024 .f32) (start tc u : BitVec 32) : FVec F S1x1024 .f32 :=
  dist sl (Scalar.subi start (Scalar.muli (Scalar.addi tc u) 2048#32))

/-- What is taken off the scores of key chunk `u` of the head: the distance, and `+∞` on a chunk the tail holds. -/
def headDist (sl : FVec F S1x1024 .f32) (start nck off u : BitVec 32) : FVec F S1x1024 .f32 :=
  addf (dist sl (Scalar.subi start off))
    (broadcast S1x1024 (Scalar.select (Scalar.cmpi .sgt (Scalar.subi nck 2#32) u) (Scalar.ofBits .f32 0x00000000#32)
      (Named.named κ "big" 0x7149F2CA#32)))

/-- The greatest score of one chunk of 128 keys per sublane, less its distance. -/
def chunkMax (s : FVec F S128x1024 .f32) (d : FVec F S1x1024 .f32) : FVec F S8x1024 .f32 :=
  subf (multiReduction .maximumf [0] S8x1024 (shapeCast S16x8x1024 s shapeCasts_S128x1024_S16x8x1024) 0xFF800000#32
    reduces_S16x8x1024_S8x1024 (.inl rfl) rfl) (broadcastTo S8x1024 d broadcasts_S1x1024_S8x1024)

/-- The greatest of 256 keys' scores, each less its chunk's distance. -/
def colMax (s : FVec F S256x1024 .f32) (d0 d1 : FVec F S1x1024 .f32) : FVec F S1x1024 .f32 :=
  shapeCast S1x1024 (multiReduction .maximumf [0] S1024
    (maximumf (chunkMax (extractStridedSlice S128x1024 ![0, 0] s slices_S256x1024_o0_0_S128x1024) d0)
      (chunkMax (extractStridedSlice S128x1024 ![128, 0] s slices_S256x1024_o128_0_S128x1024) d1))
    0xFF800000#32 reduces_S8x1024_S1024 (.inl rfl) rfl) shapeCasts_S1024_S1x1024

/-- One chunk's weights. -/
def chunkProbs (s : FVec F S128x1024 .f32) (m d : FVec F S1x1024 .f32) : FVec F S128x1024 .bf16 :=
  truncf .bf16 (exp2 (subf s (broadcastTo S128x1024 (addf m d) broadcasts_S1x1024_S128x1024))) bitsLt_bf16_f32

/-- The weights of 256 keys. -/
def probs (s : FVec F S256x1024 .f32) (m d0 d1 : FVec F S1x1024 .f32) : FVec F S256x1024 .bf16 :=
  concatenate S256x1024 0
    [⟨S128x1024, chunkProbs (extractStridedSlice S128x1024 ![0, 0] s slices_S256x1024_o0_0_S128x1024) m d0⟩,
     ⟨S128x1024, chunkProbs (extractStridedSlice S128x1024 ![128, 0] s slices_S256x1024_o128_0_S128x1024) m d1⟩]
    concatenates_S128x1024_S128x1024_S256x1024_d0

/-- The value rows under the weights. -/
def weigh (vt : Vec F S1x1x208x256 .bf16) (p : FVec F S256x1024 .bf16) : FVec F S208x1024 .f32 :=
  matmul dot_S208x256_S256x1024_S208x1024_1_0_0_1_n_n none (shapeCast S208x256 vt shapeCasts_S1x1x208x256_S208x256) p
    (constant S208x1024 .f32 0x00000000#32)

/-- The head keys' greatest score. -/
def headMax (kt : Vec F S1x1x256x128 .bf16) (qa : FVec F S128x1024 .bf16) (sl : FVec F S1x1024 .f32)
    (start nck : BitVec 32) : FVec F S1x1024 .f32 :=
  colMax (scores kt qa) (headDist sl start nck 0#32 0#32) (headDist sl start nck 2048#32 1#32)

/-- The head keys' weighted value rows. -/
def headAcc (kt : Vec F S1x1x256x128 .bf16) (vt : Vec F S1x1x208x256 .bf16) (qa : FVec F S128x1024 .bf16)
    (sl : FVec F S1x1024 .f32) (start nck : BitVec 32) : FVec F S208x1024 .f32 :=
  weigh vt (probs (scores kt qa) (headMax kt qa sl start nck) (headDist sl start nck 0#32 0#32)
    (headDist sl start nck 2048#32 1#32))

/-- The tail keys' masked scores. -/
def tailScores (kt : Vec F S1x1x256x128 .bf16) (qa : FVec F S128x1024 .bf16) (start tc : BitVec 32) :
    FVec F S256x1024 .f32 := addf (scores kt qa) (tailBias tc start)

/-- The greatest score of all: the head's and the tail's. -/
def newMax (kt : Vec F S1x1x256x128 .bf16) (qa : FVec F S128x1024 .bf16) (sl : FVec F S1x1024 .f32)
    (start tc : BitVec 32) (mo : FVec F S1x1024 .f32) : FVec F S1x1024 .f32 :=
  maximumf mo (colMax (tailScores kt qa start tc) (tailDist sl start tc 0#32) (tailDist sl start tc 1#32))

/-- The weighted value rows of all keys: the head's rescaled to the new maximum, and the tail's. -/
def newAcc (kt : Vec F S1x1x256x128 .bf16) (vt : Vec F S1x1x208x256 .bf16) (qa : FVec F S128x1024 .bf16)
    (sl : FVec F S1x1024 .f32) (start tc : BitVec 32) (mo : FVec F S1x1024 .f32) (ao : FVec F S208x1024 .f32) :
    FVec F S208x1024 .f32 :=
  addf (mulf (broadcastTo S208x1024 (exp2 (subf mo (newMax kt qa sl start tc mo))) broadcasts_S1x1024_S208x1024) ao)
    (weigh vt (probs (tailScores kt qa start tc) (newMax kt qa sl start tc mo) (tailDist sl start tc 0#32)
      (tailDist sl start tc 1#32)))

/-- The output rows over the sum of the weights (the ones' row). -/
def normed (acc : FVec F S208x1024 .f32) : FVec F S64x1024 .f32 :=
  mulf (extractStridedSlice S64x1024 ![0, 0] acc slices_S208x1024_o0_0_S64x1024)
    (broadcastTo S64x1024 (divf (broadcast S1x1024 (Scalar.ofBits .f32 0x3F800000#32))
      (maximumf (extractStridedSlice S1x1024 ![64, 0] acc slices_S208x1024_o64_0_S1x1024)
        (broadcast S1x1024 (Scalar.ofBits .f32 0x0DA24260#32)))) broadcasts_S1x1024_S64x1024)

/-- Which queries see any key: those from token 31 on. -/
def hasKey (start : BitVec 32) : IVec S1x256 1 :=
  cmpi .sge (addi (broadcast S1x256 start) (iota .tc S1x256 32 [1] iota_S1x256_d1_w32)) (broadcast S1x256 31#32)

/-- One head's gated output. -/
def headOut (gt : FVec F S32x512 .f32) (hk : IVec S1x256 1) (o : FVec F S64x1024 .f32) (og : Fin 2 → Nat)
    (hg : S32x512.Slices og S1x256) (oo : Fin 2 → Nat) (ho : S64x1024.Slices oo S64x256) : FVec F S64x256 .f32 :=
  select (broadcastTo S64x256 (shapeCast S1x256 hk shapeCasts_S1x256_S1x256) broadcasts_S1x256_S64x256)
    (mulf (broadcastTo S64x256 (extractStridedSlice S1x256 og gt hg) broadcasts_S1x256_S64x256)
      (extractStridedSlice S64x256 oo o ho))
    (broadcast S64x256 (Scalar.ofBits .f32 0x00000000#32))

/-- A query block's output: its eight heads, one under another. -/
def outTile (gl : Vec F S1x32x512 .f32) (start : BitVec 32) (acc0 acc1 : FVec F S208x1024 .f32) (og : Fin 8 → Fin 2 → Nat)
    (hg : ∀ h, S32x512.Slices (og h) S1x256) : FVec F S1x512x256 .f32 :=
  have gt : FVec F S32x512 .f32 := shapeCast S32x512 gl shapeCasts_S1x32x512_S32x512
  shapeCast S1x512x256 (concatenate S512x256 0
    [⟨S64x256, headOut gt (hasKey start) (normed acc0) (og 0) (hg 0) ![0, 0] slices_S64x1024_o0_0_S64x256⟩,
     ⟨S64x256, headOut gt (hasKey start) (normed acc0) (og 1) (hg 1) ![0, 256] slices_S64x1024_o0_256_S64x256⟩,
     ⟨S64x256, headOut gt (hasKey start) (normed acc0) (og 2) (hg 2) ![0, 512] slices_S64x1024_o0_512_S64x256⟩,
     ⟨S64x256, headOut gt (hasKey start) (normed acc0) (og 3) (hg 3) ![0, 768] slices_S64x1024_o0_768_S64x256⟩,
     ⟨S64x256, headOut gt (hasKey start) (normed acc1) (og 4) (hg 4) ![0, 0] slices_S64x1024_o0_0_S64x256⟩,
     ⟨S64x256, headOut gt (hasKey start) (normed acc1) (og 5) (hg 5) ![0, 256] slices_S64x1024_o0_256_S64x256⟩,
     ⟨S64x256, headOut gt (hasKey start) (normed acc1) (og 6) (hg 6) ![0, 512] slices_S64x1024_o0_512_S64x256⟩,
     ⟨S64x256, headOut gt (hasKey start) (normed acc1) (og 7) (hg 7) ![0, 768] slices_S64x1024_o0_768_S64x256⟩]
    concatenates_S64x256_S64x256_S64x256_S64x256_S64x256_S64x256_S64x256_S64x256_S512x256_d0)
    shapeCasts_S512x256_S1x512x256

end Cert.KernelIdeal.Cmp
-- ==== Proof.Pieces.lean ====
module

public import proofs.«01_k».proof.Proof.Item

/-! # What the call stores, by items

The two pieces the call stores into its first result at a grid point, as the functions of `Item` at the blocks it
loads: one theorem per item and case, one for the pieces. -/

@[expose] public section

set_option maxRecDepth 16384

noncomputable section

namespace Cert.KernelIdeal.Cmp

open Cert.KernelIdeal Cert.KernelIdeal.Gen Idealize.ShloMosaic Idealize.ShloMosaic.TcCoe Idealize.SL.Sem

variable {F : FTy → Type} [FloatOps F] [Named F]

/-- A load through a unit rectangle of a whole memref that holds `X`. -/
abbrev rd {s : Shape} {e : EltTy} (m : Memref sig .tc .vmem s e) (h : m.IsWhole) (X : Vec F s e)
    (o z : Fin s.rank → Nat) (ho : ∀ a, o a + z a ≤ s.size a) : Vec F ⟨s.rank, z⟩ e :=
  View.readAt (Elt F) m.view (Rect.unit o z ho).toLoadRect (h.unread X)

theorem inbQ (g bi : Fin 2) (j : Fin 4) : ∀ a, (![0, 64 * (4 * g.val + j.val), 256 * bi.val] : Fin 3 → Nat) a +
    S1x64x256.size a ≤ S1x512x512.size a := by
  revert g bi j; decide

theorem inbK (g : Fin 2) : ∀ a, (![0, g.val, 0, 0] : Fin 4 → Nat) a +
    S1x1x256x128.size a ≤ S1x2x512x128.size a := by
  revert g; decide

theorem inbV (g : Fin 2) : ∀ a, (![0, g.val, 0, 0] : Fin 4 → Nat) a +
    S1x1x208x256.size a ≤ S1x2x208x512.size a := by
  revert g; decide

/-- The queries of head group `g` in query block `bi`, over the slopes' feature rows. -/
def qOf (m : Memref sig .tc .vmem S1x512x512 .bf16) (h : m.IsWhole) (X : Vec F S1x512x512 .bf16) (g bi : Fin 2)
    (sl : FVec F S1x1024 .f32) : FVec F S128x1024 .bf16 :=
  qaug (rd m h X ![0, 64 * (4 * g.val + 0), 256 * bi.val] S1x64x256.size (inbQ g bi 0))
    (rd m h X ![0, 64 * (4 * g.val + 1), 256 * bi.val] S1x64x256.size (inbQ g bi 1))
    (rd m h X ![0, 64 * (4 * g.val + 2), 256 * bi.val] S1x64x256.size (inbQ g bi 2))
    (rd m h X ![0, 64 * (4 * g.val + 3), 256 * bi.val] S1x64x256.size (inbQ g bi 3)) sl

/-- The weighted value rows of item `(bi, g)` where the head keys are visited. -/
def accB (arg2 : Memref sig .tc .vmem S1x512x512 .bf16) (harg2 : arg2.IsWhole)
    (arg3 : Memref sig .tc .vmem S1x2x512x128 .bf16) (harg3 : arg3.IsWhole)
    (arg4 : Memref sig .tc .vmem S1x2x208x512 .bf16) (harg4 : arg4.IsWhole)
    (x0 : Vec F S1x512x512 .bf16) (x1 : Vec F S1x2x512x128 .bf16) (x2 : Vec F S1x2x208x512 .bf16) (g bi : Fin 2)
    (sl : FVec F S1x1024 .f32) (start nck : BitVec 32) (ok ov : Fin 4 → Nat)
    (hk : ∀ a, ok a + S1x1x256x128.size a ≤ S1x2x512x128.size a)
    (hv : ∀ a, ov a + S1x1x208x256.size a ≤ S1x2x208x512.size a)
    (mo : Vec F S1x1x1x1024 .f32) (ao : Vec F S1x1x208x1024 .f32) : FVec F S208x1024 .f32 :=
  newAcc (rd arg3 harg3 x1 ok S1x1x256x128.size hk) (rd arg4 harg4 x2 ov S1x1x208x256.size hv)
    (qOf arg2 harg2 x0 g bi sl) sl start (Scalar.maxsi (Scalar.subi nck 2#32) 0#32)
    (shapeCast S1x1024 mo shapeCasts_S1x1x1x1024_S1x1024) (shapeCast S208x1024 ao shapeCasts_S1x1x208x1024_S208x1024)

/-- The gate rows of the eight heads in query block `bi`. -/
abbrev gateOff (bi : Fin 2) (h : Fin 8) : Fin 2 → Nat := ![3 * h.val, 256 * bi.val]

theorem gateOff_slices (bi : Fin 2) (h : Fin 8) : S32x512.Slices (gateOff bi h) S1x256 :=
  ⟨rfl, by revert bi h; decide⟩

/-- The slopes of head group `g`. -/
def slopesOf (g : Fin 2) : FVec F S1x1024 .f32 := if g = 0 then k0_pay352 else k0_pay353

theorem inbM (bi g : Fin 2) : ∀ a, (![bi.val, g.val, 0, 0] : Fin 4 → Nat) a +
    S1x1x1x1024.size a ≤ S2x2x1x1024.size a := by
  revert bi g; decide

theorem inbA (bi g : Fin 2) : ∀ a, (![bi.val, g.val, 0, 0] : Fin 4 → Nat) a +
    S1x1x208x1024.size a ≤ S2x2x208x1024.size a := by
  revert bi g; decide

variable (c : Dev nD) (i : grid0.Coords)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x0 : Vec F S1x512x512 .bf16) (x1 : Vec F S1x2x512x128 .bf16) (x2 : Vec F S1x2x208x512 .bf16)
  (x3 : Vec F S1x32x512 .f32)

/-- The pieces stored in case B. -/
theorem pieces_B (hc0 : cond0_0 i) (hc1 : ¬cond0_1 i) (hc2 : cond0_2 i) (hc3 : ¬cond0_3 i) (hc4 : ¬cond0_4 i)
    (hc5 : cond0_5 i)
    (hk00 : ∀ a, k0_off5 i 0#32 a + S1x1x256x128.size a ≤ S1x2x512x128.size a)
    (hv00 : ∀ a, k0_off7 i 0#32 a + S1x1x208x256.size a ≤ S1x2x208x512.size a)
    (hk01 : ∀ a, k0_off6 i 0#32 a + S1x1x256x128.size a ≤ S1x2x512x128.size a)
    (hv01 : ∀ a, k0_off8 i 0#32 a + S1x1x208x256.size a ≤ S1x2x208x512.size a)
    (hk10 : ∀ a, k0_off5 i 1#32 a + S1x1x256x128.size a ≤ S1x2x512x128.size a)
    (hv10 : ∀ a, k0_off7 i 1#32 a + S1x1x208x256.size a ≤ S1x2x208x512.size a)
    (hk11 : ∀ a, k0_off6 i 1#32 a + S1x1x256x128.size a ≤ S1x2x512x128.size a)
    (hv11 : ∀ a, k0_off8 i 1#32 a + S1x1x208x256.size a ≤ S1x2x208x512.size a) :
    (kernelRun0_B c i arg2 harg2 arg3 harg3 arg4 harg4 arg5 harg5 arg6 harg6 arg7 harg7 arg8 harg8 arg9 harg9 arg10 harg10
      hc0 hc1 hc2 hc3 hc4 hc5 x0 x1 x2 x3).1 =
    [⟨Rect.unit (s := S1x512x512) ![0, 0, 256] S1x512x256.size inb_S1x512x512_S1x512x256_0_0_256,
      outTile (rd arg5 harg5 x3 ![0, 0, 0] S1x32x512.size inb_S1x32x512_S1x32x512_0_0_0) (kernelRun0_B.sl.v5 i)
        (accB arg2 harg2 arg3 harg3 arg4 harg4 x0 x1 x2 0 1 (slopesOf 0) (kernelRun0_B.sl.v5 i) (kernelRun0_B.sl.v79 i)
          (k0_off5 i 1#32) (k0_off7 i 1#32) hk10 hv10
          (arg9.view.readCov (kernelRun0_B.sl.HS0_4 c i arg2 harg2 arg3 harg3 x0 x1)
            (Rect.unit (s := S2x2x1x1024) ![1, 0, 0, 0] S1x1x1x1024.size (inbM 1 0)).toLoadRect)
          (arg10.view.readCov (kernelRun0_B.sl.HS1_4 c i arg2 harg2 arg3 harg3 arg4 harg4 x0 x1 x2)
            (Rect.unit (s := S2x2x208x1024) ![1, 0, 0, 0] S1x1x208x1024.size (inbA 1 0)).toLoadRect))
        (accB arg2 harg2 arg3 harg3 arg4 harg4 x0 x1 x2 1 1 (slopesOf 1) (kernelRun0_B.sl.v5 i) (kernelRun0_B.sl.v79 i)
          (k0_off6 i 1#32) (k0_off8 i 1#32) hk11 hv11
          (arg9.view.readCov (kernelRun0_B.sl.HS0_4 c i arg2 harg2 arg3 harg3 x0 x1)
            (Rect.unit (s := S2x2x1x1024) ![1, 1, 0, 0] S1x1x1x1024.size (inbM 1 1)).toLoadRect)
          (arg10.view.readCov (kernelRun0_B.sl.HS1_4 c i arg2 harg2 arg3 harg3 arg4 harg4 x0 x1 x2)
            (Rect.unit (s := S2x2x208x1024) ![1, 1, 0, 0] S1x1x208x1024.size (inbA 1 1)).toLoadRect))
        (gateOff 1) (gateOff_slices 1)⟩,
     ⟨Rect.unit (s := S1x512x512) ![0, 0, 0] S1x512x256.size inb_S1x512x512_S1x512x256_0_0_0,
      outTile (rd arg5 harg5 x3 ![0, 0, 0] S1x32x512.size inb_S1x32x512_S1x32x512_0_0_0) (kernelRun0_B.sl.v2 i)
        (accB arg2 harg2 arg3 harg3 arg4 harg4 x0 x1 x2 0 0 (slopesOf 0) (kernelRun0_B.sl.v2 i) (kernelRun0_B.sl.v42 i)
          (k0_off5 i 0#32) (k0_off7 i 0#32) hk00 hv00
          (arg9.view.readCov (kernelRun0_B.sl.HS0_4 c i arg2 harg2 arg3 harg3 x0 x1)
            (Rect.unit (s := S2x2x1x1024) ![0, 0, 0, 0] S1x1x1x1024.size (inbM 0 0)).toLoadRect)
          (arg10.view.readCov (kernelRun0_B.sl.HS1_4 c i arg2 harg2 arg3 harg3 arg4 harg4 x0 x1 x2)
            (Rect.unit (s := S2x2x208x1024) ![0, 0, 0, 0] S1x1x208x1024.size (inbA 0 0)).toLoadRect))
        (accB arg2 harg2 arg3 harg3 arg4 harg4 x0 x1 x2 1 0 (slopesOf 1) (kernelRun0_B.sl.v2 i) (kernelRun0_B.sl.v42 i)
          (k0_off6 i 0#32) (k0_off8 i 0#32) hk01 hv01
          (arg9.view.readCov (kernelRun0_B.sl.HS0_4 c i arg2 harg2 arg3 harg3 x0 x1)
            (Rect.unit (s := S2x2x1x1024) ![0, 1, 0, 0] S1x1x1x1024.size (inbM 0 1)).toLoadRect)
          (arg10.view.readCov (kernelRun0_B.sl.HS1_4 c i arg2 harg2 arg3 harg3 arg4 harg4 x0 x1 x2)
            (Rect.unit (s := S2x2x208x1024) ![0, 1, 0, 0] S1x1x208x1024.size (inbA 0 1)).toLoadRect))
        (gateOff 0) (gateOff_slices 0)⟩] := by
  unfold kernelRun0_B
  dsimp only
  rfl

/-- The pieces stored in case A. -/
theorem pieces_A (hc0 : ¬cond0_0 i) (hc1 : cond0_1 i) (hc2 : ¬cond0_2 i) (hc3 : cond0_3 i) (hc4 : cond0_4 i)
    (hc5 : ¬cond0_5 i)
    (hk00 : ∀ a, k0_off1 i 0#32 a + S1x1x256x128.size a ≤ S1x2x512x128.size a)
    (hv00 : ∀ a, k0_off3 i 0#32 a + S1x1x208x256.size a ≤ S1x2x208x512.size a)
    (hk01 : ∀ a, k0_off2 i 0#32 a + S1x1x256x128.size a ≤ S1x2x512x128.size a)
    (hv01 : ∀ a, k0_off4 i 0#32 a + S1x1x208x256.size a ≤ S1x2x208x512.size a)
    (hk10 : ∀ a, k0_off1 i 1#32 a + S1x1x256x128.size a ≤ S1x2x512x128.size a)
    (hv10 : ∀ a, k0_off3 i 1#32 a + S1x1x208x256.size a ≤ S1x2x208x512.size a)
    (hk11 : ∀ a, k0_off2 i 1#32 a + S1x1x256x128.size a ≤ S1x2x512x128.size a)
    (hv11 : ∀ a, k0_off4 i 1#32 a + S1x1x208x256.size a ≤ S1x2x208x512.size a) :
    (kernelRun0_A c i arg2 harg2 arg3 harg3 arg4 harg4 arg5 harg5 arg6 harg6 arg7 harg7 arg8 harg8 arg9 harg9 arg10 harg10
      hc0 hc1 hc2 hc3 hc4 hc5 x0 x1 x2 x3).1 =
    [⟨Rect.unit (s := S1x512x512) ![0, 0, 256] S1x512x256.size inb_S1x512x512_S1x512x256_0_0_256,
      outTile (rd arg5 harg5 x3 ![0, 0, 0] S1x32x512.size inb_S1x32x512_S1x32x512_0_0_0) (kernelRun0_A.sl.v5 i)
        (accB arg2 harg2 arg3 harg3 arg4 harg4 x0 x1 x2 0 1 (slopesOf 0) (kernelRun0_A.sl.v5 i) (kernelRun0_A.sl.v79 i)
          (k0_off1 i 1#32) (k0_off3 i 1#32) hk10 hv10
          (arg9.view.readCov (kernelRun0_A.sl.HS0_2)
            (Rect.unit (s := S2x2x1x1024) ![1, 0, 0, 0] S1x1x1x1024.size (inbM 1 0)).toLoadRect)
          (arg10.view.readCov (kernelRun0_A.sl.HS1_2)
            (Rect.unit (s := S2x2x208x1024) ![1, 0, 0, 0] S1x1x208x1024.size (inbA 1 0)).toLoadRect))
        (accB arg2 harg2 arg3 harg3 arg4 harg4 x0 x1 x2 1 1 (slopesOf 1) (kernelRun0_A.sl.v5 i) (kernelRun0_A.sl.v79 i)
          (k0_off2 i 1#32) (k0_off4 i 1#32) hk11 hv11
          (arg9.view.readCov (kernelRun0_A.sl.HS0_2)
            (Rect.unit (s := S2x2x1x1024) ![1, 1, 0, 0] S1x1x1x1024.size (inbM 1 1)).toLoadRect)
          (arg10.view.readCov (kernelRun0_A.sl.HS1_2)
            (Rect.unit (s := S2x2x208x1024) ![1, 1, 0, 0] S1x1x208x1024.size (inbA 1 1)).toLoadRect))
        (gateOff 1) (gateOff_slices 1)⟩,
     ⟨Rect.unit (s := S1x512x512) ![0, 0, 0] S1x512x256.size inb_S1x512x512_S1x512x256_0_0_0,
      outTile (rd arg5 harg5 x3 ![0, 0, 0] S1x32x512.size inb_S1x32x512_S1x32x512_0_0_0) (kernelRun0_A.sl.v2 i)
        (accB arg2 harg2 arg3 harg3 arg4 harg4 x0 x1 x2 0 0 (slopesOf 0) (kernelRun0_A.sl.v2 i) (kernelRun0_A.sl.v42 i)
          (k0_off1 i 0#32) (k0_off3 i 0#32) hk00 hv00
          (arg9.view.readCov (kernelRun0_A.sl.HS0_2)
            (Rect.unit (s := S2x2x1x1024) ![0, 0, 0, 0] S1x1x1x1024.size (inbM 0 0)).toLoadRect)
          (arg10.view.readCov (kernelRun0_A.sl.HS1_2)
            (Rect.unit (s := S2x2x208x1024) ![0, 0, 0, 0] S1x1x208x1024.size (inbA 0 0)).toLoadRect))
        (accB arg2 harg2 arg3 harg3 arg4 harg4 x0 x1 x2 1 0 (slopesOf 1) (kernelRun0_A.sl.v2 i) (kernelRun0_A.sl.v42 i)
          (k0_off2 i 0#32) (k0_off4 i 0#32) hk01 hv01
          (arg9.view.readCov (kernelRun0_A.sl.HS0_2)
            (Rect.unit (s := S2x2x1x1024) ![0, 1, 0, 0] S1x1x1x1024.size (inbM 0 1)).toLoadRect)
          (arg10.view.readCov (kernelRun0_A.sl.HS1_2)
            (Rect.unit (s := S2x2x208x1024) ![0, 1, 0, 0] S1x1x208x1024.size (inbA 0 1)).toLoadRect))
        (gateOff 0) (gateOff_slices 0)⟩] := by
  unfold kernelRun0_A
  dsimp only
  rfl

end Cert.KernelIdeal.Cmp
-- ==== Proof.Soft.lean ====
module

public import Idealize.ShloMosaic.Lib.Pointwise

/-! # A softmax taken in two runs, over the extended reals

Four chunks of keys with logits `X u r` and values `v u r`. A head run visits the chunks before a cut under a maximum
of its own; a tail run visits the two chunks from the cut on under the maximum of all. The head's sum rescaled plus the
tail's is the sum of all under the maximum of all. -/

@[expose] public section

noncomputable section

namespace Soft

open Idealize.ShloMosaic

theorem sub_add_real (s m : EReal) (d : ℝ) : s - (m + d) = (s - d) - m := by
  induction s <;> induction m <;> simp [sub_eq_add_neg, ← EReal.coe_add, ← EReal.coe_neg] <;> try rfl
  · norm_cast; ring_nf

theorem exp2_nonneg (x : EReal) : 0 ≤ Ideal.exp2 x := by
  induction x
  · simp
  · simp; positivity
  · simp

theorem exp2_add_real (a : ℝ) (x : EReal) : Ideal.exp2 a * Ideal.exp2 x = Ideal.exp2 (a + x) := by
  induction x
  · simp
  · rename_i b
    rw [← EReal.coe_add, Ideal.exp2_coe, Ideal.exp2_coe, Ideal.exp2_coe, ← EReal.coe_mul]
    congr 1
    exact (Real.rpow_add (by norm_num) a b).symm
  · rw [Ideal.exp2_top, EReal.coe_add_top, Ideal.exp2_top, Ideal.exp2_coe]
    exact EReal.coe_mul_top_of_pos (Real.rpow_pos_of_pos (by norm_num) a)

theorem real_mul_sum {ι : Type} (s : Finset ι) (f : ι → EReal) (e : EReal) (h0 : 0 ≤ e) (ht : e ≠ ⊤) :
    e * ∑ i ∈ s, f i = ∑ i ∈ s, e * f i := by
  classical
  induction s using Finset.induction_on with
  | empty => simp
  | insert a s ha ih => rw [Finset.sum_insert ha, Finset.sum_insert ha, EReal.left_distrib_of_nonneg_of_ne_top h0 ht, ih]

theorem sup_sub {ι : Type} (s : Finset ι) (f : ι → EReal) (d : EReal) : s.sup f - d = s.sup (fun i => f i - d) := by
  classical
  induction s using Finset.induction_on with
  | empty => simp [sub_eq_add_neg]
  | insert a s ha ih =>
    rw [Finset.sup_insert, Finset.sup_insert, ← ih]
    exact (Monotone.map_max (f := fun x => x - d) (fun x y h => EReal.sub_le_sub h le_rfl))

variable {ι : Type} [Fintype ι]

/-- One chunk's weighted sum under a maximum `m`. -/
def wsum (v X : ι → EReal) (m : EReal) : EReal := ∑ r, v r * Ideal.exp2 (X r - m)

theorem wsum_bot (v X : ι → EReal) (m : EReal) (h : ∀ r, X r = ⊥) : wsum v X m = 0 := by
  unfold wsum
  apply Finset.sum_eq_zero
  intro r _
  rw [h r, sub_eq_add_neg, EReal.bot_add, Ideal.exp2_bot, mul_zero]

theorem wsum_top (v X : ι → EReal) : wsum v X ⊤ = 0 := by
  unfold wsum
  apply Finset.sum_eq_zero
  intro r _
  rw [sub_eq_add_neg, EReal.neg_top, EReal.add_bot, Ideal.exp2_bot, mul_zero]

/-- Rescaling one chunk's sum from a real maximum to another maximum. -/
theorem rescale (v X : ι → EReal) (mh : ℝ) (m : EReal) (hm : (mh : EReal) ≤ m) :
    Ideal.exp2 (mh - m) * wsum v X mh = wsum v X m := by
  induction m
  · simp at hm
  · rename_i m
    unfold wsum
    rw [real_mul_sum _ _ _ (exp2_nonneg _) (by rw [← EReal.coe_sub, Ideal.exp2_coe]; exact EReal.coe_ne_top _)]
    refine Finset.sum_congr rfl fun r _ => ?_
    rw [mul_left_comm, ← EReal.coe_sub, exp2_add_real]
    congr 2
    induction X r
    · simp
    · norm_cast; ring_nf
    · simp [sub_eq_add_neg, ← EReal.coe_neg, ← EReal.coe_add]
  · rw [wsum_top, sub_eq_add_neg, EReal.neg_top, EReal.add_bot, Ideal.exp2_bot, zero_mul]

/-- The two runs together. `hd` says which of the head's two chunks are live. -/
theorem two_runs (v X : Fin 4 → ι → EReal) (vh ph : Fin 2 → ι → EReal) (live : Fin 2 → Prop) [DecidablePred live]
    (mh m : EReal) (hmh : mh = Finset.univ.sup fun u : Fin 2 => if live u then Finset.univ.sup (X u.castSucc.castSucc) else ⊥)
    (hle : mh ≤ m)
    (hv : ∀ u r, vh u r = v u.castSucc.castSucc r)
    (hp : ∀ u r, mh ≠ ⊥ → ph u r = if live u then Ideal.exp2 (X u.castSucc.castSucc r - mh) else 0) :
    Ideal.exp2 (mh - m) * ∑ u, ∑ r, vh u r * ph u r =
      ∑ u : Fin 2, if live u then wsum (v u.castSucc.castSucc) (X u.castSucc.castSucc) m else 0 := by
  have hbot : mh = ⊥ → ∀ u : Fin 2, live u → ∀ r, X u.castSucc.castSucc r = ⊥ := by
    intro h u hu r
    rw [h] at hmh
    have h1 := Finset.le_sup (f := fun u : Fin 2 => if live u then Finset.univ.sup (X u.castSucc.castSucc) else ⊥) (Finset.mem_univ u)
    rw [← hmh] at h1
    simp only [hu, if_true] at h1
    have h2 := Finset.le_sup (f := X u.castSucc.castSucc) (Finset.mem_univ r)
    exact le_bot_iff.1 (h2.trans h1)
  induction mh
  · rw [sub_eq_add_neg, EReal.bot_add, Ideal.exp2_bot, zero_mul]
    symm
    apply Finset.sum_eq_zero
    intro u _
    split
    · exact wsum_bot _ _ _ (hbot rfl u ‹_›)
    · rfl
  · rename_i mh
    have hb : (mh : EReal) ≠ ⊥ := EReal.coe_ne_bot _
    rw [Fin.sum_univ_two, Fin.sum_univ_two]
    have one : ∀ u, Ideal.exp2 (mh - m) * ∑ r, vh u r * ph u r =
        if live u then wsum (v u.castSucc.castSucc) (X u.castSucc.castSucc) m else 0 := by
      intro u
      split
      · rename_i hu
        rw [← rescale _ _ mh m hle]
        unfold wsum
        congr 1
        refine Finset.sum_congr rfl fun r _ => ?_
        rw [hv, hp u r hb, if_pos hu]
      · rename_i hu
        rw [Finset.sum_eq_zero, mul_zero]
        intro r _
        rw [hp u r hb, if_neg hu, mul_zero]
    rw [← one 0, ← one 1]
    refine EReal.left_distrib_of_nonneg_of_ne_top (exp2_nonneg _) ?_ _ _
    induction m
    · simp at hle
    · rw [← EReal.coe_sub, Ideal.exp2_coe]; exact EReal.coe_ne_top _
    · rw [sub_eq_add_neg, EReal.neg_top, EReal.add_bot, Ideal.exp2_bot]; exact EReal.zero_ne_top
  · have hm : m = ⊤ := top_le_iff.1 hle
    subst hm
    rw [sub_eq_add_neg, EReal.neg_top, EReal.add_bot, Ideal.exp2_bot, zero_mul]
    symm
    apply Finset.sum_eq_zero
    intro u _
    split
    · exact wsum_top _ _
    · rfl

/-- The greatest of all: the head's greatest against the tail's two chunks'. -/
theorem sup_all (X : Fin 4 → ι → EReal) (tc : Nat) (htc : tc ≤ 2)
    (hX : ∀ u : Fin 4, tc + 2 ≤ u.val → ∀ r, X u r = ⊥) :
    max (Finset.univ.sup fun u : Fin 2 => if u.val < tc then Finset.univ.sup (X u.castSucc.castSucc) else ⊥)
      (max (Finset.univ.sup (X ⟨tc, by omega⟩)) (Finset.univ.sup (X ⟨tc + 1, by omega⟩))) =
    Finset.univ.sup fun u => Finset.univ.sup (X u) := by
  have hb : ∀ u : Fin 4, tc + 2 ≤ u.val → Finset.univ.sup (X u) = ⊥ := fun u hu => by
    rw [Finset.sup_eq_bot_iff]; intro r _; exact hX u hu r
  apply le_antisymm
  · have hall : ∀ u : Fin 4, Finset.univ.sup (X u) ≤ Finset.univ.sup fun u => Finset.univ.sup (X u) := fun u =>
      Finset.le_sup (f := fun u => Finset.univ.sup (X u)) (Finset.mem_univ u)
    refine max_le (Finset.sup_le fun u _ => ?_) (max_le (hall _) (hall _))
    split
    · exact hall _
    · exact bot_le
  · refine Finset.sup_le fun u _ => ?_
    by_cases h1 : tc + 2 ≤ u.val
    · rw [hb u h1]; exact bot_le
    by_cases h2 : u.val = tc
    · refine le_trans ?_ (le_max_right _ _)
      refine le_trans ?_ (le_max_left _ _)
      rw [show u = ⟨tc, by omega⟩ from Fin.ext h2]
    by_cases h3 : u.val = tc + 1
    · refine le_trans ?_ (le_max_right _ _)
      refine le_trans ?_ (le_max_right _ _)
      rw [show u = ⟨tc + 1, by omega⟩ from Fin.ext h3]
    · refine le_trans ?_ (le_max_left _ _)
      have hu2 : u.val < 2 := by omega
      have := Finset.le_sup (f := fun u : Fin 2 => if u.val < tc then Finset.univ.sup (X u.castSucc.castSucc) else ⊥)
        (Finset.mem_univ (⟨u.val, hu2⟩ : Fin 2))
      refine le_trans ?_ this
      have h4 : u.val < tc := by omega
      simp only [h4, if_true]
      exact le_of_eq rfl

/-- The sum of all: the head's live chunks and the tail's two. -/
theorem sum_all (v X : Fin 4 → ι → EReal) (m : EReal) (tc : Nat) (htc : tc ≤ 2)
    (hX : ∀ u : Fin 4, tc + 2 ≤ u.val → ∀ r, X u r = ⊥) :
    (∑ u : Fin 2, if u.val < tc then wsum (v u.castSucc.castSucc) (X u.castSucc.castSucc) m else 0) +
      (wsum (v ⟨tc, by omega⟩) (X ⟨tc, by omega⟩) m + wsum (v ⟨tc + 1, by omega⟩) (X ⟨tc + 1, by omega⟩) m) =
    ∑ u, wsum (v u) (X u) m := by
  have hb : ∀ u : Fin 4, tc + 2 ≤ u.val → wsum (v u) (X u) m = 0 := fun u hu => wsum_bot _ _ _ (hX u hu)
  rw [Fin.sum_univ_two, Fin.sum_univ_four]
  interval_cases tc
  · rw [hb 2 (by decide), hb 3 (by decide)]
    simp
  · rw [hb 3 (by decide)]
    simp [add_assoc]
  · simp [add_assoc]

end Soft
-- ==== Proof.ItemIdeal.lean ====
module

public import proofs.«01_k».proof.Proof.Pieces
public import proofs.«01_k».proof.Proof.Soft
public import Idealize.ShloMosaic.Lib.Pointwise
public import Idealize.ShloMosaic.Lib.WholeRead

/-! # An item read at an index, over the extended reals -/

@[expose] public section

set_option maxRecDepth 16384

noncomputable section

namespace Cert.KernelIdeal.Cmp

open Cert.KernelIdeal Cert.KernelIdeal.Gen Idealize.ShloMosaic Idealize.ShloMosaic.TcCoe Idealize.SL.Sem

theorem negInf_word : Ideal.ofBits .f32 0xFF800000#32 = (⊥ : EReal) := by simp [Ideal.ofBits, Ideal.ieee]

theorem neg_named : Named.named (F := Ideal) κ (φ := .f32) "neg" 0xF149F2CA#32 = (⊥ : EReal) :=
  IdealRules.named_const.ideal_named_scalar _ _ _ _ rfl

theorem big_named : Named.named (F := Ideal) κ (φ := .f32) "big" 0x7149F2CA#32 = (⊤ : EReal) :=
  IdealRules.named_const.ideal_named_scalar _ _ _ _ rfl

theorem toInt_ofInt_small (z : Int) (h0 : -2 ^ 31 ≤ z) (h1 : z < 2 ^ 31) : (BitVec.ofInt 32 z).toInt = z := by
  rw [BitVec.toInt_ofInt]
  apply Int.bmod_eq_of_le <;> simp <;> omega

theorem ofNat_eq_ofInt (n : Nat) : BitVec.ofNat 32 n = BitVec.ofInt 32 (n : Int) := by
  rw [BitVec.ofInt_natCast]

theorem chunkMax_apply (s : FVec Ideal S128x1024 .f32) (d : FVec Ideal S1x1024 .f32) (r : Fin 8) (n : Fin 1024) :
    chunkMax s d (ix2 r n) = ((Finset.univ : Finset (Fin 16)).sup fun j =>
      s (ix2 (⟨j.val * 8 + r.val, by omega⟩ : Fin 128) n)) - d (ix2 0 n) := by
  unfold chunkMax
  pointwise
  rw [negInf_word]
  rfl

theorem colMax_apply (s : FVec Ideal S256x1024 .f32) (d0 d1 : FVec Ideal S1x1024 .f32) (n : Fin 1024) :
    colMax s d0 d1 (ix2 0 n) = (Finset.univ : Finset (Fin 8)).sup fun r =>
      max (((Finset.univ : Finset (Fin 16)).sup fun j =>
        s (ix2 (⟨j.val * 8 + r.val, by omega⟩ : Fin 256) n)) - d0 (ix2 0 n))
        (((Finset.univ : Finset (Fin 16)).sup fun j =>
        s (ix2 (⟨128 + (j.val * 8 + r.val), by omega⟩ : Fin 256) n)) - d1 (ix2 0 n)) := by
  unfold colMax chunkMax
  pointwise
  rw [negInf_word]
  rfl

theorem sup_sublanes (f : Fin 128 → EReal) : ((Finset.univ : Finset (Fin 8)).sup fun r =>
    (Finset.univ : Finset (Fin 16)).sup fun j => f ⟨j.val * 8 + r.val, by omega⟩) = Finset.univ.sup f := by
  apply le_antisymm
  · exact Finset.sup_le fun r _ => Finset.sup_le fun j _ => Finset.le_sup (f := f) (Finset.mem_univ _)
  · refine Finset.sup_le fun i _ => ?_
    have h1 := Finset.le_sup (f := fun j : Fin 16 => f ⟨j.val * 8 + (⟨i.val % 8, by omega⟩ : Fin 8).val, by simp; omega⟩)
      (Finset.mem_univ (⟨i.val / 8, by omega⟩ : Fin 16))
    have h2 := Finset.le_sup (f := fun r : Fin 8 => (Finset.univ : Finset (Fin 16)).sup fun j =>
      f ⟨j.val * 8 + r.val, by omega⟩) (Finset.mem_univ (⟨i.val % 8, by omega⟩ : Fin 8))
    refine le_trans (le_of_eq ?_) (h1.trans h2)
    exact congrArg f (Fin.ext (by simp; omega))

theorem colMax_chunks (s : FVec Ideal S256x1024 .f32) (d0 d1 : FVec Ideal S1x1024 .f32) (n : Fin 1024) :
    colMax s d0 d1 (ix2 0 n) =
      max ((Finset.univ : Finset (Fin 128)).sup fun r => s (ix2 (⟨r.val, by omega⟩ : Fin 256) n) - d0 (ix2 0 n))
        ((Finset.univ : Finset (Fin 128)).sup fun r => s (ix2 (⟨128 + r.val, by omega⟩ : Fin 256) n) - d1 (ix2 0 n)) := by
  rw [colMax_apply, ← sup_sublanes (fun r => s (ix2 (⟨r.val, by omega⟩ : Fin 256) n) - d0 (ix2 0 n)),
    ← sup_sublanes (fun r => s (ix2 (⟨128 + r.val, by omega⟩ : Fin 256) n) - d1 (ix2 0 n))]
  rw [← Finset.sup_sup]
  refine Finset.sup_congr rfl fun r _ => ?_
  rw [Soft.sup_sub, Soft.sup_sub]
  rfl

theorem scores_apply (kt : Vec Ideal S1x1x256x128 .bf16) (qa : FVec Ideal S128x1024 .bf16) (i : Fin 256) (n : Fin 1024) :
    scores kt qa (ix2 i n) = ∑ f : Fin 128, kt (ix4 0 0 i f) * qa (ix2 f n) := by
  unfold scores
  pointwise

theorem weigh_apply (vt : Vec Ideal S1x1x208x256 .bf16) (p : FVec Ideal S256x1024 .bf16) (d : Fin 208) (n : Fin 1024) :
    weigh vt p (ix2 d n) = ∑ i : Fin 256, vt (ix4 0 0 d i) * p (ix2 i n) := by
  unfold weigh
  pointwise

theorem probs_apply (s : FVec Ideal S256x1024 .f32) (m d0 d1 : FVec Ideal S1x1024 .f32) (i : Fin 256) (n : Fin 1024) :
    probs s m d0 d1 (ix2 i n) =
      Ideal.exp2 (s (ix2 i n) - (m (ix2 0 n) + if i.val < 128 then d0 (ix2 0 n) else d1 (ix2 0 n))) := by
  unfold probs chunkProbs
  pointwise
  split
  · rfl
  · have : (⟨128 + (i.val - 128), by omega⟩ : Fin 256) = i := Fin.ext (by simp; omega)
    rw [this]; rfl

theorem cmpi_ofNat_eq (a b : Nat) (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [IntOp.cmpi]
  · have := mt this.1 h
    rw [if_neg h]
    show BitVec.ofBool (BitVec.ofNat 32 a == BitVec.ofNat 32 b) = 0#1
    rw [beq_eq_false_iff_ne.2 this]; rfl

theorem featRows_apply (sl : FVec Ideal S1x1024 .f32) (f : Fin 64) (n : Fin 1024) :
    featRows sl (ix2 f n) = if f.val = 0 then sl (ix2 0 n) else if f.val = 1 then sl (ix2 0 n) - sl (ix2 0 n) else 0 := by
  unfold featRows
  pointwise
  rw [show (0#32) = BitVec.ofNat 32 0 from rfl, show (1#32) = BitVec.ofNat 32 1 from rfl,
    cmpi_ofNat_eq _ _ (by omega) (by omega), cmpi_ofNat_eq _ _ (by omega) (by omega)]
  split
  · rfl
  · split <;> rfl

theorem cmpi_sle_small (a b : Int) (ha : -2 ^ 31 ≤ a) (ha' : a < 2 ^ 31) (hb : -2 ^ 31 ≤ b) (hb' : b < 2 ^ 31) :
    IntOp.cmpi .sle (BitVec.ofInt 32 a) (BitVec.ofInt 32 b) = if a ≤ b then 1#1 else 0#1 := by
  have : (BitVec.ofInt 32 a).sle (BitVec.ofInt 32 b) = decide (a ≤ b) := by
    rw [BitVec.sle, toInt_ofInt_small _ ha ha', toInt_ofInt_small _ hb hb']
  show BitVec.ofBool ((BitVec.ofInt 32 a).sle (BitVec.ofInt 32 b)) = _
  rw [this]
  by_cases h : a ≤ b <;> simp [h]

theorem tail_word (c i st : Nat) :
    IntOp.subi (IntOp.addi (IntOp.muli (16#32) (IntOp.addi (Scalar.muli (BitVec.ofNat 32 c) 128#32) (BitVec.ofNat 32 i)))
      31#32) (BitVec.ofNat 32 st) = BitVec.ofInt 32 (16 * (128 * c + i) + 31 - st) := by
  simp only [IntOp.subi, IntOp.addi, IntOp.muli, Scalar.muli, ofNat_eq_ofInt]
  rw [sub_eq_add_neg (16 * (128 * (c : Int) + i) + 31), BitVec.ofInt_add, BitVec.ofInt_add, BitVec.ofInt_mul, BitVec.ofInt_add, BitVec.ofInt_mul, BitVec.ofInt_neg,
    BitVec.sub_eq_add_neg, BitVec.mul_comm (BitVec.ofInt 32 (c : Int))]
  rfl

theorem tailBias_apply (c st : Nat) (hc : c ≤ 4) (hst : st < 2 ^ 20) (i : Fin 256) (n : Fin 1024) :
    tailBias (F := Ideal) (BitVec.ofNat 32 c) (BitVec.ofNat 32 st) (ix2 i n) =
      if 16 * (128 * c + i.val) + 31 ≤ st + n.val % 256 then 0 else ⊥ := by
  have key : ∀ q : Nat, q < 256 → q = n.val % 256 → Scalar.select
        (IntOp.cmpi CmpIPredicate.sle
          (IntOp.subi (IntOp.addi (IntOp.muli (16#32) (IntOp.addi (Scalar.muli (BitVec.ofNat 32 c) 128#32)
            (BitVec.ofNat 32 i.val))) 31#32) (BitVec.ofNat 32 st)) (BitVec.ofNat 32 q)) (0 : EReal)
        (Named.named (F := Ideal) κ (φ := .f32) "neg" 0xF149F2CA#32) =
      if 16 * (128 * c + i.val) + 31 ≤ st + n.val % 256 then 0 else ⊥ := by
    intro q hq e
    have := i.isLt
    rw [tail_word, ofNat_eq_ofInt q, cmpi_sle_small _ _ (by omega) (by omega) (by omega) (by omega), neg_named, ← e]
    by_cases h : 16 * (128 * c + i.val) + 31 ≤ st + q
    · rw [if_pos h, if_pos (by omega)]; rfl
    · rw [if_neg h, if_neg (by omega)]; rfl
  unfold tailBias
  pointwise
  split
  · exact key _ (by omega) (by omega)
  · split
    · exact key _ (by omega) (by omega)
    · split
      · exact key _ (by omega) (by omega)
      · exact key _ (by omega) (by omega)

theorem dist_apply (sl : FVec Ideal S1x1024 .f32) (z : Int) (h0 : -2 ^ 31 ≤ z) (h1 : z < 2 ^ 31) (n : Fin 1024) :
    dist sl (BitVec.ofInt 32 z) (ix2 0 n) = sl (ix2 0 n) * ((z : ℝ) : EReal) := by
  unfold dist
  pointwise
  rw [toInt_ofInt_small z h0 h1]

theorem tailDist_apply (sl : FVec Ideal S1x1024 .f32) (st c u : Nat) (hst : st < 2 ^ 20) (hc : c ≤ 4) (hu : u ≤ 1)
    (n : Fin 1024) : tailDist sl (BitVec.ofNat 32 st) (BitVec.ofNat 32 c) (BitVec.ofNat 32 u) (ix2 0 n) =
      sl (ix2 0 n) * (((st : Int) - 2048 * (c + u) : Int) : ℝ) := by
  have : Scalar.subi (BitVec.ofNat 32 st) (Scalar.muli (Scalar.addi (BitVec.ofNat 32 c) (BitVec.ofNat 32 u)) 2048#32) =
      BitVec.ofInt 32 ((st : Int) - 2048 * (c + u)) := by
    simp only [Scalar.subi, Scalar.addi, Scalar.muli, IntOp.subi, IntOp.addi, IntOp.muli, ofNat_eq_ofInt]
    rw [sub_eq_add_neg, BitVec.ofInt_add, BitVec.ofInt_neg, BitVec.ofInt_mul, BitVec.ofInt_add, BitVec.sub_eq_add_neg,
      BitVec.mul_comm (BitVec.ofInt 32 2048)]
    rfl
  unfold tailDist
  rw [this, dist_apply _ _ (by omega) (by omega)]

theorem headDist_apply (sl : FVec Ideal S1x1024 .f32) (st nck u : Nat) (hst : st < 2 ^ 20) (hn : nck ≤ 8) (hu : u ≤ 1)
    (n : Fin 1024) : headDist sl (BitVec.ofNat 32 st) (BitVec.ofNat 32 nck) (BitVec.ofNat 32 (2048 * u)) (BitVec.ofNat 32 u)
      (ix2 0 n) = sl (ix2 0 n) * (((st : Int) - 2048 * u : Int) : ℝ) + if u + 2 < nck then 0 else ⊤ := by
  have e1 : Scalar.subi (BitVec.ofNat 32 st) (BitVec.ofNat 32 (2048 * u)) = BitVec.ofInt 32 ((st : Int) - 2048 * u) := by
    simp only [Scalar.subi, IntOp.subi, ofNat_eq_ofInt]
    rw [sub_eq_add_neg, BitVec.ofInt_add, BitVec.ofInt_neg, BitVec.sub_eq_add_neg]
    rfl
  have e2 : Scalar.select (Scalar.cmpi .sgt (Scalar.subi (BitVec.ofNat 32 nck) 2#32) (BitVec.ofNat 32 u)) (0 : EReal) ⊤ =
      if u + 2 < nck then 0 else ⊤ := by
    have hn' : nck < 9 := by omega
    have hu' : u < 2 := by omega
    clear e1 hn hu
    interval_cases nck <;> interval_cases u <;> rfl
  unfold headDist
  rw [e1, ← e2]
  show dist sl _ (ix2 0 n) + Scalar.select _ (Ideal.ofBits .f32 0x00000000#32) (Named.named (F := Ideal) κ (φ := .f32) "big" 0x7149F2CA#32) = _
  rw [dist_apply _ _ (by omega) (by omega), big_named]
  congr 2
  simp [Ideal.ofBits, Ideal.ieee]

/-- The word of the smallest denominator. -/
def tiny : EReal := Ideal.ofBits .f32 0x0DA24260#32

theorem normed_apply (acc : FVec Ideal S208x1024 .f32) (d : Fin 64) (n : Fin 1024) :
    normed acc (ix2 d n) = acc (ix2 (⟨d.val, by omega⟩ : Fin 208) n) * Ideal.div 1 (max (acc (ix2 64 n)) tiny) := by
  unfold normed tiny
  pointwise

theorem newAcc_apply (kt : Vec Ideal S1x1x256x128 .bf16) (vt : Vec Ideal S1x1x208x256 .bf16)
    (qa : FVec Ideal S128x1024 .bf16) (sl : FVec Ideal S1x1024 .f32) (start tc : BitVec 32) (mo : FVec Ideal S1x1024 .f32)
    (ao : FVec Ideal S208x1024 .f32) (d : Fin 208) (n : Fin 1024) :
    newAcc kt vt qa sl start tc mo ao (ix2 d n) =
      Ideal.exp2 (mo (ix2 0 n) - newMax kt qa sl start tc mo (ix2 0 n)) * ao (ix2 d n) +
      ∑ i : Fin 256, vt (ix4 0 0 d i) * probs (tailScores kt qa start tc) (newMax kt qa sl start tc mo)
        (tailDist sl start tc 0#32) (tailDist sl start tc 1#32) (ix2 i n) := by
  rw [← weigh_apply]
  unfold newAcc
  pointwise
  rfl

theorem hasKey_apply (st : Nat) (hst : st < 2 ^ 20) (q : Fin 256) :
    hasKey (BitVec.ofNat 32 st) (ix2 0 q) = if 31 ≤ st + q.val then 1#1 else 0#1 := by
  unfold hasKey
  pointwise
  have := q.isLt
  have e : IntOp.addi (BitVec.ofNat 32 st) (BitVec.ofNat 32 q.val) = BitVec.ofInt 32 ((st : Int) + q.val) := by
    simp only [IntOp.addi, ofNat_eq_ofInt]
    rw [BitVec.ofInt_add]
  rw [e]
  have := cmpi_sle_small 31 ((st : Int) + q.val) (by omega) (by omega) (by omega) (by omega)
  show IntOp.cmpi .sle (BitVec.ofInt 32 31) (BitVec.ofInt 32 ((st : Int) + q.val)) = _
  rw [this]
  by_cases h : 31 ≤ st + q.val
  · rw [if_pos h, if_pos (by omega)]
  · rw [if_neg h, if_neg (by omega)]

theorem headOut_apply (gl : Vec Ideal S1x32x512 .f32) (st : Nat) (hst : st < 2 ^ 20) (o : FVec Ideal S64x1024 .f32)
    (a b : Nat) (ha : a < 32) (hb : b ≤ 256) (hg : S32x512.Slices ![a, b] S1x256) (c : Nat) (hc : c ≤ 768)
    (ho : S64x1024.Slices ![0, c] S64x256) (d : Fin 64) (q : Fin 256) :
    headOut (shapeCast S32x512 gl shapeCasts_S1x32x512_S32x512) (hasKey (BitVec.ofNat 32 st)) o ![a, b] hg ![0, c] ho
      (ix2 d q) =
      if 31 ≤ st + q.val then gl (ix3 0 (⟨a, ha⟩ : Fin 32) (⟨b + q.val, by omega⟩ : Fin 512)) *
        o (ix2 d (⟨c + q.val, by omega⟩ : Fin 1024)) else 0 := by
  unfold headOut
  pointwise
  rw [hasKey_apply _ hst]
  by_cases h : 31 ≤ st + q.val
  · rw [if_pos h, if_pos h]; rfl
  · rw [if_neg h, if_neg h]; rfl

theorem outTile_apply (gl : Vec Ideal S1x32x512 .f32) (st : Nat) (hst : st < 2 ^ 20) (acc0 acc1 : FVec Ideal S208x1024 .f32)
    (bi : Fin 2) (e : Fin 512) (q : Fin 256) :
    outTile gl (BitVec.ofNat 32 st) acc0 acc1 (gateOff bi) (gateOff_slices bi) (ix3 0 e q) =
      if 31 ≤ st + q.val then gl (ix3 0 (⟨3 * (e.val / 64), by omega⟩ : Fin 32) (⟨256 * bi.val + q.val, by omega⟩ : Fin 512)) *
        normed (if e.val < 256 then acc0 else acc1) (ix2 (⟨e.val % 64, by omega⟩ : Fin 64) (⟨256 * (e.val / 64 % 4) + q.val, by omega⟩ : Fin 1024))
      else 0 := by
  have key : ∀ (h : Fin 8) (acc : FVec Ideal S208x1024 .f32) (c : Nat) (hc : c = 256 * (h.val % 4))
      (ho : S64x1024.Slices ![0, c] S64x256) (d : Fin 64) (hd : e.val = 64 * h.val + d.val)
      (hacc : acc = if e.val < 256 then acc0 else acc1),
      headOut (shapeCast S32x512 gl shapeCasts_S1x32x512_S32x512) (hasKey (BitVec.ofNat 32 st)) (normed acc)
        (gateOff bi h) (gateOff_slices bi h) ![0, c] ho (ix2 d q) =
      if 31 ≤ st + q.val then gl (ix3 0 (⟨3 * (e.val / 64), by omega⟩ : Fin 32) (⟨256 * bi.val + q.val, by omega⟩ : Fin 512)) *
        normed (if e.val < 256 then acc0 else acc1) (ix2 (⟨e.val % 64, by omega⟩ : Fin 64) (⟨256 * (e.val / 64 % 4) + q.val, by omega⟩ : Fin 1024))
      else 0 := by
    intro h acc c hc ho d hd hacc
    subst hc hacc
    rw [headOut_apply gl st hst _ (3 * h.val) (256 * bi.val) (by omega) (by omega) _ _ (by omega)]
    have e1 : e.val / 64 = h.val := by omega
    have e2 : (⟨e.val % 64, by omega⟩ : Fin 64) = d := Fin.ext (by simp; omega)
    simp only [e1, e2]
  unfold outTile
  pointwise
  split
  · exact key 0 _ _ rfl _ _ (by simp) (by rw [if_pos (by omega)])
  split
  · exact key 1 _ _ rfl _ _ (by simp; omega) (by rw [if_pos (by omega)])
  split
  · exact key 2 _ _ rfl _ _ (by simp; omega) (by rw [if_pos (by omega)])
  split
  · exact key 3 _ _ rfl _ _ (by simp; omega) (by rw [if_pos (by omega)])
  split
  · exact key 4 _ _ rfl _ _ (by simp; omega) (by rw [if_neg (by omega)])
  split
  · exact key 5 _ _ rfl _ _ (by simp; omega) (by rw [if_neg (by omega)])
  split
  · exact key 6 _ _ rfl _ _ (by simp; omega) (by rw [if_neg (by omega)])
  · exact key 7 _ _ rfl _ _ (by simp; omega) (by rw [if_neg (by omega)])

/-- A load through a unit rectangle, read at an index. -/
theorem rd_apply {F : FTy → Type} {s : Shape} {e : EltTy} (m : Memref sig .tc .vmem s e) (h : m.IsWhole) (X : Vec F s e)
    (o z : Fin s.rank → Nat) (ho : ∀ a, o a + z a ≤ s.size a) (x : (⟨s.rank, z⟩ : Shape).Idx) :
    rd m h X o z ho x = X (fun a => ⟨o a + (x a).val, Nat.lt_of_lt_of_le (Nat.add_lt_add_left (x a).isLt _) (ho a)⟩) := by
  rw [rd, h.readAt_unread]
  congr 1
  funext a
  exact Fin.ext (congrArg (o a + ·) (Nat.one_mul _))

end Cert.KernelIdeal.Cmp
-- ==== Proof.Column.lean ====
module

public import proofs.«01_k».proof.Proof.ItemIdeal

/-! # One column of an item

A column is one query of one head: the keys' scores `S`, one value row `V`, the slope `a`. What an item computes in it
is the weighted sum of all keys under the greatest logit of all. -/

@[expose] public section

set_option maxRecDepth 16384

noncomputable section

namespace Cert.KernelIdeal.Cmp

open Cert.KernelIdeal Cert.KernelIdeal.Gen Idealize.ShloMosaic Idealize.ShloMosaic.TcCoe Idealize.SL.Sem

/-- Key `r` of chunk `u`. -/
abbrev key (u : Fin 4) (r : Fin 128) : Fin 512 := ⟨128 * u.val + r.val, by omega⟩

/-- A key's logit: its score less the distance of its chunk, nothing for a key that ends after the query. -/
def logit (st q : Nat) (a : ℝ) (S : Fin 512 → EReal) (u : Fin 4) (r : Fin 128) : EReal :=
  if 16 * (128 * u.val + r.val) + 31 ≤ st + q then S (key u r) - a * (((st : Int) - 2048 * u.val : Int) : ℝ) else ⊥

/-- The greatest logit. -/
def top (st q : Nat) (a : ℝ) (S : Fin 512 → EReal) : EReal :=
  Finset.univ.sup fun u => Finset.univ.sup (logit st q a S u)

/-- The weighted sum of a value row. -/
def weighted (st q : Nat) (a : ℝ) (S V : Fin 512 → EReal) : EReal :=
  ∑ u, Soft.wsum (fun r => V (key u r)) (logit st q a S u) (top st q a S)

/-- The chunk the tail starts at. -/
def tcN (st : Nat) : Nat := (st + 224) / 2048 + 1 - 2

theorem sum_two {M : Type} [AddCommMonoid M] (f : Fin 256 → M) :
    ∑ i, f i = (∑ r : Fin 128, f ⟨r.val, by omega⟩) + ∑ r : Fin 128, f ⟨128 + r.val, by omega⟩ :=
  Fin.sum_univ_add (M := M) (a := 128) (b := 128) f

theorem sup_pair (f : Fin 2 → EReal) : Finset.univ.sup f = max (f 0) (f 1) := by
  apply le_antisymm
  · refine Finset.sup_le fun u _ => ?_
    fin_cases u
    · exact le_max_left _ _
    · exact le_max_right _ _
  · exact max_le (Finset.le_sup (Finset.mem_univ 0)) (Finset.le_sup (Finset.mem_univ 1))

theorem logit_late (st q : Nat) (hq : q < 256) (a : ℝ) (S : Fin 512 → EReal) (u : Fin 4) (hu : tcN st + 2 ≤ u.val)
    (r : Fin 128) : logit st q a S u r = ⊥ := by
  unfold logit tcN at *
  rw [if_neg (by omega)]

theorem logit_early (st q : Nat) (a : ℝ) (S : Fin 512 → EReal) (u : Fin 4) (hu : u.val < tcN st)
    (r : Fin 128) : logit st q a S u r = S (key u r) - a * (((st : Int) - 2048 * u.val : Int) : ℝ) := by
  unfold logit tcN at *
  rw [if_pos (by omega)]

theorem tcN_le (st : Nat) (hst : st ≤ 7936) : tcN st ≤ 2 := by unfold tcN; omega

theorem tail_logit (st q : Nat) (a : ℝ) (S : Fin 512 → EReal) (u : Fin 4) (r : Fin 128) :
    S (key u r) + (if 16 * (128 * u.val + r.val) + 31 ≤ st + q then 0 else ⊥) -
      a * (((st : Int) - 2048 * u.val : Int) : ℝ) = logit st q a S u r := by
  unfold logit
  split
  · rw [add_zero]
  · rw [EReal.add_bot, sub_eq_add_neg, EReal.bot_add]

section
variable (st : Nat) (hst : st ≤ 7936) (n : Fin 1024) (a : ℝ) (S : Fin 512 → EReal)
  (sl : FVec Ideal S1x1024 .f32) (hsl : sl (ix2 0 n) = a) (qa : FVec Ideal S128x1024 .bf16)

include hst hsl

theorem newAcc_col (V : Fin 512 → EReal) (kt : Vec Ideal S1x1x256x128 .bf16) (vt : Vec Ideal S1x1x208x256 .bf16)
    (mo : FVec Ideal S1x1024 .f32) (ao : FVec Ideal S208x1024 .f32) (d : Fin 208)
    (hs : ∀ i : Fin 256, scores kt qa (ix2 i n) = S ⟨128 * tcN st + i.val, by have := tcN_le st hst; omega⟩)
    (hv : ∀ i : Fin 256, vt (ix4 0 0 d i) = V ⟨128 * tcN st + i.val, by have := tcN_le st hst; omega⟩)
    (hmo : mo (ix2 0 n) = Finset.univ.sup fun u : Fin 2 => if u.val < tcN st then
      Finset.univ.sup (logit st (n.val % 256) a S u.castSucc.castSucc) else ⊥)
    (hao : ∀ m, mo (ix2 0 n) ≤ m → Ideal.exp2 (mo (ix2 0 n) - m) * ao (ix2 d n) =
      ∑ u : Fin 2, if u.val < tcN st then Soft.wsum (fun r => V (key u.castSucc.castSucc r))
        (logit st (n.val % 256) a S u.castSucc.castSucc) m else 0) :
    newAcc kt vt qa sl (BitVec.ofNat 32 st) (BitVec.ofNat 32 (tcN st)) mo ao (ix2 d n) =
      weighted st (n.val % 256) a S V := by
  have htc := tcN_le st hst
  have hq : n.val % 256 < 256 := Nat.mod_lt _ (by decide)
  have hd : ∀ u : Nat, u ≤ 1 → tailDist sl (BitVec.ofNat 32 st) (BitVec.ofNat 32 (tcN st)) (BitVec.ofNat 32 u) (ix2 0 n) =
      a * (((st : Int) - 2048 * (tcN st + u) : Int) : ℝ) := fun u hu => by
    rw [tailDist_apply _ _ _ _ (by omega) (by omega) hu, hsl]
  have hd0 := hd 0 (by decide)
  have hd1 := hd 1 (by decide)
  have ht : ∀ i : Fin 256, tailScores kt qa (BitVec.ofNat 32 st) (BitVec.ofNat 32 (tcN st)) (ix2 i n) =
      S ⟨128 * tcN st + i.val, by omega⟩ +
        if 16 * (128 * tcN st + i.val) + 31 ≤ st + n.val % 256 then 0 else ⊥ := fun i => by
    show scores kt qa (ix2 i n) + tailBias _ _ (ix2 i n) = _
    rw [hs, tailBias_apply _ _ (by omega) (by omega)]
  have hl0 : ∀ r : Fin 128, tailScores kt qa (BitVec.ofNat 32 st) (BitVec.ofNat 32 (tcN st)) (ix2 (⟨r.val, by omega⟩ : Fin 256) n) -
      tailDist sl (BitVec.ofNat 32 st) (BitVec.ofNat 32 (tcN st)) 0#32 (ix2 0 n) =
      logit st (n.val % 256) a S ⟨tcN st, by omega⟩ r := fun r => by
    rw [ht, hd0, ← tail_logit]
    simp only [key, Nat.cast_zero, add_zero]
  have hl1 : ∀ r : Fin 128, tailScores kt qa (BitVec.ofNat 32 st) (BitVec.ofNat 32 (tcN st)) (ix2 (⟨128 + r.val, by omega⟩ : Fin 256) n) -
      tailDist sl (BitVec.ofNat 32 st) (BitVec.ofNat 32 (tcN st)) 1#32 (ix2 0 n) =
      logit st (n.val % 256) a S ⟨tcN st + 1, by omega⟩ r := fun r => by
    have e : 128 * tcN st + (128 + r.val) = 128 * (tcN st + 1) + r.val := by omega
    rw [ht, hd1, ← tail_logit]
    simp only [key, e, Nat.cast_add, Nat.cast_one]
  have hM : newMax kt qa sl (BitVec.ofNat 32 st) (BitVec.ofNat 32 (tcN st)) mo (ix2 0 n) = top st (n.val % 256) a S := by
    show max (mo (ix2 0 n)) (colMax _ _ _ (ix2 0 n)) = _
    rw [colMax_chunks, hmo]
    simp only [hl0, hl1]
    exact Soft.sup_all _ _ htc (fun u hu r => logit_late st _ hq a S u hu r)
  rw [newAcc_apply, hM, hao _ (by rw [← hM]; exact le_max_left _ _)]
  unfold weighted
  rw [← Soft.sum_all (fun u r => V (key u r)) _ _ (tcN st) htc (fun u hu r => logit_late st _ hq a S u hu r), sum_two]
  congr 1
  congr 1
  · refine Finset.sum_congr rfl fun r _ => ?_
    rw [hv, probs_apply, if_pos r.isLt, hM, ← hl0 r, hd0, ← EReal.coe_mul, Soft.sub_add_real]
  · refine Finset.sum_congr rfl fun r _ => ?_
    have e : 128 * tcN st + (128 + r.val) = 128 * (tcN st + 1) + r.val := by omega
    rw [hv, probs_apply, if_neg (by simp), hM, ← hl1 r, hd1, ← EReal.coe_mul, Soft.sub_add_real]
    simp only [key, e]

/-- The head's maximum and sum in a column. -/
theorem head_col (V : Fin 512 → EReal) (kt : Vec Ideal S1x1x256x128 .bf16) (vt : Vec Ideal S1x1x208x256 .bf16)
    (d : Fin 208)
    (hs : ∀ i : Fin 256, scores kt qa (ix2 i n) = S ⟨i.val, by omega⟩)
    (hv : ∀ i : Fin 256, vt (ix4 0 0 d i) = V ⟨i.val, by omega⟩) :
    (headMax kt qa sl (BitVec.ofNat 32 st) (BitVec.ofNat 32 ((st + 224) / 2048 + 1)) (ix2 0 n) =
      Finset.univ.sup fun u : Fin 2 => if u.val < tcN st then
        Finset.univ.sup (logit st (n.val % 256) a S u.castSucc.castSucc) else ⊥) ∧
    (∀ m, headMax kt qa sl (BitVec.ofNat 32 st) (BitVec.ofNat 32 ((st + 224) / 2048 + 1)) (ix2 0 n) ≤ m →
      Ideal.exp2 (headMax kt qa sl (BitVec.ofNat 32 st) (BitVec.ofNat 32 ((st + 224) / 2048 + 1)) (ix2 0 n) - m) *
        headAcc kt vt qa sl (BitVec.ofNat 32 st) (BitVec.ofNat 32 ((st + 224) / 2048 + 1)) (ix2 d n) =
      ∑ u : Fin 2, if u.val < tcN st then Soft.wsum (fun r => V (key u.castSucc.castSucc r))
        (logit st (n.val % 256) a S u.castSucc.castSucc) m else 0) := by
  have hd : ∀ u : Nat, u ≤ 1 → headDist sl (BitVec.ofNat 32 st) (BitVec.ofNat 32 ((st + 224) / 2048 + 1))
      (BitVec.ofNat 32 (2048 * u)) (BitVec.ofNat 32 u) (ix2 0 n) =
      a * (((st : Int) - 2048 * u : Int) : ℝ) + if u < tcN st then 0 else ⊤ := fun u hu => by
    rw [headDist_apply _ _ _ _ (by omega) (by omega) hu, hsl]
    congr 1
    unfold tcN
    by_cases h : u + 2 < (st + 224) / 2048 + 1
    · rw [if_pos h, if_pos (by omega)]
    · rw [if_neg h, if_neg (by omega)]
  have hd0 := hd 0 (by decide)
  have hd1 := hd 1 (by decide)
  have live : ∀ (u : Fin 2) (s : EReal), u.val < tcN st → ∀ r, s = S (key u.castSucc.castSucc r) →
      s - (a * (((st : Int) - 2048 * u.val : Int) : ℝ) + if u.val < tcN st then 0 else ⊤) =
        logit st (n.val % 256) a S u.castSucc.castSucc r := fun u s hu r h => by
    rw [if_pos hu, add_zero, logit_early _ _ _ _ _ hu, h]; rfl
  have dead : ∀ (u : Fin 2) (s : EReal), ¬u.val < tcN st →
      s - (a * (((st : Int) - 2048 * u.val : Int) : ℝ) + if u.val < tcN st then 0 else ⊤) = ⊥ := fun u s hu => by
    rw [if_neg hu, ← EReal.coe_mul, EReal.coe_add_top, sub_eq_add_neg, EReal.neg_top, EReal.add_bot]
  have hsup : ∀ (u : Fin 2) (f : Fin 128 → EReal), (∀ r, f r = S (key u.castSucc.castSucc r)) →
      (Finset.univ.sup fun r => f r - (a * (((st : Int) - 2048 * u.val : Int) : ℝ) + if u.val < tcN st then 0 else ⊤)) =
      if u.val < tcN st then Finset.univ.sup (logit st (n.val % 256) a S u.castSucc.castSucc) else ⊥ := fun u f hf => by
    by_cases hu : u.val < tcN st
    · exact (Finset.sup_congr rfl fun r _ => live u _ hu r (hf r)).trans (if_pos hu).symm
    · exact (Finset.sup_eq_bot_iff _ _).2 (fun r _ => dead u _ hu) |>.trans (if_neg hu).symm
  have hM : headMax kt qa sl (BitVec.ofNat 32 st) (BitVec.ofNat 32 ((st + 224) / 2048 + 1)) (ix2 0 n) =
      Finset.univ.sup fun u : Fin 2 => if u.val < tcN st then
        Finset.univ.sup (logit st (n.val % 256) a S u.castSucc.castSucc) else ⊥ := by
    unfold headMax
    rw [colMax_chunks, hd0, hd1]
    have h0 := hsup 0 (fun r => scores kt qa (ix2 (⟨r.val, by omega⟩ : Fin 256) n)) (fun r => by rw [hs]; simp [key])
    have h1 := hsup 1 (fun r => scores kt qa (ix2 (⟨128 + r.val, by omega⟩ : Fin 256) n)) (fun r => by rw [hs]; simp [key])
    refine Eq.trans (congrArg₂ max h0 h1) ?_
    exact (sup_pair (fun u : Fin 2 => if u.val < tcN st then
      Finset.univ.sup (logit st (n.val % 256) a S u.castSucc.castSucc) else ⊥)).symm
  refine ⟨hM, fun m hm => ?_⟩
  have hacc : headAcc kt vt qa sl (BitVec.ofNat 32 st) (BitVec.ofNat 32 ((st + 224) / 2048 + 1)) (ix2 d n) =
      ∑ u : Fin 2, ∑ r : Fin 128, vt (ix4 0 0 d (⟨128 * u.val + r.val, by omega⟩ : Fin 256)) *
        Ideal.exp2 (S (key u.castSucc.castSucc r) -
          (headMax kt qa sl (BitVec.ofNat 32 st) (BitVec.ofNat 32 ((st + 224) / 2048 + 1)) (ix2 0 n) +
            (a * (((st : Int) - 2048 * u.val : Int) : ℝ) + if u.val < tcN st then 0 else ⊤))) := by
    unfold headAcc
    rw [weigh_apply, sum_two, Fin.sum_univ_two]
    congr 1
    · refine Finset.sum_congr rfl fun r _ => ?_
      rw [probs_apply, if_pos r.isLt, hs, hd0]
      simp [key]
    · refine Finset.sum_congr rfl fun r _ => ?_
      rw [probs_apply, if_neg (by simp), hs, hd1]
      simp [key]
  rw [hacc]
  refine Soft.two_runs (fun u r => V (key u r)) (logit st (n.val % 256) a S) _ _ (fun u => u.val < tcN st) _ m hM hm
    (fun u r => by rw [hv]; rfl) (fun u r hb => ?_)
  by_cases hu : u.val < tcN st
  · rw [if_pos hu, if_pos hu, add_zero, ← EReal.coe_mul, Soft.sub_add_real, logit_early _ _ _ _ _ hu]
    simp
  · rw [if_neg hu, if_neg hu, ← EReal.coe_mul, EReal.coe_add_top, EReal.add_top_of_ne_bot hb, sub_eq_add_neg,
      EReal.neg_top, EReal.add_bot, Ideal.exp2_bot]

end

end Cert.KernelIdeal.Cmp
-- ==== Proof.Tile.lean ====
module

public import proofs.«01_k».proof.Proof.Column
public import Idealize.ShloMosaic.Lib.Pipeline.ReadBack

/-! # What the call stores, at an index

The block of the first result at a grid point, entry by entry, as a column's value over the point's input blocks. -/

@[expose] public section

set_option maxRecDepth 16384

noncomputable section

namespace Cert.KernelIdeal.Cmp

open Cert.KernelIdeal Cert.KernelIdeal.Gen Idealize.ShloMosaic Idealize.ShloMosaic.TcCoe Idealize.SL.Sem

/-- A head's slope over `log 2`. -/
def slope2 (h : Nat) : ℝ := 1 / 2 ^ (h + 1) * (Real.log 2)⁻¹

theorem slope_named (s : String) (w : BitVec 32) (r : ℝ) (h : κ s = some (r : EReal)) :
    Named.named (F := Ideal) κ (φ := .f32) s w = (r : EReal) :=
  IdealRules.named_const.ideal_named_scalar _ _ _ _ h

theorem slopesOf_apply (g : Fin 2) (n : Fin 1024) :
    slopesOf (F := Ideal) g (ix2 0 n) = (slope2 (4 * g.val + n.val / 256) : ℝ) := by
  have hn := n.isLt
  fin_cases g
  · show k0_pay352 (ix2 0 n) = _
    unfold k0_pay352
    pointwise
    split
    · rw [slope_named _ _ _ rfl]; congr 1; rw [slope2, show n.val / 256 = 0 by omega]; norm_num
    split
    · rw [slope_named _ _ _ rfl]; congr 1; rw [slope2, show n.val / 256 = 1 by omega]; norm_num
    split
    · rw [slope_named _ _ _ rfl]; congr 1; rw [slope2, show n.val / 256 = 2 by omega]; norm_num
    · rw [slope_named _ _ _ rfl]; congr 1; rw [slope2, show n.val / 256 = 3 by omega]; norm_num
  · show k0_pay353 (ix2 0 n) = _
    unfold k0_pay353
    pointwise
    split
    · rw [slope_named _ _ _ rfl]; congr 1; rw [slope2, show n.val / 256 = 0 by omega]; norm_num
    split
    · rw [slope_named _ _ _ rfl]; congr 1; rw [slope2, show n.val / 256 = 1 by omega]; norm_num
    split
    · rw [slope_named _ _ _ rfl]; congr 1; rw [slope2, show n.val / 256 = 2 by omega]; norm_num
    · rw [slope_named _ _ _ rfl]; congr 1; rw [slope2, show n.val / 256 = 3 by omega]; norm_num

/-- The queries' rows of the score's right operand. -/
theorem qOf_query (m : Memref sig .tc .vmem S1x512x512 .bf16) (h : m.IsWhole) (X : Vec Ideal S1x512x512 .bf16)
    (g bi : Fin 2) (sl : FVec Ideal S1x1024 .f32) (f : Fin 64) (n : Fin 1024) :
    qOf m h X g bi sl (ix2 (⟨f.val, by omega⟩ : Fin 128) n) =
      X (ix3 0 (⟨64 * (4 * g.val + n.val / 256) + f.val, by omega⟩ : Fin 512)
        (⟨256 * bi.val + n.val % 256, by omega⟩ : Fin 512)) := by
  have key : ∀ (j : Fin 4) (ho) (q : Fin 256), n.val = 256 * j.val + q.val →
      rd m h X ![0, 64 * (4 * g.val + j.val), 256 * bi.val] S1x64x256.size ho (ix3 0 f q) =
      X (ix3 0 (⟨64 * (4 * g.val + n.val / 256) + f.val, by omega⟩ : Fin 512)
        (⟨256 * bi.val + n.val % 256, by omega⟩ : Fin 512)) := by
    intro j ho q hn
    rw [rd_apply]
    congr 1
    funext a
    have e1 : n.val / 256 = j.val := by omega
    have e2 : n.val % 256 = q.val := by omega
    refine Fin.ext ?_
    fin_cases a
    · rfl
    · show 64 * (4 * g.val + j.val) + f.val = 64 * (4 * g.val + n.val / 256) + f.val
      rw [e1]
    · show 256 * bi.val + q.val = 256 * bi.val + n.val % 256
      rw [e2]
  unfold qOf qaug
  pointwise
  split
  · exact key 0 _ _ (by simp)
  split
  · exact key 1 _ _ (by simp; omega)
  split
  · exact key 2 _ _ (by simp; omega)
  · exact key 3 _ _ (by simp; omega)

/-- The feature rows of the score's right operand. -/
theorem qOf_feature (m : Memref sig .tc .vmem S1x512x512 .bf16) (h : m.IsWhole) (X : Vec Ideal S1x512x512 .bf16)
    (g bi : Fin 2) (sl : FVec Ideal S1x1024 .f32) (f : Fin 64) (n : Fin 1024) :
    qOf m h X g bi sl (ix2 (⟨64 + f.val, by omega⟩ : Fin 128) n) = featRows sl (ix2 f n) := by
  unfold qOf qaug
  pointwise

/-- A key's score: its product with the query, and its position row times the slope. -/
def scoreOf (x0 : Vec Ideal S1x512x512 .bf16) (x1 : Vec Ideal S1x2x512x128 .bf16) (g bi : Fin 2) (n : Fin 1024)
    (i : Fin 512) : EReal :=
  (∑ f : Fin 64, x1 (ix4 0 g i (⟨f.val, by omega⟩ : Fin 128)) *
    x0 (ix3 0 (⟨64 * (4 * g.val + n.val / 256) + f.val, by omega⟩ : Fin 512)
      (⟨256 * bi.val + n.val % 256, by omega⟩ : Fin 512))) +
  x1 (ix4 0 g i 64) * (slope2 (4 * g.val + n.val / 256) : ℝ)

theorem scores_qOf (m : Memref sig .tc .vmem S1x512x512 .bf16) (h : m.IsWhole) (x0 : Vec Ideal S1x512x512 .bf16)
    (x1 : Vec Ideal S1x2x512x128 .bf16) (g bi : Fin 2) (kt : Vec Ideal S1x1x256x128 .bf16) (i : Fin 256) (k : Fin 512)
    (hk : ∀ f, kt (ix4 0 0 i f) = x1 (ix4 0 g k f)) (n : Fin 1024) :
    scores kt (qOf m h x0 g bi (slopesOf g)) (ix2 i n) = scoreOf x0 x1 g bi n k := by
  rw [scores_apply]
  have hsplit := Fin.sum_univ_add (a := 64) (b := 64)
    (fun f : Fin 128 => kt (ix4 0 0 i f) * qOf m h x0 g bi (slopesOf g) (ix2 f n))
  refine hsplit.trans ?_
  unfold scoreOf
  congr 1
  · refine Finset.sum_congr rfl fun f _ => ?_
    rw [hk]
    exact congrArg _ (qOf_query m h x0 g bi (slopesOf g) f n)
  · rw [Finset.sum_eq_single (0 : Fin 64)]
    · rw [hk]
      refine congrArg₂ (· * ·) rfl ((qOf_feature m h x0 g bi (slopesOf g) 0 n).trans ?_)
      rw [featRows_apply, slopesOf_apply]; exact if_pos rfl
    · intro f _ hf
      refine (congrArg _ (qOf_feature m h x0 g bi (slopesOf g) f n)).trans ?_
      have hf' : ¬f.val = 0 := fun e => hf (Fin.ext e)
      rw [featRows_apply, if_neg hf']
      split
      · rw [slopesOf_apply, ← EReal.coe_sub, sub_self, EReal.coe_zero, mul_zero]
      · rw [mul_zero]
    · simp

theorem rd_keys (m : Memref sig .tc .vmem S1x2x512x128 .bf16) (h : m.IsWhole) (X : Vec Ideal S1x2x512x128 .bf16)
    (o : Fin 4 → Nat) (ho) (g : Fin 2) (row : Nat) (hrow : row ≤ 256) (e : o = ![0, g.val, row, 0]) (i : Fin 256) (f : Fin 128) :
    rd m h X o S1x1x256x128.size ho (ix4 0 0 i f) = X (ix4 0 g (⟨row + i.val, by omega⟩ : Fin 512) f) := by
  subst e
  rw [rd_apply]
  congr 1
  funext a
  refine Fin.ext ?_
  fin_cases a
  · rfl
  · rfl
  · rfl
  · exact Nat.zero_add _

theorem rd_vals (m : Memref sig .tc .vmem S1x2x208x512 .bf16) (h : m.IsWhole) (X : Vec Ideal S1x2x208x512 .bf16)
    (o : Fin 4 → Nat) (ho) (g : Fin 2) (col : Nat) (hcol : col ≤ 256) (e : o = ![0, g.val, 0, col]) (d : Fin 208) (i : Fin 256) :
    rd m h X o S1x1x208x256.size ho (ix4 0 0 d i) = X (ix4 0 g d (⟨col + i.val, by omega⟩ : Fin 512)) := by
  subst e
  rw [rd_apply]
  congr 1
  funext a
  refine Fin.ext ?_
  fin_cases a
  · rfl
  · rfl
  · exact Nat.zero_add _
  · rfl

/-! ## The four scratch slices read back -/

variable (c : Dev nD) (i : grid0.Coords) (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg9 : Memref sig .tc .vmem S2x2x1x1024 .f32) (arg10 : Memref sig .tc .vmem S2x2x208x1024 .f32)
  (x0 : Vec Ideal S1x512x512 .bf16) (x1 : Vec Ideal S1x2x512x128 .bf16) (x2 : Vec Ideal S1x2x208x512 .bf16)

theorem head_max_00 : arg9.view.readCov (kernelRun0_B.sl.HS0_4 c i arg2 harg2 arg3 harg3 x0 x1)
      (Rect.unit (s := S2x2x1x1024) ![0, 0, 0, 0] S1x1x1x1024.size (inbM 0 0)).toLoadRect =
      shapeCast S1x1x1x1024 (headMax (rd arg3 harg3 x1 ![0, 0, 0, 0] S1x1x256x128.size (inbK 0))
        (qOf arg2 harg2 x0 0 0 (slopesOf 0)) (slopesOf 0) (kernelRun0_B.sl.v2 i) (kernelRun0_B.sl.v42 i))
        shapeCasts_S1x1024_S1x1x1x1024 := by
  unfold kernelRun0_B.sl.HS0_4
  rw [View.readCov_skip _ _ _ _ _ (by decide)]
  rw [View.readCov_skip _ _ _ _ _ (by decide)]
  rw [View.readCov_skip _ _ _ _ _ (by decide)]
  exact View.readCov_cons_toLoadRect ..

theorem head_acc_00 : arg10.view.readCov (kernelRun0_B.sl.HS1_4 c i arg2 harg2 arg3 harg3 arg4 harg4 x0 x1 x2)
      (Rect.unit (s := S2x2x208x1024) ![0, 0, 0, 0] S1x1x208x1024.size (inbA 0 0)).toLoadRect =
      shapeCast S1x1x208x1024 (headAcc (rd arg3 harg3 x1 ![0, 0, 0, 0] S1x1x256x128.size (inbK 0))
        (rd arg4 harg4 x2 ![0, 0, 0, 0] S1x1x208x256.size (inbV 0))
        (qOf arg2 harg2 x0 0 0 (slopesOf 0)) (slopesOf 0) (kernelRun0_B.sl.v2 i) (kernelRun0_B.sl.v42 i))
        shapeCasts_S208x1024_S1x1x208x1024 := by
  unfold kernelRun0_B.sl.HS1_4
  rw [View.readCov_skip _ _ _ _ _ (by decide)]
  rw [View.readCov_skip _ _ _ _ _ (by decide)]
  rw [View.readCov_skip _ _ _ _ _ (by decide)]
  exact View.readCov_cons_toLoadRect ..

theorem head_max_01 : arg9.view.readCov (kernelRun0_B.sl.HS0_4 c i arg2 harg2 arg3 harg3 x0 x1)
      (Rect.unit (s := S2x2x1x1024) ![0, 1, 0, 0] S1x1x1x1024.size (inbM 0 1)).toLoadRect =
      shapeCast S1x1x1x1024 (headMax (rd arg3 harg3 x1 ![0, 1, 0, 0] S1x1x256x128.size (inbK 1))
        (qOf arg2 harg2 x0 1 0 (slopesOf 1)) (slopesOf 1) (kernelRun0_B.sl.v2 i) (kernelRun0_B.sl.v42 i))
        shapeCasts_S1x1024_S1x1x1x1024 := by
  unfold kernelRun0_B.sl.HS0_4
  rw [View.readCov_skip _ _ _ _ _ (by decide)]
  rw [View.readCov_skip _ _ _ _ _ (by decide)]
  exact View.readCov_cons_toLoadRect ..

theorem head_acc_01 : arg10.view.readCov (kernelRun0_B.sl.HS1_4 c i arg2 harg2 arg3 harg3 arg4 harg4 x0 x1 x2)
      (Rect.unit (s := S2x2x208x1024) ![0, 1, 0, 0] S1x1x208x1024.size (inbA 0 1)).toLoadRect =
      shapeCast S1x1x208x1024 (headAcc (rd arg3 harg3 x1 ![0, 1, 0, 0] S1x1x256x128.size (inbK 1))
        (rd arg4 harg4 x2 ![0, 1, 0, 0] S1x1x208x256.size (inbV 1))
        (qOf arg2 harg2 x0 1 0 (slopesOf 1)) (slopesOf 1) (kernelRun0_B.sl.v2 i) (kernelRun0_B.sl.v42 i))
        shapeCasts_S208x1024_S1x1x208x1024 := by
  unfold kernelRun0_B.sl.HS1_4
  rw [View.readCov_skip _ _ _ _ _ (by decide)]
  rw [View.readCov_skip _ _ _ _ _ (by decide)]
  exact View.readCov_cons_toLoadRect ..

theorem head_max_10 : arg9.view.readCov (kernelRun0_B.sl.HS0_4 c i arg2 harg2 arg3 harg3 x0 x1)
      (Rect.unit (s := S2x2x1x1024) ![1, 0, 0, 0] S1x1x1x1024.size (inbM 1 0)).toLoadRect =
      shapeCast S1x1x1x1024 (headMax (rd arg3 harg3 x1 ![0, 0, 0, 0] S1x1x256x128.size (inbK 0))
        (qOf arg2 harg2 x0 0 1 (slopesOf 0)) (slopesOf 0) (kernelRun0_B.sl.v5 i) (kernelRun0_B.sl.v79 i))
        shapeCasts_S1x1024_S1x1x1x1024 := by
  unfold kernelRun0_B.sl.HS0_4
  rw [View.readCov_skip _ _ _ _ _ (by decide)]
  exact View.readCov_cons_toLoadRect ..

theorem head_acc_10 : arg10.view.readCov (kernelRun0_B.sl.HS1_4 c i arg2 harg2 arg3 harg3 arg4 harg4 x0 x1 x2)
      (Rect.unit (s := S2x2x208x1024) ![1, 0, 0, 0] S1x1x208x1024.size (inbA 1 0)).toLoadRect =
      shapeCast S1x1x208x1024 (headAcc (rd arg3 harg3 x1 ![0, 0, 0, 0] S1x1x256x128.size (inbK 0))
        (rd arg4 harg4 x2 ![0, 0, 0, 0] S1x1x208x256.size (inbV 0))
        (qOf arg2 harg2 x0 0 1 (slopesOf 0)) (slopesOf 0) (kernelRun0_B.sl.v5 i) (kernelRun0_B.sl.v79 i))
        shapeCasts_S208x1024_S1x1x208x1024 := by
  unfold kernelRun0_B.sl.HS1_4
  rw [View.readCov_skip _ _ _ _ _ (by decide)]
  exact View.readCov_cons_toLoadRect ..

theorem head_max_11 : arg9.view.readCov (kernelRun0_B.sl.HS0_4 c i arg2 harg2 arg3 harg3 x0 x1)
      (Rect.unit (s := S2x2x1x1024) ![1, 1, 0, 0] S1x1x1x1024.size (inbM 1 1)).toLoadRect =
      shapeCast S1x1x1x1024 (headMax (rd arg3 harg3 x1 ![0, 1, 0, 0] S1x1x256x128.size (inbK 1))
        (qOf arg2 harg2 x0 1 1 (slopesOf 1)) (slopesOf 1) (kernelRun0_B.sl.v5 i) (kernelRun0_B.sl.v79 i))
        shapeCasts_S1x1024_S1x1x1x1024 := by
  unfold kernelRun0_B.sl.HS0_4
  exact View.readCov_cons_toLoadRect ..

theorem head_acc_11 : arg10.view.readCov (kernelRun0_B.sl.HS1_4 c i arg2 harg2 arg3 harg3 arg4 harg4 x0 x1 x2)
      (Rect.unit (s := S2x2x208x1024) ![1, 1, 0, 0] S1x1x208x1024.size (inbA 1 1)).toLoadRect =
      shapeCast S1x1x208x1024 (headAcc (rd arg3 harg3 x1 ![0, 1, 0, 0] S1x1x256x128.size (inbK 1))
        (rd arg4 harg4 x2 ![0, 1, 0, 0] S1x1x208x256.size (inbV 1))
        (qOf arg2 harg2 x0 1 1 (slopesOf 1)) (slopesOf 1) (kernelRun0_B.sl.v5 i) (kernelRun0_B.sl.v79 i))
        shapeCasts_S208x1024_S1x1x208x1024 := by
  unfold kernelRun0_B.sl.HS1_4
  exact View.readCov_cons_toLoadRect ..

theorem none_max_00 (n : Fin 1024) : arg9.view.readCov (Val := Elt Ideal) kernelRun0_A.sl.HS0_2
      (Rect.unit (s := S2x2x1x1024) ![0, 0, 0, 0] S1x1x1x1024.size (inbM 0 0)).toLoadRect (ix4 0 0 0 n) = ⊥ := by
  unfold kernelRun0_A.sl.HS0_2
  rw [View.readCov_skip _ _ _ _ _ (by decide)]
  rw [View.readCov_eq_canon']
  have e : (Rect.unit (s := S2x2x1x1024) ![0, 0, 0, 0] S1x1x1x1024.size (inbM 0 0)).toLoadRect.idx (ix4 0 0 0 n) =
      (Rect.unit (s := S2x2x1x1024) ![0, 0, 0, 0] S1x2x1x1024.size inb_S2x2x1x1024_S1x2x1x1024_0_0_0_0).emb
        (ix4 0 0 0 n) := by
    funext a
    refine Fin.ext ?_
    fin_cases a <;> rfl
  refine (congrArg _ e).trans ((View.canon_cons_emb _ _ _ _).trans ?_)
  unfold k0_pay364
  exact neg_named

theorem none_max_01 (n : Fin 1024) : arg9.view.readCov (Val := Elt Ideal) kernelRun0_A.sl.HS0_2
      (Rect.unit (s := S2x2x1x1024) ![0, 1, 0, 0] S1x1x1x1024.size (inbM 0 1)).toLoadRect (ix4 0 0 0 n) = ⊥ := by
  unfold kernelRun0_A.sl.HS0_2
  rw [View.readCov_skip _ _ _ _ _ (by decide)]
  rw [View.readCov_eq_canon']
  have e : (Rect.unit (s := S2x2x1x1024) ![0, 1, 0, 0] S1x1x1x1024.size (inbM 0 1)).toLoadRect.idx (ix4 0 0 0 n) =
      (Rect.unit (s := S2x2x1x1024) ![0, 0, 0, 0] S1x2x1x1024.size inb_S2x2x1x1024_S1x2x1x1024_0_0_0_0).emb
        (ix4 0 1 0 n) := by
    funext a
    refine Fin.ext ?_
    fin_cases a <;> rfl
  refine (congrArg _ e).trans ((View.canon_cons_emb _ _ _ _).trans ?_)
  unfold k0_pay364
  exact neg_named

theorem none_max_10 (n : Fin 1024) : arg9.view.readCov (Val := Elt Ideal) kernelRun0_A.sl.HS0_2
      (Rect.unit (s := S2x2x1x1024) ![1, 0, 0, 0] S1x1x1x1024.size (inbM 1 0)).toLoadRect (ix4 0 0 0 n) = ⊥ := by
  unfold kernelRun0_A.sl.HS0_2
  rw [View.readCov_eq_canon']
  have e : (Rect.unit (s := S2x2x1x1024) ![1, 0, 0, 0] S1x1x1x1024.size (inbM 1 0)).toLoadRect.idx (ix4 0 0 0 n) =
      (Rect.unit (s := S2x2x1x1024) ![1, 0, 0, 0] S1x2x1x1024.size inb_S2x2x1x1024_S1x2x1x1024_1_0_0_0).emb
        (ix4 0 0 0 n) := by
    funext a
    refine Fin.ext ?_
    fin_cases a <;> rfl
  refine (congrArg _ e).trans ((View.canon_cons_emb _ _ _ _).trans ?_)
  unfold k0_pay366
  exact neg_named

theorem none_max_11 (n : Fin 1024) : arg9.view.readCov (Val := Elt Ideal) kernelRun0_A.sl.HS0_2
      (Rect.unit (s := S2x2x1x1024) ![1, 1, 0, 0] S1x1x1x1024.size (inbM 1 1)).toLoadRect (ix4 0 0 0 n) = ⊥ := by
  unfold kernelRun0_A.sl.HS0_2
  rw [View.readCov_eq_canon']
  have e : (Rect.unit (s := S2x2x1x1024) ![1, 1, 0, 0] S1x1x1x1024.size (inbM 1 1)).toLoadRect.idx (ix4 0 0 0 n) =
      (Rect.unit (s := S2x2x1x1024) ![1, 0, 0, 0] S1x2x1x1024.size inb_S2x2x1x1024_S1x2x1x1024_1_0_0_0).emb
        (ix4 0 1 0 n) := by
    funext a
    refine Fin.ext ?_
    fin_cases a <;> rfl
  refine (congrArg _ e).trans ((View.canon_cons_emb _ _ _ _).trans ?_)
  unfold k0_pay366
  exact neg_named

/-! ## Words -/

theorem start_A : ∀ t : Fin grid0.N, kernelRun0_A.sl.v2 (grid0.coords t) = BitVec.ofNat 32 (512 * (t.val % 16)) ∧
    kernelRun0_A.sl.v5 (grid0.coords t) = BitVec.ofNat 32 (512 * (t.val % 16) + 256) := by decide +kernel

theorem start_B : ∀ t : Fin grid0.N, kernelRun0_B.sl.v2 (grid0.coords t) = BitVec.ofNat 32 (512 * (t.val % 16)) ∧
    kernelRun0_B.sl.v5 (grid0.coords t) = BitVec.ofNat 32 (512 * (t.val % 16) + 256) := by decide +kernel

theorem nck_A : ∀ t : Fin grid0.N,
    kernelRun0_A.sl.v42 (grid0.coords t) = BitVec.ofNat 32 ((512 * (t.val % 16) + 224) / 2048 + 1) ∧
    kernelRun0_A.sl.v79 (grid0.coords t) = BitVec.ofNat 32 ((512 * (t.val % 16) + 256 + 224) / 2048 + 1) := by decide +kernel

theorem nck_B : ∀ t : Fin grid0.N,
    kernelRun0_B.sl.v42 (grid0.coords t) = BitVec.ofNat 32 ((512 * (t.val % 16) + 224) / 2048 + 1) ∧
    kernelRun0_B.sl.v79 (grid0.coords t) = BitVec.ofNat 32 ((512 * (t.val % 16) + 256 + 224) / 2048 + 1) := by decide +kernel

theorem off_keys : ∀ (t : Fin grid0.N) (bi : Fin 2),
    k0_off1 (grid0.coords t) (BitVec.ofNat 32 bi.val) = ![0, 0, 128 * tcN (512 * (t.val % 16) + 256 * bi.val), 0] ∧
    k0_off2 (grid0.coords t) (BitVec.ofNat 32 bi.val) = ![0, 1, 128 * tcN (512 * (t.val % 16) + 256 * bi.val), 0] ∧
    k0_off5 (grid0.coords t) (BitVec.ofNat 32 bi.val) = ![0, 0, 128 * tcN (512 * (t.val % 16) + 256 * bi.val), 0] ∧
    k0_off6 (grid0.coords t) (BitVec.ofNat 32 bi.val) = ![0, 1, 128 * tcN (512 * (t.val % 16) + 256 * bi.val), 0] := by
  decide +kernel

theorem off_vals : ∀ (t : Fin grid0.N) (bi : Fin 2),
    k0_off3 (grid0.coords t) (BitVec.ofNat 32 bi.val) = ![0, 0, 0, 128 * tcN (512 * (t.val % 16) + 256 * bi.val)] ∧
    k0_off4 (grid0.coords t) (BitVec.ofNat 32 bi.val) = ![0, 1, 0, 128 * tcN (512 * (t.val % 16) + 256 * bi.val)] ∧
    k0_off7 (grid0.coords t) (BitVec.ofNat 32 bi.val) = ![0, 0, 0, 128 * tcN (512 * (t.val % 16) + 256 * bi.val)] ∧
    k0_off8 (grid0.coords t) (BitVec.ofNat 32 bi.val) = ![0, 1, 0, 128 * tcN (512 * (t.val % 16) + 256 * bi.val)] := by
  decide +kernel

theorem tc_word (st : Nat) (h : st ≤ 7936) :
    Scalar.maxsi (Scalar.subi (BitVec.ofNat 32 ((st + 224) / 2048 + 1)) 2#32) 0#32 = BitVec.ofNat 32 (tcN st) := by
  unfold tcN
  have h' : (st + 224) / 2048 < 4 := by omega
  generalize (st + 224) / 2048 = k at h'
  interval_cases k <;> rfl

/-! ## The blocks -/

/-- An entry of the block: query `l` of row `e`, at the grid point whose queries start at `512 * w`. -/
def blockVal (w : Nat) (x0 : Vec Ideal S1x512x512 .bf16) (x1 : Vec Ideal S1x2x512x128 .bf16)
    (x2 : Vec Ideal S1x2x208x512 .bf16) (x3 : Vec Ideal S1x32x512 .f32) (e l : Fin 512) : EReal :=
  have g : Fin 2 := ⟨e.val / 256, by omega⟩
  have bi : Fin 2 := ⟨l.val / 256, by omega⟩
  have n : Fin 1024 := ⟨256 * (e.val / 64 % 4) + l.val % 256, by omega⟩
  have st : Nat := 512 * w + 256 * bi.val
  have sum : Fin 208 → EReal := fun d => weighted st (n.val % 256) (slope2 (4 * g.val + n.val / 256)) (scoreOf x0 x1 g bi n)
    (fun i => x2 (ix4 0 g d i))
  if 31 ≤ st + l.val % 256 then
    x3 (ix3 0 (⟨3 * (e.val / 64), by omega⟩ : Fin 32) l) *
      (sum (⟨e.val % 64, by omega⟩ : Fin 208) * Ideal.div 1 (max (sum 64) tiny))
  else 0

/-- A value row's weighted sum, where the point visits no head keys. -/
theorem acc_A_apply (w : Nat) (hw : w < 8) (g bi : Fin 2) (start nck : BitVec 32) (st : Nat)
    (hst : st = 512 * w + 256 * bi.val) (hstart : start = BitVec.ofNat 32 st)
    (hnck : nck = BitVec.ofNat 32 ((st + 224) / 2048 + 1)) (ok ov : Fin 4 → Nat) (hk hv)
    (ek : ok = ![0, g.val, 128 * tcN st, 0]) (ev : ov = ![0, g.val, 0, 128 * tcN st])
    (mo : Vec Ideal S1x1x1x1024 .f32) (ao : Vec Ideal S1x1x208x1024 .f32) (hmo : ∀ n, mo (ix4 0 0 0 n) = ⊥)
    (d : Fin 208) (n : Fin 1024) :
    accB arg2 harg2 arg3 harg3 arg4 harg4 x0 x1 x2 g bi (slopesOf g) start nck ok ov hk hv mo ao (ix2 d n) =
      weighted st (n.val % 256) (slope2 (4 * g.val + n.val / 256)) (scoreOf x0 x1 g bi n) (fun i => x2 (ix4 0 g d i)) := by
  have hs : st ≤ 7936 := by omega
  have h0 : tcN st = 0 := by unfold tcN; omega
  have hm : shapeCast S1x1024 mo shapeCasts_S1x1x1x1024_S1x1024 (ix2 0 n) = ⊥ := by
    pointwise
    exact hmo n
  unfold accB
  rw [hstart, hnck, tc_word st hs]
  refine newAcc_col st hs n _ _ _ (slopesOf_apply g n) _ _ _ _ _ _ d (fun i => ?_) (fun i => ?_) ?_ (fun m _ => ?_)
  · exact scores_qOf _ _ x0 x1 g bi _ i _ (fun f => rd_keys _ _ x1 ok hk g _ (by omega) ek i f) n
  · exact rd_vals _ _ x2 ov hv g _ (by omega) ev d i
  · rw [hm]
    symm
    rw [Finset.sup_eq_bot_iff]
    intro u _
    rw [if_neg (by omega)]
  · rw [hm, sub_eq_add_neg, EReal.bot_add, Ideal.exp2_bot, zero_mul]
    symm
    apply Finset.sum_eq_zero
    intro u _
    rw [if_neg (by omega)]

/-- A value row's weighted sum, where the point visits the head keys first. -/
theorem acc_B_apply (w : Nat) (hw : w < 16) (g bi : Fin 2) (start nck : BitVec 32) (st : Nat)
    (hst : st = 512 * w + 256 * bi.val) (hstart : start = BitVec.ofNat 32 st)
    (hnck : nck = BitVec.ofNat 32 ((st + 224) / 2048 + 1)) (ok ov : Fin 4 → Nat) (hk hv)
    (ek : ok = ![0, g.val, 128 * tcN st, 0]) (ev : ov = ![0, g.val, 0, 128 * tcN st])
    (mo : Vec Ideal S1x1x1x1024 .f32) (ao : Vec Ideal S1x1x208x1024 .f32)
    (hmo : mo = shapeCast S1x1x1x1024 (headMax (rd arg3 harg3 x1 ![0, g.val, 0, 0] S1x1x256x128.size (inbK g))
      (qOf arg2 harg2 x0 g bi (slopesOf g)) (slopesOf g) start nck) shapeCasts_S1x1024_S1x1x1x1024)
    (hao : ao = shapeCast S1x1x208x1024 (headAcc (rd arg3 harg3 x1 ![0, g.val, 0, 0] S1x1x256x128.size (inbK g))
      (rd arg4 harg4 x2 ![0, g.val, 0, 0] S1x1x208x256.size (inbV g))
      (qOf arg2 harg2 x0 g bi (slopesOf g)) (slopesOf g) start nck) shapeCasts_S208x1024_S1x1x208x1024)
    (d : Fin 208) (n : Fin 1024) :
    accB arg2 harg2 arg3 harg3 arg4 harg4 x0 x1 x2 g bi (slopesOf g) start nck ok ov hk hv mo ao (ix2 d n) =
      weighted st (n.val % 256) (slope2 (4 * g.val + n.val / 256)) (scoreOf x0 x1 g bi n) (fun i => x2 (ix4 0 g d i)) := by
  have hs : st ≤ 7936 := by omega
  have htc := tcN_le st hs
  have hm : shapeCast S1x1024 mo shapeCasts_S1x1x1x1024_S1x1024 (ix2 0 n) =
      headMax (rd arg3 harg3 x1 ![0, g.val, 0, 0] S1x1x256x128.size (inbK g))
      (qOf arg2 harg2 x0 g bi (slopesOf g)) (slopesOf g) start nck (ix2 0 n) := by
    rw [hmo]; pointwise
  have ha : shapeCast S208x1024 ao shapeCasts_S1x1x208x1024_S208x1024 (ix2 d n) =
      headAcc (rd arg3 harg3 x1 ![0, g.val, 0, 0] S1x1x256x128.size (inbK g))
      (rd arg4 harg4 x2 ![0, g.val, 0, 0] S1x1x208x256.size (inbV g))
      (qOf arg2 harg2 x0 g bi (slopesOf g)) (slopesOf g) start nck (ix2 d n) := by
    rw [hao]; pointwise
  have hhead := head_col st hs n (slope2 (4 * g.val + n.val / 256)) (scoreOf x0 x1 g bi n) (slopesOf g) (slopesOf_apply g n)
    (qOf arg2 harg2 x0 g bi (slopesOf g)) (fun i => x2 (ix4 0 g d i))
    (rd arg3 harg3 x1 ![0, g.val, 0, 0] S1x1x256x128.size (inbK g))
    (rd arg4 harg4 x2 ![0, g.val, 0, 0] S1x1x208x256.size (inbV g)) d
    (fun i => scores_qOf _ _ x0 x1 g bi _ i _ (fun f => (rd_keys _ _ x1 _ (inbK g) g 0 (by omega) rfl i f).trans
      (by simp)) n)
    (fun i => (rd_vals _ _ x2 _ (inbV g) g 0 (by omega) rfl d i).trans (by simp))
  rw [← hstart, ← hnck] at hhead
  unfold accB
  rw [← hm] at hhead
  rw [← ha] at hhead
  rw [hstart, hnck, tc_word st hs]
  refine newAcc_col st hs n _ _ _ (slopesOf_apply g n) _ _ _ _ _ _ d (fun i => ?_) (fun i => ?_) ?_ (fun m hm => ?_)
  · exact scores_qOf _ _ x0 x1 g bi _ i _ (fun f => rd_keys _ _ x1 ok hk g _ (by omega) ek i f) n
  · exact rd_vals _ _ x2 ov hv g _ (by omega) ev d i
  · exact hhead.1
  · exact hhead.2 m hm

/-- A query block's tile, from its two accumulators. -/
theorem outTile_block (w : Nat) (hw : w < 16) (x3 : Vec Ideal S1x32x512 .f32) (gl : Vec Ideal S1x32x512 .f32) (hgl : gl = x3)
    (bi : Fin 2) (start : BitVec 32)
    (hstart : start = BitVec.ofNat 32 (512 * w + 256 * bi.val)) (acc0 acc1 : FVec Ideal S208x1024 .f32)
    (h0 : ∀ d n, acc0 (ix2 d n) = weighted (512 * w + 256 * bi.val) (n.val % 256) (slope2 (4 * (0 : Fin 2).val + n.val / 256))
      (scoreOf x0 x1 0 bi n) (fun i => x2 (ix4 0 0 d i)))
    (h1 : ∀ d n, acc1 (ix2 d n) = weighted (512 * w + 256 * bi.val) (n.val % 256) (slope2 (4 * (1 : Fin 2).val + n.val / 256))
      (scoreOf x0 x1 1 bi n) (fun i => x2 (ix4 0 1 d i)))
    (e : Fin 512) (q : Fin 256) :
    outTile gl start acc0 acc1 (gateOff bi) (gateOff_slices bi) (ix3 0 e q) =
      blockVal w x0 x1 x2 x3 e ⟨256 * bi.val + q.val, by omega⟩ := by
  subst hgl hstart
  rw [outTile_apply _ _ (by omega)]
  unfold blockVal
  have eb : (⟨(256 * bi.val + q.val) / 256, by omega⟩ : Fin 2) = bi := Fin.ext (by simp; omega)
  have eq : (256 * bi.val + q.val) % 256 = q.val := by omega
  have en : (256 * bi.val + q.val) / 256 = bi.val := by omega
  simp only [eb, eq, en, Fin.eta]
  rw [normed_apply]
  by_cases he : e.val < 256
  · have eg : (⟨e.val / 256, by omega⟩ : Fin 2) = 0 := Fin.ext (by simp; omega)
    have ev : e.val / 256 = (0 : Fin 2).val := by simp; omega
    simp only [he, if_true, h0, eg, ev, Fin.eta]
  · have eg : (⟨e.val / 256, by omega⟩ : Fin 2) = 1 := Fin.ext (by simp; omega)
    have ev : e.val / 256 = (1 : Fin 2).val := by simp; omega
    simp only [he, if_false, h1, eg, ev, Fin.eta]

end Cert.KernelIdeal.Cmp
-- ==== Proof.Block.lean ====
module

public import proofs.«01_k».proof.Proof.Tile
public import Idealize.ShloMosaic.Lib.Pipeline.Value
public import Idealize.ShloMosaic.Lib.Claim
public import Idealize.ShloMosaic.Lib.Pipeline.ValueKit.Geometry
public import Idealize.ShloMosaic.Lib.Pipeline.ValueKit.Point

/-! # The block a grid point leaves, and the array after the run -/

@[expose] public section

set_option maxRecDepth 16384

noncomputable section

namespace Cert.KernelIdeal.Cmp

open Cert.KernelIdeal Cert.KernelIdeal.Gen Idealize.ShloMosaic Idealize.ShloMosaic.TcCoe Idealize.SL.Sem

theorem inb_keys (g : Fin 2) (st : Nat) (hst : st ≤ 7936) (o : Fin 4 → Nat) (e : o = ![0, g.val, 128 * tcN st, 0]) :
    ∀ a, o a + S1x1x256x128.size a ≤ S1x2x512x128.size a := by
  have h := tcN_le st hst
  subst e
  intro a
  fin_cases a
  · show 0 + 1 ≤ 1; omega
  · show g.val + 1 ≤ 2; omega
  · show 128 * tcN st + 256 ≤ 512; omega
  · show 0 + 128 ≤ 128; omega

theorem inb_vals (g : Fin 2) (st : Nat) (hst : st ≤ 7936) (o : Fin 4 → Nat) (e : o = ![0, g.val, 0, 128 * tcN st]) :
    ∀ a, o a + S1x1x208x256.size a ≤ S1x2x208x512.size a := by
  have h := tcN_le st hst
  subst e
  intro a
  fin_cases a
  · show 0 + 1 ≤ 1; omega
  · show g.val + 1 ≤ 2; omega
  · show 0 + 208 ≤ 208; omega
  · show 128 * tcN st + 256 ≤ 512; omega

/-- The load of the whole gates block is the block. -/
theorem rd_whole (m : Memref sig .tc .vmem S1x32x512 .f32) (h : m.IsWhole) (X : Vec Ideal S1x32x512 .f32) :
    rd m h X ![0, 0, 0] S1x32x512.size inb_S1x32x512_S1x32x512_0_0_0 = X := by
  funext y
  rw [rd_apply]
  congr 1
  funext a
  refine Fin.ext ?_
  fin_cases a <;> exact Nat.zero_add _

/-- The tile of query block `bi`, as the pieces' rectangle places it. -/
theorem piece_apply (w : Nat) (x0 : Vec Ideal S1x512x512 .bf16) (x1 : Vec Ideal S1x2x512x128 .bf16)
    (x2 : Vec Ideal S1x2x208x512 .bf16) (x3 : Vec Ideal S1x32x512 .f32) (bi : Fin 2)
    (p : FVec Ideal S1x512x256 .f32) (o : Fin 3 → Nat) (eo : o = ![0, 0, 256 * bi.val]) (ho)
    (h : ∀ (e : Fin 512) (q : Fin 256), p (ix3 0 e q) = blockVal w x0 x1 x2 x3 e ⟨256 * bi.val + q.val, by omega⟩)
    (k : S1x512x256.Idx) :
    p k = blockVal w x0 x1 x2 x3 ((Rect.unit (s := S1x512x512) o S1x512x256.size ho).emb k 1)
      ((Rect.unit (s := S1x512x512) o S1x512x256.size ho).emb k 2) := by
  subst eo
  idx_vars k
  obtain rfl : k0 = 0 := Subsingleton.elim _ _
  refine (h k1 k2).trans ?_
  congr 1
  · refine Fin.ext ?_
    show k1.val = 0 + 1 * k1.val
    omega
  · refine Fin.ext ?_
    show 256 * bi.val + k2.val = 256 * bi.val + 1 * k2.val
    omega

variable (c : Dev nD) (t : Fin grid0.N)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x0 : Vec Ideal S1x512x512 .bf16) (x1 : Vec Ideal S1x2x512x128 .bf16) (x2 : Vec Ideal S1x2x208x512 .bf16)
  (x3 : Vec Ideal S1x32x512 .f32)

theorem block_A (hw : t.val % 16 < 8) (hc0 : ¬cond0_0 (grid0.coords t)) (hc1 : cond0_1 (grid0.coords t)) (hc2 : ¬cond0_2 (grid0.coords t))
    (hc3 : cond0_3 (grid0.coords t)) (hc4 : cond0_4 (grid0.coords t)) (hc5 : ¬cond0_5 (grid0.coords t)) (y : S1x512x512.Idx) :
    out0_A_4 c (grid0.coords t) arg2 harg2 arg3 harg3 arg4 harg4 arg5 harg5 arg6 harg6 arg7 harg7 arg8 harg8 arg9 harg9
      arg10 harg10 hc0 hc1 hc2 hc3 hc4 hc5 x0 x1 x2 x3 y = blockVal (t.val % 16) x0 x1 x2 x3 (y 1) (y 2) := by
  unfold out0_A_4
  rw [View.read_writes_junk_eq_canon]
  refine View.canon_apply_of_pieces (fun y : S1x512x512.Idx => blockVal (t.val % 16) x0 x1 x2 x3 (y 1) (y 2)) _ ?_ y
    (cover0_A_4 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [pieces_A c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).1)
    (inb_vals 0 (512 * (t.val % 16) + 256 * (0 : Fin 2).val) (by omega) _ (off_vals t 0).1)
    (inb_keys 1 (512 * (t.val % 16) + 256 * (0 : Fin 2).val) (by omega) _ (off_keys t 0).2.1)
    (inb_vals 1 (512 * (t.val % 16) + 256 * (0 : Fin 2).val) (by omega) _ (off_vals t 0).2.1)
    (inb_keys 0 (512 * (t.val % 16) + 256 * (1 : Fin 2).val) (by omega) _ (off_keys t 1).1)
    (inb_vals 0 (512 * (t.val % 16) + 256 * (1 : Fin 2).val) (by omega) _ (off_vals t 1).1)
    (inb_keys 1 (512 * (t.val % 16) + 256 * (1 : Fin 2).val) (by omega) _ (off_keys t 1).2.1)
    (inb_vals 1 (512 * (t.val % 16) + 256 * (1 : Fin 2).val) (by omega) _ (off_vals t 1).2.1)]
  intro p hp x
  rcases List.mem_cons.mp hp with rfl | hp
  · refine piece_apply (t.val % 16) x0 x1 x2 x3 1 _ ![0, 0, 256] rfl inb_S1x512x512_S1x512x256_0_0_256 (fun e q => ?_) x
    exact outTile_block x0 x1 x2 (t.val % 16) (by omega) x3 _ (rd_whole arg5 harg5 x3) 1 _ (start_A t).2 _ _
        (fun d n => acc_A_apply arg2 harg2 arg3 harg3 arg4 harg4 x0 x1 x2 (t.val % 16) hw 0 1 _ _ (512 * (t.val % 16) + 256 * (1 : Fin 2).val) rfl (start_A t).2 (nck_A t).2
        _ _ _ _ (off_keys t 1).1 (off_vals t 1).1 _ _ (none_max_10 arg9) d n)
        (fun d n => acc_A_apply arg2 harg2 arg3 harg3 arg4 harg4 x0 x1 x2 (t.val % 16) hw 1 1 _ _ (512 * (t.val % 16) + 256 * (1 : Fin 2).val) rfl (start_A t).2 (nck_A t).2
        _ _ _ _ (off_keys t 1).2.1 (off_vals t 1).2.1 _ _ (none_max_11 arg9) d n) e q
  · obtain rfl := List.mem_singleton.mp hp
    refine piece_apply (t.val % 16) x0 x1 x2 x3 0 _ ![0, 0, 0] rfl inb_S1x512x512_S1x512x256_0_0_0 (fun e q => ?_) x
    exact outTile_block x0 x1 x2 (t.val % 16) (by omega) x3 _ (rd_whole arg5 harg5 x3) 0 _ (start_A t).1 _ _
        (fun d n => acc_A_apply arg2 harg2 arg3 harg3 arg4 harg4 x0 x1 x2 (t.val % 16) hw 0 0 _ _ (512 * (t.val % 16) + 256 * (0 : Fin 2).val) rfl (start_A t).1 (nck_A t).1
        _ _ _ _ (off_keys t 0).1 (off_vals t 0).1 _ _ (none_max_00 arg9) d n)
        (fun d n => acc_A_apply arg2 harg2 arg3 harg3 arg4 harg4 x0 x1 x2 (t.val % 16) hw 1 0 _ _ (512 * (t.val % 16) + 256 * (0 : Fin 2).val) rfl (start_A t).1 (nck_A t).1
        _ _ _ _ (off_keys t 0).2.1 (off_vals t 0).2.1 _ _ (none_max_01 arg9) d n) e q

theorem block_B (hc0 : cond0_0 (grid0.coords t)) (hc1 : ¬cond0_1 (grid0.coords t)) (hc2 : cond0_2 (grid0.coords t))
    (hc3 : ¬cond0_3 (grid0.coords t)) (hc4 : ¬cond0_4 (grid0.coords t)) (hc5 : cond0_5 (grid0.coords t)) (y : S1x512x512.Idx) :
    out0_B_4 c (grid0.coords t) arg2 harg2 arg3 harg3 arg4 harg4 arg5 harg5 arg6 harg6 arg7 harg7 arg8 harg8 arg9 harg9
      arg10 harg10 hc0 hc1 hc2 hc3 hc4 hc5 x0 x1 x2 x3 y = blockVal (t.val % 16) x0 x1 x2 x3 (y 1) (y 2) := by
  unfold out0_B_4
  rw [View.read_writes_junk_eq_canon]
  refine View.canon_apply_of_pieces (fun y : S1x512x512.Idx => blockVal (t.val % 16) x0 x1 x2 x3 (y 1) (y 2)) _ ?_ y
    (cover0_B_4 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [pieces_B c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).2.2.1)
    (inb_vals 0 (512 * (t.val % 16) + 256 * (0 : Fin 2).val) (by omega) _ (off_vals t 0).2.2.1)
    (inb_keys 1 (512 * (t.val % 16) + 256 * (0 : Fin 2).val) (by omega) _ (off_keys t 0).2.2.2)
    (inb_vals 1 (512 * (t.val % 16) + 256 * (0 : Fin 2).val) (by omega) _ (off_vals t 0).2.2.2)
    (inb_keys 0 (512 * (t.val % 16) + 256 * (1 : Fin 2).val) (by omega) _ (off_keys t 1).2.2.1)
    (inb_vals 0 (512 * (t.val % 16) + 256 * (1 : Fin 2).val) (by omega) _ (off_vals t 1).2.2.1)
    (inb_keys 1 (512 * (t.val % 16) + 256 * (1 : Fin 2).val) (by omega) _ (off_keys t 1).2.2.2)
    (inb_vals 1 (512 * (t.val % 16) + 256 * (1 : Fin 2).val) (by omega) _ (off_vals t 1).2.2.2)]
  intro p hp x
  rcases List.mem_cons.mp hp with rfl | hp
  · refine piece_apply (t.val % 16) x0 x1 x2 x3 1 _ ![0, 0, 256] rfl inb_S1x512x512_S1x512x256_0_0_256 (fun e q => ?_) x
    exact outTile_block x0 x1 x2 (t.val % 16) (by omega) x3 _ (rd_whole arg5 harg5 x3) 1 _ (start_B t).2 _ _
        (fun d n => acc_B_apply arg2 harg2 arg3 harg3 arg4 harg4 x0 x1 x2 (t.val % 16) (by omega) 0 1 _ _ (512 * (t.val % 16) + 256 * (1 : Fin 2).val) rfl (start_B t).2 (nck_B t).2
        _ _ _ _ (off_keys t 1).2.2.1 (off_vals t 1).2.2.1 _ _ (head_max_10 c (grid0.coords t) arg2 harg2 arg3 harg3 arg9 x0 x1)
        (head_acc_10 c (grid0.coords t) arg2 harg2 arg3 harg3 arg4 harg4 arg10 x0 x1 x2) d n)
        (fun d n => acc_B_apply arg2 harg2 arg3 harg3 arg4 harg4 x0 x1 x2 (t.val % 16) (by omega) 1 1 _ _ (512 * (t.val % 16) + 256 * (1 : Fin 2).val) rfl (start_B t).2 (nck_B t).2
        _ _ _ _ (off_keys t 1).2.2.2 (off_vals t 1).2.2.2 _ _ (head_max_11 c (grid0.coords t) arg2 harg2 arg3 harg3 arg9 x0 x1)
        (head_acc_11 c (grid0.coords t) arg2 harg2 arg3 harg3 arg4 harg4 arg10 x0 x1 x2) d n) e q
  · obtain rfl := List.mem_singleton.mp hp
    refine piece_apply (t.val % 16) x0 x1 x2 x3 0 _ ![0, 0, 0] rfl inb_S1x512x512_S1x512x256_0_0_0 (fun e q => ?_) x
    exact outTile_block x0 x1 x2 (t.val % 16) (by omega) x3 _ (rd_whole arg5 harg5 x3) 0 _ (start_B t).1 _ _
        (fun d n => acc_B_apply arg2 harg2 arg3 harg3 arg4 harg4 x0 x1 x2 (t.val % 16) (by omega) 0 0 _ _ (512 * (t.val % 16) + 256 * (0 : Fin 2).val) rfl (start_B t).1 (nck_B t).1
        _ _ _ _ (off_keys t 0).2.2.1 (off_vals t 0).2.2.1 _ _ (head_max_00 c (grid0.coords t) arg2 harg2 arg3 harg3 arg9 x0 x1)
        (head_acc_00 c (grid0.coords t) arg2 harg2 arg3 harg3 arg4 harg4 arg10 x0 x1 x2) d n)
        (fun d n => acc_B_apply arg2 harg2 arg3 harg3 arg4 harg4 x0 x1 x2 (t.val % 16) (by omega) 1 0 _ _ (512 * (t.val % 16) + 256 * (0 : Fin 2).val) rfl (start_B t).1 (nck_B t).1
        _ _ _ _ (off_keys t 0).2.2.2 (off_vals t 0).2.2.2 _ _ (head_max_01 c (grid0.coords t) arg2 harg2 arg3 harg3 arg9 x0 x1)
        (head_acc_01 c (grid0.coords t) arg2 harg2 arg3 harg3 arg4 harg4 arg10 x0 x1 x2) d n) e q

/-! ## The array after the run -/

/-- Query `l` of the `w`-th block of queries. -/
abbrev query (w : Fin 16) (l : Fin 512) : Fin 8192 := ⟨512 * w.val + l.val, by omega⟩

/-- The block of queries, gates, keys and values a point loads. -/
def cut0 (A : Vec Ideal S2x512x8192 .bf16) (b : Fin 2) (w : Fin 16) : Vec Ideal S1x512x512 .bf16 :=
  fun k => A (ix3 b (k 1 : Fin 512) (query w (k 2)))
def cut1 (A : Vec Ideal S2x2x512x128 .bf16) (b : Fin 2) : Vec Ideal S1x2x512x128 .bf16 :=
  fun k => A (ix4 b (k 1 : Fin 2) (k 2 : Fin 512) (k 3 : Fin 128))
def cut2 (A : Vec Ideal S2x2x208x512 .bf16) (b : Fin 2) : Vec Ideal S1x2x208x512 .bf16 :=
  fun k => A (ix4 b (k 1 : Fin 2) (k 2 : Fin 208) (k 3 : Fin 512))
def cut3 (A : Vec Ideal S2x32x8192 .f32) (b : Fin 2) (w : Fin 16) : Vec Ideal S1x32x512 .f32 :=
  fun k => A (ix3 b (k 1 : Fin 32) (query w (k 2)))

/-- The compressed attention's output, from its four operands. -/
def ocmp (A0 : Vec Ideal S2x512x8192 .bf16) (A1 : Vec Ideal S2x2x512x128 .bf16) (A2 : Vec Ideal S2x2x208x512 .bf16)
    (A3 : Vec Ideal S2x32x8192 .f32) : Vec Ideal S2x512x8192 .f32 := fun y =>
  have b : Fin 2 := y 0
  have t : Fin 8192 := y 2
  have w : Fin 16 := ⟨t.val / 512, by omega⟩
  blockVal w.val (cut0 A0 b w) (cut1 A1 b) (cut2 A2 b) (cut3 A3 b w) (y 1) ⟨t.val % 512, by omega⟩

theorem ocmp_query (A0 : Vec Ideal S2x512x8192 .bf16) (A1 : Vec Ideal S2x2x512x128 .bf16) (A2 : Vec Ideal S2x2x208x512 .bf16)
    (A3 : Vec Ideal S2x32x8192 .f32) (b : Fin 2) (e : Fin 512) (w : Fin 16) (l : Fin 512) :
    ocmp A0 A1 A2 A3 (ix3 b e (query w l)) =
      blockVal w.val (cut0 A0 b w) (cut1 A1 b) (cut2 A2 b) (cut3 A3 b w) e l := by
  have hw : (⟨(512 * w.val + l.val) / 512, by omega⟩ : Fin 16) = w := Fin.ext (show (512 * w.val + l.val) / 512 = w.val by omega)
  have hl : (⟨(512 * w.val + l.val) % 512, by omega⟩ : Fin 512) = l := Fin.ext (show (512 * w.val + l.val) % 512 = l.val by omega)
  show blockVal (⟨(512 * w.val + l.val) / 512, by omega⟩ : Fin 16).val
    (cut0 A0 b ⟨(512 * w.val + l.val) / 512, by omega⟩) (cut1 A1 b) (cut2 A2 b)
    (cut3 A3 b ⟨(512 * w.val + l.val) / 512, by omega⟩) e ⟨(512 * w.val + l.val) % 512, by omega⟩ = _
  rw [hw, hl]

theorem points : cfg0.grid.N = 32 := N_0

theorem idx0 : ∀ t : Fin cfg0.N, win0_0.index t = ![t.val / 16, 0, t.val % 16] ∧ win0_1.index t = ![t.val / 16, 0, 0, 0] ∧
    win0_2.index t = ![t.val / 16, 0, 0, 0] ∧ win0_3.index t = ![t.val / 16, 0, t.val % 16] ∧
    win0_4.index t = ![t.val / 16, 0, t.val % 16] :=
  (by decide +kernel : ∀ t : Fin grid0.N, _)

variable (m : (ℓ : Loc nD τ sig) → Buf (Elt Ideal) ℓ) (c : Dev nD)

theorem blk0 (t : Fin cfg0.N) : iblk m c 0 t =
    cut0 (m ((c : Thread nD τ).loc main_arg0)) ⟨t.val / 16, by have h : t.val < cfg0.grid.N := t.isLt; have := points; omega⟩ ⟨t.val % 16, by omega⟩ := by
  funext k
  unfold cut0
  blk_ext [iblk, V, (idx0 t).1]
theorem blk1 (t : Fin cfg0.N) : iblk m c 1 t =
    cut1 (m ((c : Thread nD τ).loc main_arg1)) ⟨t.val / 16, by have h : t.val < cfg0.grid.N := t.isLt; have := points; omega⟩ := by
  funext k
  unfold cut1
  blk_ext [iblk, V, (idx0 t).2.1]
theorem blk2 (t : Fin cfg0.N) : iblk m c 2 t =
    cut2 (m ((c : Thread nD τ).loc main_arg2)) ⟨t.val / 16, by have h : t.val < cfg0.grid.N := t.isLt; have := points; omega⟩ := by
  funext k
  unfold cut2
  blk_ext [iblk, V, (idx0 t).2.2.1]
theorem blk3 (t : Fin cfg0.N) : iblk m c 3 t =
    cut3 (m ((c : Thread nD τ).loc main_arg3)) ⟨t.val / 16, by have h : t.val < cfg0.grid.N := t.isLt; have := points; omega⟩ ⟨t.val % 16, by omega⟩ := by
  funext k
  unfold cut3
  blk_ext [iblk, V, (idx0 t).2.2.2.1]

/-- What a point writes back, at an index of its block. -/
theorem flushed_apply (t : Fin cfg0.N) (y : S1x512x512.Idx) :
    (outsAt0 m c t.val t.isLt).1 y = blockVal (t.val % 16) (iblk m c 0 t) (iblk m c 1 t) (iblk m c 2 t) (iblk m c 3 t)
      (y 1) (y 2) := by
  by_cases h : 8 ≤ t.val % 16
  · have h1 : ¬t.val % 16 ≤ 7 := by omega
    have e : (outsAt0 m c t.val t.isLt).1 = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) (iblk m c 0 t) (iblk m c 1 t) (iblk m c 2 t) (iblk m c 3 t) := by
      rw [outsAt0_B m c t h h1 h h1 h1 h]
    rw [e]
    exact block_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) y
  · have h1 : t.val % 16 ≤ 7 := by omega
    have e : (outsAt0 m c t.val t.isLt).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h' => h ((hcond0_0 t).mp h')) ((hcond0_1 t).mpr h1) (fun h' => h ((hcond0_2 t).mp h')) ((hcond0_3 t).mpr h1) ((hcond0_4 t).mpr h1) (fun h' => h ((hcond0_5 t).mp h')) (iblk m c 0 t) (iblk m c 1 t) (iblk m c 2 t) (iblk m c 3 t) := by
      rw [outsAt0_A m c t h h1 h h1 h1 h]
    rw [e]
    exact block_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (by omega)
      (fun h' => h ((hcond0_0 t).mp h')) ((hcond0_1 t).mpr h1) (fun h' => h ((hcond0_2 t).mp h')) ((hcond0_3 t).mpr h1) ((hcond0_4 t).mpr h1) (fun h' => h ((hcond0_5 t).mp h')) y

theorem final : (dats m 0 c).arrAt 4 cfg0.N =
    ocmp (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  refine (flushed_apply m c t y).trans ?_
  rw [blk0, blk1, blk2, blk3]
  refine (ocmp_query _ _ _ _ ⟨t.val / 16, by have h : t.val < cfg0.grid.N := t.isLt; have := points; omega⟩ (y 1) ⟨t.val % 16, by omega⟩ (y 2)).symm.trans ?_
  refine congrArg _ ?_
  blk_ext [(idx0 t).2.2.2.2]

end Cert.KernelIdeal.Cmp
-- ==== Proof.Ref.lean ====
module

public import proofs.«01_k».proof.Proof.Block
public import proofs.«01_k».proof.Proof.Gen.ReferenceIdeal.Run
public import proofs.«01_k».proof.Proof.Gen.ReferenceIdeal.Read

/-! # The reference, read at an index -/

@[expose] public section

set_option maxRecDepth 16384

noncomputable section

namespace Cert.ReferenceIdeal.Cmp

open Cert.ReferenceIdeal Cert.ReferenceIdeal.Gen Cert.ReferenceIdeal.Read Idealize.ShloMosaic Idealize.ShloMosaic.TcCoe Idealize.SL.Sem

variable (x0 : FVec Ideal S2x512x8192 .bf16) (x1 : FVec Ideal S2x2x512x128 .bf16) (x2 : FVec Ideal S2x2x208x512 .bf16)
  (x3 : FVec Ideal S2x32x8192 .f32)

theorem sitofp_apply (x : BitVec 32) : FloatOps.sitofp (F := Ideal) .f32 x = ((x.toInt : ℝ) : EReal) := rfl

theorem slope_word : ∀ (g : Fin 2) (j : Fin 4), (IntOp.shli ArithUnit.host (2#32)
    (IntOp.addi (IntOp.muli (BitVec.ofNat 32 g.val) 4#32) (BitVec.ofNat 32 j.val))).toInt = 2 ^ (4 * g.val + j.val + 1) := by
  decide +kernel

theorem slope_apply (g : Fin 2) (j : Fin 4) : val_main_v9 (F := Ideal) (ix5 0 g j 0 0) =
    ((1 / 2 ^ (4 * g.val + j.val + 1) : ℝ) : EReal) := by
  unfold val_main_v9 val_main_v8 val_main_v7 val_main_v6 val_main_v5 val_main_c_0 val_main_v4 val_main_v3 val_main_v2 val_main_v1 val_main_v0 val_main_c val_main_cst
  pointwise
  rw [sitofp_apply, slope_word]
  have h : ((2 ^ (4 * g.val + j.val + 1) : Int) : ℝ) = (2 : ℝ) ^ (4 * g.val + j.val + 1) := by push_cast; rfl
  rw [h]
  have hp : ((2 : ℝ) ^ (4 * g.val + j.val + 1) : ℝ) ≠ 0 := by positivity
  unfold Ideal.div
  rw [if_neg (by exact_mod_cast hp), one_div, one_mul, EReal.coe_inv]

theorem end_word (i : Fin 512) : IntOp.addi (IntOp.muli (BitVec.ofNat 32 i.val) 16#32) 31#32 =
    BitVec.ofInt 32 ((16 * i.val + 31 : Nat) : Int) := by
  rw [BitVec.ofInt_natCast]
  apply BitVec.eq_of_toNat_eq
  simp [IntOp.addi, IntOp.muli]
  omega

theorem mask_apply (t : Fin 8192) (i : Fin 512) : val_main_v24 (F := Ideal) (ix2 t i) =
    if 16 * i.val + 31 ≤ t.val then 1#1 else 0#1 := by
  unfold val_main_v24 val_main_v23 val_main_v22 val_main_v21 val_main_v20 val_main_v19 val_main_v18 val_main_c_1 val_main_c_2
  pointwise
  rw [end_word, Cert.KernelIdeal.Cmp.ofNat_eq_ofInt t.val, Cert.KernelIdeal.Cmp.cmpi_sle_small _ _ (by omega) (by omega) (by omega) (by omega)]
  simp only [Nat.cast_le]

theorem dist_word (t : Fin 8192) (i : Fin 512) : (IntOp.subi (val_main_v18 (F := Ideal) (ix2 t i)) (val_main_v23 (F := Ideal) (ix2 t i))).toInt =
    (t.val : Int) - (16 * i.val + 31) := by
  unfold val_main_v23 val_main_v22 val_main_v21 val_main_v20 val_main_v19 val_main_v18 val_main_c_1 val_main_c_2
  pointwise
  rw [end_word, Cert.KernelIdeal.Cmp.ofNat_eq_ofInt t.val]
  show (BitVec.ofInt 32 (t.val : Int) - BitVec.ofInt 32 ((16 * i.val + 31 : Nat) : Int)).toInt = _
  rw [BitVec.sub_eq_add_neg, ← BitVec.ofInt_neg, ← BitVec.ofInt_add, Cert.KernelIdeal.Cmp.toInt_ofInt_small _ (by omega) (by omega)]
  push_cast
  ring

/-- The product of a query with a key, in the reference's order. -/
def dotOf (b g : Fin 2) (j : Fin 4) (t : Fin 8192) (i : Fin 512) : EReal :=
  ∑ f : Fin 64, x0 (ix3 b (⟨g.val * 256 + j.val * 64 + f.val, by omega⟩ : Fin 512) t) *
    x1 (ix4 b g i (⟨f.val, by omega⟩ : Fin 128))

/-- The reference's logit of a key. -/
def logitR (b g : Fin 2) (j : Fin 4) (t : Fin 8192) (i : Fin 512) : EReal :=
  if 16 * i.val + 31 ≤ t.val then dotOf x0 x1 b g j t i * (Real.log 2 : ℝ) -
    ((1 / 2 ^ (4 * g.val + j.val + 1) : ℝ) : EReal) * (((t.val : Int) - (16 * i.val + 31) : Int) : ℝ) else ⊥

theorem log_two : Ideal.log (val_main_cst_3 (F := Ideal) ix0) = (Real.log 2 : ℝ) := by
  unfold val_main_cst_3
  pointwise
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else (Real.log 2 : ℝ)) = _
  rw [if_neg (by norm_num)]

theorem logit_apply (b g : Fin 2) (j : Fin 4) (t : Fin 8192) (i : Fin 512) :
    val_main_v38 (F := Ideal) x0 x1 (ix5 b g j t i) = logitR x0 x1 b g j t i := by
  unfold val_main_v38 val_main_call0_v1 val_main_call0_v2 val_main_call0_v0 val_main_cst_4 val_main_v37 val_main_v36 val_main_v35 val_main_v34 val_main_v33 val_main_v32 val_main_v31 val_main_v30 val_main_v29 val_main_v28 val_main_v27 val_main_v26 val_main_v25 val_main_v13 val_main_v12 val_main_v11 val_main_v10
  pointwise
  rw [log_two, slope_apply, sitofp_apply, dist_word, mask_apply]
  unfold logitR dotOf
  have h : id (constant (F := Ideal) S_ .f32 0xFF800000#32) ix0 = (⊥ : EReal) := Cert.KernelIdeal.Cmp.negInf_word
  rw [h]
  split <;> rfl

/-- The reference's unnormalised weight of a key. -/
def probR (b g : Fin 2) (j : Fin 4) (t : Fin 8192) (i : Fin 512) : EReal :=
  if 16 * i.val + 31 ≤ t.val then Ideal.exp (logitR x0 x1 b g j t i - Finset.univ.sup (logitR x0 x1 b g j t)) else 0

theorem max_apply (b g : Fin 2) (j : Fin 4) (t : Fin 8192) :
    val_main_v39 (F := Ideal) x0 x1 (ix4 b g j t) = Finset.univ.sup (logitR x0 x1 b g j t) := by
  unfold val_main_v39 val_main_cst_5
  pointwise
  rw [Cert.KernelIdeal.Cmp.negInf_word]
  simp only [logit_apply]
  rfl

theorem prob_apply (b g : Fin 2) (j : Fin 4) (t : Fin 8192) (i : Fin 512) :
    val_main_v44 (F := Ideal) x0 x1 (ix5 b g j t i) = probR x0 x1 b g j t i := by
  unfold val_main_v44 val_main_call1_v1 val_main_call1_v2 val_main_call1_v0 val_main_cst_6 val_main_v43 val_main_v42 val_main_v41 val_main_v40 val_main_v25
  pointwise
  have h : id (constant (F := Ideal) S_ .f32 0x00000000#32) ix0 = (0 : EReal) := Ideal.ofBits_zero_f32
  rw [h, logit_apply, max_apply, mask_apply]
  unfold probR
  split <;> rfl

theorem out_apply (b g : Fin 2) (j : Fin 4) (d : Fin 64) (t : Fin 8192) :
    val_main_v55 (F := Ideal) x0 x1 x2 x3 (ix5 b g j d t) =
      x3 (ix3 b (⟨g.val * 12 + j.val * 3, by omega⟩ : Fin 32) t) * ∑ i : Fin 512, x2 (ix4 b g (⟨d.val, by omega⟩ : Fin 208) i) *
        Ideal.div (probR x0 x1 b g j t i) (max (∑ i : Fin 512, probR x0 x1 b g j t i) Cert.KernelIdeal.Cmp.tiny) := by
  unfold val_main_v55 val_main_v54 val_main_v53 val_main_v52 val_main_v51 val_main_v50 val_main_v49 val_main_v48 val_main_v47 val_main_v46 val_main_v45 val_main_cst_7 val_main_cst_8 val_main_v17 val_main_v16 val_main_v15 val_main_v14
  pointwise
  simp only [prob_apply]
  rfl

theorem res_apply (b : Fin 2) (e : Fin 512) (t : Fin 8192) :
    val_main_v56 (F := Ideal) x0 x1 x2 x3 (ix3 b e t) = val_main_v55 (F := Ideal) x0 x1 x2 x3
      (ix5 b (⟨e.val / 256, by omega⟩ : Fin 2) (⟨e.val / 64 % 4, by omega⟩ : Fin 4) (⟨e.val % 64, by omega⟩ : Fin 64) t) := by
  unfold val_main_v56
  pointwise

end Cert.ReferenceIdeal.Cmp
-- ==== Proof.Softmax.lean ====
module

public import proofs.«01_k».proof.Proof.Column

/-! # A softmax in the two bases

A logit in base two and the same logit in base `e`, shifted: the weights are the same, and so are the quotients by
their sum. -/

@[expose] public section

noncomputable section

namespace Soft

open Idealize.ShloMosaic

/-- A scaling and a shift by reals. -/
def aff (p κ : ℝ) (x : EReal) : EReal := (p : EReal) * x + (κ : EReal)

theorem aff_bot (p κ : ℝ) (hp : 0 < p) : aff p κ ⊥ = ⊥ := by
  unfold aff
  rw [EReal.coe_mul_bot_of_pos hp, EReal.bot_add]

theorem aff_top (p κ : ℝ) (hp : 0 < p) : aff p κ ⊤ = ⊤ := by
  unfold aff
  rw [EReal.coe_mul_top_of_pos hp, EReal.top_add_coe]

theorem aff_coe (p κ x : ℝ) : aff p κ (x : EReal) = ((p * x + κ : ℝ) : EReal) := by
  unfold aff
  push_cast
  rfl

theorem aff_mono (p κ : ℝ) (hp : 0 < p) : Monotone (aff p κ) := by
  intro x y h
  unfold aff
  exact add_le_add_left (mul_le_mul_of_nonneg_left h (by exact_mod_cast hp.le)) _

theorem aff_sup {ι : Type} (s : Finset ι) (p κ : ℝ) (hp : 0 < p) (X : ι → EReal) :
    s.sup (fun i => aff p κ (X i)) = aff p κ (s.sup X) :=
  (Finset.comp_sup_eq_sup_comp (aff p κ) (fun x y => (aff_mono p κ hp).map_sup x y) (aff_bot p κ hp)).symm

theorem exp_aff (κ : ℝ) (x M : EReal) :
    Ideal.exp (aff (Real.log 2) κ x - aff (Real.log 2) κ M) = Ideal.exp2 (x - M) := by
  have hp : (0 : ℝ) < Real.log 2 := Real.log_pos (by norm_num)
  induction x with
  | bot => rw [aff_bot _ _ hp, sub_eq_add_neg, sub_eq_add_neg, EReal.bot_add, EReal.bot_add]; simp
  | top =>
    induction M with
    | bot => rw [aff_bot _ _ hp, aff_top _ _ hp]; simp
    | top => rw [aff_top _ _ hp]; simp
    | coe M => rw [aff_top _ _ hp, aff_coe, EReal.top_sub_coe, EReal.top_sub_coe]; simp
  | coe x =>
    induction M with
    | bot => rw [aff_bot _ _ hp, aff_coe, EReal.coe_sub_bot, EReal.coe_sub_bot]; simp
    | top => rw [aff_top _ _ hp, aff_coe, sub_eq_add_neg, sub_eq_add_neg, EReal.neg_top, EReal.add_bot, EReal.add_bot]; simp
    | coe M =>
      rw [aff_coe, aff_coe, ← EReal.coe_sub, ← EReal.coe_sub, Ideal.exp_coe, Ideal.exp2_coe]
      congr 1
      show _ = (2 : ℝ) ^ (x - M)
      rw [Real.rpow_def_of_pos (by norm_num)]
      congr 1
      ring

theorem tiny_pos (L ε : EReal) (h : 0 < ε) : Ideal.div 1 (max L ε) = (max L ε)⁻¹ := by
  have : max L ε ≠ 0 := (lt_of_lt_of_le h (le_max_right L ε)).ne'
  unfold Ideal.div
  rw [if_neg this, one_mul]

/-- Weighting by quotients is weighting by the weights, over their sum. -/
theorem attention {ι : Type} [Fintype ι] (c : ι → Prop) [DecidablePred c] (V X Y : ι → EReal) (κ : ℝ) (ε : EReal) (hε : 0 < ε)
    (hY : ∀ i, Y i = aff (Real.log 2) κ (X i)) (hX : ∀ i, ¬c i → X i = ⊥) :
    (∑ i, V i * Ideal.div (if c i then Ideal.exp (Y i - Finset.univ.sup Y) else 0)
      (max (∑ i, if c i then Ideal.exp (Y i - Finset.univ.sup Y) else 0) ε)) =
    (∑ i, V i * Ideal.exp2 (X i - Finset.univ.sup X)) *
      Ideal.div 1 (max (∑ i, 1 * Ideal.exp2 (X i - Finset.univ.sup X)) ε) := by
  have hp : (0 : ℝ) < Real.log 2 := Real.log_pos (by norm_num)
  have hs : Finset.univ.sup Y = aff (Real.log 2) κ (Finset.univ.sup X) := by
    rw [← aff_sup _ _ _ hp]
    exact Finset.sup_congr rfl fun i _ => hY i
  have he : ∀ i, (if c i then Ideal.exp (Y i - Finset.univ.sup Y) else 0) = Ideal.exp2 (X i - Finset.univ.sup X) := by
    intro i
    by_cases h : c i
    · rw [if_pos h, hs, hY, exp_aff]
    · rw [if_neg h, hX i h, sub_eq_add_neg, EReal.bot_add, Ideal.exp2_bot]
  simp only [he, one_mul]
  generalize hL : max (∑ i, Ideal.exp2 (X i - Finset.univ.sup X)) ε = L
  have hpos : 0 < L := hL ▸ lt_of_lt_of_le hε (le_max_right _ _)
  have hd : ∀ x, Ideal.div x L = x * L⁻¹ := fun x => by unfold Ideal.div; rw [if_neg hpos.ne']
  rw [hd 1, one_mul, mul_comm, real_mul_sum _ _ _ (EReal.inv_nonneg_of_nonneg hpos.le) ?_]
  · refine Finset.sum_congr rfl fun i _ => ?_
    rw [hd, ← mul_assoc, mul_comm]
  · induction L with
    | bot => simp at hpos
    | top => simp
    | coe r => rw [← EReal.coe_inv]; exact EReal.coe_ne_top _

/-- The quotients where every key is masked. -/
theorem attention_none {ι : Type} [Fintype ι] (c : ι → Prop) [DecidablePred c] (V Y : ι → EReal) (M ε : EReal) (hε : 0 < ε)
    (hc : ∀ i, ¬c i) :
    (∑ i, V i * Ideal.div (if c i then Ideal.exp (Y i - M) else 0)
      (max (∑ i, if c i then Ideal.exp (Y i - M) else 0) ε)) = 0 := by
  apply Finset.sum_eq_zero
  intro i _
  rw [if_neg (hc i)]
  unfold Ideal.div
  rw [if_neg (lt_of_lt_of_le hε (le_max_right _ _)).ne', zero_mul, mul_zero]

end Soft

namespace Cert.KernelIdeal.Cmp

open Idealize.ShloMosaic

abbrev chunkOf (i : Fin 512) : Fin 4 := ⟨i.val / 128, by omega⟩
abbrev slotOf (i : Fin 512) : Fin 128 := ⟨i.val % 128, by omega⟩

theorem key_of (i : Fin 512) : key (chunkOf i) (slotOf i) = i := Fin.ext (show 128 * (i.val / 128) + i.val % 128 = i.val by omega)
theorem chunkOf_key (u : Fin 4) (r : Fin 128) : chunkOf (key u r) = u := Fin.ext (show (128 * u.val + r.val) / 128 = u.val by omega)
theorem slotOf_key (u : Fin 4) (r : Fin 128) : slotOf (key u r) = r := Fin.ext (show (128 * u.val + r.val) % 128 = r.val by omega)

/-- The keys by chunk and slot. -/
def keys : Fin 4 × Fin 128 ≃ Fin 512 where
  toFun x := key x.1 x.2
  invFun i := (chunkOf i, slotOf i)
  left_inv x := Prod.ext (chunkOf_key _ _) (slotOf_key _ _)
  right_inv i := key_of i

theorem top_keys (st q : Nat) (a : ℝ) (S : Fin 512 → EReal) :
    top st q a S = Finset.univ.sup fun i : Fin 512 => logit st q a S (chunkOf i) (slotOf i) := by
  unfold top
  apply le_antisymm
  · refine Finset.sup_le fun u _ => Finset.sup_le fun r _ => ?_
    have h := Finset.le_sup (f := fun i : Fin 512 => logit st q a S (chunkOf i) (slotOf i)) (Finset.mem_univ (key u r))
    rwa [chunkOf_key, slotOf_key] at h
  · refine Finset.sup_le fun i _ => ?_
    exact (Finset.le_sup (f := logit st q a S (chunkOf i)) (Finset.mem_univ (slotOf i))).trans
      (Finset.le_sup (f := fun u => Finset.univ.sup (logit st q a S u)) (Finset.mem_univ (chunkOf i)))

/-- The weighted sum over the keys in their order. -/
theorem weighted_keys (st q : Nat) (a : ℝ) (S V : Fin 512 → EReal) :
    weighted st q a S V = ∑ i : Fin 512, V i * Ideal.exp2 (logit st q a S (chunkOf i) (slotOf i) -
      Finset.univ.sup fun i : Fin 512 => logit st q a S (chunkOf i) (slotOf i)) := by
  rw [← top_keys, ← keys.sum_comp, Fintype.sum_prod_type]
  unfold weighted Soft.wsum
  refine Finset.sum_congr rfl fun u _ => Finset.sum_congr rfl fun r _ => ?_
  show _ = V (key u r) * Ideal.exp2 (logit st q a S (chunkOf (key u r)) (slotOf (key u r)) - _)
  rw [chunkOf_key, slotOf_key]

end Cert.KernelIdeal.Cmp
-- ==== Proof.Match.lean ====
module

public import proofs.«01_k».proof.Proof.Ref
public import proofs.«01_k».proof.Proof.Softmax
public import proofs.«01_k».proof.Proof.Gen.Pre_augmented

/-! # The kernel's array is the reference's -/

@[expose] public section

set_option maxRecDepth 16384

noncomputable section

namespace Cert.KernelIdeal.Cmp

open Cert.KernelIdeal Cert.KernelIdeal.Gen Idealize.ShloMosaic Idealize.ShloMosaic.TcCoe Idealize.SL.Sem

open Cert.ReferenceIdeal.Cmp (dotOf logitR probR)

theorem tiny_pos : 0 < tiny := by
  unfold tiny
  simp [Ideal.ofBits, Ideal.ieee]
  rw [← EReal.coe_mul]
  exact_mod_cast (by positivity : (0 : ℝ) < _)

/-- A visible key's logit in base `e` is its logit in base two, scaled and shifted. -/
theorem logit_shift (D : EReal) (h t st u r : ℕ) :
    D * (Real.log 2 : ℝ) - ((1 / 2 ^ (h + 1) : ℝ) : EReal) * (((t : Int) - (16 * ((128 * u + r : ℕ) : Int) + 31) : Int) : ℝ) =
    Soft.aff (Real.log 2) (-(1 / 2 ^ (h + 1)) * ((t : ℝ) - st - 31))
      (D + ((16 * r : ℝ) : EReal) * (slope2 h : ℝ) - (slope2 h : ℝ) * (((st : Int) - 2048 * u : Int) : ℝ)) := by
  have hp : (0 : ℝ) < Real.log 2 := Real.log_pos (by norm_num)
  rw [← EReal.coe_mul, ← EReal.coe_mul, ← EReal.coe_mul]
  induction D with
  | bot => simp only [EReal.bot_mul_coe_of_pos hp, sub_eq_add_neg, EReal.bot_add, Soft.aff_bot _ _ hp]
  | top => rw [EReal.top_mul_coe_of_pos hp, EReal.top_add_coe, EReal.top_sub_coe, EReal.top_sub_coe, Soft.aff_top _ _ hp]
  | coe D =>
    rw [← EReal.coe_mul, ← EReal.coe_sub, ← EReal.coe_add, ← EReal.coe_sub, Soft.aff_coe]
    congr 1
    unfold slope2
    push_cast
    field_simp
    ring

variable (A0 : FVec Ideal S2x512x8192 .bf16) (A1 : FVec Ideal S2x2x512x128 .bf16) (A2 : FVec Ideal S2x2x208x512 .bf16)
  (A3 : FVec Ideal S2x32x8192 .f32)

/-- The score of a key, of a query of the block that starts at `512 * w + 256 * bi`. -/
theorem score_eq (hk : ∀ (b g : Fin 2) (i : Fin 512), A1 (ix4 b g i 64) = ((16 * ((i.val % 128 : ℕ) : ℝ) : ℝ) : EReal))
    (b g bi : Fin 2) (j : Fin 4) (w : Fin 16) (q : Fin 256) (i : Fin 512) :
    scoreOf (cut0 A0 b w) (cut1 A1 b) g bi ⟨256 * j.val + q.val, by omega⟩ i =
      dotOf A0 A1 b g j (query w ⟨256 * bi.val + q.val, by omega⟩) i +
        ((16 * ((i.val % 128 : ℕ) : ℝ) : ℝ) : EReal) * (slope2 (4 * g.val + j.val) : ℝ) := by
  have hj : (256 * j.val + q.val) / 256 = j.val := by omega
  have hq : (256 * j.val + q.val) % 256 = q.val := by omega
  unfold scoreOf dotOf cut0 cut1
  simp only [hj, hq]
  congr 1
  · refine Finset.sum_congr rfl fun f _ => ?_
    rw [mul_comm]
    congr 1
    refine congrArg A0 ?_
    refine congrArg (fun e : Fin 512 => ix3 b e _) (Fin.ext ?_)
    show 64 * (4 * g.val + j.val) + f.val = g.val * 256 + j.val * 64 + f.val
    omega
  · exact congrArg (· * _) (hk b g i)

/-- A head's weighted row over its sum is the reference's quotients, weighted. -/
theorem head_query (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (b g bi : Fin 2) (j : Fin 4) (d : Fin 208) (w : Fin 16) (q : Fin 256) :
    weighted (512 * w.val + 256 * bi.val) q.val (slope2 (4 * g.val + j.val))
        (scoreOf (cut0 A0 b w) (cut1 A1 b) g bi ⟨256 * j.val + q.val, by omega⟩) (fun i => cut2 A2 b (ix4 0 g d i)) *
      Ideal.div 1 (max (weighted (512 * w.val + 256 * bi.val) q.val (slope2 (4 * g.val + j.val))
        (scoreOf (cut0 A0 b w) (cut1 A1 b) g bi ⟨256 * j.val + q.val, by omega⟩) (fun i => cut2 A2 b (ix4 0 g 64 i))) tiny) =
    ∑ i : Fin 512, A2 (ix4 b g d i) *
      Ideal.div (probR A0 A1 b g j (query w ⟨256 * bi.val + q.val, by omega⟩) i)
        (max (∑ i : Fin 512, probR A0 A1 b g j (query w ⟨256 * bi.val + q.val, by omega⟩) i) tiny) := by
  rw [weighted_keys, weighted_keys]
  have hone : ∀ i : Fin 512, cut2 A2 b (ix4 0 g 64 i) = 1 := fun i => hv b g i
  simp only [hone]
  refine (Soft.attention (fun i : Fin 512 => 16 * i.val + 31 ≤ (query w ⟨256 * bi.val + q.val, by omega⟩).val)
    (fun i => A2 (ix4 b g d i)) _
    (logitR A0 A1 b g j (query w ⟨256 * bi.val + q.val, by omega⟩))
    (-(1 / 2 ^ (4 * g.val + j.val + 1)) * (((query w ⟨256 * bi.val + q.val, by omega⟩).val : ℝ) - (512 * w.val + 256 * bi.val : ℕ) - 31))
    tiny tiny_pos (fun i => ?_) (fun i hi => ?_)).symm
  · unfold logit logitR
    have hi : 16 * (128 * (chunkOf i).val + (slotOf i).val) + 31 ≤ 512 * w.val + 256 * bi.val + q.val ↔
        16 * i.val + 31 ≤ (query w ⟨256 * bi.val + q.val, by omega⟩).val := by
      show 16 * (128 * (i.val / 128) + i.val % 128) + 31 ≤ _ ↔ _ ≤ 512 * w.val + (256 * bi.val + q.val)
      omega
    by_cases hc : 16 * i.val + 31 ≤ (query w ⟨256 * bi.val + q.val, by omega⟩).val
    · rw [if_pos hc, if_pos (hi.mpr hc), key_of, score_eq A0 A1 hk, ← logit_shift]
      congr 4
      exact congrArg (fun k : ℕ => _ - (16 * (k : Int) + 31)) (congrArg Fin.val (key_of i)).symm
    · rw [if_neg hc, if_neg (fun h' => hc (hi.mp h')), Soft.aff_bot _ _ (Real.log_pos (by norm_num))]
  · unfold logit
    rw [if_neg]
    intro h'
    apply hi
    show _ ≤ 512 * w.val + (256 * bi.val + q.val)
    have : 16 * (128 * (i.val / 128) + i.val % 128) + 31 ≤ 512 * w.val + 256 * bi.val + q.val := h'
    omega

theorem match_query (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (b g bi : Fin 2) (j : Fin 4) (d : Fin 64) (w : Fin 16) (q : Fin 256) :
    blockVal w.val (cut0 A0 b w) (cut1 A1 b) (cut2 A2 b) (cut3 A3 b w) ⟨256 * g.val + 64 * j.val + d.val, by omega⟩
      ⟨256 * bi.val + q.val, by omega⟩ =
    Cert.ReferenceIdeal.Read.val_main_v55 (F := Ideal) A0 A1 A2 A3
      (ix5 b g j d (query w ⟨256 * bi.val + q.val, by omega⟩)) := by
  rw [Cert.ReferenceIdeal.Cmp.out_apply]
  have e1 : (256 * g.val + 64 * j.val + d.val) / 256 = g.val := by omega
  have e2 : (4 * g.val + j.val) % 4 = j.val := by omega
  have e3 : (256 * g.val + 64 * j.val + d.val) % 64 = d.val := by omega
  have e4 : (256 * g.val + 64 * j.val + d.val) / 64 = 4 * g.val + j.val := by omega
  have e5 : (256 * bi.val + q.val) / 256 = bi.val := by omega
  have e6 : (256 * bi.val + q.val) % 256 = q.val := by omega
  have e7 : (256 * j.val + q.val) / 256 = j.val := by omega
  have e8 : (256 * j.val + q.val) % 256 = q.val := by omega
  unfold blockVal
  simp only [e2, e3, e4, e1, e5, e6, e7, e8, Fin.eta]
  have hgate : cut3 A3 b w (ix3 0 (⟨3 * (4 * g.val + j.val), by omega⟩ : Fin 32) ⟨256 * bi.val + q.val, by omega⟩) =
      A3 (ix3 b (⟨g.val * 12 + j.val * 3, by omega⟩ : Fin 32) (query w ⟨256 * bi.val + q.val, by omega⟩)) := by
    refine congrArg A3 (congrArg (fun e : Fin 32 => ix3 b e _) (Fin.ext ?_))
    show 3 * (4 * g.val + j.val) = g.val * 12 + j.val * 3
    omega
  by_cases h : 31 ≤ 512 * w.val + 256 * bi.val + q.val
  · rw [if_pos h, hgate]
    congr 1
    exact head_query A0 A1 A2 hk hv b g bi j ⟨d.val, by omega⟩ w q
  · rw [if_neg h]
    unfold probR
    rw [Soft.attention_none (fun i : Fin 512 => 16 * i.val + 31 ≤ (query w ⟨256 * bi.val + q.val, by omega⟩).val) _ _ _ _ tiny_pos
      (fun i hi => ?_), mul_zero]
    have : 16 * i.val + 31 ≤ 512 * w.val + (256 * bi.val + q.val) := hi
    omega

theorem ocmp_eq (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1) :
    ocmp A0 A1 A2 A3 = Cert.ReferenceIdeal.Read.val_main_v56 (F := Ideal) A0 A1 A2 A3 := by
  funext y
  idx_vars y
  have hy : y2 = query ⟨y2.val / 512, by omega⟩ ⟨y2.val % 512, by omega⟩ := Fin.ext (show y2.val = 512 * (y2.val / 512) + y2.val % 512 by omega)
  rw [Cert.ReferenceIdeal.Cmp.res_apply]
  have h := match_query A0 A1 A2 A3 hk hv y0 ⟨y1.val / 256, by omega⟩ ⟨y2.val % 512 / 256, by omega⟩ ⟨y1.val / 64 % 4, by omega⟩
    ⟨y1.val % 64, by omega⟩ ⟨y2.val / 512, by omega⟩ ⟨y2.val % 256, by omega⟩
  have e1 : (⟨256 * (y1.val / 256) + 64 * (y1.val / 64 % 4) + y1.val % 64, by omega⟩ : Fin 512) = y1 := Fin.ext (by
    show 256 * (y1.val / 256) + 64 * (y1.val / 64 % 4) + y1.val % 64 = y1.val; omega)
  have e2 : (⟨256 * (y2.val % 512 / 256) + y2.val % 256, by omega⟩ : Fin 512) = ⟨y2.val % 512, by omega⟩ := Fin.ext (by
    show 256 * (y2.val % 512 / 256) + y2.val % 256 = y2.val % 512; omega)
  simp only [e1, e2] at h
  rw [← hy] at h
  exact Eq.trans rfl h

theorem ofBool_one (b : Bool) (h : BitVec.ofBool b = 1#1) : b = true := by cases b <;> simp_all

theorem lane_word : ∀ i : Fin 512, (IntOp.muli (IntOp.andi (BitVec.ofNat 32 i.val) 127#32) 16#32).toInt =
    16 * ((i.val % 128 : ℕ) : Int) := by decide +kernel

/-- The precondition, read at the key lanes and the value rows. -/
theorem augmented_keys (h : (Cert.Pre_augmented.fn (F := Ideal) A0 A1 A2 A3).1 = fun _ => 1#1) (b g : Fin 2) (i : Fin 512) :
    A1 (ix4 b g i 64) = ((16 * ((i.val % 128 : ℕ) : ℝ) : ℝ) : EReal) := by
  have h' := congrFun h (ix4 b g i 0)
  unfold Cert.Pre_augmented.fn Cert.Pre_augmented.fn_part1 at h'
  dsimp only at h'
  revert h'
  pointwise
  intro h'
  have e := of_decide_eq_true (ofBool_one _ h')
  rw [e]
  show (((IntOp.muli (IntOp.andi (BitVec.ofNat 32 i.val) 127#32) 16#32).toInt : ℝ) : EReal) = _
  rw [lane_word]
  push_cast
  rfl

theorem augmented_vals (h : (Cert.Pre_augmented.fn (F := Ideal) A0 A1 A2 A3).2.1 = fun _ => 1#1) (b g : Fin 2) (i : Fin 512) :
    A2 (ix4 b g 64 i) = 1 := by
  have h' := congrFun h (ix4 b g 0 i)
  unfold Cert.Pre_augmented.fn Cert.Pre_augmented.fn_part1 at h'
  dsimp only at h'
  revert h'
  pointwise
  intro h'
  exact of_decide_eq_true (ofBool_one _ h')

end Cert.KernelIdeal.Cmp
-- ==== Proof.SelItem.lean ====
module

public import proofs.«01_k».proof.Proof.Pieces

/-! # The selection's pieces

The ranks of the blocks, the rounds that lower them and the selection read off, as functions of the accumulators: over
64 rows where the queries see at most 64 blocks, over 128 rows else. -/

@[expose] public section

set_option maxRecDepth 16384

noncomputable section

namespace Cert.KernelIdeal.Cmp

open Cert.KernelIdeal Cert.KernelIdeal.Gen Idealize.ShloMosaic Idealize.ShloMosaic.TcCoe Idealize.SL.Sem

variable {F : FTy → Type} [FloatOps F] [Named F]

/-- The block each query lies in. -/
def curRow (start : BitVec 32) : IVec S1x256 32 :=
  shrui (addi (broadcast S1x256 start) (iota .tc S1x256 32 [1] iota_S1x256_d1_w32)) (broadcast S1x256 6#32)

/-- One over the sum of the weights. -/
def invRow (acc : FVec F S208x1024 .f32) : FVec F S1x1024 .f32 :=
  divf (broadcast S1x1024 (Scalar.ofBits .f32 0x3F800000#32))
    (maximumf (extractStridedSlice S1x1024 ![64, 0] acc slices_S208x1024_o64_0_S1x1024)
      (broadcast S1x1024 (Scalar.ofBits .f32 0x0DA24260#32)))

/-! ## 64 rows -/

def blk64 : IVec S64x256 32 := iota .tc S64x256 32 [0] iota_S64x256_d0_w32

/-- The blocks every query selects. -/
def forced64 (start : BitVec 32) : IVec S64x256 1 :=
  ori (ori (cmpi .eq blk64 (broadcast S64x256 0#32))
      (cmpi .eq blk64 (broadcastTo S64x256 (curRow start) broadcasts_S1x256_S64x256)))
    (cmpi .eq blk64 (broadcastTo S64x256 (subi (curRow start) (broadcast S1x256 1#32)) broadcasts_S1x256_S64x256))

/-- The blocks' weights under each head. -/
def share64 (acc : FVec F S208x1024 .f32) : FVec F S64x1024 .f32 :=
  mulf (extractStridedSlice S64x1024 ![80, 0] acc slices_S208x1024_o80_0_S64x1024)
    (broadcastTo S64x1024 (invRow acc) broadcasts_S1x1024_S64x1024)

/-- The blocks' weights, over the group's heads. -/
def imp64 (start : BitVec 32) (acc : FVec F S208x1024 .f32) : FVec F S64x256 .f32 :=
  select (broadcastTo S64x256 (shapeCast S1x256 (hasKey start) shapeCasts_S1x256_S1x256) broadcasts_S1x256_S64x256)
    (addf (addf (addf (addf (broadcast S64x256 (Scalar.ofBits .f32 0x00000000#32))
      (extractStridedSlice S64x256 ![0, 0] (share64 acc) slices_S64x1024_o0_0_S64x256))
      (extractStridedSlice S64x256 ![0, 256] (share64 acc) slices_S64x1024_o0_256_S64x256))
      (extractStridedSlice S64x256 ![0, 512] (share64 acc) slices_S64x1024_o0_512_S64x256))
      (extractStridedSlice S64x256 ![0, 768] (share64 acc) slices_S64x1024_o0_768_S64x256))
    (broadcast S64x256 (Scalar.ofBits .f32 0x00000000#32))

/-- The ranks before the rounds. -/
def rank64 (start : BitVec 32) (acc : FVec F S208x1024 .f32) : FVec F S64x256 .f32 :=
  select (cmpi .sle blk64 (broadcastTo S64x256 (curRow start) broadcasts_S1x256_S64x256))
    (select (forced64 start) (broadcast S64x256 (Scalar.ofBits .f32 0xFF61B1E6#32)) (imp64 start acc))
    (broadcast S64x256 (Named.named κ "neg" 0xF149F2CA#32))

/-- One round: the first block of highest rank is lowered. -/
def round64 (r : FVec F S64x256 .f32) : FVec F S64x256 .f32 :=
  select (cmpf .oeq (sitofp .f32 blk64 : FVec F S64x256 .f32) (broadcastTo S64x256 (shapeCast S1x256 (multiReduction .minimumf [0] S256
      (select (cmpf .oeq r (broadcastTo S64x256 (shapeCast S1x256
          (multiReduction .maximumf [0] S256 r 0xFF800000#32 reduces_S64x256_S256 (.inl rfl) rfl)
          shapeCasts_S256_S1x256) broadcasts_S1x256_S64x256))
        (sitofp .f32 blk64 : FVec F S64x256 .f32) (broadcast S64x256 (Scalar.ofBits .f32 0x43000000#32)))
      0x7F800000#32 reduces_S64x256_S256 (.inl rfl) rfl) shapeCasts_S256_S1x256) broadcasts_S1x256_S64x256))
    (broadcast S64x256 (Scalar.ofBits .f32 0xFF61B1E6#32)) r

/-- The selection, after the rounds. -/
def sel64 (start : BitVec 32) (acc : FVec F S208x1024 .f32) : FVec F S64x256 .f32 :=
  select (andi (cmpi .sle blk64 (broadcastTo S64x256 (curRow start) broadcasts_S1x256_S64x256))
      (cmpf .olt (round64^[13] (rank64 start acc)) (broadcast S64x256 (Scalar.ofBits .f32 0xF1C9F2CA#32))))
    (broadcast S64x256 (Scalar.ofBits .f32 0x3F800000#32)) (broadcast S64x256 (Scalar.ofBits .f32 0x00000000#32))

def selt64 (start : BitVec 32) (acc : FVec F S208x1024 .f32) : FVec F S1x1x64x256 .bf16 :=
  shapeCast S1x1x64x256 (truncf .bf16 (sel64 start acc) bitsLt_bf16_f32) shapeCasts_S64x256_S1x1x64x256

/-! ## 128 rows -/

def blk128 : IVec S128x256 32 := iota .tc S128x256 32 [0] iota_S128x256_d0_w32

/-- The blocks every query selects. -/
def forced128 (start : BitVec 32) : IVec S128x256 1 :=
  ori (ori (cmpi .eq blk128 (broadcast S128x256 0#32))
      (cmpi .eq blk128 (broadcastTo S128x256 (curRow start) broadcasts_S1x256_S128x256)))
    (cmpi .eq blk128 (broadcastTo S128x256 (subi (curRow start) (broadcast S1x256 1#32)) broadcasts_S1x256_S128x256))

/-- The blocks' weights under each head. -/
def share128 (acc : FVec F S208x1024 .f32) : FVec F S128x1024 .f32 :=
  mulf (extractStridedSlice S128x1024 ![80, 0] acc slices_S208x1024_o80_0_S128x1024)
    (broadcastTo S128x1024 (invRow acc) broadcasts_S1x1024_S128x1024)

/-- The blocks' weights, over the group's heads. -/
def imp128 (start : BitVec 32) (acc : FVec F S208x1024 .f32) : FVec F S128x256 .f32 :=
  select (broadcastTo S128x256 (shapeCast S1x256 (hasKey start) shapeCasts_S1x256_S1x256) broadcasts_S1x256_S128x256)
    (addf (addf (addf (addf (broadcast S128x256 (Scalar.ofBits .f32 0x00000000#32))
      (extractStridedSlice S128x256 ![0, 0] (share128 acc) slices_S128x1024_o0_0_S128x256))
      (extractStridedSlice S128x256 ![0, 256] (share128 acc) slices_S128x1024_o0_256_S128x256))
      (extractStridedSlice S128x256 ![0, 512] (share128 acc) slices_S128x1024_o0_512_S128x256))
      (extractStridedSlice S128x256 ![0, 768] (share128 acc) slices_S128x1024_o0_768_S128x256))
    (broadcast S128x256 (Scalar.ofBits .f32 0x00000000#32))

/-- The ranks before the rounds. -/
def rank128 (start : BitVec 32) (acc : FVec F S208x1024 .f32) : FVec F S128x256 .f32 :=
  select (cmpi .sle blk128 (broadcastTo S128x256 (curRow start) broadcasts_S1x256_S128x256))
    (select (forced128 start) (broadcast S128x256 (Scalar.ofBits .f32 0xFF61B1E6#32)) (imp128 start acc))
    (broadcast S128x256 (Named.named κ "neg" 0xF149F2CA#32))

/-- One round: the first block of highest rank is lowered. -/
def round128 (r : FVec F S128x256 .f32) : FVec F S128x256 .f32 :=
  select (cmpf .oeq (sitofp .f32 blk128 : FVec F S128x256 .f32) (broadcastTo S128x256 (shapeCast S1x256 (multiReduction .minimumf [0] S256
      (select (cmpf .oeq r (broadcastTo S128x256 (shapeCast S1x256
          (multiReduction .maximumf [0] S256 r 0xFF800000#32 reduces_S128x256_S256 (.inl rfl) rfl)
          shapeCasts_S256_S1x256) broadcasts_S1x256_S128x256))
        (sitofp .f32 blk128 : FVec F S128x256 .f32) (broadcast S128x256 (Scalar.ofBits .f32 0x43000000#32)))
      0x7F800000#32 reduces_S128x256_S256 (.inl rfl) rfl) shapeCasts_S256_S1x256) broadcasts_S1x256_S128x256))
    (broadcast S128x256 (Scalar.ofBits .f32 0xFF61B1E6#32)) r

/-- The selection, after the rounds. -/
def sel128 (start : BitVec 32) (acc : FVec F S208x1024 .f32) : FVec F S128x256 .f32 :=
  select (andi (cmpi .sle blk128 (broadcastTo S128x256 (curRow start) broadcasts_S1x256_S128x256))
      (cmpf .olt (round128^[13] (rank128 start acc)) (broadcast S128x256 (Scalar.ofBits .f32 0xF1C9F2CA#32))))
    (broadcast S128x256 (Scalar.ofBits .f32 0x3F800000#32)) (broadcast S128x256 (Scalar.ofBits .f32 0x00000000#32))

def selt128 (start : BitVec 32) (acc : FVec F S208x1024 .f32) : FVec F S1x1x128x256 .bf16 :=
  shapeCast S1x1x128x256 (truncf .bf16 (sel128 start acc) bitsLt_bf16_f32) shapeCasts_S128x256_S1x1x128x256

def none64 : FVec F S1x1x64x256 .bf16 :=
  shapeCast S1x1x64x256 (broadcast S64x256 (Scalar.ofBits .bf16 0x0000#16)) shapeCasts_S64x256_S1x1x64x256

end Cert.KernelIdeal.Cmp
-- ==== Proof.SelPieces.lean ====
module

public import proofs.«01_k».proof.Proof.SelItem

/-! # What the call stores into its second result -/

@[expose] public section

set_option maxRecDepth 16384

noncomputable section

namespace Cert.KernelIdeal.Cmp

open Cert.KernelIdeal Cert.KernelIdeal.Gen Idealize.ShloMosaic Idealize.ShloMosaic.TcCoe Idealize.SL.Sem

variable {F : FTy → Type} [FloatOps F] [Named F]

variable (c : Dev nD) (i : grid0.Coords)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x0 : Vec F S1x512x512 .bf16) (x1 : Vec F S1x2x512x128 .bf16) (x2 : Vec F S1x2x208x512 .bf16)
  (x3 : Vec F S1x32x512 .f32)

/-- The pieces of the second result stored in case B. -/
theorem selPieces_B (hc0 : cond0_0 i) (hc1 : ¬cond0_1 i) (hc2 : cond0_2 i) (hc3 : ¬cond0_3 i) (hc4 : ¬cond0_4 i)
    (hc5 : cond0_5 i)
    (hk00 : ∀ a, k0_off5 i 0#32 a + S1x1x256x128.size a ≤ S1x2x512x128.size a)
    (hv00 : ∀ a, k0_off7 i 0#32 a + S1x1x208x256.size a ≤ S1x2x208x512.size a)
    (hk01 : ∀ a, k0_off6 i 0#32 a + S1x1x256x128.size a ≤ S1x2x512x128.size a)
    (hv01 : ∀ a, k0_off8 i 0#32 a + S1x1x208x256.size a ≤ S1x2x208x512.size a)
    (hk10 : ∀ a, k0_off5 i 1#32 a + S1x1x256x128.size a ≤ S1x2x512x128.size a)
    (hv10 : ∀ a, k0_off7 i 1#32 a + S1x1x208x256.size a ≤ S1x2x208x512.size a)
    (hk11 : ∀ a, k0_off6 i 1#32 a + S1x1x256x128.size a ≤ S1x2x512x128.size a)
    (hv11 : ∀ a, k0_off8 i 1#32 a + S1x1x208x256.size a ≤ S1x2x208x512.size a) :
    (kernelRun0_B c i arg2 harg2 arg3 harg3 arg4 harg4 arg5 harg5 arg6 harg6 arg7 harg7 arg8 harg8 arg9 harg9 arg10 harg10
      hc0 hc1 hc2 hc3 hc4 hc5 x0 x1 x2 x3).2.1 =
    [⟨Rect.unit (s := S1x2x128x512) ![0, 1, 0, 256] S1x1x128x256.size inb_S1x2x128x512_S1x1x128x256_0_1_0_256,
      selt128 (kernelRun0_B.sl.v5 i)
        (accB arg2 harg2 arg3 harg3 arg4 harg4 x0 x1 x2 1 1 (slopesOf 1) (kernelRun0_B.sl.v5 i) (kernelRun0_B.sl.v79 i)
          (k0_off6 i 1#32) (k0_off8 i 1#32) hk11 hv11
          (arg9.view.readCov (kernelRun0_B.sl.HS0_4 c i arg2 harg2 arg3 harg3 x0 x1)
            (Rect.unit (s := S2x2x1x1024) ![1, 1, 0, 0] S1x1x1x1024.size (inbM 1 1)).toLoadRect)
          (arg10.view.readCov (kernelRun0_B.sl.HS1_4 c i arg2 harg2 arg3 harg3 arg4 harg4 x0 x1 x2)
            (Rect.unit (s := S2x2x208x1024) ![1, 1, 0, 0] S1x1x208x1024.size (inbA 1 1)).toLoadRect))⟩,
     ⟨Rect.unit (s := S1x2x128x512) ![0, 0, 0, 256] S1x1x128x256.size inb_S1x2x128x512_S1x1x128x256_0_0_0_256,
      selt128 (kernelRun0_B.sl.v5 i)
        (accB arg2 harg2 arg3 harg3 arg4 harg4 x0 x1 x2 0 1 (slopesOf 0) (kernelRun0_B.sl.v5 i) (kernelRun0_B.sl.v79 i)
          (k0_off5 i 1#32) (k0_off7 i 1#32) hk10 hv10
          (arg9.view.readCov (kernelRun0_B.sl.HS0_4 c i arg2 harg2 arg3 harg3 x0 x1)
            (Rect.unit (s := S2x2x1x1024) ![1, 0, 0, 0] S1x1x1x1024.size (inbM 1 0)).toLoadRect)
          (arg10.view.readCov (kernelRun0_B.sl.HS1_4 c i arg2 harg2 arg3 harg3 arg4 harg4 x0 x1 x2)
            (Rect.unit (s := S2x2x208x1024) ![1, 0, 0, 0] S1x1x208x1024.size (inbA 1 0)).toLoadRect))⟩,
     ⟨Rect.unit (s := S1x2x128x512) ![0, 1, 0, 0] S1x1x128x256.size inb_S1x2x128x512_S1x1x128x256_0_1_0_0,
      selt128 (kernelRun0_B.sl.v2 i)
        (accB arg2 harg2 arg3 harg3 arg4 harg4 x0 x1 x2 1 0 (slopesOf 1) (kernelRun0_B.sl.v2 i) (kernelRun0_B.sl.v42 i)
          (k0_off6 i 0#32) (k0_off8 i 0#32) hk01 hv01
          (arg9.view.readCov (kernelRun0_B.sl.HS0_4 c i arg2 harg2 arg3 harg3 x0 x1)
            (Rect.unit (s := S2x2x1x1024) ![0, 1, 0, 0] S1x1x1x1024.size (inbM 0 1)).toLoadRect)
          (arg10.view.readCov (kernelRun0_B.sl.HS1_4 c i arg2 harg2 arg3 harg3 arg4 harg4 x0 x1 x2)
            (Rect.unit (s := S2x2x208x1024) ![0, 1, 0, 0] S1x1x208x1024.size (inbA 0 1)).toLoadRect))⟩,
     ⟨Rect.unit (s := S1x2x128x512) ![0, 0, 0, 0] S1x1x128x256.size inb_S1x2x128x512_S1x1x128x256_0_0_0_0,
      selt128 (kernelRun0_B.sl.v2 i)
        (accB arg2 harg2 arg3 harg3 arg4 harg4 x0 x1 x2 0 0 (slopesOf 0) (kernelRun0_B.sl.v2 i) (kernelRun0_B.sl.v42 i)
          (k0_off5 i 0#32) (k0_off7 i 0#32) hk00 hv00
          (arg9.view.readCov (kernelRun0_B.sl.HS0_4 c i arg2 harg2 arg3 harg3 x0 x1)
            (Rect.unit (s := S2x2x1x1024) ![0, 0, 0, 0] S1x1x1x1024.size (inbM 0 0)).toLoadRect)
          (arg10.view.readCov (kernelRun0_B.sl.HS1_4 c i arg2 harg2 arg3 harg3 arg4 harg4 x0 x1 x2)
            (Rect.unit (s := S2x2x208x1024) ![0, 0, 0, 0] S1x1x208x1024.size (inbA 0 0)).toLoadRect))⟩] := by
  unfold kernelRun0_B
  dsimp only
  rfl

/-- The pieces of the second result stored in case A. -/
theorem selPieces_A (hc0 : ¬cond0_0 i) (hc1 : cond0_1 i) (hc2 : ¬cond0_2 i) (hc3 : cond0_3 i) (hc4 : cond0_4 i)
    (hc5 : ¬cond0_5 i)
    (hk00 : ∀ a, k0_off1 i 0#32 a + S1x1x256x128.size a ≤ S1x2x512x128.size a)
    (hv00 : ∀ a, k0_off3 i 0#32 a + S1x1x208x256.size a ≤ S1x2x208x512.size a)
    (hk01 : ∀ a, k0_off2 i 0#32 a + S1x1x256x128.size a ≤ S1x2x512x128.size a)
    (hv01 : ∀ a, k0_off4 i 0#32 a + S1x1x208x256.size a ≤ S1x2x208x512.size a)
    (hk10 : ∀ a, k0_off1 i 1#32 a + S1x1x256x128.size a ≤ S1x2x512x128.size a)
    (hv10 : ∀ a, k0_off3 i 1#32 a + S1x1x208x256.size a ≤ S1x2x208x512.size a)
    (hk11 : ∀ a, k0_off2 i 1#32 a + S1x1x256x128.size a ≤ S1x2x512x128.size a)
    (hv11 : ∀ a, k0_off4 i 1#32 a + S1x1x208x256.size a ≤ S1x2x208x512.size a) :
    (kernelRun0_A c i arg2 harg2 arg3 harg3 arg4 harg4 arg5 harg5 arg6 harg6 arg7 harg7 arg8 harg8 arg9 harg9 arg10 harg10
      hc0 hc1 hc2 hc3 hc4 hc5 x0 x1 x2 x3).2.1 =
    [⟨Rect.unit (s := S1x2x128x512) ![0, 1, 64, 256] S1x1x64x256.size inb_S1x2x128x512_S1x1x64x256_0_1_64_256, none64⟩,
     ⟨Rect.unit (s := S1x2x128x512) ![0, 1, 0, 256] S1x1x64x256.size inb_S1x2x128x512_S1x1x64x256_0_1_0_256,
      selt64 (kernelRun0_A.sl.v5 i)
        (accB arg2 harg2 arg3 harg3 arg4 harg4 x0 x1 x2 1 1 (slopesOf 1) (kernelRun0_A.sl.v5 i) (kernelRun0_A.sl.v79 i)
          (k0_off2 i 1#32) (k0_off4 i 1#32) hk11 hv11
          (arg9.view.readCov (kernelRun0_A.sl.HS0_2)
            (Rect.unit (s := S2x2x1x1024) ![1, 1, 0, 0] S1x1x1x1024.size (inbM 1 1)).toLoadRect)
          (arg10.view.readCov (kernelRun0_A.sl.HS1_2)
            (Rect.unit (s := S2x2x208x1024) ![1, 1, 0, 0] S1x1x208x1024.size (inbA 1 1)).toLoadRect))⟩,
     ⟨Rect.unit (s := S1x2x128x512) ![0, 0, 64, 256] S1x1x64x256.size inb_S1x2x128x512_S1x1x64x256_0_0_64_256, none64⟩,
     ⟨Rect.unit (s := S1x2x128x512) ![0, 0, 0, 256] S1x1x64x256.size inb_S1x2x128x512_S1x1x64x256_0_0_0_256,
      selt64 (kernelRun0_A.sl.v5 i)
        (accB arg2 harg2 arg3 harg3 arg4 harg4 x0 x1 x2 0 1 (slopesOf 0) (kernelRun0_A.sl.v5 i) (kernelRun0_A.sl.v79 i)
          (k0_off1 i 1#32) (k0_off3 i 1#32) hk10 hv10
          (arg9.view.readCov (kernelRun0_A.sl.HS0_2)
            (Rect.unit (s := S2x2x1x1024) ![1, 0, 0, 0] S1x1x1x1024.size (inbM 1 0)).toLoadRect)
          (arg10.view.readCov (kernelRun0_A.sl.HS1_2)
            (Rect.unit (s := S2x2x208x1024) ![1, 0, 0, 0] S1x1x208x1024.size (inbA 1 0)).toLoadRect))⟩,
     ⟨Rect.unit (s := S1x2x128x512) ![0, 1, 64, 0] S1x1x64x256.size inb_S1x2x128x512_S1x1x64x256_0_1_64_0, none64⟩,
     ⟨Rect.unit (s := S1x2x128x512) ![0, 1, 0, 0] S1x1x64x256.size inb_S1x2x128x512_S1x1x64x256_0_1_0_0,
      selt64 (kernelRun0_A.sl.v2 i)
        (accB arg2 harg2 arg3 harg3 arg4 harg4 x0 x1 x2 1 0 (slopesOf 1) (kernelRun0_A.sl.v2 i) (kernelRun0_A.sl.v42 i)
          (k0_off2 i 0#32) (k0_off4 i 0#32) hk01 hv01
          (arg9.view.readCov (kernelRun0_A.sl.HS0_2)
            (Rect.unit (s := S2x2x1x1024) ![0, 1, 0, 0] S1x1x1x1024.size (inbM 0 1)).toLoadRect)
          (arg10.view.readCov (kernelRun0_A.sl.HS1_2)
            (Rect.unit (s := S2x2x208x1024) ![0, 1, 0, 0] S1x1x208x1024.size (inbA 0 1)).toLoadRect))⟩,
     ⟨Rect.unit (s := S1x2x128x512) ![0, 0, 64, 0] S1x1x64x256.size inb_S1x2x128x512_S1x1x64x256_0_0_64_0, none64⟩,
     ⟨Rect.unit (s := S1x2x128x512) ![0, 0, 0, 0] S1x1x64x256.size inb_S1x2x128x512_S1x1x64x256_0_0_0_0,
      selt64 (kernelRun0_A.sl.v2 i)
        (accB arg2 harg2 arg3 harg3 arg4 harg4 x0 x1 x2 0 0 (slopesOf 0) (kernelRun0_A.sl.v2 i) (kernelRun0_A.sl.v42 i)
          (k0_off1 i 0#32) (k0_off3 i 0#32) hk00 hv00
          (arg9.view.readCov (kernelRun0_A.sl.HS0_2)
            (Rect.unit (s := S2x2x1x1024) ![0, 0, 0, 0] S1x1x1x1024.size (inbM 0 0)).toLoadRect)
          (arg10.view.readCov (kernelRun0_A.sl.HS1_2)
            (Rect.unit (s := S2x2x208x1024) ![0, 0, 0, 0] S1x1x208x1024.size (inbA 0 0)).toLoadRect))⟩] := by
  unfold kernelRun0_A
  dsimp only
  rfl

end Cert.KernelIdeal.Cmp
-- ==== Proof.Select.lean ====
module

public import Idealize.ShloMosaic.Lib.Pointwise

/-! # Selection by repeated maximum

The kernel picks blocks by rounds: each takes the first block of highest rank and lowers its rank to a fixed value.
After `m` rounds the lowered blocks are those with fewer than `m` blocks before them. -/

@[expose] public section

noncomputable section

namespace Select

variable {n : Nat}

/-- The index of the first highest rank, as the kernel computes it. -/
def first (r : Fin n → EReal) : EReal :=
  Finset.univ.inf fun k : Fin n => if r k = Finset.univ.sup r then ((k.val : ℝ) : EReal) else ((128 : ℝ) : EReal)

/-- One round. -/
def round (R : EReal) (r : Fin n → EReal) : Fin n → EReal := fun j =>
  if ((j.val : ℝ) : EReal) = first r then R else r j

/-- Block `k` ranks before block `j`. -/
def bef (b : Fin n → EReal) (k j : Fin n) : Prop := b j < b k ∨ b k = b j ∧ k < j

theorem bef_asymm (b : Fin n → EReal) (k j : Fin n) (h : bef b k j) : ¬bef b j k := by
  rcases h with h | ⟨h, h'⟩
  · rintro (g | ⟨g, _⟩)
    · exact absurd h (not_lt.mpr g.le)
    · exact absurd g h.ne
  · rintro (g | ⟨_, g⟩)
    · exact absurd h g.ne
    · exact absurd h' (not_lt.mpr g.le)

theorem first_spec (hn : n ≤ 128) (r : Fin n → EReal) (a : Fin n) :
    ∃ i : Fin n, first r = ((i.val : ℝ) : EReal) ∧ r i = Finset.univ.sup r ∧
      ∀ k, r k = Finset.univ.sup r → i ≤ k := by
  obtain ⟨a', _, ha⟩ := Finset.exists_mem_eq_sup Finset.univ ⟨a, Finset.mem_univ a⟩ r
  let s : Finset (Fin n) := Finset.univ.filter fun k => r k = Finset.univ.sup r
  have hs : s.Nonempty := ⟨a', Finset.mem_filter.mpr ⟨Finset.mem_univ _, ha.symm⟩⟩
  have hi : r (s.min' hs) = Finset.univ.sup r := (Finset.mem_filter.mp (s.min'_mem hs)).2
  have hle : ∀ k, r k = Finset.univ.sup r → s.min' hs ≤ k := fun k hk =>
    s.min'_le k (Finset.mem_filter.mpr ⟨Finset.mem_univ _, hk⟩)
  refine ⟨s.min' hs, le_antisymm ?_ ?_, hi, hle⟩
  · refine (Finset.inf_le (Finset.mem_univ (s.min' hs))).trans ?_
    rw [if_pos hi]
  · refine Finset.le_inf fun k _ => ?_
    split
    · next h => exact EReal.coe_le_coe_iff.mpr (by exact_mod_cast (hle k h))
    · exact EReal.coe_le_coe_iff.mpr (by
        have := (s.min' hs).isLt
        exact_mod_cast (by omega : (s.min' hs).val ≤ 128))

theorem round_at (hn : n ≤ 128) (R : EReal) (r : Fin n → EReal) (a : Fin n) :
    ∃ i : Fin n, (∀ j, round R r j = if j = i then R else r j) ∧ r i = Finset.univ.sup r ∧
      ∀ k, r k = Finset.univ.sup r → i ≤ k := by
  obtain ⟨i, h1, h2, h3⟩ := first_spec hn r a
  refine ⟨i, fun j => ?_, h2, h3⟩
  unfold round
  rw [h1]
  by_cases h : j = i
  · rw [if_pos h, if_pos (by rw [h])]
  · rw [if_neg h, if_neg]
    intro e
    apply h
    have : (j.val : ℝ) = (i.val : ℝ) := EReal.coe_injective e
    exact Fin.ext (by exact_mod_cast this)

variable (R : EReal) (b : Fin n → EReal) (live : Fin n → Prop)

/-- What holds after `m` rounds: `T` are the blocks taken. -/
def Taken (m : Nat) (r : Fin n → EReal) (T : Finset (Fin n)) : Prop :=
  (∀ j ∈ T, live j) ∧ (∀ j, r j = if j ∈ T then R else b j) ∧ (∀ k ∈ T, ∀ j, live j → j ∉ T → bef b k j) ∧
    (T.card = m ∨ (T.card ≤ m ∧ ∀ j, live j → j ∈ T))

theorem taken_round (hn : n ≤ 128) (hlive : ∀ j, live j → R < b j) (hdead : ∀ j, ¬live j → b j ≤ R) (z : Fin n)
    (hz : ¬live z) (hbz : b z = R) (m : Nat) (r : Fin n → EReal) (T : Finset (Fin n)) (h : Taken R b live m r T) :
    ∃ T', Taken R b live (m + 1) (round R r) T' := by
  obtain ⟨h1, h2, h3, h4⟩ := h
  obtain ⟨i, e, es, ef⟩ := round_at hn R r z
  have hsup : ∀ k, r k ≤ Finset.univ.sup r := fun k => Finset.le_sup (Finset.mem_univ k)
  by_cases hq : ∃ q, live q ∧ q ∉ T
  · obtain ⟨q, hq1, hq2⟩ := hq
    have hbig : R < r i := by
      rw [es]
      refine lt_of_lt_of_le (hlive q hq1) ?_
      have := hsup q
      rwa [h2, if_neg hq2] at this
    have hiT : i ∉ T := fun hi => by rw [h2, if_pos hi] at hbig; exact lt_irrefl _ hbig
    have hbi : r i = b i := by rw [h2, if_neg hiT]
    have hil : live i := by
      by_contra hc
      exact absurd (hbi ▸ hbig) (not_lt.mpr (hdead i hc))
    refine ⟨insert i T, ?_, fun j => ?_, ?_, ?_⟩
    · intro j hj
      rcases Finset.mem_insert.mp hj with rfl | hj
      · exact hil
      · exact h1 j hj
    · rw [e, h2]
      by_cases hji : j = i
      · rw [if_pos hji, if_pos (Finset.mem_insert.mpr (Or.inl hji))]
      · rw [if_neg hji]
        by_cases hjT : j ∈ T
        · rw [if_pos hjT, if_pos (Finset.mem_insert_of_mem hjT)]
        · rw [if_neg hjT, if_neg]
          intro hc
          rcases Finset.mem_insert.mp hc with hc | hc
          · exact hji hc
          · exact hjT hc
    · intro k hk j hj hjT
      have hj1 : j ≠ i := fun hc => hjT (Finset.mem_insert.mpr (Or.inl hc))
      have hj2 : j ∉ T := fun hc => hjT (Finset.mem_insert_of_mem hc)
      rcases Finset.mem_insert.mp hk with rfl | hk
      · have hle : b j ≤ b k := by
          have := hsup j
          rwa [← es, h2, if_neg hj2, hbi] at this
        rcases hle.lt_or_eq with hlt | heq
        · exact Or.inl hlt
        · refine Or.inr ⟨heq.symm, lt_of_le_of_ne (ef j ?_) (Ne.symm hj1)⟩
          rw [h2, if_neg hj2, heq, ← hbi, es]
      · exact h3 k hk j hj hj2
    · rw [Finset.card_insert_of_notMem hiT]
      rcases h4 with h4 | ⟨_, h4⟩
      · exact Or.inl (by omega)
      · exact absurd (h4 q hq1) hq2
  · have hall : ∀ j, live j → j ∈ T := fun j hj => by
      by_contra hc
      exact hq ⟨j, hj, hc⟩
    have hzT : z ∉ T := fun hc => hz (h1 z hc)
    have hle : ∀ k, r k ≤ R := fun k => by
      rw [h2]
      split
      · exact le_refl R
      · next hk => exact hdead k fun hl => hk (hall k hl)
    have hi : r i = R := by
      refine le_antisymm (hle i) ?_
      rw [es, ← hbz]
      have := hsup z
      rwa [h2, if_neg hzT] at this
    refine ⟨T, h1, fun j => ?_, h3, Or.inr ⟨?_, hall⟩⟩
    · rw [e]
      by_cases hji : j = i
      · rw [if_pos hji, ← h2, hji, hi]
      · rw [if_neg hji, h2]
    · rcases h4 with h4 | ⟨h4, _⟩ <;> omega

theorem taken (hn : n ≤ 128) (hlive : ∀ j, live j → R < b j) (hdead : ∀ j, ¬live j → b j ≤ R) (z : Fin n)
    (hz : ¬live z) (hbz : b z = R) (m : Nat) : ∃ T, Taken R b live m ((round R)^[m] b) T := by
  induction m with
  | zero => exact ⟨∅, by simp, by simp, by simp, by simp⟩
  | succ m ih =>
    obtain ⟨T, h⟩ := ih
    rw [Function.iterate_succ_apply']
    exact taken_round R b live hn hlive hdead z hz hbz m _ T h

open Classical in
/-- After `m` rounds the live blocks with fewer than `m` live blocks before them are lowered, the rest are unchanged. -/
theorem rounds (hn : n ≤ 128) (hlive : ∀ j, live j → R < b j) (hdead : ∀ j, ¬live j → b j ≤ R) (z : Fin n)
    (hz : ¬live z) (hbz : b z = R) (m : Nat) (j : Fin n) :
    (round R)^[m] b j =
      if live j ∧ (Finset.univ.filter fun k => live k ∧ bef b k j).card < m then R else b j := by
  obtain ⟨T, h1, h2, h3, h4⟩ := taken R b live hn hlive hdead z hz hbz m
  rw [h2]
  refine if_congr ⟨fun hj => ⟨h1 j hj, ?_⟩, fun ⟨hl, hc⟩ => ?_⟩ rfl rfl
  · have hsub : (Finset.univ.filter fun k => live k ∧ bef b k j) ⊆ T.erase j := by
      intro k hk
      obtain ⟨_, hk1, hk2⟩ := Finset.mem_filter.mp hk
      refine Finset.mem_erase.mpr ⟨fun hc => ?_, ?_⟩
      · rw [hc] at hk2
        exact bef_asymm b j j hk2 hk2
      · by_contra hc
        exact bef_asymm b k j hk2 (h3 j hj k hk1 hc)
    have := Finset.card_le_card hsub
    have := Finset.card_erase_lt_of_mem hj
    rcases h4 with h4 | ⟨h4, _⟩ <;> omega
  · by_contra hj
    rcases h4 with h4 | ⟨_, h4⟩
    · have hsub : T ⊆ (Finset.univ.filter fun k => live k ∧ bef b k j) := fun k hk =>
        Finset.mem_filter.mpr ⟨Finset.mem_univ _, h1 k hk, h3 k hk j hl hj⟩
      have := Finset.card_le_card hsub
      omega
    · exact hj (h4 j hl)

end Select
-- ==== Proof.SelColumn.lean ====
module

public import proofs.«01_k».proof.Proof.SelPieces
public import proofs.«01_k».proof.Proof.Tile
public import proofs.«01_k».proof.Proof.Select

/-! # The selection, one query at a time -/

@[expose] public section

set_option maxRecDepth 16384

noncomputable section

namespace Cert.KernelIdeal.Cmp

open Cert.KernelIdeal Cert.KernelIdeal.Gen Idealize.ShloMosaic Idealize.ShloMosaic.TcCoe Idealize.SL.Sem

/-- The rank of a block that is taken. -/
def lowered : EReal := Ideal.ofBits .f32 0xFF61B1E6#32
/-- The rank below which a block counts as taken. -/
def bar : EReal := Ideal.ofBits .f32 0xF1C9F2CA#32

theorem inf_word : Ideal.ofBits .f32 0x7F800000#32 = ⊤ := by
  simp [Ideal.ofBits, Ideal.ieee]

theorem word_128 : Ideal.ofBits .f32 0x43000000#32 = ((128 : ℝ) : EReal) := by
  simp [Ideal.ofBits, Ideal.ieee]
  norm_num [← EReal.coe_mul]

theorem sitofp_small (n : Nat) (h : n < 2 ^ 20) : (FloatOps.sitofp (F := Ideal) FTy.f32 (BitVec.ofNat 32 n) : EReal) = ((n : ℝ) : EReal) := by
  show (((BitVec.ofNat 32 n).toInt : ℝ) : EReal) = _
  rw [ofNat_eq_ofInt, toInt_ofInt_small _ (by omega) (by omega)]
  norm_cast

theorem cmpi_eq_small (a b : Int) (ha : -2 ^ 31 ≤ a) (ha' : a < 2 ^ 31) (hb : -2 ^ 31 ≤ b) (hb' : b < 2 ^ 31) :
    IntOp.cmpi .eq (BitVec.ofInt 32 a) (BitVec.ofInt 32 b) = if a = b then 1#1 else 0#1 := by
  have e : (BitVec.ofInt 32 a = BitVec.ofInt 32 b) ↔ a = b := by
    constructor
    · intro h
      rw [← toInt_ofInt_small a ha ha', ← toInt_ofInt_small b hb hb', h]
    · rintro rfl; rfl
  show BitVec.ofBool (BitVec.ofInt 32 a == BitVec.ofInt 32 b) = _
  by_cases h : a = b
  · rw [if_pos h, h]; simp
  · rw [if_neg h, beq_eq_false_iff_ne.mpr (fun h' => h (e.mp h'))]; rfl

theorem ori_ite (p q : Prop) [Decidable p] [Decidable q] : IntOp.ori (if p then 1#1 else 0#1) (if q then 1#1 else 0#1) =
    if p ∨ q then 1#1 else 0#1 := by
  by_cases hp : p <;> by_cases hq : q <;> simp [hp, hq, IntOp.ori]

theorem andi_ite (p q : Prop) [Decidable p] [Decidable q] : IntOp.andi (if p then 1#1 else 0#1) (if q then 1#1 else 0#1) =
    if p ∧ q then 1#1 else 0#1 := by
  by_cases hp : p <;> by_cases hq : q <;> simp [hp, hq, IntOp.andi]

/-- The word of the query's block compared with a block's. -/
theorem forced_word (j c : Nat) (hj : j < 2 ^ 20) (hc : c < 2 ^ 20) :
    IntOp.ori (IntOp.ori (IntOp.cmpi CmpIPredicate.eq (BitVec.ofNat 32 j) 0#32)
        (IntOp.cmpi CmpIPredicate.eq (BitVec.ofNat 32 j) (BitVec.ofNat 32 c)))
      (IntOp.cmpi CmpIPredicate.eq (BitVec.ofNat 32 j) (IntOp.subi (BitVec.ofNat 32 c) 1#32)) =
    if j = 0 ∨ j = c ∨ j + 1 = c then 1#1 else 0#1 := by
  have e : IntOp.subi (BitVec.ofNat 32 c) 1#32 = BitVec.ofInt 32 ((c : Int) - 1) := by
    rw [sub_eq_add_neg, BitVec.ofInt_add, BitVec.ofInt_neg, ← ofNat_eq_ofInt]
    simp only [IntOp.subi, BitVec.sub_eq_add_neg]
    rfl
  rw [e, show (0#32) = BitVec.ofInt 32 0 from rfl, ofNat_eq_ofInt j, ofNat_eq_ofInt c,
    cmpi_eq_small _ _ (by omega) (by omega) (by omega) (by omega), cmpi_eq_small _ _ (by omega) (by omega) (by omega) (by omega),
    cmpi_eq_small _ _ (by omega) (by omega) (by omega) (by omega)]
  have i0 : ((j : Int) = 0) ↔ j = 0 := by omega
  have i1 : ((j : Int) = (c : Int)) ↔ j = c := by omega
  have i2 : ((j : Int) = (c : Int) - 1) ↔ j + 1 = c := by omega
  simp only [i0, i1, i2]
  rw [ori_ite, ori_ite]
  simp only [or_assoc]

/-- A small word's shift by six. -/
theorem shift_word (st q : Nat) (h : st + q < 2 ^ 20) :
    IntOp.shrui .vector (IntOp.addi (BitVec.ofNat 32 st) (BitVec.ofNat 32 q)) 6#32 = BitVec.ofNat 32 ((st + q) / 64) := by
  apply BitVec.eq_of_toNat_eq
  simp [IntOp.shrui, IntOp.addi, Nat.shiftRight_eq_div_pow]
  omega

theorem curRow_apply (st : Nat) (hst : st < 2 ^ 19) (q : Fin 256) :
    curRow (BitVec.ofNat 32 st) (ix2 0 q) = BitVec.ofNat 32 ((st + q.val) / 64) := by
  unfold curRow
  pointwise
  exact shift_word st q.val (by omega)

theorem invRow_apply (acc : FVec Ideal S208x1024 .f32) (n : Fin 1024) :
    invRow acc (ix2 0 n) = Ideal.div 1 (max (acc (ix2 64 n)) tiny) := by
  unfold invRow tiny
  pointwise

/-- A block's weight over the group's heads, from the accumulator's column of each head. -/
def impOf (st : Nat) (acc : FVec Ideal S208x1024 .f32) (q : Fin 256) (j : Nat) : EReal :=
  if 31 ≤ st + q.val then
    if h : j < 128 then
      ((acc (ix2 (⟨80 + j, by omega⟩ : Fin 208) (⟨q.val, by omega⟩ : Fin 1024)) * Ideal.div 1 (max (acc (ix2 64 (⟨q.val, by omega⟩ : Fin 1024))) tiny) +
        acc (ix2 (⟨80 + j, by omega⟩ : Fin 208) (⟨256 + q.val, by omega⟩ : Fin 1024)) * Ideal.div 1 (max (acc (ix2 64 (⟨256 + q.val, by omega⟩ : Fin 1024))) tiny)) +
        acc (ix2 (⟨80 + j, by omega⟩ : Fin 208) (⟨512 + q.val, by omega⟩ : Fin 1024)) * Ideal.div 1 (max (acc (ix2 64 (⟨512 + q.val, by omega⟩ : Fin 1024))) tiny)) +
        acc (ix2 (⟨80 + j, by omega⟩ : Fin 208) (⟨768 + q.val, by omega⟩ : Fin 1024)) * Ideal.div 1 (max (acc (ix2 64 (⟨768 + q.val, by omega⟩ : Fin 1024))) tiny)
    else 0
  else 0

/-- The blocks every query of block `c` selects. -/
def Forced (c j : Nat) : Prop := j = 0 ∨ j = c ∨ j + 1 = c

instance (c j : Nat) : Decidable (Forced c j) := by unfold Forced; infer_instance

/-- A block's rank before the rounds, of a query in block `c`. -/
def rankOf (c : Nat) (imp : Nat → EReal) (j : Nat) : EReal :=
  if j ≤ c then if Forced c j then lowered else imp j else ⊥

/-! ## 64 rows -/

theorem round64_apply (r : FVec Ideal S64x256 .f32) (j : Fin 64) (q : Fin 256) :
    round64 r (ix2 j q) = Select.round lowered (fun k : Fin 64 => r (ix2 k q)) j := by
  unfold round64 blk64 Select.round Select.first lowered
  pointwise
  rw [negInf_word, inf_word, word_128]
  rw [sitofp_small _ (by omega)]
  have hs : ∀ k : Fin 64, (FloatOps.sitofp (F := Ideal) FTy.f32 (BitVec.ofNat 32 k.val) : EReal) = ((k.val : ℝ) : EReal) :=
    fun k => sitofp_small _ (by omega)
  simp only [hs]
  rfl

theorem rounds64_apply (r : FVec Ideal S64x256 .f32) (m : Nat) (q : Fin 256) :
    (fun k : Fin 64 => (round64^[m] r) (ix2 k q)) = (Select.round lowered)^[m] (fun k : Fin 64 => r (ix2 k q)) := by
  induction m with
  | zero => rfl
  | succ m ih =>
    rw [Function.iterate_succ_apply', Function.iterate_succ_apply', ← ih]
    funext k
    exact round64_apply _ k q

theorem forced64_apply (st : Nat) (hst : st < 2 ^ 13) (j : Fin 64) (q : Fin 256) :
    forced64 (BitVec.ofNat 32 st) (ix2 j q) = if Forced ((st + q.val) / 64) j.val then 1#1 else 0#1 := by
  unfold forced64 blk64
  pointwise
  rw [curRow_apply st (by omega), forced_word _ _ (by omega) (by omega)]
  rfl

theorem imp64_apply (st : Nat) (hst : st < 2 ^ 13) (acc : FVec Ideal S208x1024 .f32) (j : Fin 64) (q : Fin 256) :
    imp64 (BitVec.ofNat 32 st) acc (ix2 j q) = impOf st acc q j.val := by
  unfold imp64 share64
  generalize hK : hasKey (BitVec.ofNat 32 st) = K
  generalize hI : invRow acc = I
  pointwise
  subst hK hI
  rw [hasKey_apply st (by omega), invRow_apply, invRow_apply, invRow_apply, invRow_apply]
  unfold impOf
  rw [dif_pos (by omega)]
  by_cases h : 31 ≤ st + q.val
  · rw [if_pos h, if_pos h]; rfl
  · rw [if_neg h, if_neg h]; rfl

theorem rank64_apply (st : Nat) (hst : st < 2 ^ 13) (acc : FVec Ideal S208x1024 .f32) (j : Fin 64) (q : Fin 256) :
    rank64 (BitVec.ofNat 32 st) acc (ix2 j q) = rankOf ((st + q.val) / 64) (impOf st acc q) j.val := by
  unfold rank64 blk64
  generalize hK : curRow (BitVec.ofNat 32 st) = K
  generalize hG : forced64 (BitVec.ofNat 32 st) = G
  generalize hI : imp64 (BitVec.ofNat 32 st) acc = I
  pointwise
  subst hK hG hI
  rw [curRow_apply st (by omega), forced64_apply st hst, imp64_apply st hst, neg_named, ofNat_eq_ofInt j.val, ofNat_eq_ofInt,
    cmpi_sle_small _ _ (by omega) (by omega) (by omega) (by omega)]
  unfold rankOf lowered
  by_cases h : j.val ≤ (st + q.val) / 64
  · rw [if_pos h, if_pos (by omega)]
    by_cases h' : Forced ((st + q.val) / 64) j.val
    · rw [if_pos h', if_pos h']; rfl
    · rw [if_neg h', if_neg h']; rfl
  · rw [if_neg h, if_neg (by omega)]; rfl

theorem sel64_apply (st : Nat) (hst : st < 2 ^ 13) (acc : FVec Ideal S208x1024 .f32) (j : Fin 64) (q : Fin 256) :
    sel64 (BitVec.ofNat 32 st) acc (ix2 j q) =
      if j.val ≤ (st + q.val) / 64 ∧ (Select.round lowered)^[13] (fun k : Fin 64 => rankOf ((st + q.val) / 64) (impOf st acc q) k.val) j < bar
      then 1 else 0 := by
  have h := congrFun (rounds64_apply (rank64 (BitVec.ofNat 32 st) acc) 13 q) j
  simp only [rank64_apply st hst] at h
  rw [← h]
  unfold sel64 blk64
  generalize hK : curRow (BitVec.ofNat 32 st) = K
  generalize hG : round64^[13] (rank64 (BitVec.ofNat 32 st) acc) = G
  pointwise
  subst hK
  rw [curRow_apply st (by omega), ofNat_eq_ofInt j.val, ofNat_eq_ofInt,
    cmpi_sle_small _ _ (by omega) (by omega) (by omega) (by omega)]
  unfold bar
  by_cases h : j.val ≤ (st + q.val) / 64 <;> by_cases h' : G (ix2 j q) < Ideal.ofBits FTy.f32 4056543946#32
  · rw [if_pos (by omega), if_pos ⟨h, h'⟩]; simp [h']; rfl
  · rw [if_pos (by omega), if_neg (fun e => h' e.2)]; simp [h']; rfl
  · rw [if_neg (by omega), if_neg (fun e => h e.1)]; simp [h']; rfl
  · rw [if_neg (by omega), if_neg (fun e => h e.1)]; simp [h']; rfl

/-! ## 128 rows -/

theorem round128_apply (r : FVec Ideal S128x256 .f32) (j : Fin 128) (q : Fin 256) :
    round128 r (ix2 j q) = Select.round lowered (fun k : Fin 128 => r (ix2 k q)) j := by
  unfold round128 blk128 Select.round Select.first lowered
  pointwise
  rw [negInf_word, inf_word, word_128]
  rw [sitofp_small _ (by omega)]
  have hs : ∀ k : Fin 128, (FloatOps.sitofp (F := Ideal) FTy.f32 (BitVec.ofNat 32 k.val) : EReal) = ((k.val : ℝ) : EReal) :=
    fun k => sitofp_small _ (by omega)
  simp only [hs]
  rfl

theorem rounds128_apply (r : FVec Ideal S128x256 .f32) (m : Nat) (q : Fin 256) :
    (fun k : Fin 128 => (round128^[m] r) (ix2 k q)) = (Select.round lowered)^[m] (fun k : Fin 128 => r (ix2 k q)) := by
  induction m with
  | zero => rfl
  | succ m ih =>
    rw [Function.iterate_succ_apply', Function.iterate_succ_apply', ← ih]
    funext k
    exact round128_apply _ k q

theorem forced128_apply (st : Nat) (hst : st < 2 ^ 13) (j : Fin 128) (q : Fin 256) :
    forced128 (BitVec.ofNat 32 st) (ix2 j q) = if Forced ((st + q.val) / 64) j.val then 1#1 else 0#1 := by
  unfold forced128 blk128
  pointwise
  rw [curRow_apply st (by omega), forced_word _ _ (by omega) (by omega)]
  rfl

theorem imp128_apply (st : Nat) (hst : st < 2 ^ 13) (acc : FVec Ideal S208x1024 .f32) (j : Fin 128) (q : Fin 256) :
    imp128 (BitVec.ofNat 32 st) acc (ix2 j q) = impOf st acc q j.val := by
  unfold imp128 share128
  generalize hK : hasKey (BitVec.ofNat 32 st) = K
  generalize hI : invRow acc = I
  pointwise
  subst hK hI
  rw [hasKey_apply st (by omega), invRow_apply, invRow_apply, invRow_apply, invRow_apply]
  unfold impOf
  rw [dif_pos (by omega)]
  by_cases h : 31 ≤ st + q.val
  · rw [if_pos h, if_pos h]; rfl
  · rw [if_neg h, if_neg h]; rfl

theorem rank128_apply (st : Nat) (hst : st < 2 ^ 13) (acc : FVec Ideal S208x1024 .f32) (j : Fin 128) (q : Fin 256) :
    rank128 (BitVec.ofNat 32 st) acc (ix2 j q) = rankOf ((st + q.val) / 64) (impOf st acc q) j.val := by
  unfold rank128 blk128
  generalize hK : curRow (BitVec.ofNat 32 st) = K
  generalize hG : forced128 (BitVec.ofNat 32 st) = G
  generalize hI : imp128 (BitVec.ofNat 32 st) acc = I
  pointwise
  subst hK hG hI
  rw [curRow_apply st (by omega), forced128_apply st hst, imp128_apply st hst, neg_named, ofNat_eq_ofInt j.val, ofNat_eq_ofInt,
    cmpi_sle_small _ _ (by omega) (by omega) (by omega) (by omega)]
  unfold rankOf lowered
  by_cases h : j.val ≤ (st + q.val) / 64
  · rw [if_pos h, if_pos (by omega)]
    by_cases h' : Forced ((st + q.val) / 64) j.val
    · rw [if_pos h', if_pos h']; rfl
    · rw [if_neg h', if_neg h']; rfl
  · rw [if_neg h, if_neg (by omega)]; rfl

theorem sel128_apply (st : Nat) (hst : st < 2 ^ 13) (acc : FVec Ideal S208x1024 .f32) (j : Fin 128) (q : Fin 256) :
    sel128 (BitVec.ofNat 32 st) acc (ix2 j q) =
      if j.val ≤ (st + q.val) / 64 ∧ (Select.round lowered)^[13] (fun k : Fin 128 => rankOf ((st + q.val) / 64) (impOf st acc q) k.val) j < bar
      then 1 else 0 := by
  have h := congrFun (rounds128_apply (rank128 (BitVec.ofNat 32 st) acc) 13 q) j
  simp only [rank128_apply st hst] at h
  rw [← h]
  unfold sel128 blk128
  generalize hK : curRow (BitVec.ofNat 32 st) = K
  generalize hG : round128^[13] (rank128 (BitVec.ofNat 32 st) acc) = G
  pointwise
  subst hK
  rw [curRow_apply st (by omega), ofNat_eq_ofInt j.val, ofNat_eq_ofInt,
    cmpi_sle_small _ _ (by omega) (by omega) (by omega) (by omega)]
  unfold bar
  by_cases h : j.val ≤ (st + q.val) / 64 <;> by_cases h' : G (ix2 j q) < Ideal.ofBits FTy.f32 4056543946#32
  · rw [if_pos (by omega), if_pos ⟨h, h'⟩]; simp [h']; rfl
  · rw [if_pos (by omega), if_neg (fun e => h' e.2)]; simp [h']; rfl
  · rw [if_neg (by omega), if_neg (fun e => h e.1)]; simp [h']; rfl
  · rw [if_neg (by omega), if_neg (fun e => h e.1)]; simp [h']; rfl

end Cert.KernelIdeal.Cmp
-- ==== Proof.SelCount.lean ====
module

public import proofs.«01_k».proof.Proof.SelColumn

/-! # Thirteen rounds against the rank of sixteen -/

@[expose] public section

noncomputable section

namespace Cert.KernelIdeal.Cmp

open Cert.KernelIdeal Cert.KernelIdeal.Gen Idealize.ShloMosaic Idealize.ShloMosaic.TcCoe Idealize.SL.Sem

theorem lowered_word : lowered = ((-(14791142 * 2 ^ 104) : ℝ) : EReal) := by
  unfold lowered
  simp [Ideal.ofBits, Ideal.ieee]

theorem bar_word : bar = ((-(13234890 * 2 ^ 77) : ℝ) : EReal) := by
  unfold bar
  simp [Ideal.ofBits, Ideal.ieee]

theorem lowered_lt_bar : lowered < bar := by
  rw [lowered_word, bar_word, EReal.coe_lt_coe_iff]
  norm_num

theorem bar_lt_zero : bar < 0 := by
  rw [bar_word, ← EReal.coe_zero, EReal.coe_lt_coe_iff]
  norm_num

/-- Block `k` comes before block `j` in falling rank, the lower index first among equals. -/
def Before (r : Nat → EReal) (k j : Nat) : Prop := r j < r k ∨ r k = r j ∧ k < j

/-- The reference's rank of a block: the forced ones above all, the later ones below all. -/
def rankRef (top low : EReal) (c : Nat) (imp : Nat → EReal) (j : Nat) : EReal :=
  if j ≤ c then if Forced c j then top else imp j else low

open Classical in
/-- The blocks that come before a block among those that are neither forced nor later. -/
def ahead (c : Nat) (imp : Nat → EReal) (j : Nat) : Finset Nat :=
  (Finset.range (c + 1)).filter fun k => ¬Forced c k ∧ Before imp k j

open Classical in
theorem rank_count (top low : EReal) (c : Nat) (hc : c < 128) (imp : Nat → EReal) (h0 : ∀ j, 0 ≤ imp j) (h1 : ∀ j, imp j < top)
    (hlow : low < 0) (j : Nat) (hj : j ≤ c) :
    ((Finset.range 128).filter fun k => Before (rankRef top low c imp) k j).card < 16 ↔
      Forced c j ∨ (ahead c imp j).card < 13 := by
  have htop : low < top := lt_trans hlow (lt_of_le_of_lt (h0 0) (h1 0))
  by_cases hf : Forced c j
  · simp only [hf, true_or, iff_true]
    have hsub : ((Finset.range 128).filter fun k => Before (rankRef top low c imp) k j) ⊆ {0, c, c - 1} := by
      intro k hk
      obtain ⟨_, hk⟩ := Finset.mem_filter.mp hk
      unfold Before rankRef at hk
      rw [if_pos hj, if_pos hf] at hk
      have : k ≤ c ∧ Forced c k := by
        by_cases hkc : k ≤ c
        · rw [if_pos hkc] at hk
          by_cases hkf : Forced c k
          · exact ⟨hkc, hkf⟩
          · rw [if_neg hkf] at hk
            rcases hk with hk | ⟨hk, _⟩
            · exact absurd hk (not_lt.mpr (h1 k).le)
            · exact absurd hk (h1 k).ne
        · rw [if_neg hkc] at hk
          rcases hk with hk | ⟨hk, _⟩
          · exact absurd hk (not_lt.mpr htop.le)
          · exact absurd hk htop.ne
      obtain ⟨_, h | h | h⟩ := this <;> simp <;> omega
    have := Finset.card_le_card hsub
    have h3 : ({0, c, c - 1} : Finset Nat).card ≤ 3 := Finset.card_le_three
    omega
  · simp only [hf, false_or]
    have hc2 : 2 ≤ c := by
      unfold Forced at hf
      omega
    have e : ((Finset.range 128).filter fun k => Before (rankRef top low c imp) k j) = {0, c, c - 1} ∪ ahead c imp j := by
      ext k
      simp only [Finset.mem_filter, Finset.mem_range, Finset.mem_union, Finset.mem_insert, Finset.mem_singleton, ahead]
      unfold Before rankRef
      rw [if_pos hj, if_neg hf]
      by_cases hkc : k ≤ c
      · rw [if_pos hkc]
        by_cases hkf : Forced c k
        · rw [if_pos hkf]
          have : k = 0 ∨ k = c ∨ k = c - 1 := by
            unfold Forced at hkf
            omega
          exact ⟨fun _ => Or.inl this, fun _ => ⟨by omega, Or.inl (h1 j)⟩⟩
        · rw [if_neg hkf]
          have : ¬(k = 0 ∨ k = c ∨ k = c - 1) := by
            unfold Forced at hkf
            omega
          constructor
          · rintro ⟨_, h⟩
            exact Or.inr ⟨by omega, hkf, h⟩
          · rintro (h | ⟨_, _, h⟩)
            · exact absurd h this
            · exact ⟨by omega, h⟩
      · rw [if_neg hkc]
        constructor
        · rintro ⟨_, h | ⟨h, _⟩⟩
          · exact absurd h (not_lt.mpr (hlow.le.trans (h0 j)))
          · exact absurd h (hlow.trans_le (h0 j)).ne
        · rintro (h | ⟨h, _⟩) <;> omega
    have hd : Disjoint ({0, c, c - 1} : Finset Nat) (ahead c imp j) := by
      rw [Finset.disjoint_left]
      intro k hk hk'
      simp only [Finset.mem_insert, Finset.mem_singleton] at hk
      obtain ⟨_, hk', _⟩ := Finset.mem_filter.mp hk'
      unfold Forced at hk'
      omega
    have h3 : ({0, c, c - 1} : Finset Nat).card = 3 := by
      rw [Finset.card_eq_three]
      exact ⟨0, c, c - 1, by omega, by omega, by omega, rfl⟩
    rw [e, Finset.card_union_of_disjoint hd, h3]
    omega

open Classical in
theorem card_fin (n : Nat) (p : Nat → Prop) [DecidablePred p] : ((Finset.univ : Finset (Fin n)).filter fun k => p k.val).card =
    ((Finset.range n).filter p).card := by
  rw [Finset.card_filter, Finset.card_filter]
  exact Fin.sum_univ_eq_sum_range (fun k => if p k then 1 else 0) n

open Classical in
/-- What the thirteen rounds leave below the bar. -/
theorem rounds_sel (n : Nat) (hn : n ≤ 128) (c : Nat) (hc : c < n) (imp : Nat → EReal) (h0 : ∀ j, 0 ≤ imp j) (j : Fin n) (hj : j.val ≤ c) :
    (Select.round lowered)^[13] (fun k : Fin n => rankOf c imp k.val) j < bar ↔
      Forced c j.val ∨ (ahead c imp j.val).card < 13 := by
  have hl : ∀ k, lowered < imp k := fun k => (lowered_lt_bar.trans bar_lt_zero).trans_le (h0 k)
  have z : Fin n := ⟨0, by omega⟩
  have key := Select.rounds lowered (fun k : Fin n => rankOf c imp k.val) (fun k => k.val ≤ c ∧ ¬Forced c k.val) hn
    (by
      rintro k ⟨h, h'⟩
      simp only [rankOf, if_pos h, if_neg h']
      exact hl _)
    (by
      intro k h
      simp only [rankOf]
      by_cases hk : k.val ≤ c
      · rw [if_pos hk, if_pos (by by_contra h'; exact h ⟨hk, h'⟩)]
      · rw [if_neg hk]; exact bot_le)
    ⟨0, by omega⟩ (fun h => h.2 (Or.inl rfl)) (by simp only [rankOf]; rw [if_pos (Nat.zero_le _), if_pos (show Forced c 0 from Or.inl rfl)]) 13 j
  by_cases hf : Forced c j.val
  · rw [key, if_neg (fun h => h.1.2 hf)]
    simp only [hf, true_or, iff_true, rankOf, if_pos hj, if_true]
    exact lowered_lt_bar
  · have e : ((Finset.univ : Finset (Fin n)).filter fun k => (k.val ≤ c ∧ ¬Forced c k.val) ∧
        Select.bef (fun k : Fin n => rankOf c imp k.val) k j).card = (ahead c imp j.val).card := by
      have e1 : ((Finset.univ : Finset (Fin n)).filter fun k => (k.val ≤ c ∧ ¬Forced c k.val) ∧
          Select.bef (fun k : Fin n => rankOf c imp k.val) k j) =
          ((Finset.univ : Finset (Fin n)).filter fun k => (k.val ≤ c ∧ ¬Forced c k.val) ∧ Before imp k.val j.val) := by
        apply Finset.filter_congr
        rintro k -
        apply and_congr_right
        rintro ⟨h, h'⟩
        unfold Select.bef Before
        simp only [rankOf, if_pos hj, if_neg hf, if_pos h, if_neg h', Fin.lt_def]
      rw [e1, card_fin n (fun k => (k ≤ c ∧ ¬Forced c k) ∧ Before imp k j.val)]
      congr 1
      ext k
      simp only [Finset.mem_filter, Finset.mem_range, ahead]
      constructor
      · rintro ⟨_, ⟨h, h'⟩, h''⟩
        exact ⟨by omega, h', h''⟩
      · rintro ⟨h, h', h''⟩
        exact ⟨by omega, ⟨by omega, h'⟩, h''⟩
    have key' : (Select.round lowered)^[13] (fun k : Fin n => rankOf c imp k.val) j =
        if (j.val ≤ c ∧ ¬Forced c j.val) ∧ (ahead c imp j.val).card < 13 then lowered else rankOf c imp j.val := by
      rw [key, ← e]
      congr!
    rw [key']
    by_cases h : (ahead c imp j.val).card < 13
    · rw [if_pos ⟨⟨hj, hf⟩, h⟩]
      simp only [h, or_true, iff_true]
      exact lowered_lt_bar
    · rw [if_neg (fun h' => h h'.2)]
      simp only [h, hf, or_self, iff_false, not_lt, rankOf, if_pos hj, if_neg hf]
      exact bar_lt_zero.le.trans (h0 _)

end Cert.KernelIdeal.Cmp
-- ==== Proof.SelBlock.lean ====
module

public import proofs.«01_k».proof.Proof.Block
public import proofs.«01_k».proof.Proof.SelCount

/-! # The selected blocks a grid point leaves, and the array after the run -/

@[expose] public section

set_option maxRecDepth 16384

noncomputable section

namespace Cert.KernelIdeal.Cmp

open Cert.KernelIdeal Cert.KernelIdeal.Gen Idealize.ShloMosaic Idealize.ShloMosaic.TcCoe Idealize.SL.Sem

/-- What the rounds over `n` blocks select, of a query in block `c`. -/
def selForm (n c : Nat) (imp : Nat → EReal) (j : Fin n) : EReal :=
  if j.val ≤ c ∧ (Select.round lowered)^[13] (fun k : Fin n => rankOf c imp k.val) j < bar then 1 else 0

/-- A head's accumulated row. -/
def sumOf (st : Nat) (x0 : Vec Ideal S1x512x512 .bf16) (x1 : Vec Ideal S1x2x512x128 .bf16)
    (x2 : Vec Ideal S1x2x208x512 .bf16) (g bi : Fin 2) (n : Fin 1024) (d : Fin 208) : EReal :=
  weighted st (n.val % 256) (slope2 (4 * g.val + n.val / 256)) (scoreOf x0 x1 g bi n) (fun i => x2 (ix4 0 g d i))

/-- A head's share of a block's weight. -/
def shareOf (st : Nat) (x0 : Vec Ideal S1x512x512 .bf16) (x1 : Vec Ideal S1x2x512x128 .bf16)
    (x2 : Vec Ideal S1x2x208x512 .bf16) (g bi : Fin 2) (n : Fin 1024) (d : Fin 208) : EReal :=
  sumOf st x0 x1 x2 g bi n d * Ideal.div 1 (max (sumOf st x0 x1 x2 g bi n 64) tiny)

/-- A block's weight for query `256 * bi + q`, over the heads of group `g`. -/
def impVal (st : Nat) (x0 : Vec Ideal S1x512x512 .bf16) (x1 : Vec Ideal S1x2x512x128 .bf16)
    (x2 : Vec Ideal S1x2x208x512 .bf16) (g bi : Fin 2) (q : Fin 256) (j : Nat) : EReal :=
  if 31 ≤ st + q.val then
    if h : j < 128 then
      ((shareOf st x0 x1 x2 g bi ⟨q.val, by omega⟩ ⟨80 + j, by omega⟩ + shareOf st x0 x1 x2 g bi ⟨256 + q.val, by omega⟩ ⟨80 + j, by omega⟩) +
        shareOf st x0 x1 x2 g bi ⟨512 + q.val, by omega⟩ ⟨80 + j, by omega⟩) + shareOf st x0 x1 x2 g bi ⟨768 + q.val, by omega⟩ ⟨80 + j, by omega⟩
    else 0
  else 0

/-- An entry of the block of selections. -/
def selVal (w : Nat) (x0 : Vec Ideal S1x512x512 .bf16) (x1 : Vec Ideal S1x2x512x128 .bf16)
    (x2 : Vec Ideal S1x2x208x512 .bf16) (g bi : Fin 2) (j : Fin 128) (q : Fin 256) : EReal :=
  have st : Nat := 512 * w + 256 * bi.val
  if w < 8 then
    if h : j.val < 64 then selForm 64 ((st + q.val) / 64) (impVal st x0 x1 x2 g bi q) ⟨j.val, h⟩ else 0
  else selForm 128 ((st + q.val) / 64) (impVal st x0 x1 x2 g bi q) j

/-- The same, of query `l` of the grid point's. -/
def selAt (w : Nat) (x0 : Vec Ideal S1x512x512 .bf16) (x1 : Vec Ideal S1x2x512x128 .bf16)
    (x2 : Vec Ideal S1x2x208x512 .bf16) (g : Fin 2) (j : Fin 128) (l : Fin 512) : EReal :=
  selVal w x0 x1 x2 g ⟨l.val / 256, by omega⟩ j ⟨l.val % 256, by omega⟩

theorem selAt_eq (w : Nat) (x0 : Vec Ideal S1x512x512 .bf16) (x1 : Vec Ideal S1x2x512x128 .bf16)
    (x2 : Vec Ideal S1x2x208x512 .bf16) (g bi : Fin 2) (j : Fin 128) (q : Fin 256) :
    selAt w x0 x1 x2 g j ⟨256 * bi.val + q.val, by omega⟩ = selVal w x0 x1 x2 g bi j q := by
  unfold selAt
  congr 1
  · exact Fin.ext (show (256 * bi.val + q.val) / 256 = bi.val by omega)
  · exact Fin.ext (show (256 * bi.val + q.val) % 256 = q.val by omega)

section

variable (x0 : Vec Ideal S1x512x512 .bf16) (x1 : Vec Ideal S1x2x512x128 .bf16) (x2 : Vec Ideal S1x2x208x512 .bf16)

theorem impOf_acc (st : Nat) (g bi : Fin 2) (acc : FVec Ideal S208x1024 .f32)
    (hacc : ∀ d n, acc (ix2 d n) = sumOf st x0 x1 x2 g bi n d) (q : Fin 256) :
    impOf st acc q = impVal st x0 x1 x2 g bi q := by
  funext j
  unfold impOf impVal shareOf
  simp only [hacc]

theorem none_piece (w : Nat) (hw : w < 8) (g bi : Fin 2) (o : Fin 4 → Nat) (eo : o = ![0, g.val, 64, 256 * bi.val]) (ho)
    (k : S1x1x64x256.Idx) :
    none64 (F := Ideal) k = selAt w x0 x1 x2 ((Rect.unit (s := S1x2x128x512) o S1x1x64x256.size ho).emb k 1)
      ((Rect.unit (s := S1x2x128x512) o S1x1x64x256.size ho).emb k 2) ((Rect.unit (s := S1x2x128x512) o S1x1x64x256.size ho).emb k 3) := by
  subst eo
  idx_vars k
  have e : selVal w x0 x1 x2 g bi ⟨64 + k2.val, by omega⟩ k3 = 0 := by
    unfold selVal
    dsimp only
    rw [if_pos hw, dif_neg (by omega)]
  have z : none64 (F := Ideal) (ix4 k0 k1 k2 k3) = 0 := by
    unfold none64
    obtain rfl : k0 = 0 := Subsingleton.elim _ _
    obtain rfl : k1 = 0 := Subsingleton.elim _ _
    pointwise
  refine (z.trans e.symm).trans ?_
  rw [← selAt_eq]
  congr 1
  · refine Fin.ext ?_
    show g.val = g.val + 1 * k1.val
    omega
  · refine Fin.ext ?_
    show 64 + k2.val = 64 + 1 * k2.val
    omega
  · refine Fin.ext ?_
    show 256 * bi.val + k3.val = 256 * bi.val + 1 * k3.val
    omega

theorem sel64_piece (w : Nat) (hw : w < 8) (g bi : Fin 2) (start : BitVec 32) (hstart : start = BitVec.ofNat 32 (512 * w + 256 * bi.val))
    (acc : FVec Ideal S208x1024 .f32) (hacc : ∀ d n, acc (ix2 d n) = sumOf (512 * w + 256 * bi.val) x0 x1 x2 g bi n d)
    (o : Fin 4 → Nat) (eo : o = ![0, g.val, 0, 256 * bi.val]) (ho) (k : S1x1x64x256.Idx) :
    selt64 start acc k = selAt w x0 x1 x2 ((Rect.unit (s := S1x2x128x512) o S1x1x64x256.size ho).emb k 1)
      ((Rect.unit (s := S1x2x128x512) o S1x1x64x256.size ho).emb k 2) ((Rect.unit (s := S1x2x128x512) o S1x1x64x256.size ho).emb k 3) := by
  subst eo hstart
  idx_vars k
  have e : selVal w x0 x1 x2 g bi ⟨k2.val, by omega⟩ k3 = sel64 (BitVec.ofNat 32 (512 * w + 256 * bi.val)) acc (ix2 k2 k3) := by
    rw [sel64_apply _ (by omega), impOf_acc x0 x1 x2 _ g bi acc hacc]
    unfold selVal selForm
    dsimp only
    rw [if_pos hw, dif_pos (show k2.val < 64 by omega)]
  have z : selt64 (BitVec.ofNat 32 (512 * w + 256 * bi.val)) acc (ix4 k0 k1 k2 k3) = sel64 (BitVec.ofNat 32 (512 * w + 256 * bi.val)) acc (ix2 k2 k3) := by
    unfold selt64
    obtain rfl : k0 = 0 := Subsingleton.elim _ _
    obtain rfl : k1 = 0 := Subsingleton.elim _ _
    generalize sel64 (BitVec.ofNat 32 (512 * w + 256 * bi.val)) acc = A
    pointwise
  refine (z.trans e.symm).trans ?_
  rw [← selAt_eq]
  congr 1
  · refine Fin.ext ?_
    show g.val = g.val + 1 * k1.val
    omega
  · refine Fin.ext ?_
    show k2.val = 0 + 1 * k2.val
    omega
  · refine Fin.ext ?_
    show 256 * bi.val + k3.val = 256 * bi.val + 1 * k3.val
    omega

theorem sel128_piece (w : Nat) (hw : 8 ≤ w ∧ w < 16) (g bi : Fin 2) (start : BitVec 32) (hstart : start = BitVec.ofNat 32 (512 * w + 256 * bi.val))
    (acc : FVec Ideal S208x1024 .f32) (hacc : ∀ d n, acc (ix2 d n) = sumOf (512 * w + 256 * bi.val) x0 x1 x2 g bi n d)
    (o : Fin 4 → Nat) (eo : o = ![0, g.val, 0, 256 * bi.val]) (ho) (k : S1x1x128x256.Idx) :
    selt128 start acc k = selAt w x0 x1 x2 ((Rect.unit (s := S1x2x128x512) o S1x1x128x256.size ho).emb k 1)
      ((Rect.unit (s := S1x2x128x512) o S1x1x128x256.size ho).emb k 2) ((Rect.unit (s := S1x2x128x512) o S1x1x128x256.size ho).emb k 3) := by
  subst eo hstart
  idx_vars k
  have e : selVal w x0 x1 x2 g bi ⟨k2.val, by omega⟩ k3 = sel128 (BitVec.ofNat 32 (512 * w + 256 * bi.val)) acc (ix2 k2 k3) := by
    rw [sel128_apply _ (by omega), impOf_acc x0 x1 x2 _ g bi acc hacc]
    unfold selVal selForm
    dsimp only
    rw [if_neg (by omega)]
  have z : selt128 (BitVec.ofNat 32 (512 * w + 256 * bi.val)) acc (ix4 k0 k1 k2 k3) = sel128 (BitVec.ofNat 32 (512 * w + 256 * bi.val)) acc (ix2 k2 k3) := by
    unfold selt128
    obtain rfl : k0 = 0 := Subsingleton.elim _ _
    obtain rfl : k1 = 0 := Subsingleton.elim _ _
    generalize sel128 (BitVec.ofNat 32 (512 * w + 256 * bi.val)) acc = A
    pointwise
  refine (z.trans e.symm).trans ?_
  rw [← selAt_eq]
  congr 1
  · refine Fin.ext ?_
    show g.val = g.val + 1 * k1.val
    omega
  · refine Fin.ext ?_
    show k2.val = 0 + 1 * k2.val
    omega
  · refine Fin.ext ?_
    show 256 * bi.val + k3.val = 256 * bi.val + 1 * k3.val
    omega

variable (c : Dev nD) (t : Fin grid0.N)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x3 : Vec Ideal S1x32x512 .f32)

theorem selBlock_A (hw : t.val % 16 < 8) (hc0 : ¬cond0_0 (grid0.coords t)) (hc1 : cond0_1 (grid0.coords t)) (hc2 : ¬cond0_2 (grid0.coords t))
    (hc3 : cond0_3 (grid0.coords t)) (hc4 : cond0_4 (grid0.coords t)) (hc5 : ¬cond0_5 (grid0.coords t)) (y : S1x2x128x512.Idx) :
    out0_A_5 c (grid0.coords t) arg2 harg2 arg3 harg3 arg4 harg4 arg5 harg5 arg6 harg6 arg7 harg7 arg8 harg8 arg9 harg9
      arg10 harg10 hc0 hc1 hc2 hc3 hc4 hc5 x0 x1 x2 x3 y = selAt (t.val % 16) x0 x1 x2 (y 1) (y 2) (y 3) := by
  unfold out0_A_5
  rw [View.read_writes_junk_eq_canon]
  refine View.canon_apply_of_pieces (fun y : S1x2x128x512.Idx => selAt (t.val % 16) x0 x1 x2 (y 1) (y 2) (y 3)) _ ?_ y
    (cover0_A_5 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [selPieces_A c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).1)
    (inb_vals 0 (512 * (t.val % 16) + 256 * (0 : Fin 2).val) (by omega) _ (off_vals t 0).1)
    (inb_keys 1 (512 * (t.val % 16) + 256 * (0 : Fin 2).val) (by omega) _ (off_keys t 0).2.1)
    (inb_vals 1 (512 * (t.val % 16) + 256 * (0 : Fin 2).val) (by omega) _ (off_vals t 0).2.1)
    (inb_keys 0 (512 * (t.val % 16) + 256 * (1 : Fin 2).val) (by omega) _ (off_keys t 1).1)
    (inb_vals 0 (512 * (t.val % 16) + 256 * (1 : Fin 2).val) (by omega) _ (off_vals t 1).1)
    (inb_keys 1 (512 * (t.val % 16) + 256 * (1 : Fin 2).val) (by omega) _ (off_keys t 1).2.1)
    (inb_vals 1 (512 * (t.val % 16) + 256 * (1 : Fin 2).val) (by omega) _ (off_vals t 1).2.1)]
  intro p hp x
  rcases List.mem_cons.mp hp with rfl | hp
  · exact none_piece x0 x1 x2 (t.val % 16) hw 1 1 ![0, 1, 64, 256] rfl inb_S1x2x128x512_S1x1x64x256_0_1_64_256 x
  rcases List.mem_cons.mp hp with rfl | hp
  · exact sel64_piece x0 x1 x2 (t.val % 16) hw 1 1 _ (start_A t).2 _ (fun d n => acc_A_apply arg2 harg2 arg3 harg3 arg4 harg4 x0 x1 x2 (t.val % 16) hw 1 1 _ _ (512 * (t.val % 16) + 256 * (1 : Fin 2).val) rfl (start_A t).2 (nck_A t).2
        _ _ _ _ (off_keys t 1).2.1 (off_vals t 1).2.1 _ _ (none_max_11 arg9) d n)
      ![0, 1, 0, 256] rfl inb_S1x2x128x512_S1x1x64x256_0_1_0_256 x
  rcases List.mem_cons.mp hp with rfl | hp
  · exact none_piece x0 x1 x2 (t.val % 16) hw 0 1 ![0, 0, 64, 256] rfl inb_S1x2x128x512_S1x1x64x256_0_0_64_256 x
  rcases List.mem_cons.mp hp with rfl | hp
  · exact sel64_piece x0 x1 x2 (t.val % 16) hw 0 1 _ (start_A t).2 _ (fun d n => acc_A_apply arg2 harg2 arg3 harg3 arg4 harg4 x0 x1 x2 (t.val % 16) hw 0 1 _ _ (512 * (t.val % 16) + 256 * (1 : Fin 2).val) rfl (start_A t).2 (nck_A t).2
        _ _ _ _ (off_keys t 1).1 (off_vals t 1).1 _ _ (none_max_10 arg9) d n)
      ![0, 0, 0, 256] rfl inb_S1x2x128x512_S1x1x64x256_0_0_0_256 x
  rcases List.mem_cons.mp hp with rfl | hp
  · exact none_piece x0 x1 x2 (t.val % 16) hw 1 0 ![0, 1, 64, 0] rfl inb_S1x2x128x512_S1x1x64x256_0_1_64_0 x
  rcases List.mem_cons.mp hp with rfl | hp
  · exact sel64_piece x0 x1 x2 (t.val % 16) hw 1 0 _ (start_A t).1 _ (fun d n => acc_A_apply arg2 harg2 arg3 harg3 arg4 harg4 x0 x1 x2 (t.val % 16) hw 1 0 _ _ (512 * (t.val % 16) + 256 * (0 : Fin 2).val) rfl (start_A t).1 (nck_A t).1
        _ _ _ _ (off_keys t 0).2.1 (off_vals t 0).2.1 _ _ (none_max_01 arg9) d n)
      ![0, 1, 0, 0] rfl inb_S1x2x128x512_S1x1x64x256_0_1_0_0 x
  rcases List.mem_cons.mp hp with rfl | hp
  · exact none_piece x0 x1 x2 (t.val % 16) hw 0 0 ![0, 0, 64, 0] rfl inb_S1x2x128x512_S1x1x64x256_0_0_64_0 x
  obtain rfl := List.mem_singleton.mp hp
  exact sel64_piece x0 x1 x2 (t.val % 16) hw 0 0 _ (start_A t).1 _ (fun d n => acc_A_apply arg2 harg2 arg3 harg3 arg4 harg4 x0 x1 x2 (t.val % 16) hw 0 0 _ _ (512 * (t.val % 16) + 256 * (0 : Fin 2).val) rfl (start_A t).1 (nck_A t).1
        _ _ _ _ (off_keys t 0).1 (off_vals t 0).1 _ _ (none_max_00 arg9) d n)
      ![0, 0, 0, 0] rfl inb_S1x2x128x512_S1x1x64x256_0_0_0_0 x

theorem selBlock_B (hc0 : cond0_0 (grid0.coords t)) (hc1 : ¬cond0_1 (grid0.coords t)) (hc2 : cond0_2 (grid0.coords t))
    (hc3 : ¬cond0_3 (grid0.coords t)) (hc4 : ¬cond0_4 (grid0.coords t)) (hc5 : cond0_5 (grid0.coords t)) (y : S1x2x128x512.Idx) :
    out0_B_5 c (grid0.coords t) arg2 harg2 arg3 harg3 arg4 harg4 arg5 harg5 arg6 harg6 arg7 harg7 arg8 harg8 arg9 harg9
      arg10 harg10 hc0 hc1 hc2 hc3 hc4 hc5 x0 x1 x2 x3 y = selAt (t.val % 16) x0 x1 x2 (y 1) (y 2) (y 3) := by
  unfold out0_B_5
  rw [View.read_writes_junk_eq_canon]
  refine View.canon_apply_of_pieces (fun y : S1x2x128x512.Idx => selAt (t.val % 16) x0 x1 x2 (y 1) (y 2) (y 3)) _ ?_ y
    (cover0_B_5 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [selPieces_B c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).2.2.1)
    (inb_vals 0 (512 * (t.val % 16) + 256 * (0 : Fin 2).val) (by omega) _ (off_vals t 0).2.2.1)
    (inb_keys 1 (512 * (t.val % 16) + 256 * (0 : Fin 2).val) (by omega) _ (off_keys t 0).2.2.2)
    (inb_vals 1 (512 * (t.val % 16) + 256 * (0 : Fin 2).val) (by omega) _ (off_vals t 0).2.2.2)
    (inb_keys 0 (512 * (t.val % 16) + 256 * (1 : Fin 2).val) (by omega) _ (off_keys t 1).2.2.1)
    (inb_vals 0 (512 * (t.val % 16) + 256 * (1 : Fin 2).val) (by omega) _ (off_vals t 1).2.2.1)
    (inb_keys 1 (512 * (t.val % 16) + 256 * (1 : Fin 2).val) (by omega) _ (off_keys t 1).2.2.2)
    (inb_vals 1 (512 * (t.val % 16) + 256 * (1 : Fin 2).val) (by omega) _ (off_vals t 1).2.2.2)]
  intro p hp x
  rcases List.mem_cons.mp hp with rfl | hp
  · exact sel128_piece x0 x1 x2 (t.val % 16) ⟨by by_contra h; exact absurd hc0 (fun h' => h ((hcond0_0 t).mp h')), by omega⟩ 1 1 _ (start_B t).2 _ (fun d n => acc_B_apply arg2 harg2 arg3 harg3 arg4 harg4 x0 x1 x2 (t.val % 16) (by omega) 1 1 _ _ (512 * (t.val % 16) + 256 * (1 : Fin 2).val) rfl (start_B t).2 (nck_B t).2
        _ _ _ _ (off_keys t 1).2.2.2 (off_vals t 1).2.2.2 _ _ (head_max_11 c (grid0.coords t) arg2 harg2 arg3 harg3 arg9 x0 x1)
        (head_acc_11 c (grid0.coords t) arg2 harg2 arg3 harg3 arg4 harg4 arg10 x0 x1 x2) d n)
      ![0, 1, 0, 256] rfl inb_S1x2x128x512_S1x1x128x256_0_1_0_256 x
  rcases List.mem_cons.mp hp with rfl | hp
  · exact sel128_piece x0 x1 x2 (t.val % 16) ⟨by by_contra h; exact absurd hc0 (fun h' => h ((hcond0_0 t).mp h')), by omega⟩ 0 1 _ (start_B t).2 _ (fun d n => acc_B_apply arg2 harg2 arg3 harg3 arg4 harg4 x0 x1 x2 (t.val % 16) (by omega) 0 1 _ _ (512 * (t.val % 16) + 256 * (1 : Fin 2).val) rfl (start_B t).2 (nck_B t).2
        _ _ _ _ (off_keys t 1).2.2.1 (off_vals t 1).2.2.1 _ _ (head_max_10 c (grid0.coords t) arg2 harg2 arg3 harg3 arg9 x0 x1)
        (head_acc_10 c (grid0.coords t) arg2 harg2 arg3 harg3 arg4 harg4 arg10 x0 x1 x2) d n)
      ![0, 0, 0, 256] rfl inb_S1x2x128x512_S1x1x128x256_0_0_0_256 x
  rcases List.mem_cons.mp hp with rfl | hp
  · exact sel128_piece x0 x1 x2 (t.val % 16) ⟨by by_contra h; exact absurd hc0 (fun h' => h ((hcond0_0 t).mp h')), by omega⟩ 1 0 _ (start_B t).1 _ (fun d n => acc_B_apply arg2 harg2 arg3 harg3 arg4 harg4 x0 x1 x2 (t.val % 16) (by omega) 1 0 _ _ (512 * (t.val % 16) + 256 * (0 : Fin 2).val) rfl (start_B t).1 (nck_B t).1
        _ _ _ _ (off_keys t 0).2.2.2 (off_vals t 0).2.2.2 _ _ (head_max_01 c (grid0.coords t) arg2 harg2 arg3 harg3 arg9 x0 x1)
        (head_acc_01 c (grid0.coords t) arg2 harg2 arg3 harg3 arg4 harg4 arg10 x0 x1 x2) d n)
      ![0, 1, 0, 0] rfl inb_S1x2x128x512_S1x1x128x256_0_1_0_0 x
  obtain rfl := List.mem_singleton.mp hp
  exact sel128_piece x0 x1 x2 (t.val % 16) ⟨by by_contra h; exact absurd hc0 (fun h' => h ((hcond0_0 t).mp h')), by omega⟩ 0 0 _ (start_B t).1 _ (fun d n => acc_B_apply arg2 harg2 arg3 harg3 arg4 harg4 x0 x1 x2 (t.val % 16) (by omega) 0 0 _ _ (512 * (t.val % 16) + 256 * (0 : Fin 2).val) rfl (start_B t).1 (nck_B t).1
        _ _ _ _ (off_keys t 0).2.2.1 (off_vals t 0).2.2.1 _ _ (head_max_00 c (grid0.coords t) arg2 harg2 arg3 harg3 arg9 x0 x1)
        (head_acc_00 c (grid0.coords t) arg2 harg2 arg3 harg3 arg4 harg4 arg10 x0 x1 x2) d n)
      ![0, 0, 0, 0] rfl inb_S1x2x128x512_S1x1x128x256_0_0_0_0 x

end

/-- The selected blocks, from the kernel's operands. -/
def osel (A0 : Vec Ideal S2x512x8192 .bf16) (A1 : Vec Ideal S2x2x512x128 .bf16) (A2 : Vec Ideal S2x2x208x512 .bf16) :
    Vec Ideal S2x2x128x8192 .bf16 := fun y =>
  have b : Fin 2 := y 0
  have t : Fin 8192 := y 3
  have w : Fin 16 := ⟨t.val / 512, by omega⟩
  selAt w.val (cut0 A0 b w) (cut1 A1 b) (cut2 A2 b) (y 1) (y 2) ⟨t.val % 512, by omega⟩

theorem osel_query (A0 : Vec Ideal S2x512x8192 .bf16) (A1 : Vec Ideal S2x2x512x128 .bf16) (A2 : Vec Ideal S2x2x208x512 .bf16)
    (b g : Fin 2) (j : Fin 128) (w : Fin 16) (l : Fin 512) :
    osel A0 A1 A2 (ix4 b g j (query w l)) = selAt w.val (cut0 A0 b w) (cut1 A1 b) (cut2 A2 b) g j l := by
  have hw : (⟨(512 * w.val + l.val) / 512, by omega⟩ : Fin 16) = w := Fin.ext (show (512 * w.val + l.val) / 512 = w.val by omega)
  have hl : (⟨(512 * w.val + l.val) % 512, by omega⟩ : Fin 512) = l := Fin.ext (show (512 * w.val + l.val) % 512 = l.val by omega)
  show selAt (⟨(512 * w.val + l.val) / 512, by omega⟩ : Fin 16).val
    (cut0 A0 b ⟨(512 * w.val + l.val) / 512, by omega⟩) (cut1 A1 b) (cut2 A2 b) g j ⟨(512 * w.val + l.val) % 512, by omega⟩ = _
  rw [hw, hl]

theorem idx5 : ∀ t : Fin cfg0.N, win0_5.index t = ![t.val / 16, 0, 0, t.val % 16] :=
  (by decide +kernel : ∀ t : Fin grid0.N, _)

variable (m : (ℓ : Loc nD τ sig) → Buf (Elt Ideal) ℓ) (c : Dev nD)

/-- What a point writes back, at an index of its block. -/
theorem selFlushed_apply (t : Fin cfg0.N) (y : S1x2x128x512.Idx) :
    (outsAt0 m c t.val t.isLt).2.1 y = selAt (t.val % 16) (iblk m c 0 t) (iblk m c 1 t) (iblk m c 2 t) (y 1) (y 2) (y 3) := by
  by_cases h : 8 ≤ t.val % 16
  · have h1 : ¬t.val % 16 ≤ 7 := by omega
    have e : (outsAt0 m c t.val t.isLt).2.1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) (iblk m c 0 t) (iblk m c 1 t) (iblk m c 2 t) (iblk m c 3 t) := by
      rw [outsAt0_B m c t h h1 h h1 h1 h]
    rw [e]
    exact selBlock_B (iblk m c 0 t) (iblk m c 1 t) (iblk m c 2 t) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 3 t)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) y
  · have h1 : t.val % 16 ≤ 7 := by omega
    have e : (outsAt0 m c t.val t.isLt).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h' => h ((hcond0_0 t).mp h')) ((hcond0_1 t).mpr h1) (fun h' => h ((hcond0_2 t).mp h')) ((hcond0_3 t).mpr h1) ((hcond0_4 t).mpr h1) (fun h' => h ((hcond0_5 t).mp h')) (iblk m c 0 t) (iblk m c 1 t) (iblk m c 2 t) (iblk m c 3 t) := by
      rw [outsAt0_A m c t h h1 h h1 h1 h]
    rw [e]
    exact selBlock_A (iblk m c 0 t) (iblk m c 1 t) (iblk m c 2 t) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 3 t) (by omega)
      (fun h' => h ((hcond0_0 t).mp h')) ((hcond0_1 t).mpr h1) (fun h' => h ((hcond0_2 t).mp h')) ((hcond0_3 t).mpr h1) ((hcond0_4 t).mpr h1) (fun h' => h ((hcond0_5 t).mp h')) y

theorem selFinal : (dats m 0 c).arrAt 5 cfg0.N =
    osel (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (selFlushed_apply m c t y).trans ?_
  rw [blk0, blk1, blk2]
  refine (osel_query _ _ _ ⟨t.val / 16, by have h : t.val < cfg0.grid.N := t.isLt; have := points; omega⟩ (y 1) (y 2) ⟨t.val % 16, by omega⟩ (y 3)).symm.trans ?_
  refine congrArg _ ?_
  blk_ext [idx5 t]

end Cert.KernelIdeal.Cmp
-- ==== Proof.SelRef.lean ====
module

public import proofs.«01_k».proof.Proof.Ref
public import proofs.«01_k».proof.Proof.SelCount

/-! # What the reference selects -/

@[expose] public section

set_option maxRecDepth 16384

noncomputable section

namespace Cert.ReferenceIdeal.Cmp

open Cert.ReferenceIdeal Cert.ReferenceIdeal.Gen Cert.ReferenceIdeal.Read Idealize.ShloMosaic Idealize.ShloMosaic.TcCoe Idealize.SL.Sem
open Cert.KernelIdeal.Cmp (ori_ite andi_ite cmpi_eq_small cmpi_sle_small ofNat_eq_ofInt Forced Before rankRef forced_word)

variable (x0 : (⟨S2x512x8192, .bf16⟩ : BufTy).Contents (Elt Ideal)) (x1 : (⟨S2x2x512x128, .bf16⟩ : BufTy).Contents (Elt Ideal))

/-- Whether compressed key `i` overlaps block `j`. -/
def Over (i j : Nat) : Prop := 16 * i < 64 * j + 64 ∧ 64 * j ≤ 16 * i + 31

instance (i j : Nat) : Decidable (Over i j) := by unfold Over; infer_instance

/-- A block's weight over the group's heads. -/
def impR (b g : Fin 2) (t : Fin 8192) (j : Nat) : EReal :=
  ∑ h : Fin 4, ∑ i : Fin 512, Ideal.div (probR x0 x1 b g h t i) (max (∑ i : Fin 512, probR x0 x1 b g h t i) Cert.KernelIdeal.Cmp.tiny) *
    if Over i.val j then 1 else 0

theorem cmpi_slt_small (a b : Int) (ha : -2 ^ 31 ≤ a) (ha' : a < 2 ^ 31) (hb : -2 ^ 31 ≤ b) (hb' : b < 2 ^ 31) :
    IntOp.cmpi .slt (BitVec.ofInt 32 a) (BitVec.ofInt 32 b) = if a < b then 1#1 else 0#1 := by
  have : (BitVec.ofInt 32 a).slt (BitVec.ofInt 32 b) = decide (a < b) := by
    rw [BitVec.slt, Cert.KernelIdeal.Cmp.toInt_ofInt_small _ ha ha', Cert.KernelIdeal.Cmp.toInt_ofInt_small _ hb hb']
  show BitVec.ofBool ((BitVec.ofInt 32 a).slt (BitVec.ofInt 32 b)) = _
  rw [this]
  by_cases h : a < b <;> simp [h]

theorem cmpi_sge_small (a b : Int) (ha : -2 ^ 31 ≤ a) (ha' : a < 2 ^ 31) (hb : -2 ^ 31 ≤ b) (hb' : b < 2 ^ 31) :
    IntOp.cmpi .sge (BitVec.ofInt 32 a) (BitVec.ofInt 32 b) = if b ≤ a then 1#1 else 0#1 := by
  have : (BitVec.ofInt 32 b).sle (BitVec.ofInt 32 a) = decide (b ≤ a) := by
    rw [BitVec.sle, Cert.KernelIdeal.Cmp.toInt_ofInt_small _ ha ha', Cert.KernelIdeal.Cmp.toInt_ofInt_small _ hb hb']
  show BitVec.ofBool ((BitVec.ofInt 32 b).sle (BitVec.ofInt 32 a)) = _
  rw [this]
  by_cases h : b ≤ a <;> simp [h]

theorem mul_word (n m k : Nat) (h : n * m + k < 2 ^ 20) :
    IntOp.addi (IntOp.muli (BitVec.ofNat 32 n) (BitVec.ofNat 32 m)) (BitVec.ofNat 32 k) = BitVec.ofInt 32 ((n * m + k : Nat) : Int) := by
  rw [BitVec.ofInt_natCast]
  apply BitVec.eq_of_toNat_eq
  simp [IntOp.addi, IntOp.muli]

theorem mul_word' (n m : Nat) :
    IntOp.muli (BitVec.ofNat 32 n) (BitVec.ofNat 32 m) = BitVec.ofInt 32 ((n * m : Nat) : Int) := by
  rw [BitVec.ofInt_natCast]
  apply BitVec.eq_of_toNat_eq
  simp [IntOp.muli]

theorem over_word (i j : Nat) (hi : i < 512) (hj : j < 128) : IntOp.andi
        (IntOp.cmpi CmpIPredicate.slt (IntOp.muli (BitVec.ofNat 32 i) 16#32)
          (IntOp.addi (IntOp.muli (BitVec.ofNat 32 j) 64#32) 64#32))
        (IntOp.cmpi CmpIPredicate.sge (IntOp.addi (IntOp.muli (BitVec.ofNat 32 i) 16#32) 31#32)
          (IntOp.muli (BitVec.ofNat 32 j) 64#32)) = if Over i j then 1#1 else 0#1 := by
  rw [mul_word j 64 64 (by omega), mul_word i 16 31 (by omega), mul_word', mul_word',
    cmpi_slt_small _ _ (by omega) (by omega) (by omega) (by omega), cmpi_sge_small _ _ (by omega) (by omega) (by omega) (by omega), andi_ite]
  have : Over i j ↔ (((i * 16 : Nat) : Int) < ((j * 64 + 64 : Nat) : Int) ∧ ((j * 64 : Nat) : Int) ≤ ((i * 16 + 31 : Nat) : Int)) := by
    unfold Over
    omega
  simp only [this]

theorem over_apply (i : Fin 512) (j : Fin 128) : val_main_v70 (F := Ideal) (ix2 i j) = if Over i.val j.val then 1 else 0 := by
  unfold val_main_v70 val_main_call2_v0 val_main_call2_v1 val_main_cst_13 val_main_cst_14 val_main_v69 val_main_v68 val_main_v67 val_main_v66 val_main_v65 val_main_v64 val_main_v63 val_main_v62 val_main_v61 val_main_v60 val_main_v59 val_main_v58 val_main_v57 val_main_c_9 val_main_c_10 val_main_c_11 val_main_c_12
  pointwise
  rw [over_word _ _ (by omega) (by omega)]
  by_cases h : Over i.val j.val
  · rw [if_pos h, if_pos h]; rfl
  · rw [if_neg h, if_neg h]; rfl

theorem imp_apply (b g : Fin 2) (t : Fin 8192) (j : Fin 128) : val_main_v72 (F := Ideal) x0 x1 (ix4 b g t j) = impR x0 x1 b g t j.val := by
  unfold val_main_v72 val_main_cst_15 val_main_v71 val_main_v50 val_main_v49 val_main_v48 val_main_v47 val_main_v46 val_main_v45 val_main_cst_7 val_main_cst_8
  pointwise
  simp only [prob_apply, over_apply]
  rfl

theorem cur_apply (t : Fin 8192) (j : Fin 128) : val_main_v75 (F := Ideal) (ix2 t j) = BitVec.ofNat 32 (t.val / 64) := by
  unfold val_main_v75 val_main_v74 val_main_v73 val_main_c_16
  pointwise
  apply BitVec.eq_of_toNat_eq
  simp [IntOp.shrui, Nat.shiftRight_eq_div_pow]
  omega

theorem forced_apply (t : Fin 8192) (j : Fin 128) : val_main_v84 (F := Ideal) (ix2 t j) = if Forced (t.val / 64) j.val then 1#1 else 0#1 := by
  unfold val_main_v84 val_main_v83 val_main_v82 val_main_v81 val_main_c_18 val_main_v80 val_main_v79 val_main_v78 val_main_v77 val_main_c_17 val_main_v76
  pointwise
  rw [cur_apply]
  exact forced_word _ _ (by omega) (by omega)

theorem causal_apply (t : Fin 8192) (j : Fin 128) : val_main_v85 (F := Ideal) (ix2 t j) = if j.val ≤ t.val / 64 then 1#1 else 0#1 := by
  unfold val_main_v85 val_main_v76
  pointwise
  rw [cur_apply, ofNat_eq_ofInt, ofNat_eq_ofInt, cmpi_sle_small _ _ (by omega) (by omega) (by omega) (by omega)]
  simp only [Nat.cast_le]

def top : EReal := Ideal.ofBits .f32 0x49742400#32
def low : EReal := Ideal.ofBits .f32 0xF149F2CA#32

theorem rank_apply (b g : Fin 2) (t : Fin 8192) (j : Fin 128) : val_main_v89 (F := Ideal) x0 x1 (ix4 b g t j) =
    rankRef top low (t.val / 64) (impR x0 x1 b g t) j.val := by
  unfold val_main_v89 val_main_call4_v2 val_main_call4_v1 val_main_call4_v0 val_main_cst_20 val_main_v88 val_main_call3_v2 val_main_call3_v1 val_main_call3_v0 val_main_cst_19 val_main_v87 val_main_v86
  pointwise
  rw [causal_apply, forced_apply, imp_apply]
  unfold rankRef
  by_cases h : j.val ≤ t.val / 64
  · rw [if_pos h, if_pos h]
    by_cases h' : Forced (t.val / 64) j.val
    · rw [if_pos h', if_pos h']; rfl
    · rw [if_neg h', if_neg h']; rfl
  · rw [if_neg h, if_neg h]; rfl

theorem ofBool_ite (p : Prop) [Decidable p] : BitVec.ofBool (decide p) = if p then 1#1 else 0#1 := by
  by_cases h : p <;> simp [h]

open Classical in
theorem before_apply (b g : Fin 2) (t : Fin 8192) (j k : Fin 128) : val_main_v106 (F := Ideal) x0 x1 (ix5 b g t j k) =
    if Before (rankRef top low (t.val / 64) (impR x0 x1 b g t)) k.val j.val then 1 else 0 := by
  rw [val_main_v106_apply]
  unfold val_main_v105 val_main_call5_v0 val_main_call5_v1 val_main_cst_21 val_main_cst_22 val_main_v104 val_main_v103 val_main_v102 val_main_v101 val_main_v100 val_main_v99 val_main_v98 val_main_v97 val_main_v96 val_main_v95 val_main_v94 val_main_v93 val_main_v92 val_main_v91 val_main_v90
  pointwise
  simp only [rank_apply]
  generalize rankRef top low (t.val / 64) (impR x0 x1 b g t) = r
  rw [ofNat_eq_ofInt, ofNat_eq_ofInt, cmpi_slt_small _ _ (by omega) (by omega) (by omega) (by omega), ofBool_ite, ofBool_ite, andi_ite, ori_ite]
  unfold Before
  by_cases h : r j.val < r k.val ∨ r k.val = r j.val ∧ k.val < j.val
  · rw [if_pos h, if_pos (h.imp id (fun h => ⟨h.1, by exact_mod_cast h.2⟩))]; rfl
  · rw [if_neg h, if_neg (fun h' => h (h'.imp id (fun h => ⟨h.1, by exact_mod_cast h.2⟩)))]; rfl

open Classical in
theorem sel_apply (b g : Fin 2) (j : Fin 128) (t : Fin 8192) : val_main_v114 (F := Ideal) x0 x1 (ix4 b g j t) =
    if ((Finset.range 128).filter fun k => Before (rankRef top low (t.val / 64) (impR x0 x1 b g t)) k j.val).card < 16 ∧ j.val ≤ t.val / 64 then 1 else 0 := by
  unfold val_main_v114 val_main_v113 val_main_v112 val_main_call6_v0 val_main_call6_v1 val_main_cst_25 val_main_cst_26 val_main_v111 val_main_v110 val_main_v86 val_main_v109 val_main_v108 val_main_cst_24 val_main_v107 val_main_cst_23
  pointwise
  simp only [before_apply, causal_apply]
  have h16 : Ideal.ofBits FTy.f32 1098907648#32 = ((16 : ℝ) : EReal) := by
    simp [Ideal.ofBits, Ideal.ieee]
    norm_num [← EReal.coe_mul]
  have hs : (∑ x : Fin 128, if Before (rankRef top low (t.val / 64) (impR x0 x1 b g t)) x.val j.val then (1 : EReal) else 0) =
      ((((Finset.range 128).filter fun k => Before (rankRef top low (t.val / 64) (impR x0 x1 b g t)) k j.val).card : ℝ) : EReal) := by
    rw [← Cert.KernelIdeal.Cmp.card_fin, Finset.sum_boole]
    rfl
  rw [h16, hs]
  generalize ((Finset.range 128).filter fun k => Before (rankRef top low (t.val / 64) (impR x0 x1 b g t)) k j.val).card = n
  have hn : ((n : ℝ) : EReal) < ((16 : ℝ) : EReal) ↔ n < 16 := by
    rw [EReal.coe_lt_coe_iff]
    norm_cast
  have hd : BitVec.ofBool (decide (((n : ℝ) : EReal) < ((16 : ℝ) : EReal))) = if n < 16 then 1#1 else 0#1 := by
    by_cases h : n < 16
    · rw [if_pos h, decide_eq_true (hn.mpr h)]; rfl
    · rw [if_neg h, decide_eq_false (fun h' => h (hn.mp h'))]; rfl
  rw [hd, andi_ite]
  by_cases h : n < 16 ∧ j.val ≤ t.val / 64
  · rw [if_pos h, if_pos h]; rfl
  · rw [if_neg h, if_neg h]; rfl

end Cert.ReferenceIdeal.Cmp
-- ==== Proof.SelMatch.lean ====
module

public import proofs.«01_k».proof.Proof.Match
public import proofs.«01_k».proof.Proof.SelBlock
public import proofs.«01_k».proof.Proof.SelRef

/-! # The kernel selects the reference's blocks -/

@[expose] public section

set_option maxRecDepth 16384

noncomputable section

namespace Cert.KernelIdeal.Cmp

open Cert.KernelIdeal Cert.KernelIdeal.Gen Idealize.ShloMosaic Idealize.ShloMosaic.TcCoe Idealize.SL.Sem

open Cert.ReferenceIdeal.Cmp (dotOf logitR probR impR Over over_word)

variable (A0 : FVec Ideal S2x512x8192 .bf16) (A1 : FVec Ideal S2x2x512x128 .bf16) (A2 : FVec Ideal S2x2x208x512 .bf16)
  (A3 : FVec Ideal S2x32x8192 .f32)

/-! ## The reference's weights lie between zero and the forced blocks' rank -/

theorem exp_le_one (x : EReal) (h : x ≤ 0) : Ideal.exp x ≤ 1 := by
  induction x with
  | bot => simp
  | top => simp at h
  | coe x =>
    rw [Ideal.exp_coe]
    exact_mod_cast Real.exp_le_one_iff.mpr (by exact_mod_cast h)

theorem exp_nonneg (x : EReal) : 0 ≤ Ideal.exp x := by
  induction x with
  | bot => simp
  | top => simp
  | coe x =>
    rw [Ideal.exp_coe]
    exact_mod_cast (Real.exp_pos x).le

theorem probR_nonneg (b g : Fin 2) (h : Fin 4) (t : Fin 8192) (i : Fin 512) : 0 ≤ probR A0 A1 b g h t i := by
  unfold probR
  split
  · exact exp_nonneg _
  · exact le_rfl

theorem quot_nonneg (b g : Fin 2) (h : Fin 4) (t : Fin 8192) (i : Fin 512) :
    0 ≤ Ideal.div (probR A0 A1 b g h t i) (max (∑ i : Fin 512, probR A0 A1 b g h t i) tiny) := by
  have hL : 0 < max (∑ i : Fin 512, probR A0 A1 b g h t i) tiny := lt_of_lt_of_le tiny_pos (le_max_right _ _)
  unfold Ideal.div
  rw [if_neg hL.ne']
  exact mul_nonneg (probR_nonneg A0 A1 b g h t i) (EReal.inv_nonneg_of_nonneg hL.le)

theorem quot_le_one (b g : Fin 2) (h : Fin 4) (t : Fin 8192) (i : Fin 512) :
    Ideal.div (probR A0 A1 b g h t i) (max (∑ i : Fin 512, probR A0 A1 b g h t i) tiny) ≤ 1 := by
  have hp : probR A0 A1 b g h t i ≤ max (∑ i : Fin 512, probR A0 A1 b g h t i) tiny :=
    (Finset.single_le_sum (f := fun i => probR A0 A1 b g h t i) (fun i _ => probR_nonneg A0 A1 b g h t i) (Finset.mem_univ i)).trans (le_max_left _ _)
  have hL : 0 < max (∑ i : Fin 512, probR A0 A1 b g h t i) tiny := lt_of_lt_of_le tiny_pos (le_max_right _ _)
  revert hp hL
  generalize max (∑ i : Fin 512, probR A0 A1 b g h t i) tiny = L
  intro hp hL
  unfold Ideal.div
  rw [if_neg hL.ne']
  refine (mul_le_mul_of_nonneg_right hp (EReal.inv_nonneg_of_nonneg hL.le)).trans ?_
  induction L with
  | bot => simp at hL
  | top => simp
  | coe r =>
    have hr : r ≠ 0 := by
      rintro rfl
      exact lt_irrefl _ hL
    rw [← EReal.coe_inv, ← EReal.coe_mul, mul_inv_cancel₀ hr]
    exact le_rfl

theorem impR_nonneg (b g : Fin 2) (t : Fin 8192) (j : Nat) : 0 ≤ impR A0 A1 b g t j := by
  unfold impR
  refine Finset.sum_nonneg fun h _ => Finset.sum_nonneg fun i _ => ?_
  split
  · rw [mul_one]
    exact quot_nonneg A0 A1 b g h t i
  · rw [mul_zero]

theorem impR_lt (b g : Fin 2) (t : Fin 8192) (j : Nat) : impR A0 A1 b g t j < Cert.ReferenceIdeal.Cmp.top := by
  have h : impR A0 A1 b g t j ≤ ∑ h : Fin 4, ∑ i : Fin 512, (1 : EReal) := by
    unfold impR
    refine Finset.sum_le_sum fun h _ => Finset.sum_le_sum fun i _ => ?_
    split
    · rw [mul_one]
      exact quot_le_one A0 A1 b g h t i
    · rw [mul_zero]
      exact zero_le_one
  refine lt_of_le_of_lt h ?_
  have e : (∑ h : Fin 4, ∑ i : Fin 512, (1 : EReal)) = ((2048 : ℝ) : EReal) := by
    rw [Finset.sum_const, Finset.sum_const, Finset.card_univ, Finset.card_univ, Fintype.card_fin, Fintype.card_fin]
    rw [← EReal.coe_one, ← EReal.coe_nsmul, ← EReal.coe_nsmul]
    norm_num
  have e' : Cert.ReferenceIdeal.Cmp.top = ((1000000 : ℝ) : EReal) := by
    unfold Cert.ReferenceIdeal.Cmp.top
    simp [Ideal.ofBits, Ideal.ieee]
    norm_num [← EReal.coe_mul]
  rw [e, e', EReal.coe_lt_coe_iff]
  norm_num

theorem low_word : Cert.ReferenceIdeal.Cmp.low = ((-(13234890 * 2 ^ 76) : ℝ) : EReal) := by
  unfold Cert.ReferenceIdeal.Cmp.low
  simp [Ideal.ofBits, Ideal.ieee]

theorem low_neg : Cert.ReferenceIdeal.Cmp.low < 0 := by
  rw [low_word, ← EReal.coe_zero, EReal.coe_lt_coe_iff]
  norm_num

/-! ## The weights agree -/

theorem share_match (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (b g bi : Fin 2) (h : Fin 4) (w : Fin 16) (q : Fin 256) (d : Fin 208) (n : Fin 1024) (hn : n.val = 256 * h.val + q.val) :
    shareOf (512 * w.val + 256 * bi.val) (cut0 A0 b w) (cut1 A1 b) (cut2 A2 b) g bi n d =
      ∑ i : Fin 512, A2 (ix4 b g d i) * Ideal.div (probR A0 A1 b g h (query w ⟨256 * bi.val + q.val, by omega⟩) i)
        (max (∑ i : Fin 512, probR A0 A1 b g h (query w ⟨256 * bi.val + q.val, by omega⟩) i) tiny) := by
  rw [← head_query A0 A1 A2 hk hv b g bi h d w q]
  have hn' : n = ⟨256 * h.val + q.val, by omega⟩ := Fin.ext hn
  rw [hn']
  unfold shareOf sumOf
  have e7 : (256 * h.val + q.val) / 256 = h.val := by omega
  have e8 : (256 * h.val + q.val) % 256 = q.val := by omega
  simp only [e7, e8]

theorem imp_match (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (ho : ∀ (b g : Fin 2) (j : Fin 128) (i : Fin 512), A2 (ix4 b g (⟨80 + j.val, by omega⟩ : Fin 208) i) = if Over i.val j.val then 1 else 0)
    (b g bi : Fin 2) (w : Fin 16) (q : Fin 256) (j : Nat) (hj : j < 128) :
    impVal (512 * w.val + 256 * bi.val) (cut0 A0 b w) (cut1 A1 b) (cut2 A2 b) g bi q j =
      impR A0 A1 b g (query w ⟨256 * bi.val + q.val, by omega⟩) j := by
  have key : ∀ (h : Fin 4), (∑ i : Fin 512, Ideal.div (probR A0 A1 b g h (query w ⟨256 * bi.val + q.val, by omega⟩) i)
      (max (∑ i : Fin 512, probR A0 A1 b g h (query w ⟨256 * bi.val + q.val, by omega⟩) i) tiny) * (if Over i.val j then 1 else 0)) =
      ∑ i : Fin 512, A2 (ix4 b g (⟨80 + j, by omega⟩ : Fin 208) i) * Ideal.div (probR A0 A1 b g h (query w ⟨256 * bi.val + q.val, by omega⟩) i)
        (max (∑ i : Fin 512, probR A0 A1 b g h (query w ⟨256 * bi.val + q.val, by omega⟩) i) tiny) := by
    intro h
    refine Finset.sum_congr rfl fun i _ => ?_
    rw [mul_comm, ho b g ⟨j, hj⟩ i]
  unfold impVal impR
  rw [Finset.sum_congr rfl fun h _ => key h]
  by_cases h31 : 31 ≤ 512 * w.val + 256 * bi.val + q.val
  · rw [if_pos h31, dif_pos hj]
    rw [share_match A0 A1 A2 hk hv b g bi 0 w q _ ⟨q.val, by omega⟩ (by simp), share_match A0 A1 A2 hk hv b g bi 1 w q _ ⟨256 + q.val, by omega⟩ (by simp),
      share_match A0 A1 A2 hk hv b g bi 2 w q _ ⟨512 + q.val, by omega⟩ (by simp), share_match A0 A1 A2 hk hv b g bi 3 w q _ ⟨768 + q.val, by omega⟩ (by simp)]
    rw [Fin.sum_univ_four]
  · rw [if_neg h31]
    refine (Finset.sum_eq_zero fun h _ => ?_).symm
    unfold probR
    refine Soft.attention_none (fun i : Fin 512 => 16 * i.val + 31 ≤ (query w ⟨256 * bi.val + q.val, by omega⟩).val) _ _ _ _ tiny_pos
      (fun i hi => ?_)
    have : 16 * i.val + 31 ≤ 512 * w.val + (256 * bi.val + q.val) := hi
    omega

/-! ## The selections agree -/

theorem ahead_congr (c : Nat) (imp imp' : Nat → EReal) (h : ∀ k, k ≤ c → imp k = imp' k) (j : Nat) (hj : j ≤ c) :
    ahead c imp j = ahead c imp' j := by
  unfold ahead
  ext k
  simp only [Finset.mem_filter, Finset.mem_range]
  unfold Before
  constructor
  · rintro ⟨hk, hf, h'⟩
    rw [h k (by omega), h j hj] at h'
    exact ⟨hk, hf, h'⟩
  · rintro ⟨hk, hf, h'⟩
    rw [← h k (by omega), ← h j hj] at h'
    exact ⟨hk, hf, h'⟩

open Classical in
theorem form_match (n c : Nat) (hn : n ≤ 128) (hc : c < n) (imp imp' : Nat → EReal) (h0 : ∀ k, 0 ≤ imp k) (h0' : ∀ k, 0 ≤ imp' k)
    (h1 : ∀ k, imp' k < Cert.ReferenceIdeal.Cmp.top) (h : ∀ k, k ≤ c → imp k = imp' k) (j : Fin n) :
    selForm n c imp j = if ((Finset.range 128).filter fun k => Before (rankRef Cert.ReferenceIdeal.Cmp.top Cert.ReferenceIdeal.Cmp.low c imp') k j.val).card < 16 ∧ j.val ≤ c
      then 1 else 0 := by
  unfold selForm
  by_cases hj : j.val ≤ c
  · have a := rounds_sel n hn c hc imp h0 j hj
    have e := rank_count Cert.ReferenceIdeal.Cmp.top Cert.ReferenceIdeal.Cmp.low c (by omega) imp' h0' h1 low_neg j.val hj
    rw [ahead_congr c imp imp' h j.val hj, ← e] at a
    simp only [hj, a, true_and, and_true]
  · rw [if_neg (fun h => hj h.1), if_neg (fun h => hj h.2)]

theorem osel_eq (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (ho : ∀ (b g : Fin 2) (j : Fin 128) (i : Fin 512), A2 (ix4 b g (⟨80 + j.val, by omega⟩ : Fin 208) i) = if Over i.val j.val then 1 else 0) :
    osel A0 A1 A2 = Cert.ReferenceIdeal.Read.val_main_v114 (F := Ideal) A0 A1 := by
  funext y
  idx_vars y
  have hy : ∃ (w : Fin 16) (bi : Fin 2) (q : Fin 256), y3 = query w ⟨256 * bi.val + q.val, by omega⟩ :=
    ⟨⟨y3.val / 512, by omega⟩, ⟨y3.val % 512 / 256, by omega⟩, ⟨y3.val % 256, by omega⟩,
      Fin.ext (show y3.val = 512 * (y3.val / 512) + (256 * (y3.val % 512 / 256) + y3.val % 256) by omega)⟩
  rw [Cert.ReferenceIdeal.Cmp.sel_apply]
  obtain ⟨w, bi, q, rfl⟩ := hy
  refine (osel_query A0 A1 A2 y0 y1 y2 w _).trans ?_
  rw [selAt_eq]
  have m : ∀ k, k < 128 → impVal (512 * w.val + 256 * bi.val) (cut0 A0 y0 w) (cut1 A1 y0) (cut2 A2 y0) y1 bi q k =
      impR A0 A1 y0 y1 (query w ⟨256 * bi.val + q.val, by omega⟩) k := fun k hk' => imp_match A0 A1 A2 hk hv ho y0 y1 bi w q k hk'
  have n0 : ∀ k, 0 ≤ impVal (512 * w.val + 256 * bi.val) (cut0 A0 y0 w) (cut1 A1 y0) (cut2 A2 y0) y1 bi q k := by
    intro k
    by_cases h : k < 128
    · rw [m k h]
      exact impR_nonneg _ _ _ _ _ _
    · unfold impVal
      rw [dif_neg h]
      split <;> exact le_rfl
  have ec : (query w ⟨256 * bi.val + q.val, by omega⟩).val / 64 = (512 * w.val + 256 * bi.val + q.val) / 64 := by
    show (512 * w.val + (256 * bi.val + q.val)) / 64 = _
    omega
  rw [ec]
  have p0 := impR_nonneg A0 A1 y0 y1 (query w ⟨256 * bi.val + q.val, by omega⟩)
  have p1 := impR_lt A0 A1 y0 y1 (query w ⟨256 * bi.val + q.val, by omega⟩)
  have hc : (512 * w.val + 256 * bi.val + q.val) / 64 < 128 := by omega
  have hc' : w.val < 8 → (512 * w.val + 256 * bi.val + q.val) / 64 < 64 := by omega
  unfold selVal
  dsimp only
  revert m n0 p0 p1 hc hc'
  generalize impR A0 A1 y0 y1 (query w ⟨256 * bi.val + q.val, by omega⟩) = J
  generalize impVal (512 * w.val + 256 * bi.val) (cut0 A0 y0 w) (cut1 A1 y0) (cut2 A2 y0) y1 bi q = I
  generalize (512 * w.val + 256 * bi.val + q.val) / 64 = c
  intro m n0 p0 p1 hc hc'
  by_cases hw : w.val < 8
  · rw [if_pos hw]
    by_cases h : y2.val < 64
    · rw [dif_pos h]
      exact form_match 64 c (by omega) (hc' hw) I J n0 p0 p1 (fun k hk' => m k (by omega)) ⟨y2.val, h⟩
    · have := hc' hw
      rw [dif_neg h, if_neg (fun h' => absurd h'.2 (by omega))]
  · rw [if_neg hw]
    exact form_match 128 c (by omega) hc I J n0 p0 p1 (fun k hk' => m k (by omega)) y2

/-- The precondition, read at the overlap rows. -/
theorem augmented_rows (h : (Cert.Pre_augmented.fn (F := Ideal) A0 A1 A2 A3).2.2 = fun _ => 1#1) (b g : Fin 2) (j : Fin 128) (i : Fin 512) :
    A2 (ix4 b g (⟨80 + j.val, by omega⟩ : Fin 208) i) = if Over i.val j.val then 1 else 0 := by
  have h' := congrFun h (ix4 b g j i)
  unfold Cert.Pre_augmented.fn Cert.Pre_augmented.fn_part1 at h'
  dsimp only at h'
  revert h'
  pointwise
  intro h'
  have e := of_decide_eq_true (ofBool_one _ h')
  rw [over_word _ _ (by omega) (by omega)] at e
  refine e.trans ?_
  by_cases ho : Over i.val j.val
  · rw [if_pos ho, if_pos ho]; rfl
  · rw [if_neg ho, if_neg ho]; rfl

end Cert.KernelIdeal.Cmp
-- ==== Proof.FlagPieces.lean ====
module

public import proofs.«01_k».proof.Proof.SelItem

/-! # What the call stores into its third result -/

@[expose] public section

set_option maxRecDepth 16384

noncomputable section

namespace Cert.KernelIdeal.Cmp

open Cert.KernelIdeal Cert.KernelIdeal.Gen Idealize.ShloMosaic Idealize.ShloMosaic.TcCoe Idealize.SL.Sem

variable {F : FTy → Type} [FloatOps F] [Named F]

/-! ## The flags of the selected blocks -/

/-- Whether some query of the tile selects the block, over 64 rows, eight times. -/
def flag64 (start : BitVec 32) (acc : FVec F S208x1024 .f32) : IVec S1x1x1x8x128 32 :=
  shapeCast S1x1x1x8x128 (concatenate S8x128 1 [⟨S8x64, extui 32 (cmpf .ogt
      (matmul dot_S8x256_S64x256_S8x64_1_1_0_0_n_n none (broadcast S8x256 (Scalar.ofBits .f32 0x3F800000#32)) (sel64 start acc)
        (constant S8x64 .f32 0x00000000#32))
      (broadcast S8x64 (Scalar.ofBits .f32 0x3F000000#32))) natLt_1_32⟩, ⟨S8x64, broadcast S8x64 0#32⟩]
    concatenates_S8x64_S8x64_S8x128_d1) shapeCasts_S8x128_S1x1x1x8x128

/-- Whether some query of the tile selects the block, over 128 rows, eight times. -/
def flag128 (start : BitVec 32) (acc : FVec F S208x1024 .f32) : IVec S1x1x1x8x128 32 :=
  shapeCast S1x1x1x8x128 (extui 32 (cmpf .ogt
      (matmul dot_S8x256_S128x256_S8x128_1_1_0_0_n_n none (broadcast S8x256 (Scalar.ofBits .f32 0x3F800000#32)) (sel128 start acc)
        (constant S8x128 .f32 0x00000000#32))
      (broadcast S8x128 (Scalar.ofBits .f32 0x3F000000#32))) natLt_1_32) shapeCasts_S8x128_S1x1x1x8x128

variable (c : Dev nD) (i : grid0.Coords)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x0 : Vec F S1x512x512 .bf16) (x1 : Vec F S1x2x512x128 .bf16) (x2 : Vec F S1x2x208x512 .bf16)
  (x3 : Vec F S1x32x512 .f32)

/-- The pieces of the third result stored in case B. -/
theorem flagPieces_B (hc0 : cond0_0 i) (hc1 : ¬cond0_1 i) (hc2 : cond0_2 i) (hc3 : ¬cond0_3 i) (hc4 : ¬cond0_4 i)
    (hc5 : cond0_5 i)
    (hk00 : ∀ a, k0_off5 i 0#32 a + S1x1x256x128.size a ≤ S1x2x512x128.size a)
    (hv00 : ∀ a, k0_off7 i 0#32 a + S1x1x208x256.size a ≤ S1x2x208x512.size a)
    (hk01 : ∀ a, k0_off6 i 0#32 a + S1x1x256x128.size a ≤ S1x2x512x128.size a)
    (hv01 : ∀ a, k0_off8 i 0#32 a + S1x1x208x256.size a ≤ S1x2x208x512.size a)
    (hk10 : ∀ a, k0_off5 i 1#32 a + S1x1x256x128.size a ≤ S1x2x512x128.size a)
    (hv10 : ∀ a, k0_off7 i 1#32 a + S1x1x208x256.size a ≤ S1x2x208x512.size a)
    (hk11 : ∀ a, k0_off6 i 1#32 a + S1x1x256x128.size a ≤ S1x2x512x128.size a)
    (hv11 : ∀ a, k0_off8 i 1#32 a + S1x1x208x256.size a ≤ S1x2x208x512.size a) :
    (kernelRun0_B c i arg2 harg2 arg3 harg3 arg4 harg4 arg5 harg5 arg6 harg6 arg7 harg7 arg8 harg8 arg9 harg9 arg10 harg10
      hc0 hc1 hc2 hc3 hc4 hc5 x0 x1 x2 x3).2.2.1 =
    [⟨Rect.unit (s := S1x2x2x8x128) ![0, 1, 1, 0, 0] S1x1x1x8x128.size inb_S1x2x2x8x128_S1x1x1x8x128_0_1_1_0_0,
      flag128 (kernelRun0_B.sl.v5 i)
        (accB arg2 harg2 arg3 harg3 arg4 harg4 x0 x1 x2 1 1 (slopesOf 1) (kernelRun0_B.sl.v5 i) (kernelRun0_B.sl.v79 i)
          (k0_off6 i 1#32) (k0_off8 i 1#32) hk11 hv11
          (arg9.view.readCov (kernelRun0_B.sl.HS0_4 c i arg2 harg2 arg3 harg3 x0 x1)
            (Rect.unit (s := S2x2x1x1024) ![1, 1, 0, 0] S1x1x1x1024.size (inbM 1 1)).toLoadRect)
          (arg10.view.readCov (kernelRun0_B.sl.HS1_4 c i arg2 harg2 arg3 harg3 arg4 harg4 x0 x1 x2)
            (Rect.unit (s := S2x2x208x1024) ![1, 1, 0, 0] S1x1x208x1024.size (inbA 1 1)).toLoadRect))⟩,
     ⟨Rect.unit (s := S1x2x2x8x128) ![0, 1, 0, 0, 0] S1x1x1x8x128.size inb_S1x2x2x8x128_S1x1x1x8x128_0_1_0_0_0,
      flag128 (kernelRun0_B.sl.v5 i)
        (accB arg2 harg2 arg3 harg3 arg4 harg4 x0 x1 x2 0 1 (slopesOf 0) (kernelRun0_B.sl.v5 i) (kernelRun0_B.sl.v79 i)
          (k0_off5 i 1#32) (k0_off7 i 1#32) hk10 hv10
          (arg9.view.readCov (kernelRun0_B.sl.HS0_4 c i arg2 harg2 arg3 harg3 x0 x1)
            (Rect.unit (s := S2x2x1x1024) ![1, 0, 0, 0] S1x1x1x1024.size (inbM 1 0)).toLoadRect)
          (arg10.view.readCov (kernelRun0_B.sl.HS1_4 c i arg2 harg2 arg3 harg3 arg4 harg4 x0 x1 x2)
            (Rect.unit (s := S2x2x208x1024) ![1, 0, 0, 0] S1x1x208x1024.size (inbA 1 0)).toLoadRect))⟩,
     ⟨Rect.unit (s := S1x2x2x8x128) ![0, 0, 1, 0, 0] S1x1x1x8x128.size inb_S1x2x2x8x128_S1x1x1x8x128_0_0_1_0_0,
      flag128 (kernelRun0_B.sl.v2 i)
        (accB arg2 harg2 arg3 harg3 arg4 harg4 x0 x1 x2 1 0 (slopesOf 1) (kernelRun0_B.sl.v2 i) (kernelRun0_B.sl.v42 i)
          (k0_off6 i 0#32) (k0_off8 i 0#32) hk01 hv01
          (arg9.view.readCov (kernelRun0_B.sl.HS0_4 c i arg2 harg2 arg3 harg3 x0 x1)
            (Rect.unit (s := S2x2x1x1024) ![0, 1, 0, 0] S1x1x1x1024.size (inbM 0 1)).toLoadRect)
          (arg10.view.readCov (kernelRun0_B.sl.HS1_4 c i arg2 harg2 arg3 harg3 arg4 harg4 x0 x1 x2)
            (Rect.unit (s := S2x2x208x1024) ![0, 1, 0, 0] S1x1x208x1024.size (inbA 0 1)).toLoadRect))⟩,
     ⟨Rect.unit (s := S1x2x2x8x128) ![0, 0, 0, 0, 0] S1x1x1x8x128.size inb_S1x2x2x8x128_S1x1x1x8x128_0_0_0_0_0,
      flag128 (kernelRun0_B.sl.v2 i)
        (accB arg2 harg2 arg3 harg3 arg4 harg4 x0 x1 x2 0 0 (slopesOf 0) (kernelRun0_B.sl.v2 i) (kernelRun0_B.sl.v42 i)
          (k0_off5 i 0#32) (k0_off7 i 0#32) hk00 hv00
          (arg9.view.readCov (kernelRun0_B.sl.HS0_4 c i arg2 harg2 arg3 harg3 x0 x1)
            (Rect.unit (s := S2x2x1x1024) ![0, 0, 0, 0] S1x1x1x1024.size (inbM 0 0)).toLoadRect)
          (arg10.view.readCov (kernelRun0_B.sl.HS1_4 c i arg2 harg2 arg3 harg3 arg4 harg4 x0 x1 x2)
            (Rect.unit (s := S2x2x208x1024) ![0, 0, 0, 0] S1x1x208x1024.size (inbA 0 0)).toLoadRect))⟩] := by
  unfold kernelRun0_B
  dsimp only
  rfl

/-- The pieces of the third result stored in case A. -/
theorem flagPieces_A (hc0 : ¬cond0_0 i) (hc1 : cond0_1 i) (hc2 : ¬cond0_2 i) (hc3 : cond0_3 i) (hc4 : cond0_4 i)
    (hc5 : ¬cond0_5 i)
    (hk00 : ∀ a, k0_off1 i 0#32 a + S1x1x256x128.size a ≤ S1x2x512x128.size a)
    (hv00 : ∀ a, k0_off3 i 0#32 a + S1x1x208x256.size a ≤ S1x2x208x512.size a)
    (hk01 : ∀ a, k0_off2 i 0#32 a + S1x1x256x128.size a ≤ S1x2x512x128.size a)
    (hv01 : ∀ a, k0_off4 i 0#32 a + S1x1x208x256.size a ≤ S1x2x208x512.size a)
    (hk10 : ∀ a, k0_off1 i 1#32 a + S1x1x256x128.size a ≤ S1x2x512x128.size a)
    (hv10 : ∀ a, k0_off3 i 1#32 a + S1x1x208x256.size a ≤ S1x2x208x512.size a)
    (hk11 : ∀ a, k0_off2 i 1#32 a + S1x1x256x128.size a ≤ S1x2x512x128.size a)
    (hv11 : ∀ a, k0_off4 i 1#32 a + S1x1x208x256.size a ≤ S1x2x208x512.size a) :
    (kernelRun0_A c i arg2 harg2 arg3 harg3 arg4 harg4 arg5 harg5 arg6 harg6 arg7 harg7 arg8 harg8 arg9 harg9 arg10 harg10
      hc0 hc1 hc2 hc3 hc4 hc5 x0 x1 x2 x3).2.2.1 =
    [⟨Rect.unit (s := S1x2x2x8x128) ![0, 1, 1, 0, 0] S1x1x1x8x128.size inb_S1x2x2x8x128_S1x1x1x8x128_0_1_1_0_0,
      flag64 (kernelRun0_A.sl.v5 i)
        (accB arg2 harg2 arg3 harg3 arg4 harg4 x0 x1 x2 1 1 (slopesOf 1) (kernelRun0_A.sl.v5 i) (kernelRun0_A.sl.v79 i)
          (k0_off2 i 1#32) (k0_off4 i 1#32) hk11 hv11
          (arg9.view.readCov (kernelRun0_A.sl.HS0_2)
            (Rect.unit (s := S2x2x1x1024) ![1, 1, 0, 0] S1x1x1x1024.size (inbM 1 1)).toLoadRect)
          (arg10.view.readCov (kernelRun0_A.sl.HS1_2)
            (Rect.unit (s := S2x2x208x1024) ![1, 1, 0, 0] S1x1x208x1024.size (inbA 1 1)).toLoadRect))⟩,
     ⟨Rect.unit (s := S1x2x2x8x128) ![0, 1, 0, 0, 0] S1x1x1x8x128.size inb_S1x2x2x8x128_S1x1x1x8x128_0_1_0_0_0,
      flag64 (kernelRun0_A.sl.v5 i)
        (accB arg2 harg2 arg3 harg3 arg4 harg4 x0 x1 x2 0 1 (slopesOf 0) (kernelRun0_A.sl.v5 i) (kernelRun0_A.sl.v79 i)
          (k0_off1 i 1#32) (k0_off3 i 1#32) hk10 hv10
          (arg9.view.readCov (kernelRun0_A.sl.HS0_2)
            (Rect.unit (s := S2x2x1x1024) ![1, 0, 0, 0] S1x1x1x1024.size (inbM 1 0)).toLoadRect)
          (arg10.view.readCov (kernelRun0_A.sl.HS1_2)
            (Rect.unit (s := S2x2x208x1024) ![1, 0, 0, 0] S1x1x208x1024.size (inbA 1 0)).toLoadRect))⟩,
     ⟨Rect.unit (s := S1x2x2x8x128) ![0, 0, 1, 0, 0] S1x1x1x8x128.size inb_S1x2x2x8x128_S1x1x1x8x128_0_0_1_0_0,
      flag64 (kernelRun0_A.sl.v2 i)
        (accB arg2 harg2 arg3 harg3 arg4 harg4 x0 x1 x2 1 0 (slopesOf 1) (kernelRun0_A.sl.v2 i) (kernelRun0_A.sl.v42 i)
          (k0_off2 i 0#32) (k0_off4 i 0#32) hk01 hv01
          (arg9.view.readCov (kernelRun0_A.sl.HS0_2)
            (Rect.unit (s := S2x2x1x1024) ![0, 1, 0, 0] S1x1x1x1024.size (inbM 0 1)).toLoadRect)
          (arg10.view.readCov (kernelRun0_A.sl.HS1_2)
            (Rect.unit (s := S2x2x208x1024) ![0, 1, 0, 0] S1x1x208x1024.size (inbA 0 1)).toLoadRect))⟩,
     ⟨Rect.unit (s := S1x2x2x8x128) ![0, 0, 0, 0, 0] S1x1x1x8x128.size inb_S1x2x2x8x128_S1x1x1x8x128_0_0_0_0_0,
      flag64 (kernelRun0_A.sl.v2 i)
        (accB arg2 harg2 arg3 harg3 arg4 harg4 x0 x1 x2 0 0 (slopesOf 0) (kernelRun0_A.sl.v2 i) (kernelRun0_A.sl.v42 i)
          (k0_off1 i 0#32) (k0_off3 i 0#32) hk00 hv00
          (arg9.view.readCov (kernelRun0_A.sl.HS0_2)
            (Rect.unit (s := S2x2x1x1024) ![0, 0, 0, 0] S1x1x1x1024.size (inbM 0 0)).toLoadRect)
          (arg10.view.readCov (kernelRun0_A.sl.HS1_2)
            (Rect.unit (s := S2x2x208x1024) ![0, 0, 0, 0] S1x1x208x1024.size (inbA 0 0)).toLoadRect))⟩] := by
  unfold kernelRun0_A
  dsimp only
  rfl

end Cert.KernelIdeal.Cmp
-- ==== Proof.FlagBlock.lean ====
module

public import proofs.«01_k».proof.Proof.SelBlock
public import proofs.«01_k».proof.Proof.FlagPieces

/-! # The flags a grid point leaves, and the array after the run -/

@[expose] public section

set_option maxRecDepth 16384

noncomputable section

namespace Cert.KernelIdeal.Cmp

open Cert.KernelIdeal Cert.KernelIdeal.Gen Idealize.ShloMosaic Idealize.ShloMosaic.TcCoe Idealize.SL.Sem

/-- The flag of a block, from the tile's selections of it. -/
def flagOf (f : Fin 256 → EReal) : BitVec 32 :=
  (FloatOps.cmpf (F := Ideal) (φ := .f32) .ogt (∑ q : Fin 256, f q) (Ideal.ofBits .f32 0x3F000000#32)).setWidth 32

theorem flagOf_zero : flagOf (fun _ => 0) = 0#32 := by
  have h : Ideal.ofBits FTy.f32 0x3F000000#32 = ((1 / 2 : ℝ) : EReal) := by
    simp [Ideal.ofBits, Ideal.ieee]
    norm_num [← EReal.coe_mul]
  unfold flagOf
  rw [h, Finset.sum_const_zero]
  have n : ¬((1 / 2 : ℝ) : EReal) < 0 := by
    rw [not_lt, ← EReal.coe_zero, EReal.coe_le_coe_iff]
    norm_num
  show (BitVec.ofBool (decide (((1 / 2 : ℝ) : EReal) < 0))).setWidth 32 = _
  rw [decide_eq_false n]
  rfl

theorem count64_apply (s : FVec Ideal S64x256 .f32) (r : Fin 8) (j : Fin 64) :
    matmul dot_S8x256_S64x256_S8x64_1_1_0_0_n_n none (broadcast S8x256 (Scalar.ofBits (F := Ideal) .f32 0x3F800000#32)) s
      (constant (F := Ideal) S8x64 .f32 0x00000000#32) (ix2 r j) = ∑ q : Fin 256, s (ix2 j q) := by
  pointwise

theorem count128_apply (s : FVec Ideal S128x256 .f32) (r : Fin 8) (j : Fin 128) :
    matmul dot_S8x256_S128x256_S8x128_1_1_0_0_n_n none (broadcast S8x256 (Scalar.ofBits (F := Ideal) .f32 0x3F800000#32)) s
      (constant (F := Ideal) S8x128 .f32 0x00000000#32) (ix2 r j) = ∑ q : Fin 256, s (ix2 j q) := by
  pointwise

theorem flag64_low (start : BitVec 32) (acc : FVec Ideal S208x1024 .f32) (r : Fin 8) (j : Fin 64) :
    flag64 start acc (ix5 0 0 0 r (⟨j.val, by omega⟩ : Fin 128)) = flagOf fun q => sel64 start acc (ix2 j q) := by
  unfold flag64 flagOf
  rw [← count64_apply _ r]
  generalize matmul dot_S8x256_S64x256_S8x64_1_1_0_0_n_n none (broadcast S8x256 (Scalar.ofBits (F := Ideal) .f32 0x3F800000#32)) (sel64 start acc)
      (constant (F := Ideal) S8x64 .f32 0x00000000#32) = M
  pointwise

theorem flag64_high (start : BitVec 32) (acc : FVec Ideal S208x1024 .f32) (r : Fin 8) (j : Fin 64) :
    flag64 start acc (ix5 0 0 0 r (⟨64 + j.val, by omega⟩ : Fin 128)) = 0#32 := by
  unfold flag64
  generalize matmul dot_S8x256_S64x256_S8x64_1_1_0_0_n_n none (broadcast S8x256 (Scalar.ofBits (F := Ideal) .f32 0x3F800000#32)) (sel64 start acc)
      (constant (F := Ideal) S8x64 .f32 0x00000000#32) = M
  pointwise

theorem flag128_row (start : BitVec 32) (acc : FVec Ideal S208x1024 .f32) (r : Fin 8) (j : Fin 128) :
    flag128 start acc (ix5 0 0 0 r j) = flagOf fun q => sel128 start acc (ix2 j q) := by
  unfold flag128 flagOf
  rw [← count128_apply _ r]
  generalize matmul dot_S8x256_S128x256_S8x128_1_1_0_0_n_n none (broadcast S8x256 (Scalar.ofBits (F := Ideal) .f32 0x3F800000#32)) (sel128 start acc)
      (constant (F := Ideal) S8x128 .f32 0x00000000#32) = M
  pointwise

/-- An entry of the block of flags. -/
def flagAt (w : Nat) (x0 : Vec Ideal S1x512x512 .bf16) (x1 : Vec Ideal S1x2x512x128 .bf16)
    (x2 : Vec Ideal S1x2x208x512 .bf16) (bi g : Fin 2) (j : Fin 128) : BitVec 32 :=
  flagOf fun q => selVal w x0 x1 x2 g bi j q

section

variable (x0 : Vec Ideal S1x512x512 .bf16) (x1 : Vec Ideal S1x2x512x128 .bf16) (x2 : Vec Ideal S1x2x208x512 .bf16)

theorem flagAt_emb (w : Nat) (g bi : Fin 2) (ho) (k0 k1 k2 : Fin 1) (k3 : Fin 8) (k4 : Fin 128) :
    flagAt w x0 x1 x2 ((Rect.unit (s := S1x2x2x8x128) ![0, bi.val, g.val, 0, 0] S1x1x1x8x128.size ho).emb (ix5 k0 k1 k2 k3 k4) 1)
      ((Rect.unit (s := S1x2x2x8x128) ![0, bi.val, g.val, 0, 0] S1x1x1x8x128.size ho).emb (ix5 k0 k1 k2 k3 k4) 2)
      ((Rect.unit (s := S1x2x2x8x128) ![0, bi.val, g.val, 0, 0] S1x1x1x8x128.size ho).emb (ix5 k0 k1 k2 k3 k4) 4) = flagAt w x0 x1 x2 bi g k4 := by
  congr 1
  · refine Fin.ext ?_
    show bi.val + 1 * k1.val = bi.val
    omega
  · refine Fin.ext ?_
    show g.val + 1 * k2.val = g.val
    omega
  · refine Fin.ext ?_
    show 0 + 1 * k4.val = k4.val
    omega

theorem flag64_piece (w : Nat) (hw : w < 8) (g bi : Fin 2) (start : BitVec 32) (hstart : start = BitVec.ofNat 32 (512 * w + 256 * bi.val))
    (acc : FVec Ideal S208x1024 .f32) (hacc : ∀ d n, acc (ix2 d n) = sumOf (512 * w + 256 * bi.val) x0 x1 x2 g bi n d)
    (o : Fin 5 → Nat) (eo : o = ![0, bi.val, g.val, 0, 0]) (ho) (k : S1x1x1x8x128.Idx) :
    flag64 start acc k = flagAt w x0 x1 x2 ((Rect.unit (s := S1x2x2x8x128) o S1x1x1x8x128.size ho).emb k 1)
      ((Rect.unit (s := S1x2x2x8x128) o S1x1x1x8x128.size ho).emb k 2) ((Rect.unit (s := S1x2x2x8x128) o S1x1x1x8x128.size ho).emb k 4) := by
  subst eo hstart
  idx_vars k
  refine Eq.trans ?_ (flagAt_emb x0 x1 x2 w g bi ho k0 k1 k2 k3 k4).symm
  obtain rfl : k0 = 0 := Subsingleton.elim _ _
  obtain rfl : k1 = 0 := Subsingleton.elim _ _
  obtain rfl : k2 = 0 := Subsingleton.elim _ _
  by_cases h : k4.val < 64
  · refine (flag64_low _ acc k3 ⟨k4.val, h⟩).trans ?_
    unfold flagAt
    congr 1
    funext q
    rw [sel64_apply _ (by omega), impOf_acc x0 x1 x2 _ g bi acc hacc]
    unfold selVal selForm
    dsimp only
    rw [if_pos hw, dif_pos h]
  · have e : k4 = ⟨64 + (k4.val - 64), by omega⟩ := Fin.ext (show k4.val = 64 + (k4.val - 64) by omega)
    have z : (fun q => selVal w x0 x1 x2 g bi k4 q) = fun _ => 0 := by
      funext q
      unfold selVal
      dsimp only
      rw [if_pos hw, dif_neg h]
    unfold flagAt
    rw [z, flagOf_zero, e]
    exact flag64_high _ acc k3 ⟨k4.val - 64, by omega⟩

theorem flag128_piece (w : Nat) (hw : 8 ≤ w ∧ w < 16) (g bi : Fin 2) (start : BitVec 32) (hstart : start = BitVec.ofNat 32 (512 * w + 256 * bi.val))
    (acc : FVec Ideal S208x1024 .f32) (hacc : ∀ d n, acc (ix2 d n) = sumOf (512 * w + 256 * bi.val) x0 x1 x2 g bi n d)
    (o : Fin 5 → Nat) (eo : o = ![0, bi.val, g.val, 0, 0]) (ho) (k : S1x1x1x8x128.Idx) :
    flag128 start acc k = flagAt w x0 x1 x2 ((Rect.unit (s := S1x2x2x8x128) o S1x1x1x8x128.size ho).emb k 1)
      ((Rect.unit (s := S1x2x2x8x128) o S1x1x1x8x128.size ho).emb k 2) ((Rect.unit (s := S1x2x2x8x128) o S1x1x1x8x128.size ho).emb k 4) := by
  subst eo hstart
  idx_vars k
  refine Eq.trans ?_ (flagAt_emb x0 x1 x2 w g bi ho k0 k1 k2 k3 k4).symm
  obtain rfl : k0 = 0 := Subsingleton.elim _ _
  obtain rfl : k1 = 0 := Subsingleton.elim _ _
  obtain rfl : k2 = 0 := Subsingleton.elim _ _
  refine (flag128_row _ acc k3 k4).trans ?_
  unfold flagAt
  congr 1
  funext q
  rw [sel128_apply _ (by omega), impOf_acc x0 x1 x2 _ g bi acc hacc]
  unfold selVal selForm
  dsimp only
  rw [if_neg (show ¬w < 8 by omega)]

variable (c : Dev nD) (t : Fin grid0.N)
  (arg2 : Memref sig .tc .vmem S1x512x512 .bf16) (harg2 : arg2.IsWhole)
  (arg3 : Memref sig .tc .vmem S1x2x512x128 .bf16) (harg3 : arg3.IsWhole)
  (arg4 : Memref sig .tc .vmem S1x2x208x512 .bf16) (harg4 : arg4.IsWhole)
  (arg5 : Memref sig .tc .vmem S1x32x512 .f32) (harg5 : arg5.IsWhole)
  (arg6 : Memref sig .tc .vmem S1x512x512 .f32) (harg6 : arg6.IsWhole)
  (arg7 : Memref sig .tc .vmem S1x2x128x512 .bf16) (harg7 : arg7.IsWhole)
  (arg8 : Memref sig .tc .vmem S1x2x2x8x128 .i32) (harg8 : arg8.IsWhole)
  (arg9 : Memref sig .tc .vmem S2x2x1x1024 .f32) (harg9 : arg9.IsWhole)
  (arg10 : Memref sig .tc .vmem S2x2x208x1024 .f32) (harg10 : arg10.IsWhole)
  (x3 : Vec Ideal S1x32x512 .f32)

theorem flagBlock_A (hw : t.val % 16 < 8) (hc0 : ¬cond0_0 (grid0.coords t)) (hc1 : cond0_1 (grid0.coords t)) (hc2 : ¬cond0_2 (grid0.coords t))
    (hc3 : cond0_3 (grid0.coords t)) (hc4 : cond0_4 (grid0.coords t)) (hc5 : ¬cond0_5 (grid0.coords t)) (y : S1x2x2x8x128.Idx) :
    out0_A_6 c (grid0.coords t) arg2 harg2 arg3 harg3 arg4 harg4 arg5 harg5 arg6 harg6 arg7 harg7 arg8 harg8 arg9 harg9
      arg10 harg10 hc0 hc1 hc2 hc3 hc4 hc5 x0 x1 x2 x3 y = flagAt (t.val % 16) x0 x1 x2 (y 1) (y 2) (y 4) := by
  unfold out0_A_6
  rw [View.read_writes_junk_eq_canon]
  refine View.canon_apply_of_pieces (fun y : S1x2x2x8x128.Idx => flagAt (t.val % 16) x0 x1 x2 (y 1) (y 2) (y 4)) _ ?_ y
    (cover0_A_6 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [flagPieces_A c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).1)
    (inb_vals 0 (512 * (t.val % 16) + 256 * (0 : Fin 2).val) (by omega) _ (off_vals t 0).1)
    (inb_keys 1 (512 * (t.val % 16) + 256 * (0 : Fin 2).val) (by omega) _ (off_keys t 0).2.1)
    (inb_vals 1 (512 * (t.val % 16) + 256 * (0 : Fin 2).val) (by omega) _ (off_vals t 0).2.1)
    (inb_keys 0 (512 * (t.val % 16) + 256 * (1 : Fin 2).val) (by omega) _ (off_keys t 1).1)
    (inb_vals 0 (512 * (t.val % 16) + 256 * (1 : Fin 2).val) (by omega) _ (off_vals t 1).1)
    (inb_keys 1 (512 * (t.val % 16) + 256 * (1 : Fin 2).val) (by omega) _ (off_keys t 1).2.1)
    (inb_vals 1 (512 * (t.val % 16) + 256 * (1 : Fin 2).val) (by omega) _ (off_vals t 1).2.1)]
  intro p hp x
  rcases List.mem_cons.mp hp with rfl | hp
  · exact flag64_piece x0 x1 x2 (t.val % 16) hw 1 1 _ (start_A t).2 _ (fun d n => acc_A_apply arg2 harg2 arg3 harg3 arg4 harg4 x0 x1 x2 (t.val % 16) hw 1 1 _ _ (512 * (t.val % 16) + 256 * (1 : Fin 2).val) rfl (start_A t).2 (nck_A t).2
        _ _ _ _ (off_keys t 1).2.1 (off_vals t 1).2.1 _ _ (none_max_11 arg9) d n)
      ![0, 1, 1, 0, 0] rfl inb_S1x2x2x8x128_S1x1x1x8x128_0_1_1_0_0 x
  rcases List.mem_cons.mp hp with rfl | hp
  · exact flag64_piece x0 x1 x2 (t.val % 16) hw 0 1 _ (start_A t).2 _ (fun d n => acc_A_apply arg2 harg2 arg3 harg3 arg4 harg4 x0 x1 x2 (t.val % 16) hw 0 1 _ _ (512 * (t.val % 16) + 256 * (1 : Fin 2).val) rfl (start_A t).2 (nck_A t).2
        _ _ _ _ (off_keys t 1).1 (off_vals t 1).1 _ _ (none_max_10 arg9) d n)
      ![0, 1, 0, 0, 0] rfl inb_S1x2x2x8x128_S1x1x1x8x128_0_1_0_0_0 x
  rcases List.mem_cons.mp hp with rfl | hp
  · exact flag64_piece x0 x1 x2 (t.val % 16) hw 1 0 _ (start_A t).1 _ (fun d n => acc_A_apply arg2 harg2 arg3 harg3 arg4 harg4 x0 x1 x2 (t.val % 16) hw 1 0 _ _ (512 * (t.val % 16) + 256 * (0 : Fin 2).val) rfl (start_A t).1 (nck_A t).1
        _ _ _ _ (off_keys t 0).2.1 (off_vals t 0).2.1 _ _ (none_max_01 arg9) d n)
      ![0, 0, 1, 0, 0] rfl inb_S1x2x2x8x128_S1x1x1x8x128_0_0_1_0_0 x
  obtain rfl := List.mem_singleton.mp hp
  exact flag64_piece x0 x1 x2 (t.val % 16) hw 0 0 _ (start_A t).1 _ (fun d n => acc_A_apply arg2 harg2 arg3 harg3 arg4 harg4 x0 x1 x2 (t.val % 16) hw 0 0 _ _ (512 * (t.val % 16) + 256 * (0 : Fin 2).val) rfl (start_A t).1 (nck_A t).1
        _ _ _ _ (off_keys t 0).1 (off_vals t 0).1 _ _ (none_max_00 arg9) d n)
      ![0, 0, 0, 0, 0] rfl inb_S1x2x2x8x128_S1x1x1x8x128_0_0_0_0_0 x

theorem flagBlock_B (hc0 : cond0_0 (grid0.coords t)) (hc1 : ¬cond0_1 (grid0.coords t)) (hc2 : cond0_2 (grid0.coords t))
    (hc3 : ¬cond0_3 (grid0.coords t)) (hc4 : ¬cond0_4 (grid0.coords t)) (hc5 : cond0_5 (grid0.coords t)) (y : S1x2x2x8x128.Idx) :
    out0_B_6 c (grid0.coords t) arg2 harg2 arg3 harg3 arg4 harg4 arg5 harg5 arg6 harg6 arg7 harg7 arg8 harg8 arg9 harg9
      arg10 harg10 hc0 hc1 hc2 hc3 hc4 hc5 x0 x1 x2 x3 y = flagAt (t.val % 16) x0 x1 x2 (y 1) (y 2) (y 4) := by
  unfold out0_B_6
  rw [View.read_writes_junk_eq_canon]
  refine View.canon_apply_of_pieces (fun y : S1x2x2x8x128.Idx => flagAt (t.val % 16) x0 x1 x2 (y 1) (y 2) (y 4)) _ ?_ y
    (cover0_B_6 c (grid0.coords t) arg2 harg2 arg3 harg3 arg4 harg4 arg5 harg5 arg6 harg6 arg7 harg7 arg8 harg8 arg9 harg9
      arg10 harg10 hc0 hc1 hc2 hc3 hc4 hc5 x0 x1 x2 x3 y)
  rw [flagPieces_B c (grid0.coords t) arg2 harg2 arg3 harg3 arg4 harg4 arg5 harg5 arg6 harg6 arg7 harg7 arg8 harg8 arg9 harg9
      arg10 harg10 x0 x1 x2 x3 hc0 hc1 hc2 hc3 hc4 hc5
    (inb_keys 0 (512 * (t.val % 16) + 256 * (0 : Fin 2).val) (by omega) _ (off_keys t 0).2.2.1)
    (inb_vals 0 (512 * (t.val % 16) + 256 * (0 : Fin 2).val) (by omega) _ (off_vals t 0).2.2.1)
    (inb_keys 1 (512 * (t.val % 16) + 256 * (0 : Fin 2).val) (by omega) _ (off_keys t 0).2.2.2)
    (inb_vals 1 (512 * (t.val % 16) + 256 * (0 : Fin 2).val) (by omega) _ (off_vals t 0).2.2.2)
    (inb_keys 0 (512 * (t.val % 16) + 256 * (1 : Fin 2).val) (by omega) _ (off_keys t 1).2.2.1)
    (inb_vals 0 (512 * (t.val % 16) + 256 * (1 : Fin 2).val) (by omega) _ (off_vals t 1).2.2.1)
    (inb_keys 1 (512 * (t.val % 16) + 256 * (1 : Fin 2).val) (by omega) _ (off_keys t 1).2.2.2)
    (inb_vals 1 (512 * (t.val % 16) + 256 * (1 : Fin 2).val) (by omega) _ (off_vals t 1).2.2.2)]
  intro p hp x
  rcases List.mem_cons.mp hp with rfl | hp
  · exact flag128_piece x0 x1 x2 (t.val % 16) ⟨by by_contra h; exact absurd hc0 (fun h' => h ((hcond0_0 t).mp h')), by omega⟩ 1 1 _ (start_B t).2 _ (fun d n => acc_B_apply arg2 harg2 arg3 harg3 arg4 harg4 x0 x1 x2 (t.val % 16) (by omega) 1 1 _ _ (512 * (t.val % 16) + 256 * (1 : Fin 2).val) rfl (start_B t).2 (nck_B t).2
        _ _ _ _ (off_keys t 1).2.2.2 (off_vals t 1).2.2.2 _ _ (head_max_11 c (grid0.coords t) arg2 harg2 arg3 harg3 arg9 x0 x1)
        (head_acc_11 c (grid0.coords t) arg2 harg2 arg3 harg3 arg4 harg4 arg10 x0 x1 x2) d n)
      ![0, 1, 1, 0, 0] rfl inb_S1x2x2x8x128_S1x1x1x8x128_0_1_1_0_0 x
  rcases List.mem_cons.mp hp with rfl | hp
  · exact flag128_piece x0 x1 x2 (t.val % 16) ⟨by by_contra h; exact absurd hc0 (fun h' => h ((hcond0_0 t).mp h')), by omega⟩ 0 1 _ (start_B t).2 _ (fun d n => acc_B_apply arg2 harg2 arg3 harg3 arg4 harg4 x0 x1 x2 (t.val % 16) (by omega) 0 1 _ _ (512 * (t.val % 16) + 256 * (1 : Fin 2).val) rfl (start_B t).2 (nck_B t).2
        _ _ _ _ (off_keys t 1).2.2.1 (off_vals t 1).2.2.1 _ _ (head_max_10 c (grid0.coords t) arg2 harg2 arg3 harg3 arg9 x0 x1)
        (head_acc_10 c (grid0.coords t) arg2 harg2 arg3 harg3 arg4 harg4 arg10 x0 x1 x2) d n)
      ![0, 1, 0, 0, 0] rfl inb_S1x2x2x8x128_S1x1x1x8x128_0_1_0_0_0 x
  rcases List.mem_cons.mp hp with rfl | hp
  · exact flag128_piece x0 x1 x2 (t.val % 16) ⟨by by_contra h; exact absurd hc0 (fun h' => h ((hcond0_0 t).mp h')), by omega⟩ 1 0 _ (start_B t).1 _ (fun d n => acc_B_apply arg2 harg2 arg3 harg3 arg4 harg4 x0 x1 x2 (t.val % 16) (by omega) 1 0 _ _ (512 * (t.val % 16) + 256 * (0 : Fin 2).val) rfl (start_B t).1 (nck_B t).1
        _ _ _ _ (off_keys t 0).2.2.2 (off_vals t 0).2.2.2 _ _ (head_max_01 c (grid0.coords t) arg2 harg2 arg3 harg3 arg9 x0 x1)
        (head_acc_01 c (grid0.coords t) arg2 harg2 arg3 harg3 arg4 harg4 arg10 x0 x1 x2) d n)
      ![0, 0, 1, 0, 0] rfl inb_S1x2x2x8x128_S1x1x1x8x128_0_0_1_0_0 x
  obtain rfl := List.mem_singleton.mp hp
  exact flag128_piece x0 x1 x2 (t.val % 16) ⟨by by_contra h; exact absurd hc0 (fun h' => h ((hcond0_0 t).mp h')), by omega⟩ 0 0 _ (start_B t).1 _ (fun d n => acc_B_apply arg2 harg2 arg3 harg3 arg4 harg4 x0 x1 x2 (t.val % 16) (by omega) 0 0 _ _ (512 * (t.val % 16) + 256 * (0 : Fin 2).val) rfl (start_B t).1 (nck_B t).1
        _ _ _ _ (off_keys t 0).2.2.1 (off_vals t 0).2.2.1 _ _ (head_max_00 c (grid0.coords t) arg2 harg2 arg3 harg3 arg9 x0 x1)
        (head_acc_00 c (grid0.coords t) arg2 harg2 arg3 harg3 arg4 harg4 arg10 x0 x1 x2) d n)
      ![0, 0, 0, 0, 0] rfl inb_S1x2x2x8x128_S1x1x1x8x128_0_0_0_0_0 x

end

/-- The flags, from the kernel's operands. -/
def oflag (A0 : Vec Ideal S2x512x8192 .bf16) (A1 : Vec Ideal S2x2x512x128 .bf16) (A2 : Vec Ideal S2x2x208x512 .bf16) :
    Vec Ideal S2x32x2x8x128 .i32 := fun y =>
  have b : Fin 2 := y 0
  have k : Fin 32 := y 1
  have w : Fin 16 := ⟨k.val / 2, by omega⟩
  flagAt w.val (cut0 A0 b w) (cut1 A1 b) (cut2 A2 b) ⟨k.val % 2, by omega⟩ (y 2) (y 4)

theorem oflag_tile (A0 : Vec Ideal S2x512x8192 .bf16) (A1 : Vec Ideal S2x2x512x128 .bf16) (A2 : Vec Ideal S2x2x208x512 .bf16)
    (b bi g : Fin 2) (r : Fin 8) (j : Fin 128) (w : Fin 16) :
    oflag A0 A1 A2 (ix5 b (⟨2 * w.val + bi.val, by omega⟩ : Fin 32) g r j) = flagAt w.val (cut0 A0 b w) (cut1 A1 b) (cut2 A2 b) bi g j := by
  have hw : (⟨(2 * w.val + bi.val) / 2, by omega⟩ : Fin 16) = w := Fin.ext (show (2 * w.val + bi.val) / 2 = w.val by omega)
  have hb : (⟨(2 * w.val + bi.val) % 2, by omega⟩ : Fin 2) = bi := Fin.ext (show (2 * w.val + bi.val) % 2 = bi.val by omega)
  show flagAt (⟨(2 * w.val + bi.val) / 2, by omega⟩ : Fin 16).val
    (cut0 A0 b ⟨(2 * w.val + bi.val) / 2, by omega⟩) (cut1 A1 b) (cut2 A2 b) ⟨(2 * w.val + bi.val) % 2, by omega⟩ g j = _
  rw [hw, hb]

theorem idx6 : ∀ t : Fin cfg0.N, win0_6.index t = ![t.val / 16, t.val % 16, 0, 0, 0] :=
  (by decide +kernel : ∀ t : Fin grid0.N, _)

variable (m : (ℓ : Loc nD τ sig) → Buf (Elt Ideal) ℓ) (c : Dev nD)

/-- What a point writes back, at an index of its block. -/
theorem flagFlushed_apply (t : Fin cfg0.N) (y : S1x2x2x8x128.Idx) :
    (outsAt0 m c t.val t.isLt).2.2 y = flagAt (t.val % 16) (iblk m c 0 t) (iblk m c 1 t) (iblk m c 2 t) (y 1) (y 2) (y 4) := by
  by_cases h : 8 ≤ t.val % 16
  · have h1 : ¬t.val % 16 ≤ 7 := by omega
    have e : (outsAt0 m c t.val t.isLt).2.2 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) (iblk m c 0 t) (iblk m c 1 t) (iblk m c 2 t) (iblk m c 3 t) := by
      rw [outsAt0_B m c t h h1 h h1 h1 h]
    rw [e]
    exact flagBlock_B (iblk m c 0 t) (iblk m c 1 t) (iblk m c 2 t) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 3 t)
      ((hcond0_0 t).mpr h) (fun h' => h1 ((hcond0_1 t).mp h')) ((hcond0_2 t).mpr h) (fun h' => h1 ((hcond0_3 t).mp h')) (fun h' => h1 ((hcond0_4 t).mp h')) ((hcond0_5 t).mpr h) y
  · have h1 : t.val % 16 ≤ 7 := by omega
    have e : (outsAt0 m c t.val t.isLt).2.2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (fun h' => h ((hcond0_0 t).mp h')) ((hcond0_1 t).mpr h1) (fun h' => h ((hcond0_2 t).mp h')) ((hcond0_3 t).mpr h1) ((hcond0_4 t).mpr h1) (fun h' => h ((hcond0_5 t).mp h')) (iblk m c 0 t) (iblk m c 1 t) (iblk m c 2 t) (iblk m c 3 t) := by
      rw [outsAt0_A m c t h h1 h h1 h1 h]
    rw [e]
    exact flagBlock_A (iblk m c 0 t) (iblk m c 1 t) (iblk m c 2 t) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 3 t) (by omega)
      (fun h' => h ((hcond0_0 t).mp h')) ((hcond0_1 t).mpr h1) (fun h' => h ((hcond0_2 t).mp h')) ((hcond0_3 t).mpr h1) ((hcond0_4 t).mpr h1) (fun h' => h ((hcond0_5 t).mp h')) y

theorem flagFinal : (dats m 0 c).arrAt 6 cfg0.N =
    oflag (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine (flagFlushed_apply m c t y).trans ?_
  rw [blk0, blk1, blk2]
  refine (oflag_tile _ _ _ ⟨t.val / 16, by have h : t.val < cfg0.grid.N := t.isLt; have := points; omega⟩ (y 1) (y 2) (y 3) (y 4) ⟨t.val % 16, by omega⟩).symm.trans ?_
  refine congrArg _ ?_
  blk_ext [idx6 t]

end Cert.KernelIdeal.Cmp
-- ==== Proof.FlagMatch.lean ====
module

public import proofs.«01_k».proof.Proof.SelMatch
public import proofs.«01_k».proof.Proof.FlagBlock

/-! # The kernel flags the reference's blocks -/

@[expose] public section

set_option maxRecDepth 16384

noncomputable section

namespace Cert.ReferenceIdeal.Cmp

open Cert.ReferenceIdeal Cert.ReferenceIdeal.Gen Cert.ReferenceIdeal.Read Idealize.ShloMosaic Idealize.ShloMosaic.TcCoe Idealize.SL.Sem
open Cert.KernelIdeal.Cmp (flagOf)

variable (x0 : FVec Ideal S2x512x8192 .bf16) (x1 : FVec Ideal S2x2x512x128 .bf16)

theorem count_apply (b g : Fin 2) (k : Fin 32) (j : Fin 128) :
    val_main_v117 (F := Ideal) x0 x1 (ix4 b g k j) = ∑ q : Fin 256, val_main_v114 (F := Ideal) x0 x1 (ix4 b g j (⟨256 * k.val + q.val, by omega⟩ : Fin 8192)) := by
  rw [val_main_v117_apply]
  have z : val_main_cst_27 (F := Ideal) (Shape.Idx.first h_S_) = 0 := by
    rw [val_main_cst_27_apply]
    show Ideal.ofBits FTy.f32 0x00000000#32 = 0
    simp [Ideal.ofBits, Ideal.ieee]
  rw [z, zero_add]
  refine Finset.sum_congr rfl fun q _ => ?_
  rw [val_main_v116_apply, val_main_v115_apply, val_main_v114_apply, val_main_v113_apply]
  show val_main_v112 (F := Ideal) x0 x1 _ = val_main_v112 (F := Ideal) x0 x1 _
  congr 1
  funext a
  refine Fin.ext ?_
  fin_cases a
  · show ((((b.val * 2 + g.val) * 32 + k.val) * 256 + q.val) * 128 + j.val) / 2097152 = b.val
    omega
  · show ((((b.val * 2 + g.val) * 32 + k.val) * 256 + q.val) * 128 + j.val) / 1048576 % 2 = g.val
    omega
  · show ((((b.val * 2 + g.val) * 32 + k.val) * 256 + q.val) * 128 + j.val) / 128 % 8192 = 256 * k.val + q.val
    omega
  · show ((((b.val * 2 + g.val) * 32 + k.val) * 256 + q.val) * 128 + j.val) % 128 = j.val
    omega

theorem flag_apply (b g : Fin 2) (k : Fin 32) (r : Fin 8) (j : Fin 128) :
    val_main_v123 (F := Ideal) x0 x1 (ix5 b k g r j) =
      flagOf fun q => val_main_v114 (F := Ideal) x0 x1 (ix4 b g j (⟨256 * k.val + q.val, by omega⟩ : Fin 8192)) := by
  unfold flagOf
  rw [← count_apply x0 x1 b g k j]
  unfold val_main_v123 val_main_v122 val_main_v121 val_main_v120 val_main_v119 val_main_v118 val_main_cst_28
  generalize val_main_v117 (F := Ideal) x0 x1 = M
  pointwise

end Cert.ReferenceIdeal.Cmp

namespace Cert.KernelIdeal.Cmp

open Cert.KernelIdeal Cert.KernelIdeal.Gen Idealize.ShloMosaic Idealize.ShloMosaic.TcCoe Idealize.SL.Sem

open Cert.ReferenceIdeal.Cmp (Over)

variable (A0 : FVec Ideal S2x512x8192 .bf16) (A1 : FVec Ideal S2x2x512x128 .bf16) (A2 : FVec Ideal S2x2x208x512 .bf16)

theorem oflag_eq (hk : ∀ (b g : Fin 2) (i : Fin 512), A1 (ix4 b g i 64) = ((16 * ((i.val % 128 : ℕ) : ℝ) : ℝ) : EReal))
    (hv : ∀ (b g : Fin 2) (i : Fin 512), A2 (ix4 b g 64 i) = 1)
    (ho : ∀ (b g : Fin 2) (j : Fin 128) (i : Fin 512), A2 (ix4 b g (⟨80 + j.val, by omega⟩ : Fin 208) i) = if Over i.val j.val then 1 else 0) :
    oflag A0 A1 A2 = Cert.ReferenceIdeal.Read.val_main_v123 (F := Ideal) A0 A1 := by
  funext y
  idx_vars y
  refine Eq.trans ?_ (Cert.ReferenceIdeal.Cmp.flag_apply A0 A1 y0 y2 y1 y3 y4).symm
  rw [← osel_eq A0 A1 A2 hk hv ho]
  have hy : ∃ (w : Fin 16) (bi : Fin 2), y1 = ⟨2 * w.val + bi.val, by omega⟩ :=
    ⟨⟨y1.val / 2, by omega⟩, ⟨y1.val % 2, by omega⟩, Fin.ext (show y1.val = 2 * (y1.val / 2) + y1.val % 2 by omega)⟩
  obtain ⟨w, bi, rfl⟩ := hy
  rw [oflag_tile]
  unfold flagAt
  congr 1
  funext q
  rw [← selAt_eq, ← osel_query]
  congr 2
  refine Fin.ext ?_
  show 512 * w.val + (256 * bi.val + q.val) = 256 * (2 * w.val + bi.val) + q.val
  omega

end Cert.KernelIdeal.Cmp
-- ==== Proof.Row.lean ====
module

public import Idealize.ShloMosaic.PureOps.Ideal
public import Idealize.ShloMosaic.Lib.Pointwise

/-! # One token's row

The functions of one token's row of 1024 channels that the layer's row-wise calls compute. -/

@[expose] public section

noncomputable section

namespace Cert.Row

open Idealize.ShloMosaic

/-- Root mean square normalisation of a row, times a gain. -/
def rms (x g : Fin 1024 → EReal) (j : Fin 1024) : EReal :=
  x j * Ideal.rsqrt (Ideal.div (∑ k, x k * x k) (Ideal.ofBits .f32 1149239296#32) + Ideal.ofBits .f32 897988541#32) * g j

/-- The product of a row with a matrix. -/
def times {k n : ℕ} (x : Fin k → EReal) (w : Fin k → Fin n → EReal) (j : Fin n) : EReal := ∑ a, x a * w a j

/-- The gated linear unit of a row's gate and up parts. -/
def glu {n : ℕ} (a b : Fin n → EReal) (i : Fin n) : EReal := a i * Ideal.logistic (a i) * b i

/-- The feed-forward part on a row, and the last normalisation. -/
def ffn (x g : Fin 1024 → EReal) (wg wu : Fin 1024 → Fin 2816 → EReal) (wd : Fin 2816 → Fin 1024 → EReal)
    (gf : Fin 1024 → EReal) : Fin 1024 → EReal :=
  rms (fun j => x j + times (glu (times (rms x g) wg) (times (rms x g) wu)) wd j) gf

/-- Where, of two tokens of a chunk, the later or the same reads the other one. -/
def low (t s : Fin 128) : BitVec 1 := IntOp.cmpi .sge (BitVec.ofNat 32 t.val) (BitVec.ofNat 32 s.val)

/-- A channel of the spatial gating unit at token `t` of a chunk: `v` the chunk's tokens, `w` the token's weights on them. -/
def gated (t : Fin 128) (u : EReal) (v w : Fin 128 → EReal) (b : EReal) : EReal :=
  u * ((∑ s, v s * (w s * Scalar.select (low t s) 1 0)) + b)

/-- The two mixers' results merged by the row's gates, projected and added to the row. -/
def merge (x g : Fin 1024 → EReal) (wm : Fin 1024 → Fin 2048 → EReal) (bm : Fin 2048 → EReal) (a o : Fin 512 → EReal)
    (pa pb : Fin 512 → Fin 1024 → EReal) (wo : Fin 1024 → Fin 1024 → EReal) (j : Fin 1024) : EReal :=
  x j + times (fun k : Fin 1024 =>
    Ideal.logistic (times (rms x g) wm ⟨k.val, by omega⟩ + bm ⟨k.val, by omega⟩) * times a pa k +
      Ideal.logistic (times (rms x g) wm ⟨1024 + k.val, by omega⟩ + bm ⟨1024 + k.val, by omega⟩) * times o pb k) wo j

/-- Softmax weights in base two of logits `X`, taken on the values `V`. -/
def attend {n : ℕ} (X V : Fin n → EReal) : EReal :=
  (∑ i, Ideal.exp2 (X i - Finset.univ.sup X) * V i) * Ideal.div 1 (∑ i, Ideal.exp2 (X i - Finset.univ.sup X))

/-- Channel `d` of the head that holds channel `o`. -/
abbrev ofHead (o : Fin 512) (d : Fin 128) : Fin 512 := ⟨128 * (o.val / 128) + d.val, by omega⟩

/-- The attention of a row to the memory, added to the row: `c` scales the queries, `K` and `V` are the memory's keys
and values. -/
def xattn (x g : Fin 1024 → EReal) (wq : Fin 1024 → Fin 512 → EReal) (c : EReal) (K V : Fin 256 → Fin 512 → EReal)
    (wo : Fin 512 → Fin 1024 → EReal) (j : Fin 1024) : EReal :=
  x j + times (fun o : Fin 512 =>
    attend (fun i => ∑ d : Fin 128, times (rms x g) wq (ofHead o d) * c * K i (ofHead o d)) (fun i => V i o)) wo j

end Cert.Row
-- ==== Proof.Ffn.lean ====
module

public import proofs.«01_k».proof.Proof.Row
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-! ## Half a block -/

theorem pay2_apply (x : Vec Ideal S256x1024 .f32) (g : Vec Ideal S1x1024 .f32) (r : Fin 256) (j : Fin 1024) :
    k0_pay2 x g (ix2 r j) = Row.rms (fun k => x (ix2 r k)) (fun k => g (ix2 0 k)) j := by
  unfold k0_pay2
  pointwise
  rfl

theorem pay4_apply (x : Vec Ideal S256x1024 .f32) (g : Vec Ideal S1x1024 .f32) (w : Vec Ideal S1024x2816 .bf16)
    (r : Fin 256) (j : Fin 2816) :
    k0_pay4 x g w (ix2 r j) =
      Row.times (Row.rms (fun k => x (ix2 r k)) (fun k => g (ix2 0 k))) (fun a b => w (ix2 a b)) j := by
  unfold k0_pay4
  pointwise
  simp only [pay2_apply]
  rfl

theorem pay7_apply (x : Vec Ideal S256x1024 .f32) (a b : FVec Ideal S256x2816 .f32) (w : Vec Ideal S2816x1024 .bf16)
    (g : Vec Ideal S1x1024 .f32) (r : Fin 256) (j : Fin 1024) :
    k0_pay7 x a b w g (ix2 r j) =
      Row.rms (fun k => x (ix2 r k) + Row.times (Row.glu (fun i => a (ix2 r i)) (fun i => b (ix2 r i))) (fun p q => w (ix2 p q)) k)
        (fun k => g (ix2 0 k)) j := by
  unfold k0_pay7
  pointwise
  rfl

/-- What a half of a block is replaced by. -/
theorem half_apply (x : Vec Ideal S256x1024 .f32) (g : Vec Ideal S1x1024 .f32) (wg wu : Vec Ideal S1024x2816 .bf16)
    (wd : Vec Ideal S2816x1024 .bf16) (gf : Vec Ideal S1x1024 .f32) (r : Fin 256) (j : Fin 1024) :
    k0_pay7 x (k0_pay4 x g wg) (k0_pay6 x g wu) wd gf (ix2 r j) =
      Row.ffn (fun k => x (ix2 r k)) (fun k => g (ix2 0 k)) (fun a b => wg (ix2 a b)) (fun a b => wu (ix2 a b))
        (fun a b => wd (ix2 a b)) (fun k => gf (ix2 0 k)) j := by
  rw [pay7_apply]
  simp only [pay4_apply, show k0_pay6 x g wu = k0_pay4 x g wu from rfl]
  rfl

/-- The second half is computed as the first one is. -/
theorem second_half (x : Vec Ideal S256x1024 .f32) (g : Vec Ideal S1x1024 .f32) (wg wu : Vec Ideal S1024x2816 .bf16)
    (wd : Vec Ideal S2816x1024 .bf16) (gf : Vec Ideal S1x1024 .f32) :
    k0_pay1 (k0_pay8 x (k0_pay3 x g) (k0_pay5 x g wg) wu wd) gf (k0_pay9 x (k0_pay3 x g) (k0_pay5 x g wg) wu wd) =
      k0_pay7 x (k0_pay4 x g wg) (k0_pay6 x g wu) wd gf := rfl

/-- A load through a unit rectangle, at an index. -/
theorem ld_apply {e : EltTy} {n0 n1 a b : ℕ} (X : (⟨2, ![n0, n1]⟩ : Shape).Idx → Elt Ideal e) (o p : ℕ) (ho) (r : Fin a) (k : Fin b)
    (i : Fin n0) (j : Fin n1) (hi : i.val = o + r.val) (hj : j.val = p + k.val) :
    View.ld X (Rect.unit (s := ⟨2, ![n0, n1]⟩) ![o, p] ![a, b] ho) (ix2 r k) = X (ix2 i j) := by
  refine congrArg X (funext fun d => ?_)
  fin_cases d
  · exact Fin.ext (show o + 1 * r.val = i.val by omega)
  · exact Fin.ext (show p + 1 * k.val = j.val by omega)

/-- A half of a block's rows, as the rows of the block. -/
theorem piece_apply (x0 : Vec Ideal S512x1024 .f32) (x1 : Vec Ideal S1x1024 .f32) (x2 : Vec Ideal S1024x5632 .bf16)
    (x3 : Vec Ideal S2816x1024 .bf16) (x4 : Vec Ideal S1x1024 .f32) (o : ℕ) (ho) (r : Fin 256) (j : Fin 1024) (i : Fin 512)
    (hi : i.val = o + r.val) :
    k0_pay7 (View.ld x0 (Rect.unit (s := S512x1024) ![o, 0] S256x1024.size ho))
      (k0_pay4 (View.ld x0 (Rect.unit (s := S512x1024) ![o, 0] S256x1024.size ho)) (View.ld x1 r0_2) (View.ld x2 r0_3))
      (k0_pay6 (View.ld x0 (Rect.unit (s := S512x1024) ![o, 0] S256x1024.size ho)) (View.ld x1 r0_2) (View.ld x2 r0_4))
      (View.ld x3 r0_5) (View.ld x4 r0_2) (ix2 r j) =
      Row.ffn (fun k => x0 (ix2 i k)) (fun k => x1 (ix2 0 k)) (fun a b => x2 (ix2 a ⟨b.val, by omega⟩))
        (fun a b => x2 (ix2 a ⟨2816 + b.val, by omega⟩)) (fun a b => x3 (ix2 a b)) (fun k => x4 (ix2 0 k)) j := by
  refine (half_apply _ _ _ _ _ _ r j).trans ?_
  have e0 : (fun k : Fin 1024 => View.ld x0 (Rect.unit (s := S512x1024) ![o, 0] S256x1024.size ho) (ix2 r k)) = fun k => x0 (ix2 i k) :=
    funext fun k => ld_apply x0 o 0 ho r k i k hi (by omega)
  have e1 : (fun k : Fin 1024 => View.ld x1 r0_2 (ix2 0 k)) = fun k => x1 (ix2 0 k) :=
    funext fun k => ld_apply x1 0 0 _ 0 k 0 k rfl (by omega)
  have e2 : (fun (a : Fin 1024) (b : Fin 2816) => View.ld x2 r0_3 (ix2 a b)) = fun a b => x2 (ix2 a ⟨b.val, by omega⟩) :=
    funext fun a => funext fun b => ld_apply x2 0 0 _ a b a ⟨b.val, by omega⟩ (by omega) (Nat.zero_add _).symm
  have e3 : (fun (a : Fin 1024) (b : Fin 2816) => View.ld x2 r0_4 (ix2 a b)) = fun a b => x2 (ix2 a ⟨2816 + b.val, by omega⟩) :=
    funext fun a => funext fun b => ld_apply x2 0 2816 _ a b a ⟨2816 + b.val, by omega⟩ (by omega) rfl
  have e4 : (fun (a : Fin 2816) (b : Fin 1024) => View.ld x3 r0_5 (ix2 a b)) = fun a b => x3 (ix2 a b) :=
    funext fun a => funext fun b => ld_apply x3 0 0 _ a b a b (by omega) (by omega)
  have e5 : (fun k : Fin 1024 => View.ld x4 r0_2 (ix2 0 k)) = fun k => x4 (ix2 0 k) :=
    funext fun k => ld_apply x4 0 0 _ 0 k 0 k rfl (by omega)
  rw [e0, e1, e2, e3, e4, e5]

/-- A block of 512 rows after the call. -/
theorem block_apply (x0 : Vec Ideal S512x1024 .f32) (x1 : Vec Ideal S1x1024 .f32) (x2 : Vec Ideal S1024x5632 .bf16)
    (x3 : Vec Ideal S2816x1024 .bf16) (x4 : Vec Ideal S1x1024 .f32) (r : Fin 512) (j : Fin 1024) :
    out0_5 x0 x1 x2 x3 x4 (ix2 r j) =
      Row.ffn (fun k => x0 (ix2 r k)) (fun k => x1 (ix2 0 k)) (fun a b => x2 (ix2 a ⟨b.val, by omega⟩))
        (fun a b => x2 (ix2 a ⟨2816 + b.val, by omega⟩)) (fun a b => x3 (ix2 a b)) (fun k => x4 (ix2 0 k)) j := by
  unfold out0_5 k0_pay11 k0_pay10
  rw [second_half]
  refine View.canon_apply_of_pieces (Val := Elt Ideal) (fun y : S512x1024.Idx => Row.ffn (fun k => x0 (ix2 (y 0 : Fin 512) k)) (fun k => x1 (ix2 0 k))
    (fun a b => x2 (ix2 a ⟨b.val, by omega⟩)) (fun a b => x2 (ix2 a ⟨2816 + b.val, by omega⟩)) (fun a b => x3 (ix2 a b))
    (fun k => x4 (ix2 0 k)) (y 1)) _ ?_ (ix2 r j) (cover0_5 _ _ _)
  intro p hp k
  rcases List.mem_cons.mp hp with rfl | hp
  · idx_vars k
    refine (piece_apply x0 x1 x2 x3 x4 256 _ k0 k1 ⟨256 + k0.val, by omega⟩ rfl).trans ?_
    congr 1
    · exact funext fun k => congrArg (fun i => x0 (ix2 i k)) (Fin.ext (show 256 + k0.val = 256 + 1 * k0.val by omega))
    · exact Fin.ext (show k1.val = 0 + 1 * k1.val by omega)
  · obtain rfl := List.mem_singleton.mp hp
    idx_vars k
    refine (piece_apply x0 x1 x2 x3 x4 0 _ k0 k1 ⟨0 + k0.val, by omega⟩ rfl).trans ?_
    congr 1
    · exact funext fun k => congrArg (fun i => x0 (ix2 i k)) (Fin.ext (show 0 + k0.val = 0 + 1 * k0.val by omega))
    · exact Fin.ext (show k1.val = 0 + 1 * k1.val by omega)

/-! ## The array -/

/-- The call's result, from its operands. -/
def out (A0 : Vec Ideal S16384x1024 .f32) (A1 : Vec Ideal S1x1024 .f32) (A2 : Vec Ideal S1024x5632 .bf16)
    (A3 : Vec Ideal S2816x1024 .bf16) (A4 : Vec Ideal S1x1024 .f32) : Vec Ideal S16384x1024 .f32 := fun y =>
  Row.ffn (fun k => A0 (ix2 (y 0 : Fin 16384) k)) (fun k => A1 (ix2 0 k)) (fun a b => A2 (ix2 a ⟨b.val, by omega⟩))
    (fun a b => A2 (ix2 a ⟨2816 + b.val, by omega⟩)) (fun a b => A3 (ix2 a b)) (fun k => A4 (ix2 0 k)) (y 1 : Fin 1024)

theorem points : cfg0.grid.N = 32 := N_0

theorem idx0 : ∀ t : Fin cfg0.N, win0_0.index t = ![t.val, 0] ∧ win0_1.index t = ![0, 0] ∧
    win0_2.index t = ![0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- Row `r` of the `w`-th block of rows. -/
abbrev row (w : Fin 32) (r : Fin 512) : Fin 16384 := ⟨512 * w.val + r.val, by omega⟩

/-- The rows a point loads. -/
def cut (A : Vec Ideal S16384x1024 .f32) (w : Fin 32) : Vec Ideal S512x1024 .f32 :=
  fun k => A (ix2 (row w (k 0)) (k 1 : Fin 1024))

theorem blk0 (t : Fin cfg0.N) : iblk m c 0 t = cut (m ((c : Thread nD τ).loc main_arg0)) ⟨t.val, points ▸ t.isLt⟩ := by
  funext k
  unfold cut
  blk_ext [iblk, V, (idx0 t).1]
theorem blk1 (t : Fin cfg0.N) : iblk m c 1 t = (m ((c : Thread nD τ).loc main_arg1)) := by
  funext k
  blk_ext [iblk, V, (idx0 t).2.1]
theorem blk2 (t : Fin cfg0.N) : iblk m c 2 t = (m ((c : Thread nD τ).loc main_arg2)) := by
  funext k
  blk_ext [iblk, V, (idx0 t).2.2.1]
theorem blk3 (t : Fin cfg0.N) : iblk m c 3 t = (m ((c : Thread nD τ).loc main_arg3)) := by
  funext k
  blk_ext [iblk, V, (idx0 t).2.2.2.1]
theorem blk4 (t : Fin cfg0.N) : iblk m c 4 t = (m ((c : Thread nD τ).loc main_arg4)) := by
  funext k
  blk_ext [iblk, V, (idx0 t).2.2.2.2.1]

theorem final : (dats m 0 c).arrAt 5 cfg0.N =
    out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5, blk0, blk1, blk2, blk3, blk4]
  idx_vars y
  refine (block_apply _ _ _ _ _ y0 y1).trans ?_
  refine Eq.trans ?_ (congrArg (out _ _ _ _ _) (?_ : ix2 (row ⟨t.val, points ▸ t.isLt⟩ y0) y1 = _))
  · rfl
  · blk_ext [(idx0 t).2.2.2.2.2]

end Cert.Kernel2Ideal.Ffn

namespace Cert.Reference2Ideal.Ffn

open Cert.Reference2Ideal Cert.Reference2Ideal.Read Idealize.ShloMosaic

theorem rms_apply (A0 : Vec Ideal S16384x1024 .f32) (A1 : Vec Ideal S1x1024 .f32) (r : Fin 16384) (j : Fin 1024) :
    val_main_v11 (F := Ideal) A0 A1 (ix2 r j) = Row.rms (fun k => A0 (ix2 r k)) (fun k => A1 (ix2 0 k)) j := by
  unfold val_main_v11 val_main_v10 val_main_v9 val_main_v8 val_main_v7 val_main_v6 val_main_v5 val_main_v4 val_main_v3 val_main_v2
    val_main_v1 val_main_v0 val_main_cst val_main_cst_0 val_main_cst_1
  pointwise
  rfl

theorem hidden_apply (A0 : Vec Ideal S16384x1024 .f32) (A1 : Vec Ideal S1x1024 .f32) (A2 : Vec Ideal S1024x5632 .bf16)
    (r : Fin 16384) (j : Fin 5632) : val_main_v13 (F := Ideal) A0 A1 A2 (ix2 r j) =
      Row.times (Row.rms (fun k => A0 (ix2 r k)) (fun k => A1 (ix2 0 k))) (fun a b => A2 (ix2 a b)) j := by
  unfold val_main_v13 val_main_v12
  pointwise
  simp only [rms_apply]
  rfl

theorem glu_apply (A0 : Vec Ideal S16384x1024 .f32) (A1 : Vec Ideal S1x1024 .f32) (A2 : Vec Ideal S1024x5632 .bf16)
    (r : Fin 16384) (j : Fin 2816) : val_main_v17 (F := Ideal) A0 A1 A2 (ix2 r j) =
      Row.glu (Row.times (Row.rms (fun k => A0 (ix2 r k)) (fun k => A1 (ix2 0 k))) (fun a b => A2 (ix2 a ⟨b.val, by omega⟩)))
        (Row.times (Row.rms (fun k => A0 (ix2 r k)) (fun k => A1 (ix2 0 k))) (fun a b => A2 (ix2 a ⟨2816 + b.val, by omega⟩))) j := by
  unfold val_main_v17 val_main_v16 val_main_call0_v5 val_main_call0_v4 val_main_call0_v3 val_main_call0_v2 val_main_call0_v1
    val_main_call0_v0 val_main_call0_cst val_main_call0_cst_0 val_main_v15 val_main_v14
  pointwise
  simp only [hidden_apply]
  rfl

theorem sum_apply (A0 : Vec Ideal S16384x1024 .f32) (A1 : Vec Ideal S1x1024 .f32) (A2 : Vec Ideal S1024x5632 .bf16)
    (A3 : Vec Ideal S2816x1024 .bf16) (r : Fin 16384) (j : Fin 1024) : val_main_v20 (F := Ideal) A0 A1 A2 A3 (ix2 r j) =
      A0 (ix2 r j) + Row.times (fun i => val_main_v17 (F := Ideal) A0 A1 A2 (ix2 r i)) (fun a b => A3 (ix2 a b)) j := by
  unfold val_main_v20 val_main_v19 val_main_v18
  pointwise
  rfl

theorem res_apply (A0 : Vec Ideal S16384x1024 .f32) (A1 : Vec Ideal S1x1024 .f32) (A2 : Vec Ideal S1024x5632 .bf16)
    (A3 : Vec Ideal S2816x1024 .bf16) (A4 : Vec Ideal S1x1024 .f32) (r : Fin 16384) (j : Fin 1024) :
    val_main_v32 (F := Ideal) A0 A1 A2 A3 A4 (ix2 r j) =
      Row.ffn (fun k => A0 (ix2 r k)) (fun k => A1 (ix2 0 k)) (fun a b => A2 (ix2 a ⟨b.val, by omega⟩))
        (fun a b => A2 (ix2 a ⟨2816 + b.val, by omega⟩)) (fun a b => A3 (ix2 a b)) (fun k => A4 (ix2 0 k)) j := by
  unfold val_main_v32 val_main_v31 val_main_v30 val_main_v29 val_main_v28 val_main_v27 val_main_v26 val_main_v25 val_main_v24
    val_main_v23 val_main_v22 val_main_v21 val_main_cst_2 val_main_cst_3 val_main_cst_4
  pointwise
  simp only [sum_apply, glu_apply]
  rfl

end Cert.Reference2Ideal.Ffn

namespace Cert.Kernel2Ideal.Ffn

open Idealize.ShloMosaic

/-- The call and the reference compute the same. -/
theorem out_eq (A0 : Vec Ideal S16384x1024 .f32) (A1 : Vec Ideal S1x1024 .f32) (A2 : Vec Ideal S1024x5632 .bf16)
    (A3 : Vec Ideal S2816x1024 .bf16) (A4 : Vec Ideal S1x1024 .f32) :
    out A0 A1 A2 A3 A4 = Cert.Reference2Ideal.Read.val_main_v32 (F := Ideal) A0 A1 A2 A3 A4 := by
  funext y
  idx_vars y
  exact (Cert.Reference2Ideal.Ffn.res_apply A0 A1 A2 A3 A4 y0 y1).symm

end Cert.Kernel2Ideal.Ffn
-- ==== Proof.Merge.lean ====
module

public import proofs.«01_k».proof.Proof.Ffn
public import proofs.«01_k».proof.Proof.Gen.Kernel3Ideal.Value
public import proofs.«01_k».proof.Proof.Gen.Reference3Ideal.Read

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Cert.Kernel2Ideal.Ffn (ld_apply)

/-! ## The spatial gating unit -/

/-- A load of one slice of a stack of matrices. -/
theorem ld3_apply {e : EltTy} {n0 n1 n2 b c : ℕ} (X : (⟨3, ![n0, n1, n2]⟩ : Shape).Idx → Elt Ideal e) (o p q : ℕ) (ho)
    (r : Fin b) (k : Fin c) (h : Fin n0) (i : Fin n1) (j : Fin n2) (hh : h.val = o) (hi : i.val = p + r.val) (hj : j.val = q + k.val) :
    View.ld X (Rect.unit (s := ⟨3, ![n0, n1, n2]⟩) ![o, p, q] ![1, b, c] ho) (ix3 0 r k) = X (ix3 h i j) := by
  refine congrArg X (funext fun d => ?_)
  fin_cases d
  · exact Fin.ext (show o + 1 * 0 = h.val by omega)
  · exact Fin.ext (show p + 1 * r.val = i.val by omega)
  · exact Fin.ext (show q + 1 * k.val = j.val by omega)

theorem masked (c : BitVec 1) (x y : EReal) : Scalar.select c (x * y) 0 = y * (x * Scalar.select c 1 0) := by
  unfold Scalar.select
  split_ifs
  · rw [mul_one, mul_comm]
  · rw [mul_zero, mul_zero]

/-- One group of one chunk: the masked weights' product with the chunk's tokens, and the bias. -/
theorem piece_apply (w : Vec Ideal S1x128x128 .f32) (v : Vec Ideal S128x128 .bf16) (b : Vec Ideal S128x1 .f32)
    (t d : Fin 128) : k0_pay9 k0_pay5 w v b (ix2 t d) =
      (∑ s : Fin 128, v (ix2 s d) * (w (ix3 0 t s) * Scalar.select (Row.low t s) 1 0)) + b (ix2 t 0) := by
  have h : k0_pay9 k0_pay5 w v b (ix2 t d) =
      (∑ s : Fin 128, Scalar.select (Row.low t s) (w (ix3 0 t s) * v (ix2 s d)) 0) + b (ix2 t 0) := by
    unfold k0_pay9 k0_pay5
    pointwise
    rfl
  exact h.trans (congrArg (· + b (ix2 t 0)) (Finset.sum_congr rfl fun s _ => masked _ _ _))

/-- The four groups of a chunk, side by side, times the other half of the channels. -/
theorem groups_apply (a b c d : FVec Ideal S128x128 .f32) (u : Vec Ideal S128x512 .f32) (t : Fin 128) (i : Fin 512) :
    k0_pay12 a b c d u (ix2 t i) = u (ix2 t i) *
      if h : i.val < 128 then a (ix2 t ⟨i.val, h⟩)
      else if h : i.val - 128 < 128 then b (ix2 t ⟨i.val - 128, h⟩)
      else if h : i.val - 128 - 128 < 128 then c (ix2 t ⟨i.val - 128 - 128, h⟩)
      else d (ix2 t ⟨i.val - 128 - 128 - 128, by omega⟩) := by
  unfold k0_pay12
  pointwise

/-- A block's channel `i` of the gating unit at row `r`. -/
def unit (x2 : Vec Ideal S1024x512 .f32) (x3 : Vec Ideal S1024x512 .bf16) (x7 : Vec Ideal S4x128x128 .f32)
    (x8 : Vec Ideal S128x4 .f32) (r : Fin 1024) (i : Fin 512) : EReal :=
  Row.gated ⟨r.val % 128, by omega⟩ (x2 (ix2 r i)) (fun s => x3 (ix2 ⟨r.val / 128 * 128 + s.val, by omega⟩ i))
    (fun s => x7 (ix3 ⟨i.val / 128, by omega⟩ ⟨r.val % 128, by omega⟩ s)) (x8 (ix2 ⟨r.val % 128, by omega⟩ ⟨i.val / 128, by omega⟩))

/-- One group of one chunk, from the block. -/
theorem group_apply (x3 : Vec Ideal S1024x512 .bf16) (x7 : Vec Ideal S4x128x128 .f32) (x8 : Vec Ideal S128x4 .f32)
    (o p g : ℕ) (ho h7 h8) (t d : Fin 128) (r : Fin 1024) (i : Fin 512) (c : ℕ) (hc : o = 128 * c) (hr : r.val = o + t.val)
    (hi : i.val = p + d.val) (hp : p = 128 * g) :
    k0_pay9 k0_pay5 (View.ld x7 (Rect.unit (s := S4x128x128) ![g, 0, 0] S1x128x128.size h7))
      (View.ld x3 (Rect.unit (s := S1024x512) ![o, p] S128x128.size ho))
      (View.ld x8 (Rect.unit (s := S128x4) ![0, g] S128x1.size h8)) (ix2 t d) =
      (∑ s : Fin 128, x3 (ix2 ⟨r.val / 128 * 128 + s.val, by omega⟩ i) *
        (x7 (ix3 ⟨i.val / 128, by omega⟩ ⟨r.val % 128, by omega⟩ s) * Scalar.select (Row.low ⟨r.val % 128, by omega⟩ s) 1 0)) +
      x8 (ix2 ⟨r.val % 128, by omega⟩ ⟨i.val / 128, by omega⟩) := by
  obtain ⟨t, ht⟩ := t
  obtain rfl : t = r.val % 128 := by simp only at hr; omega
  refine (piece_apply _ _ _ _ _).trans (congrArg₂ (· + ·) (Finset.sum_congr rfl fun s _ => congrArg₂ (· * ·) ?_ (congrArg (· * _) ?_)) ?_)
  · exact ld_apply x3 o p ho s d _ i (by simp only at *; omega) hi
  · exact ld3_apply x7 g 0 0 h7 _ s _ _ s (by simp only at *; omega) (Nat.zero_add _).symm (Nat.zero_add _).symm
  · exact ld_apply x8 0 g h8 _ 0 _ _ (Nat.zero_add _).symm (by simp only at *; omega)

/-- One chunk of tokens. -/
theorem chunk_apply (x2 : Vec Ideal S1024x512 .f32) (x3 : Vec Ideal S1024x512 .bf16) (x7 : Vec Ideal S4x128x128 .f32)
    (x8 : Vec Ideal S128x4 .f32) (o : ℕ) (hu h0 h1 h2 h3) (t : Fin 128) (r : Fin 1024) (i : Fin 512) (c : ℕ) (hc : o = 128 * c)
    (hr : r.val = o + t.val) :
    k0_pay12
      (k0_pay9 k0_pay5 (View.ld x7 r0_4) (View.ld x3 (Rect.unit (s := S1024x512) ![o, 0] S128x128.size h0)) (View.ld x8 r0_6))
      (k0_pay9 k0_pay5 (View.ld x7 r0_7) (View.ld x3 (Rect.unit (s := S1024x512) ![o, 128] S128x128.size h1)) (View.ld x8 r0_9))
      (k0_pay9 k0_pay5 (View.ld x7 r0_10) (View.ld x3 (Rect.unit (s := S1024x512) ![o, 256] S128x128.size h2)) (View.ld x8 r0_12))
      (k0_pay9 k0_pay5 (View.ld x7 r0_13) (View.ld x3 (Rect.unit (s := S1024x512) ![o, 384] S128x128.size h3)) (View.ld x8 r0_15))
      (View.ld x2 (Rect.unit (s := S1024x512) ![o, 0] S128x512.size hu)) (ix2 t i) = unit x2 x3 x7 x8 r i := by
  refine (groups_apply _ _ _ _ _ t i).trans
    (congrArg₂ (· * ·) (ld_apply x2 o 0 hu t i r i hr (Nat.zero_add _).symm) ?_)
  split_ifs
  · exact group_apply x3 x7 x8 o 0 0 h0 _ _ t _ r i c hc hr (by simp only; omega) rfl
  · exact group_apply x3 x7 x8 o 128 1 h1 _ _ t _ r i c hc hr (by simp only; omega) rfl
  · exact group_apply x3 x7 x8 o 256 2 h2 _ _ t _ r i c hc hr (by simp only; omega) rfl
  · exact group_apply x3 x7 x8 o 384 3 h3 _ _ t _ r i c hc hr (by simp only; omega) rfl

/-- Eight chunks, one below the other. -/
def stack (a b c d e f g h : FVec Ideal S128x512 .f32) : FVec Ideal S1024x512 .f32 :=
  concatenate S1024x512 0 [⟨S128x512, a⟩, ⟨S128x512, b⟩, ⟨S128x512, c⟩, ⟨S128x512, d⟩, ⟨S128x512, e⟩, ⟨S128x512, f⟩,
    ⟨S128x512, g⟩, ⟨S128x512, h⟩]
    concatenates_S128x512_S128x512_S128x512_S128x512_S128x512_S128x512_S128x512_S128x512_S1024x512_d0

theorem stack_apply (a b c d e f g h : FVec Ideal S128x512 .f32) (r : Fin 1024) (i : Fin 512) (x : EReal)
    (ha : ∀ t : Fin 128, r.val = 0 + t.val → a (ix2 t i) = x) (hb : ∀ t : Fin 128, r.val = 128 + t.val → b (ix2 t i) = x)
    (hc : ∀ t : Fin 128, r.val = 256 + t.val → c (ix2 t i) = x) (hd : ∀ t : Fin 128, r.val = 384 + t.val → d (ix2 t i) = x)
    (he : ∀ t : Fin 128, r.val = 512 + t.val → e (ix2 t i) = x) (hf : ∀ t : Fin 128, r.val = 640 + t.val → f (ix2 t i) = x)
    (hg : ∀ t : Fin 128, r.val = 768 + t.val → g (ix2 t i) = x) (hh : ∀ t : Fin 128, r.val = 896 + t.val → h (ix2 t i) = x) :
    stack a b c d e f g h (ix2 r i) = x := by
  unfold stack
  pointwise
  split_ifs <;> first
    | exact ha _ (by simp only; omega)
    | exact hb _ (by simp only; omega)
    | exact hc _ (by simp only; omega)
    | exact hd _ (by simp only; omega)
    | exact he _ (by simp only; omega)
    | exact hf _ (by simp only; omega)
    | exact hg _ (by simp only; omega)
    | exact hh _ (by simp only; omega)

/-- One chunk of a block, as the call computes it. -/
abbrev chunk (x2 : Vec Ideal S1024x512 .f32) (x3 : Vec Ideal S1024x512 .bf16) (x7 : Vec Ideal S4x128x128 .f32)
    (x8 : Vec Ideal S128x4 .f32) (o : ℕ) (hu : ∀ k, ![o, 0] k + S128x512.size k ≤ S1024x512.size k)
    (h0 : ∀ k, ![o, 0] k + S128x128.size k ≤ S1024x512.size k) (h1 : ∀ k, ![o, 128] k + S128x128.size k ≤ S1024x512.size k)
    (h2 : ∀ k, ![o, 256] k + S128x128.size k ≤ S1024x512.size k) (h3 : ∀ k, ![o, 384] k + S128x128.size k ≤ S1024x512.size k) :
    FVec Ideal S128x512 .f32 :=
  k0_pay12
    (k0_pay9 k0_pay5 (View.ld x7 r0_4) (View.ld x3 (Rect.unit (s := S1024x512) ![o, 0] S128x128.size h0)) (View.ld x8 r0_6))
    (k0_pay9 k0_pay5 (View.ld x7 r0_7) (View.ld x3 (Rect.unit (s := S1024x512) ![o, 128] S128x128.size h1)) (View.ld x8 r0_9))
    (k0_pay9 k0_pay5 (View.ld x7 r0_10) (View.ld x3 (Rect.unit (s := S1024x512) ![o, 256] S128x128.size h2)) (View.ld x8 r0_12))
    (k0_pay9 k0_pay5 (View.ld x7 r0_13) (View.ld x3 (Rect.unit (s := S1024x512) ![o, 384] S128x128.size h3)) (View.ld x8 r0_15))
    (View.ld x2 (Rect.unit (s := S1024x512) ![o, 0] S128x512.size hu))

/-- A block's gating unit, as the call computes it. -/
def gating (x2 : Vec Ideal S1024x512 .f32) (x3 : Vec Ideal S1024x512 .bf16) (x7 : Vec Ideal S4x128x128 .f32)
    (x8 : Vec Ideal S128x4 .f32) : FVec Ideal S1024x512 .f32 :=
  stack (chunk x2 x3 x7 x8 0 inb_S1024x512_S128x512_0_0 inb_S1024x512_S128x128_0_0 inb_S1024x512_S128x128_0_128 inb_S1024x512_S128x128_0_256 inb_S1024x512_S128x128_0_384)
    (chunk x2 x3 x7 x8 128 inb_S1024x512_S128x512_128_0 inb_S1024x512_S128x128_128_0 inb_S1024x512_S128x128_128_128 inb_S1024x512_S128x128_128_256 inb_S1024x512_S128x128_128_384)
    (chunk x2 x3 x7 x8 256 inb_S1024x512_S128x512_256_0 inb_S1024x512_S128x128_256_0 inb_S1024x512_S128x128_256_128 inb_S1024x512_S128x128_256_256 inb_S1024x512_S128x128_256_384)
    (chunk x2 x3 x7 x8 384 inb_S1024x512_S128x512_384_0 inb_S1024x512_S128x128_384_0 inb_S1024x512_S128x128_384_128 inb_S1024x512_S128x128_384_256 inb_S1024x512_S128x128_384_384)
    (chunk x2 x3 x7 x8 512 inb_S1024x512_S128x512_512_0 inb_S1024x512_S128x128_512_0 inb_S1024x512_S128x128_512_128 inb_S1024x512_S128x128_512_256 inb_S1024x512_S128x128_512_384)
    (chunk x2 x3 x7 x8 640 inb_S1024x512_S128x512_640_0 inb_S1024x512_S128x128_640_0 inb_S1024x512_S128x128_640_128 inb_S1024x512_S128x128_640_256 inb_S1024x512_S128x128_640_384)
    (chunk x2 x3 x7 x8 768 inb_S1024x512_S128x512_768_0 inb_S1024x512_S128x128_768_0 inb_S1024x512_S128x128_768_128 inb_S1024x512_S128x128_768_256 inb_S1024x512_S128x128_768_384)
    (chunk x2 x3 x7 x8 896 inb_S1024x512_S128x512_896_0 inb_S1024x512_S128x128_896_0 inb_S1024x512_S128x128_896_128 inb_S1024x512_S128x128_896_256 inb_S1024x512_S128x128_896_384)

theorem gating_apply (x2 : Vec Ideal S1024x512 .f32) (x3 : Vec Ideal S1024x512 .bf16) (x7 : Vec Ideal S4x128x128 .f32)
    (x8 : Vec Ideal S128x4 .f32) (r : Fin 1024) (i : Fin 512) : gating x2 x3 x7 x8 (ix2 r i) = unit x2 x3 x7 x8 r i := by
  have go : ∀ (o c : ℕ) (hu h0 h1 h2 h3), o = 128 * c → ∀ t : Fin 128, r.val = o + t.val →
      chunk x2 x3 x7 x8 o hu h0 h1 h2 h3 (ix2 t i) = unit x2 x3 x7 x8 r i :=
    fun o c hu h0 h1 h2 h3 hc t hr => chunk_apply x2 x3 x7 x8 o hu h0 h1 h2 h3 t r i c hc hr
  exact stack_apply _ _ _ _ _ _ _ _ r i _ (go 0 0 _ _ _ _ _ rfl) (go 128 1 _ _ _ _ _ rfl) (go 256 2 _ _ _ _ _ rfl)
    (go 384 3 _ _ _ _ _ rfl) (go 512 4 _ _ _ _ _ rfl) (go 640 5 _ _ _ _ _ rfl) (go 768 6 _ _ _ _ _ rfl) (go 896 7 _ _ _ _ _ rfl)

/-! ## The merge -/

theorem norm_apply (x : Vec Ideal S1024x1024 .f32) (g : Vec Ideal S1x1024 .f32) (r : Fin 1024) (j : Fin 1024) :
    k0_pay4 x g (ix2 r j) = Row.rms (fun k => x (ix2 r k)) (fun k => g (ix2 0 k)) j := by
  unfold k0_pay4
  pointwise
  rfl

theorem gates_apply (x : FVec Ideal S1024x1024 .bf16) (w : Vec Ideal S1024x2048 .bf16) (b : Vec Ideal S1x2048 .f32) (r : Fin 1024)
    (i : Fin 2048) : k0_pay43 x w b (ix2 r i) =
      Ideal.logistic (Row.times (fun k => x (ix2 r k)) (fun a b => w (ix2 a b)) i + b (ix2 0 i)) := by
  unfold k0_pay43
  pointwise
  rfl

theorem first_apply (x : FVec Ideal S1024x1024 .bf16) (w : Vec Ideal S1024x2048 .bf16) (b : Vec Ideal S1x2048 .f32)
    (a : Vec Ideal S1024x512 .bf16) (p : Vec Ideal S512x1024 .bf16) (r j : Fin 1024) : k0_pay44 x w b a p (ix2 r j) =
      k0_pay43 x w b (ix2 r ⟨j.val, by omega⟩) * Row.times (fun k => a (ix2 r k)) (fun a b => p (ix2 a b)) j := by
  unfold k0_pay44
  pointwise
  rfl

/-- The gated second mixer. -/
def second (x : FVec Ideal S1024x1024 .bf16) (w : Vec Ideal S1024x2048 .bf16) (b : Vec Ideal S1x2048 .f32)
    (o : FVec Ideal S1024x512 .f32) (p : Vec Ideal S512x1024 .bf16) : FVec Ideal S1024x1024 .f32 :=
  mulf (extractStridedSlice S1024x1024 ![0, 1024] (k0_pay43 x w b) slices_S1024x2048_o0_1024_S1024x1024)
    (matmul (φ₂ := .bf16) dot_S1024x512_S512x1024_S1024x1024_1_0_0_1_n_n none (truncf .bf16 o bitsLt_bf16_f32) p (constant S1024x1024 .f32 0x00000000#32))

theorem second_apply (x : FVec Ideal S1024x1024 .bf16) (w : Vec Ideal S1024x2048 .bf16) (b : Vec Ideal S1x2048 .f32)
    (o : FVec Ideal S1024x512 .f32) (p : Vec Ideal S512x1024 .bf16) (r j : Fin 1024) : second x w b o p (ix2 r j) =
      k0_pay43 x w b (ix2 r ⟨1024 + j.val, by omega⟩) * Row.times (fun k => o (ix2 r k)) (fun a b => p (ix2 a b)) j := by
  unfold second
  pointwise
  rfl

theorem sum_apply (x : Vec Ideal S1024x1024 .f32) (a b : FVec Ideal S1024x1024 .f32) (w : Vec Ideal S1024x1024 .bf16)
    (r j : Fin 1024) : k0_pay1 x a b w (ix2 r j) =
      x (ix2 r j) + Row.times (fun k => a (ix2 r k) + b (ix2 r k)) (fun a b => w (ix2 a b)) j := by
  unfold k0_pay1
  pointwise
  rfl

/-- A block after the call, with its parts named. -/
theorem parts (x0 : Vec Ideal S1024x1024 .f32) (x1 : Vec Ideal S1024x512 .bf16) (x2 : Vec Ideal S1024x512 .f32)
    (x3 : Vec Ideal S1024x512 .bf16) (x4 : Vec Ideal S1x1024 .f32) (x5 : Vec Ideal S1024x2048 .bf16) (x6 : Vec Ideal S1x2048 .f32)
    (x7 : Vec Ideal S4x128x128 .f32) (x8 : Vec Ideal S128x4 .f32) (x9 x10 : Vec Ideal S512x1024 .bf16)
    (x11 : Vec Ideal S1024x1024 .bf16) (x12 : Vec Ideal S64x5632 .f32) (x13 : Vec Ideal S176x1024 .f32) :
    out0_14 x0 x1 x2 x3 x4 x5 x6 x7 x8 x9 x10 x11 x12 x13 = View.canon [⟨r0_2, k0_pay1 (View.ld x0 r0_2)
      (k0_pay44 (k0_pay4 (View.ld x0 r0_2) (View.ld x4 r0_3)) (View.ld x5 r0_52) (View.ld x6 r0_53) (View.ld x1 r0_54) (View.ld x9 r0_55))
      (second (k0_pay4 (View.ld x0 r0_2) (View.ld x4 r0_3)) (View.ld x5 r0_52) (View.ld x6 r0_53) (gating x2 x3 x7 x8) (View.ld x10 r0_55))
      (View.ld x11 r0_2)⟩] := rfl

/-- A block of 1024 rows after the call. -/
theorem block_apply (x0 : Vec Ideal S1024x1024 .f32) (x1 : Vec Ideal S1024x512 .bf16) (x2 : Vec Ideal S1024x512 .f32)
    (x3 : Vec Ideal S1024x512 .bf16) (x4 : Vec Ideal S1x1024 .f32) (x5 : Vec Ideal S1024x2048 .bf16) (x6 : Vec Ideal S1x2048 .f32)
    (x7 : Vec Ideal S4x128x128 .f32) (x8 : Vec Ideal S128x4 .f32) (x9 x10 : Vec Ideal S512x1024 .bf16)
    (x11 : Vec Ideal S1024x1024 .bf16) (x12 : Vec Ideal S64x5632 .f32) (x13 : Vec Ideal S176x1024 .f32) (r j : Fin 1024) :
    out0_14 x0 x1 x2 x3 x4 x5 x6 x7 x8 x9 x10 x11 x12 x13 (ix2 r j) =
    Row.merge (fun k => x0 (ix2 r k)) (fun k => x4 (ix2 0 k)) (fun a b => x5 (ix2 a b)) (fun k => x6 (ix2 0 k))
      (fun k => x1 (ix2 r k)) (unit x2 x3 x7 x8 r) (fun a b => x9 (ix2 a b)) (fun a b => x10 (ix2 a b)) (fun a b => x11 (ix2 a b)) j := by
  rw [parts]
  refine View.canon_apply_of_pieces (Val := Elt Ideal) (fun y : S1024x1024.Idx =>
    Row.merge (fun k => x0 (ix2 (y 0 : Fin 1024) k)) (fun k => x4 (ix2 0 k)) (fun a b => x5 (ix2 a b)) (fun k => x6 (ix2 0 k))
      (fun k => x1 (ix2 (y 0 : Fin 1024) k)) (unit x2 x3 x7 x8 (y 0)) (fun a b => x9 (ix2 a b)) (fun a b => x10 (ix2 a b)) (fun a b => x11 (ix2 a b)) (y 1)) _ ?_ (ix2 r j) (cover0_14 _ _)
  intro p hp k
  obtain rfl := List.mem_singleton.mp hp
  idx_vars k
  have e0 : (fun k : Fin 1024 => View.ld x0 r0_2 (ix2 k0 k)) = fun k => x0 (ix2 k0 k) :=
    funext fun k => ld_apply x0 0 0 _ k0 k k0 k (Nat.zero_add _).symm (Nat.zero_add _).symm
  have e1 : (fun k : Fin 512 => View.ld x1 r0_54 (ix2 k0 k)) = fun k => x1 (ix2 k0 k) :=
    funext fun k => ld_apply x1 0 0 _ k0 k k0 k (Nat.zero_add _).symm (Nat.zero_add _).symm
  have e4 : (fun k : Fin 1024 => View.ld x4 r0_3 (ix2 0 k)) = fun k => x4 (ix2 0 k) :=
    funext fun k => ld_apply x4 0 0 _ 0 k 0 k rfl (Nat.zero_add _).symm
  have e5 : (fun (a : Fin 1024) (b : Fin 2048) => View.ld x5 r0_52 (ix2 a b)) = fun a b => x5 (ix2 a b) :=
    funext fun a => funext fun b => ld_apply x5 0 0 _ a b a b (Nat.zero_add _).symm (Nat.zero_add _).symm
  have e6 : ∀ k : Fin 2048, View.ld x6 r0_53 (ix2 0 k) = x6 (ix2 0 k) :=
    fun k => ld_apply x6 0 0 _ 0 k 0 k rfl (Nat.zero_add _).symm
  have e9 : ∀ X : Vec Ideal S512x1024 .bf16, (fun (a : Fin 512) (b : Fin 1024) => View.ld X r0_55 (ix2 a b)) = fun a b => X (ix2 a b) :=
    fun X => funext fun a => funext fun b => ld_apply X 0 0 _ a b a b (Nat.zero_add _).symm (Nat.zero_add _).symm
  have e11 : (fun (a : Fin 1024) (b : Fin 1024) => View.ld x11 r0_2 (ix2 a b)) = fun a b => x11 (ix2 a b) :=
    funext fun a => funext fun b => ld_apply x11 0 0 _ a b a b (Nat.zero_add _).symm (Nat.zero_add _).symm
  refine (sum_apply _ _ _ _ k0 k1).trans ?_
  simp only [first_apply, second_apply, gates_apply, norm_apply, gating_apply]
  rw [e0, e1, e4, e5, e9, e9, e11]
  simp only [e6]
  rw [ld_apply x0 0 0 _ k0 k1 k0 k1 (Nat.zero_add _).symm (Nat.zero_add _).symm]
  refine Eq.trans ?_ (congrArg (fun y : S1024x1024.Idx =>
    Row.merge (fun k => x0 (ix2 (y 0 : Fin 1024) k)) (fun k => x4 (ix2 0 k)) (fun a b => x5 (ix2 a b)) (fun k => x6 (ix2 0 k))
      (fun k => x1 (ix2 (y 0 : Fin 1024) k)) (unit x2 x3 x7 x8 (y 0)) (fun a b => x9 (ix2 a b)) (fun a b => x10 (ix2 a b)) (fun a b => x11 (ix2 a b)) (y 1)) (?_ : ix2 k0 k1 = _))
  · rfl
  · funext d
    fin_cases d
    · exact Fin.ext (show k0.val = 0 + 1 * k0.val by omega)
    · exact Fin.ext (show k1.val = 0 + 1 * k1.val by omega)

/-! ## The arrays -/

/-- The gating unit's channel `i` of token `r`. -/
def token (A2 : Vec Ideal S16384x512 .f32) (A3 : Vec Ideal S16384x512 .bf16) (A7 : Vec Ideal S4x128x128 .f32)
    (A8 : Vec Ideal S128x4 .f32) (r : Fin 16384) (i : Fin 512) : EReal :=
  Row.gated ⟨r.val % 128, by omega⟩ (A2 (ix2 r i)) (fun s => A3 (ix2 ⟨r.val / 128 * 128 + s.val, by omega⟩ i))
    (fun s => A7 (ix3 ⟨i.val / 128, by omega⟩ ⟨r.val % 128, by omega⟩ s)) (A8 (ix2 ⟨r.val % 128, by omega⟩ ⟨i.val / 128, by omega⟩))

/-- The call's first result, from its operands. -/
def out (A0 : Vec Ideal S16384x1024 .f32) (A1 : Vec Ideal S16384x512 .bf16) (A2 : Vec Ideal S16384x512 .f32)
    (A3 : Vec Ideal S16384x512 .bf16) (A4 : Vec Ideal S1x1024 .f32) (A5 : Vec Ideal S1024x2048 .bf16) (A6 : Vec Ideal S1x2048 .f32)
    (A7 : Vec Ideal S4x128x128 .f32) (A8 : Vec Ideal S128x4 .f32) (A9 A10 : Vec Ideal S512x1024 .bf16) (A11 : Vec Ideal S1024x1024 .bf16) : Vec Ideal S16384x1024 .f32 := fun y =>
    Row.merge (fun k => A0 (ix2 (y 0 : Fin 16384) k)) (fun k => A4 (ix2 0 k)) (fun a b => A5 (ix2 a b)) (fun k => A6 (ix2 0 k))
      (fun k => A1 (ix2 (y 0 : Fin 16384) k)) (token A2 A3 A7 A8 (y 0)) (fun a b => A9 (ix2 a b)) (fun a b => A10 (ix2 a b)) (fun a b => A11 (ix2 a b)) (y 1 : Fin 1024)

theorem points : cfg0.grid.N = 16 := N_0

theorem idx0 : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, _)

variable (m : (ℓ : Loc nD τ sig) → Buf (Elt Ideal) ℓ) (c : Dev nD)

/-- Row `r` of the `w`-th block of rows. -/
abbrev row (w : Fin 16) (r : Fin 1024) : Fin 16384 := ⟨1024 * w.val + r.val, by omega⟩

/-- The rows a point loads. -/
def cut {e : EltTy} {n : ℕ} (A : (⟨2, ![16384, n]⟩ : Shape).Idx → Elt Ideal e) (w : Fin 16) : (⟨2, ![1024, n]⟩ : Shape).Idx → Elt Ideal e :=
  fun k => A (ix2 (row w (k 0)) (k 1 : Fin n))

theorem blk0 (t : Fin cfg0.N) : iblk m c 0 t = cut (m ((c : Thread nD τ).loc main_arg0)) ⟨t.val, points ▸ t.isLt⟩ := by
  funext k
  unfold cut
  blk_ext [iblk, V, (idx0 t).1]
theorem blk1 (t : Fin cfg0.N) : iblk m c 1 t = cut (m ((c : Thread nD τ).loc main_arg1)) ⟨t.val, points ▸ t.isLt⟩ := by
  funext k
  unfold cut
  blk_ext [iblk, V, (idx0 t).2.1]
theorem blk2 (t : Fin cfg0.N) : iblk m c 2 t = cut (m ((c : Thread nD τ).loc main_arg2)) ⟨t.val, points ▸ t.isLt⟩ := by
  funext k
  unfold cut
  blk_ext [iblk, V, (idx0 t).2.2.1]
theorem blk3 (t : Fin cfg0.N) : iblk m c 3 t = cut (m ((c : Thread nD τ).loc main_arg3)) ⟨t.val, points ▸ t.isLt⟩ := by
  funext k
  unfold cut
  blk_ext [iblk, V, (idx0 t).2.2.2.1]
theorem blk4 (t : Fin cfg0.N) : iblk m c 4 t = (m ((c : Thread nD τ).loc main_arg4)) := by
  funext k
  blk_ext [iblk, V, (idx0 t).2.2.2.2.1]
theorem blk5 (t : Fin cfg0.N) : iblk m c 5 t = (m ((c : Thread nD τ).loc main_arg5)) := by
  funext k
  blk_ext [iblk, V, (idx0 t).2.2.2.2.2.1]
theorem blk6 (t : Fin cfg0.N) : iblk m c 6 t = (m ((c : Thread nD τ).loc main_arg6)) := by
  funext k
  blk_ext [iblk, V, (idx0 t).2.2.2.2.2.2.1]
theorem blk7 (t : Fin cfg0.N) : iblk m c 7 t = (m ((c : Thread nD τ).loc main_arg7)) := by
  funext k
  blk_ext [iblk, V, (idx0 t).2.2.2.2.2.2.2.1]
theorem blk8 (t : Fin cfg0.N) : iblk m c 8 t = (m ((c : Thread nD τ).loc main_arg8)) := by
  funext k
  blk_ext [iblk, V, (idx0 t).2.2.2.2.2.2.2.2.1]
theorem blk9 (t : Fin cfg0.N) : iblk m c 9 t = (m ((c : Thread nD τ).loc main_arg9)) := by
  funext k
  blk_ext [iblk, V, (idx0 t).2.2.2.2.2.2.2.2.2.1]
theorem blk10 (t : Fin cfg0.N) : iblk m c 10 t = (m ((c : Thread nD τ).loc main_arg10)) := by
  funext k
  blk_ext [iblk, V, (idx0 t).2.2.2.2.2.2.2.2.2.2.1]
theorem blk11 (t : Fin cfg0.N) : iblk m c 11 t = (m ((c : Thread nD τ).loc main_arg11)) := by
  funext k
  blk_ext [iblk, V, (idx0 t).2.2.2.2.2.2.2.2.2.2.2.1]

theorem unit_cut (A2 : Vec Ideal S16384x512 .f32) (A3 : Vec Ideal S16384x512 .bf16) (A7 : Vec Ideal S4x128x128 .f32)
    (A8 : Vec Ideal S128x4 .f32) (w : Fin 16) (r : Fin 1024) :
    unit (cut A2 w) (cut A3 w) A7 A8 r = token A2 A3 A7 A8 (row w r) := by
  funext i
  have h : (⟨r.val % 128, by omega⟩ : Fin 128) = ⟨(row w r).val % 128, by omega⟩ :=
    Fin.ext (show r.val % 128 = (1024 * w.val + r.val) % 128 by omega)
  have h' : (fun s : Fin 128 => cut A3 w (ix2 ⟨r.val / 128 * 128 + s.val, by omega⟩ i)) =
      fun s => A3 (ix2 ⟨(row w r).val / 128 * 128 + s.val, by omega⟩ i) := funext fun s =>
    congrArg (fun q : Fin 16384 => A3 (ix2 q i))
      (Fin.ext (show 1024 * w.val + (r.val / 128 * 128 + s.val) = (1024 * w.val + r.val) / 128 * 128 + s.val by omega))
  unfold unit token
  rw [h, h']
  rfl

theorem final : (dats m 0 c).arrAt 14 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 14 _ (by decide +kernel) fun t hf y => ?_
  blk_simp
  rw [after0_14, blk0, blk1, blk2, blk3, blk4, blk5, blk6, blk7, blk8, blk9, blk10, blk11]
  idx_vars y
  refine (block_apply _ _ _ _ _ _ _ _ _ _ _ _ _ _ y0 y1).trans ?_
  rw [unit_cut]
  refine Eq.trans ?_ (congrArg (out _ _ _ _ _ _ _ _ _ _ _ _ ) (?_ : ix2 (row ⟨t.val, points ▸ t.isLt⟩ y0) y1 = _))
  · rfl
  · blk_ext [(idx0 t).2.2.2.2.2.2.2.2.2.2.2.2.2.2.1]

/-- Row `r` of the `w`-th block of rows of `1024`. -/
abbrev row12 (w : Fin 16) (r : Fin 64) : Fin 1024 := ⟨64 * w.val + r.val, by omega⟩

/-- The rows a point casts. -/
def cut12 (A : Vec Ideal S1024x5632 .f32) (w : Fin 16) : Vec Ideal S64x5632 .f32 :=
  fun k => A (ix2 (row12 w (k 0)) (k 1 : Fin 5632))

theorem blk12 (t : Fin cfg0.N) : iblk m c 12 t = cut12 (m ((c : Thread nD τ).loc main_arg12)) ⟨t.val, points ▸ t.isLt⟩ := by
  funext k
  unfold cut12
  blk_ext [iblk, V, (idx0 t).2.2.2.2.2.2.2.2.2.2.2.2.1]

theorem cast12_apply (x0 : Vec Ideal S1024x1024 .f32) (x1 : Vec Ideal S1024x512 .bf16) (x2 : Vec Ideal S1024x512 .f32)
    (x3 : Vec Ideal S1024x512 .bf16) (x4 : Vec Ideal S1x1024 .f32) (x5 : Vec Ideal S1024x2048 .bf16) (x6 : Vec Ideal S1x2048 .f32)
    (x7 : Vec Ideal S4x128x128 .f32) (x8 : Vec Ideal S128x4 .f32) (x9 x10 : Vec Ideal S512x1024 .bf16)
    (x11 : Vec Ideal S1024x1024 .bf16) (x12 : Vec Ideal S64x5632 .f32) (x13 : Vec Ideal S176x1024 .f32) (r : Fin 64) (j : Fin 5632) :
    out0_15 x0 x1 x2 x3 x4 x5 x6 x7 x8 x9 x10 x11 x12 x13 (ix2 r j) = k0_pay2 x12 (ix2 r j) := by
  unfold out0_15
  refine View.canon_apply_of_pieces (Val := Elt Ideal) (fun y : S64x5632.Idx => k0_pay2 x12 (ix2 (y 0 : Fin 64) (y 1 : Fin 5632))) _ ?_ (ix2 r j)
    (cover0_15 _ _)
  intro p hp k
  obtain rfl := List.mem_singleton.mp hp
  idx_vars k
  exact ld_apply x12 0 0 _ k0 k1 _ _ (show 0 + 1 * k0.val = _ by omega) (show 0 + 1 * k1.val = _ by omega)

theorem passed_gate_up : (dats m 0 c).arrAt 15 cfg0.N =
    Cert.Reference3Ideal.Read.val_main_v49 (F := Ideal) (m ((c : Thread nD τ).loc main_arg12)) := by
  refine (dats m 0 c).arrAt_eq_of_covers 15 _ (by decide +kernel) fun t hf y => ?_
  blk_simp
  rw [after0_15, blk12]
  idx_vars y
  refine (cast12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (cut12 (m ((c : Thread nD τ).loc main_arg12)) ⟨t.val, points ▸ t.isLt⟩) (iblk m c 13 t) y0 y1).trans ?_
  refine Eq.trans ?_ (congrArg (Cert.Reference3Ideal.Read.val_main_v49 (F := Ideal) _) (?_ : ix2 (row12 ⟨t.val, points ▸ t.isLt⟩ y0) y1 = _))
  · rfl
  · blk_ext [(idx0 t).2.2.2.2.2.2.2.2.2.2.2.2.2.2.2.1]

/-- Row `r` of the `w`-th block of rows of `2816`. -/
abbrev row13 (w : Fin 16) (r : Fin 176) : Fin 2816 := ⟨176 * w.val + r.val, by omega⟩

/-- The rows a point casts. -/
def cut13 (A : Vec Ideal S2816x1024 .f32) (w : Fin 16) : Vec Ideal S176x1024 .f32 :=
  fun k => A (ix2 (row13 w (k 0)) (k 1 : Fin 1024))

theorem blk13 (t : Fin cfg0.N) : iblk m c 13 t = cut13 (m ((c : Thread nD τ).loc main_arg13)) ⟨t.val, points ▸ t.isLt⟩ := by
  funext k
  unfold cut13
  blk_ext [iblk, V, (idx0 t).2.2.2.2.2.2.2.2.2.2.2.2.2.1]

theorem cast13_apply (x0 : Vec Ideal S1024x1024 .f32) (x1 : Vec Ideal S1024x512 .bf16) (x2 : Vec Ideal S1024x512 .f32)
    (x3 : Vec Ideal S1024x512 .bf16) (x4 : Vec Ideal S1x1024 .f32) (x5 : Vec Ideal S1024x2048 .bf16) (x6 : Vec Ideal S1x2048 .f32)
    (x7 : Vec Ideal S4x128x128 .f32) (x8 : Vec Ideal S128x4 .f32) (x9 x10 : Vec Ideal S512x1024 .bf16)
    (x11 : Vec Ideal S1024x1024 .bf16) (x12 : Vec Ideal S64x5632 .f32) (x13 : Vec Ideal S176x1024 .f32) (r : Fin 176) (j : Fin 1024) :
    out0_16 x0 x1 x2 x3 x4 x5 x6 x7 x8 x9 x10 x11 x12 x13 (ix2 r j) = k0_pay3 x13 (ix2 r j) := by
  unfold out0_16
  refine View.canon_apply_of_pieces (Val := Elt Ideal) (fun y : S176x1024.Idx => k0_pay3 x13 (ix2 (y 0 : Fin 176) (y 1 : Fin 1024))) _ ?_ (ix2 r j)
    (cover0_16 _ _)
  intro p hp k
  obtain rfl := List.mem_singleton.mp hp
  idx_vars k
  exact ld_apply x13 0 0 _ k0 k1 _ _ (show 0 + 1 * k0.val = _ by omega) (show 0 + 1 * k1.val = _ by omega)

theorem passed_down : (dats m 0 c).arrAt 16 cfg0.N =
    Cert.Reference3Ideal.Read.val_main_v50 (F := Ideal) (m ((c : Thread nD τ).loc main_arg13)) := by
  refine (dats m 0 c).arrAt_eq_of_covers 16 _ (by decide +kernel) fun t hf y => ?_
  blk_simp
  rw [after0_16, blk13]
  idx_vars y
  refine (cast13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (cut13 (m ((c : Thread nD τ).loc main_arg13)) ⟨t.val, points ▸ t.isLt⟩) y0 y1).trans ?_
  refine Eq.trans ?_ (congrArg (Cert.Reference3Ideal.Read.val_main_v50 (F := Ideal) _) (?_ : ix2 (row13 ⟨t.val, points ▸ t.isLt⟩ y0) y1 = _))
  · rfl
  · blk_ext [(idx0 t).2.2.2.2.2.2.2.2.2.2.2.2.2.2.2.2]

end Cert.Kernel3Ideal.Merge

namespace Cert.Reference3Ideal.Merge

open Cert.Reference3Ideal Cert.Reference3Ideal.Read Idealize.ShloMosaic

theorem mask_apply (x7 : Vec Ideal S4x128x128 .f32) (g : Fin 4) (t s : Fin 128) :
    val_main_v4 (F := Ideal) x7 (ix3 g t s) = x7 (ix3 g t s) * Scalar.select (Row.low t s) 1 0 := by
  have h : val_main_v4 (F := Ideal) x7 (ix3 g t s) = x7 (ix3 g t s) *
      Scalar.select (IntOp.cmpi .sge (IntOp.addi (BitVec.ofNat 32 t.val) 0#32) (BitVec.ofNat 32 s.val)) 1 0 := by
    unfold val_main_v4 val_main_v3 val_main_v2 val_main_v1 val_main_v0 val_main_cst val_main_call0_v5 val_main_call0_v4
      val_main_call0_v3 val_main_call0_v2 val_main_call0_v1 val_main_call0_v0 val_main_call0_c val_main_call0_cst
    pointwise
  rw [h, show IntOp.addi (BitVec.ofNat 32 t.val) 0#32 = BitVec.ofNat 32 t.val from BitVec.add_zero _]
  rfl

theorem token_apply (A2 : Vec Ideal S16384x512 .f32) (A3 : Vec Ideal S16384x512 .bf16) (A7 : Vec Ideal S4x128x128 .f32)
    (A8 : Vec Ideal S128x4 .f32) (r : Fin 16384) (i : Fin 512) :
    val_main_v13 (F := Ideal) A2 A3 A7 A8 (ix2 r i) = Cert.Kernel3Ideal.Merge.token A2 A3 A7 A8 r i := by
  unfold val_main_v13 val_main_v12 val_main_v11 val_main_v10 val_main_v9 val_main_v8 val_main_v7 val_main_v6 val_main_v5
  pointwise
  simp only [mask_apply]
  rfl

theorem gates_apply (A0 : Vec Ideal S16384x1024 .f32) (A4 : Vec Ideal S1x1024 .f32) (A5 : Vec Ideal S1024x2048 .bf16)
    (A6 : Vec Ideal S1x2048 .f32) (r : Fin 16384) (j : Fin 2048) : val_main_v35 (F := Ideal) A0 A4 A5 A6 (ix2 r j) =
      Ideal.logistic (Row.times (Row.rms (fun k => A0 (ix2 r k)) (fun k => A4 (ix2 0 k))) (fun a b => A5 (ix2 a b)) j + A6 (ix2 0 j)) := by
  unfold val_main_v35 val_main_v34 val_main_v33 val_main_v32 val_main_v31 val_main_v30 val_main_v29 val_main_v28 val_main_v27 val_main_v26
    val_main_v25 val_main_v24 val_main_v23 val_main_v22 val_main_v21 val_main_v20 val_main_v19 val_main_v18 val_main_v17 val_main_v16
    val_main_v15 val_main_v14 val_main_cst_0 val_main_cst_1 val_main_cst_2 val_main_cst_3 val_main_cst_4
  pointwise
  rfl

theorem res_apply (A0 : Vec Ideal S16384x1024 .f32) (A1 : Vec Ideal S16384x512 .bf16) (A2 : Vec Ideal S16384x512 .f32)
    (A3 : Vec Ideal S16384x512 .bf16) (A4 : Vec Ideal S1x1024 .f32) (A5 : Vec Ideal S1024x2048 .bf16) (A6 : Vec Ideal S1x2048 .f32)
    (A7 : Vec Ideal S4x128x128 .f32) (A8 : Vec Ideal S128x4 .f32) (A9 A10 : Vec Ideal S512x1024 .bf16) (A11 : Vec Ideal S1024x1024 .bf16)
    (r : Fin 16384) (j : Fin 1024) : val_main_v48 (F := Ideal) A0 A1 A2 A3 A4 A5 A6 A7 A8 A9 A10 A11 (ix2 r j) =
    Row.merge (fun k => A0 (ix2 r k)) (fun k => A4 (ix2 0 k)) (fun a b => A5 (ix2 a b)) (fun k => A6 (ix2 0 k))
      (fun k => A1 (ix2 r k)) (Cert.Kernel3Ideal.Merge.token A2 A3 A7 A8 r) (fun a b => A9 (ix2 a b)) (fun a b => A10 (ix2 a b)) (fun a b => A11 (ix2 a b)) j := by
  unfold val_main_v48 val_main_v47 val_main_v46 val_main_v45 val_main_v44 val_main_v43 val_main_v42 val_main_v41 val_main_v40
    val_main_v39 val_main_v38 val_main_v37 val_main_v36
  pointwise
  simp only [gates_apply, token_apply]
  rfl

end Cert.Reference3Ideal.Merge

namespace Cert.Kernel3Ideal.Merge

open Idealize.ShloMosaic

/-- The call's first result is the reference's. -/
theorem out_eq (A0 : Vec Ideal S16384x1024 .f32) (A1 : Vec Ideal S16384x512 .bf16) (A2 : Vec Ideal S16384x512 .f32)
    (A3 : Vec Ideal S16384x512 .bf16) (A4 : Vec Ideal S1x1024 .f32) (A5 : Vec Ideal S1024x2048 .bf16) (A6 : Vec Ideal S1x2048 .f32)
    (A7 : Vec Ideal S4x128x128 .f32) (A8 : Vec Ideal S128x4 .f32) (A9 A10 : Vec Ideal S512x1024 .bf16) (A11 : Vec Ideal S1024x1024 .bf16) :
    out A0 A1 A2 A3 A4 A5 A6 A7 A8 A9 A10 A11 =
      Cert.Reference3Ideal.Read.val_main_v48 (F := Ideal) A0 A1 A2 A3 A4 A5 A6 A7 A8 A9 A10 A11 := by
  funext y
  idx_vars y
  exact (Cert.Reference3Ideal.Merge.res_apply A0 A1 A2 A3 A4 A5 A6 A7 A8 A9 A10 A11 y0 y1).symm

end Cert.Kernel3Ideal.Merge
-- ==== Proof.Memkv.lean ====
module

public import proofs.«01_k».proof.Proof.Merge
public import proofs.«01_k».proof.Proof.Gen.Kernel5Ideal.Value
public import proofs.«01_k».proof.Proof.Gen.Reference5Ideal.Read

/-! # The memory's keys and values

Each memory row is normalised and multiplied by the projection matrix. The kernel takes one batch's 256 rows per
grid point. -/

@[expose] public section

set_option maxRecDepth 16384

noncomputable section

namespace Cert.Kernel5Ideal.Memkv

open Cert.Kernel5Ideal Cert.Kernel5Ideal.Gen Idealize.ShloMosaic Idealize.ShloMosaic.TcCoe Idealize.SL.Sem
open Cert.Kernel2Ideal.Ffn (ld_apply)
open Cert.Kernel3Ideal.Merge (ld3_apply)

/-- A row of a block. -/
theorem pay_apply (x : Vec Ideal S1x256x1024 .f32) (g : Vec Ideal S1x1024 .f32) (w : Vec Ideal S1024x1024 .bf16)
    (r : Fin 256) (j : Fin 1024) : k0_pay1 x g w (ix3 0 r j) =
      Row.times (Row.rms (fun k => x (ix3 0 r k)) (fun k => g (ix2 0 k))) (fun a b => w (ix2 a b)) j := by
  unfold k0_pay1
  pointwise
  rfl

/-- The keys and values of a batch's memory. -/
def out {n : ℕ} (A0 : (⟨3, ![n, 256, 1024]⟩ : Shape).Idx → Elt Ideal .f32) (A1 : Vec Ideal S1x1024 .f32) (A2 : Vec Ideal S1024x1024 .bf16) :
    (⟨3, ![n, 256, 1024]⟩ : Shape).Idx → Elt Ideal .bf16 := fun y =>
  Row.times (Row.rms (fun k => A0 (ix3 (y 0 : Fin n) (y 1 : Fin 256) k)) (fun k => A1 (ix2 0 k))) (fun a b => A2 (ix2 a b)) (y 2 : Fin 1024)

theorem block_apply (x0 : Vec Ideal S1x256x1024 .f32) (x1 : Vec Ideal S1x1024 .f32) (x2 : Vec Ideal S1024x1024 .bf16)
    (r : Fin 256) (j : Fin 1024) : out0_3 x0 x1 x2 (ix3 0 r j) = out (n := 1) x0 x1 x2 (ix3 0 r j) := by
  unfold out0_3
  refine View.canon_apply_of_pieces (Val := Elt Ideal) (fun y : S1x256x1024.Idx => out (n := 1) x0 x1 x2 (ix3 (y 0 : Fin 1) (y 1 : Fin 256) (y 2 : Fin 1024)))
    _ ?_ (ix3 0 r j) (cover0_3 _ _)
  intro p hp k
  obtain rfl := List.mem_singleton.mp hp
  idx_vars k
  obtain rfl : k0 = 0 := Subsingleton.elim _ _
  refine (pay_apply _ _ _ k1 k2).trans ?_
  unfold out
  congr 1
  · congr 1
    · funext k
      exact ld3_apply x0 0 0 0 _ k1 k _ _ _ rfl (show 0 + 1 * k1.val = _ by omega) (by omega)
    · funext k
      exact ld_apply x1 0 0 _ 0 k _ _ rfl (by omega)
  · funext a b
    exact ld_apply x2 0 0 _ a b _ _ (by omega) (by omega)
  · exact Fin.ext (show k2.val = 0 + 1 * k2.val by omega)

theorem points : cfg0.grid.N = 2 := N_0

theorem idx0 : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

variable (m : (ℓ : Loc nD τ sig) → Buf (Elt Ideal) ℓ) (c : Dev nD)

/-- The memory of one batch. -/
def cut (A : Vec Ideal S2x256x1024 .f32) (w : Fin 2) : Vec Ideal S1x256x1024 .f32 :=
  fun k => A (ix3 w (k 1 : Fin 256) (k 2 : Fin 1024))

theorem blk0 (t : Fin cfg0.N) : iblk m c 0 t = cut (m ((c : Thread nD τ).loc main_arg0)) ⟨t.val, points ▸ t.isLt⟩ := by
  funext k
  unfold cut
  blk_ext [iblk, V, (idx0 t).1]
theorem blk1 (t : Fin cfg0.N) : iblk m c 1 t = (m ((c : Thread nD τ).loc main_arg1)) := by
  funext k
  blk_ext [iblk, V, (idx0 t).2.1]
theorem blk2 (t : Fin cfg0.N) : iblk m c 2 t = (m ((c : Thread nD τ).loc main_arg2)) := by
  funext k
  blk_ext [iblk, V, (idx0 t).2.2.1]

theorem final : (dats m 0 c).arrAt 3 cfg0.N =
    out (n := 2) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, blk0, blk1, blk2]
  idx_vars y
  obtain rfl : y0 = 0 := Subsingleton.elim _ _
  refine (block_apply _ _ _ y1 y2).trans ?_
  refine Eq.trans ?_ (congrArg (out (n := 2) _ _ _) (?_ : ix3 ⟨t.val, points ▸ t.isLt⟩ y1 y2 = _))
  · rfl
  · blk_ext [(idx0 t).2.2.2]

theorem out_eq (A0 : Vec Ideal S2x256x1024 .f32) (A1 : Vec Ideal S1x1024 .f32) (A2 : Vec Ideal S1024x1024 .bf16) :
    out (n := 2) A0 A1 A2 = Cert.Reference5Ideal.Read.val_main_v15 (F := Ideal) A0 A1 A2 := by
  funext y
  idx_vars y
  open Cert.Reference5Ideal.Read in
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  symm
  pointwise
  rfl

end Cert.Kernel5Ideal.Memkv
-- ==== Proof.Finite.lean ====
module

public import proofs.«01_k».proof.Proof.Softmax
public import proofs.«01_k».proof.Proof.Row

/-! # Rows of real numbers

A normalised row is a row of real numbers whatever the row is. A softmax of real logits, taken by the reference's
quotients in base `e`, is the kernel's softmax in base two. -/

@[expose] public section

noncomputable section

namespace Finite

open Idealize.ShloMosaic

/-- An extended real that is a real number. -/
def Num (x : EReal) : Prop := ∃ r : ℝ, x = (r : EReal)

theorem num_mul {x y : EReal} : Num x → Num y → Num (x * y) := by
  rintro ⟨a, rfl⟩ ⟨b, rfl⟩
  exact ⟨a * b, (EReal.coe_mul a b).symm⟩

theorem num_add {x y : EReal} : Num x → Num y → Num (x + y) := by
  rintro ⟨a, rfl⟩ ⟨b, rfl⟩
  exact ⟨a + b, (EReal.coe_add a b).symm⟩

theorem num_sum {ι : Type} (s : Finset ι) (f : ι → EReal) (h : ∀ i, Num (f i)) : Num (∑ i ∈ s, f i) := by
  classical
  induction s using Finset.induction_on with
  | empty => exact ⟨0, by simp⟩
  | insert a s ha ih => rw [Finset.sum_insert ha]; exact num_add (h a) ih

/-- What has a magnitude below infinity is a real number. -/
theorem num_of_abs_lt {x : EReal} (h : max x (-x) < ⊤) : Num x := by
  induction x with
  | bot => simp at h
  | top => simp at h
  | coe r => exact ⟨r, rfl⟩

theorem of_ofBool (b : Bool) (h : BitVec.ofBool b = 1#1) : b = true := by
  revert h
  cases b <;> decide

theorem sq_nonneg' (x : EReal) : 0 ≤ x * x := by
  induction x with
  | bot => simp
  | top => simp
  | coe r => rw [← EReal.coe_mul]; exact_mod_cast mul_self_nonneg r

theorem channels_word : Ideal.ofBits .f32 1149239296#32 = ((1024 : ℝ) : EReal) := by
  simp [Ideal.ofBits, Ideal.ieee]
  norm_num [← EReal.coe_mul]

theorem eps_word : ∃ e : ℝ, 0 < e ∧ Ideal.ofBits .f32 897988541#32 = (e : EReal) := by
  refine ⟨_, ?_, by simp [Ideal.ofBits, Ideal.ieee]; rfl⟩
  positivity

theorem width_word : Ideal.ofBits .f32 1124073472#32 = ((128 : ℝ) : EReal) := by
  simp [Ideal.ofBits, Ideal.ieee]
  norm_num [← EReal.coe_mul]

/-- A normalised row is real wherever the gain is. -/
theorem num_rms (x g : Fin 1024 → EReal) (hg : ∀ j, Num (g j)) (j : Fin 1024) : Num (Cert.Row.rms x g j) := by
  obtain ⟨e, he, hw⟩ := eps_word
  unfold Cert.Row.rms
  rw [hw, channels_word, Ideal.div_coe (by norm_num)]
  refine num_mul ?_ (hg j)
  by_cases hx : ∀ k, Num (x k)
  · obtain ⟨s, hs⟩ := num_sum Finset.univ (fun k => x k * x k) fun k => num_mul (hx k) (hx k)
    have h0 : 0 ≤ s := by
      have : (0 : EReal) ≤ ∑ k, x k * x k := Finset.sum_nonneg fun k _ => sq_nonneg' _
      rw [hs] at this
      exact_mod_cast this
    rw [hs, ← EReal.coe_mul, ← EReal.coe_add, Ideal.rsqrt_coe, if_neg (not_lt.2 (by positivity)), if_neg (ne_of_gt (by positivity))]
    exact num_mul (hx j) ⟨_, rfl⟩
  · push Not at hx
    obtain ⟨k, hk⟩ := hx
    have ht : x k * x k = ⊤ := by
      generalize x k = y at hk
      induction y with
      | bot => simp
      | top => simp
      | coe r => exact absurd ⟨r, rfl⟩ hk
    have hs : ∑ k, x k * x k = ⊤ := top_le_iff.1
      (ht ▸ Finset.single_le_sum (f := fun k => x k * x k) (fun k _ => sq_nonneg' _) (Finset.mem_univ k))
    rw [hs, EReal.top_mul_coe_of_pos (by norm_num), EReal.top_add_coe, Ideal.rsqrt_top, mul_zero]
    exact ⟨0, by simp⟩

theorem num_times {k n : ℕ} (x : Fin k → EReal) (w : Fin k → Fin n → EReal) (hx : ∀ a, Num (x a)) (hw : ∀ a b, Num (w a b))
    (j : Fin n) : Num (Cert.Row.times x w j) := num_sum _ _ fun a => num_mul (hx a) (hw a j)

/-- The softmax of real logits in base `e`, as quotients taken on the values, is the one in base two. -/
theorem softmax {n : ℕ} [NeZero n] (X Y V : Fin n → EReal) (hX : ∀ i, Num (X i)) (hY : ∀ i, Y i = Soft.aff (Real.log 2) 0 (X i)) :
    (∑ i, V i * Ideal.div (Ideal.exp (Y i - Finset.univ.sup Y)) (∑ k, Ideal.exp (Y k - Finset.univ.sup Y))) = Cert.Row.attend X V := by
  have hp : (0 : ℝ) < Real.log 2 := Real.log_pos (by norm_num)
  have hs : Finset.univ.sup Y = Soft.aff (Real.log 2) 0 (Finset.univ.sup X) := by
    rw [← Soft.aff_sup _ _ _ hp]
    exact Finset.sup_congr rfl fun i _ => hY i
  have he : ∀ i, Ideal.exp (Y i - Finset.univ.sup Y) = Ideal.exp2 (X i - Finset.univ.sup X) := fun i => by rw [hs, hY, Soft.exp_aff]
  unfold Cert.Row.attend
  simp only [he]
  obtain ⟨i, -, hi⟩ := Finset.exists_mem_eq_sup (Finset.univ : Finset (Fin n)) ⟨0, Finset.mem_univ _⟩ X
  have one : (1 : EReal) ≤ ∑ k, Ideal.exp2 (X k - Finset.univ.sup X) := by
    refine le_trans (le_of_eq ?_) (Finset.single_le_sum (f := fun k => Ideal.exp2 (X k - Finset.univ.sup X))
      (fun k _ => Soft.exp2_nonneg _) (Finset.mem_univ i))
    obtain ⟨r, hr⟩ := hX i
    show (1 : EReal) = Ideal.exp2 (X i - Finset.univ.sup X)
    rw [hi, hr, ← EReal.coe_sub, Ideal.exp2_coe, sub_self]
    simp
  generalize hL : ∑ k, Ideal.exp2 (X k - Finset.univ.sup X) = L at one
  have hpos : 0 < L := lt_of_lt_of_le zero_lt_one one
  have hd : ∀ x, Ideal.div x L = x * L⁻¹ := fun x => by unfold Ideal.div; rw [if_neg hpos.ne']
  rw [hd 1, one_mul, mul_comm, Soft.real_mul_sum _ _ _ (EReal.inv_nonneg_of_nonneg hpos.le) ?_]
  · refine Finset.sum_congr rfl fun i _ => ?_
    rw [hd, ← mul_assoc, mul_comm (V i), mul_comm]
  · induction L with
    | bot => simp at hpos
    | top => simp
    | coe r => rw [← EReal.coe_inv]; exact EReal.coe_ne_top _

/-- The attention to the memory by the reference's quotients. -/
theorem xattn_eq (x g : Fin 1024 → EReal) (wq : Fin 1024 → Fin 512 → EReal) (K V : Fin 256 → Fin 512 → EReal)
    (wo : Fin 512 → Fin 1024 → EReal) (hg : ∀ j, Num (g j)) (hq : ∀ a b, Num (wq a b)) (hK : ∀ i o, Num (K i o)) (j : Fin 1024)
    (Y : Fin 512 → Fin 256 → EReal) (hY : ∀ o i, Y o i = Ideal.div (∑ d : Fin 128,
      Cert.Row.times (Cert.Row.rms x g) wq (Cert.Row.ofHead o d) * K i (Cert.Row.ofHead o d)) (Ideal.sqrt (Ideal.ofBits .f32 1124073472#32))) :
    x j + Cert.Row.times (fun o => ∑ i, V i o *
      Ideal.div (Ideal.exp (Y o i - Finset.univ.sup (Y o))) (∑ k, Ideal.exp (Y o k - Finset.univ.sup (Y o)))) wo j =
    Cert.Row.xattn x g wq (((Real.sqrt 128)⁻¹ * (Real.log 2)⁻¹ : ℝ) : EReal) K V wo j := by
  have hn : ∀ o, Num (Cert.Row.times (Cert.Row.rms x g) wq o) := num_times _ _ (num_rms x g hg) hq
  unfold Cert.Row.xattn
  congr 2
  funext o
  refine softmax _ _ _ (fun i => num_sum _ _ fun d => num_mul (num_mul (hn _) ⟨_, rfl⟩) (hK _ _)) fun i => ?_
  obtain ⟨s, hs⟩ := num_sum Finset.univ (fun d : Fin 128 => Cert.Row.times (Cert.Row.rms x g) wq (Cert.Row.ofHead o d) * K i (Cert.Row.ofHead o d))
    fun d => num_mul (hn _) (hK _ _)
  have hc : (∑ d : Fin 128, Cert.Row.times (Cert.Row.rms x g) wq (Cert.Row.ofHead o d) *
      (((Real.sqrt 128)⁻¹ * (Real.log 2)⁻¹ : ℝ) : EReal) * K i (Cert.Row.ofHead o d)) =
      (((Real.sqrt 128)⁻¹ * (Real.log 2)⁻¹ : ℝ) : EReal) * (s : EReal) := by
    rw [← hs, Soft.real_mul_sum _ _ _ (by exact_mod_cast (by positivity)) (EReal.coe_ne_top _)]
    exact Finset.sum_congr rfl fun d _ => by rw [mul_comm (Cert.Row.times _ _ _), mul_assoc]
  have hl : Real.log 2 ≠ 0 := (Real.log_pos (by norm_num)).ne'
  rw [hY, hs, hc, width_word, Ideal.sqrt_coe, if_neg (by norm_num), Ideal.div_coe (by positivity), ← EReal.coe_mul, ← EReal.coe_mul,
    Soft.aff_coe]
  congr 1
  field_simp
  ring

end Finite
-- ==== Proof.Xattn.lean ====
module

public import proofs.«01_k».proof.Proof.Merge
public import proofs.«01_k».proof.Proof.Softmax
public import proofs.«01_k».proof.Proof.Gen.Pre_finite
public import proofs.«01_k».proof.Proof.Gen.Kernel4Ideal.Value
public import proofs.«01_k».proof.Proof.Gen.Reference4Ideal.Read

/-! # The attention to the memory -/

@[expose] public section

set_option maxRecDepth 16384

noncomputable section

namespace Cert.Kernel4Ideal.Xattn

open Cert.Kernel4Ideal Cert.Kernel4Ideal.Gen Cert.Kernel4Ideal.Facts Idealize.ShloMosaic Idealize.ShloMosaic.TcCoe Idealize.SL.Sem
open Cert.Kernel2Ideal.Ffn (ld_apply)
open Cert.Kernel3Ideal.Merge (ld3_apply)

/-! ## A head -/

theorem scale_named : Named.named (F := Ideal) κ (φ := .f32) "scale" 0x3E0293EE#32 = (((Real.sqrt 128)⁻¹ * (Real.log 2)⁻¹ : ℝ) : EReal) :=
  IdealRules.named_const.ideal_named_scalar _ _ _ _ rfl

/-- The number the queries are scaled by. -/
def scale : EReal := (((Real.sqrt 128)⁻¹ * (Real.log 2)⁻¹ : ℝ) : EReal)

theorem query_apply (x : Vec Ideal S512x1024 .f32) (g : Vec Ideal S1x1024 .f32) (w : Vec Ideal S1024x512 .bf16)
    (t : Fin 512) (j : Fin 512) : k0_pay3 x g w (ix2 t j) =
      Row.times (Row.rms (fun k => x (ix2 t k)) (fun k => g (ix2 0 k))) (fun a b => w (ix2 a b)) j * scale := by
  have h : k0_pay3 x g w (ix2 t j) =
      Row.times (Row.rms (fun k => x (ix2 t k)) (fun k => g (ix2 0 k))) (fun a b => w (ix2 a b)) j *
        Named.named (F := Ideal) κ (φ := .f32) "scale" 0x3E0293EE#32 := by
    unfold k0_pay3
    pointwise
    rfl
  rw [h, scale_named]
  rfl

theorem logit0_apply (q : FVec Ideal S512x512 .bf16) (k : Vec Ideal S1x256x128 .bf16) (t : Fin 512) (i : Fin 256) :
    k0_pay6 q k (ix2 t i) = ∑ d : Fin 128, q (ix2 t ⟨d.val, by omega⟩) * k (ix3 0 i d) := by
  unfold k0_pay6
  pointwise

theorem logit1_apply (q : FVec Ideal S512x512 .bf16) (k : Vec Ideal S1x256x128 .bf16) (t : Fin 512) (i : Fin 256) :
    k0_pay7 q k (ix2 t i) = ∑ d : Fin 128, q (ix2 t ⟨128 + d.val, by omega⟩) * k (ix3 0 i d) := by
  unfold k0_pay7
  pointwise

theorem logit2_apply (q : FVec Ideal S512x512 .bf16) (k : Vec Ideal S1x256x128 .bf16) (t : Fin 512) (i : Fin 256) :
    k0_pay8 q k (ix2 t i) = ∑ d : Fin 128, q (ix2 t ⟨256 + d.val, by omega⟩) * k (ix3 0 i d) := by
  unfold k0_pay8
  pointwise

theorem logit3_apply (q : FVec Ideal S512x512 .bf16) (k : Vec Ideal S1x256x128 .bf16) (t : Fin 512) (i : Fin 256) :
    k0_pay9 q k (ix2 t i) = ∑ d : Fin 128, q (ix2 t ⟨384 + d.val, by omega⟩) * k (ix3 0 i d) := by
  unfold k0_pay9
  pointwise

/-- The weights of a head, from its logits. -/
theorem weight_apply (s : FVec Ideal S512x256 .f32) (t : Fin 512) (i : Fin 256) :
    k0_pay15 s (ix2 t i) = Ideal.exp2 (s (ix2 t i) - Finset.univ.sup fun i : Fin 256 => s (ix2 t i)) := by
  unfold k0_pay15
  pointwise
  rw [Cert.KernelIdeal.Cmp.negInf_word]
  rfl

/-- A head's result, from its logits and values. -/
def head (s : FVec Ideal S512x256 .f32) (v : Vec Ideal S1x256x128 .bf16) : FVec Ideal S512x128 .f32 := k0_pay24 (k0_pay15 s) v

theorem head_apply (s : FVec Ideal S512x256 .f32) (v : Vec Ideal S1x256x128 .bf16) (t : Fin 512) (d : Fin 128) :
    head s v (ix2 t d) = Row.attend (fun i => s (ix2 t i)) (fun i => v (ix3 0 i d)) := by
  have h : ∀ e : FVec Ideal S512x256 .bf16, k0_pay24 e v (ix2 t d) =
      (∑ i : Fin 256, e (ix2 t i) * v (ix3 0 i d)) * Ideal.div (Ideal.ofBits .f32 0x3F800000#32) (∑ i : Fin 256, e (ix2 t i)) := by
    intro e
    unfold k0_pay24
    pointwise
  unfold head
  rw [h]
  simp only [weight_apply]
  rw [show Ideal.ofBits .f32 0x3F800000#32 = (1 : EReal) from Ideal.ofBits_one_f32]
  rfl

/-- The four heads side by side. -/
def heads (a b c d : FVec Ideal S512x128 .f32) : FVec Ideal S512x512 .bf16 :=
  truncf .bf16 (concatenate S512x512 1 [⟨S512x128, a⟩, ⟨S512x128, b⟩, ⟨S512x128, c⟩, ⟨S512x128, d⟩]
    concatenates_S512x128_S512x128_S512x128_S512x128_S512x512_d1) bitsLt_bf16_f32

theorem heads_apply (a b c d : FVec Ideal S512x128 .f32) (t : Fin 512) (i : Fin 512) :
    heads a b c d (ix2 t i) = if h : i.val < 128 then a (ix2 t ⟨i.val, h⟩)
      else if h : i.val - 128 < 128 then b (ix2 t ⟨i.val - 128, h⟩)
      else if h : i.val - 128 - 128 < 128 then c (ix2 t ⟨i.val - 128 - 128, h⟩)
      else d (ix2 t ⟨i.val - 128 - 128 - 128, by omega⟩) := by
  unfold heads
  pointwise

theorem add_apply (x : Vec Ideal S512x1024 .f32) (o : FVec Ideal S512x512 .bf16) (w : Vec Ideal S512x1024 .bf16) (t : Fin 512) (j : Fin 1024) :
    k0_pay1 x o w (ix2 t j) = x (ix2 t j) + Row.times (fun k => o (ix2 t k)) (fun a b => w (ix2 a b)) j := by
  unfold k0_pay1
  pointwise
  rfl

/-- One half of a block. -/
def half (x : Vec Ideal S512x1024 .f32) (g : Vec Ideal S1x1024 .f32) (wq : Vec Ideal S1024x512 .bf16)
    (k0 k1 k2 k3 v0 v1 v2 v3 : Vec Ideal S1x256x128 .bf16) (wo : Vec Ideal S512x1024 .bf16) : FVec Ideal S512x1024 .f32 :=
  k0_pay1 x (heads (head (k0_pay6 (k0_pay3 x g wq) k0) v0) (head (k0_pay7 (k0_pay3 x g wq) k1) v1)
    (head (k0_pay8 (k0_pay3 x g wq) k2) v2) (head (k0_pay9 (k0_pay3 x g wq) k3) v3)) wo

theorem half_apply (x : Vec Ideal S512x1024 .f32) (g : Vec Ideal S1x1024 .f32) (wq : Vec Ideal S1024x512 .bf16)
    (k0 k1 k2 k3 v0 v1 v2 v3 : Vec Ideal S1x256x128 .bf16) (wo : Vec Ideal S512x1024 .bf16) (K V : Fin 256 → Fin 512 → EReal)
    (hk0 : ∀ i d, k0 (ix3 0 i d) = K i ⟨d.val, by omega⟩) (hk1 : ∀ i d, k1 (ix3 0 i d) = K i ⟨128 + d.val, by omega⟩)
    (hk2 : ∀ i d, k2 (ix3 0 i d) = K i ⟨256 + d.val, by omega⟩) (hk3 : ∀ i d, k3 (ix3 0 i d) = K i ⟨384 + d.val, by omega⟩)
    (hv0 : ∀ i d, v0 (ix3 0 i d) = V i ⟨d.val, by omega⟩) (hv1 : ∀ i d, v1 (ix3 0 i d) = V i ⟨128 + d.val, by omega⟩)
    (hv2 : ∀ i d, v2 (ix3 0 i d) = V i ⟨256 + d.val, by omega⟩) (hv3 : ∀ i d, v3 (ix3 0 i d) = V i ⟨384 + d.val, by omega⟩)
    (t : Fin 512) (j : Fin 1024) : half x g wq k0 k1 k2 k3 v0 v1 v2 v3 wo (ix2 t j) =
      Row.xattn (fun k => x (ix2 t k)) (fun k => g (ix2 0 k)) (fun a b => wq (ix2 a b)) scale K V (fun a b => wo (ix2 a b)) j := by
  unfold half Row.xattn
  rw [add_apply]
  congr 2
  funext o
  rw [heads_apply]
  split_ifs with h1 h2 h3
  · rw [head_apply]
    simp only [logit0_apply, query_apply, hk0, hv0]
    have e : ∀ d, Row.ofHead o d = ⟨d.val, by omega⟩ := fun d => Fin.ext (show 128 * (o.val / 128) + d.val = d.val by omega)
    simp only [e]
  · rw [head_apply]
    simp only [logit1_apply, query_apply, hk1, hv1]
    have e : ∀ d, Row.ofHead o d = ⟨128 + d.val, by omega⟩ := fun d => Fin.ext (show 128 * (o.val / 128) + d.val = 128 + d.val by omega)
    have e' : (⟨128 + (o.val - 128), by omega⟩ : Fin 512) = o := Fin.ext (show 128 + (o.val - 128) = o.val by omega)
    simp only [e, e']
  · rw [head_apply]
    simp only [logit2_apply, query_apply, hk2, hv2]
    have e : ∀ d, Row.ofHead o d = ⟨256 + d.val, by omega⟩ := fun d => Fin.ext (show 128 * (o.val / 128) + d.val = 256 + d.val by omega)
    have e' : (⟨256 + (o.val - 128 - 128), by omega⟩ : Fin 512) = o := Fin.ext (show 256 + (o.val - 128 - 128) = o.val by omega)
    simp only [e, e']
  · rw [head_apply]
    simp only [logit3_apply, query_apply, hk3, hv3]
    have e : ∀ d, Row.ofHead o d = ⟨384 + d.val, by omega⟩ := fun d => Fin.ext (show 128 * (o.val / 128) + d.val = 384 + d.val by omega)
    have e' : (⟨384 + (o.val - 128 - 128 - 128), by omega⟩ : Fin 512) = o := Fin.ext (show 384 + (o.val - 128 - 128 - 128) = o.val by omega)
    simp only [e, e']

/-! ## A block -/

/-- The keys in a batch's block of the memory. -/
abbrev keysOf {n : ℕ} (A : (⟨3, ![n, 256, 1024]⟩ : Shape).Idx → Elt Ideal .bf16) (b : Fin n) (i : Fin 256) (o : Fin 512) : EReal :=
  A (ix3 b i (⟨o.val, by omega⟩ : Fin 1024))

/-- The values in a batch's block of the memory. -/
abbrev valuesOf {n : ℕ} (A : (⟨3, ![n, 256, 1024]⟩ : Shape).Idx → Elt Ideal .bf16) (b : Fin n) (i : Fin 256) (o : Fin 512) : EReal :=
  A (ix3 b i (⟨512 + o.val, by omega⟩ : Fin 1024))

/-- One half of a block, from the arrays the block loads. -/
theorem piece_apply (x0 : Vec Ideal S1024x1024 .f32) (x1 : Vec Ideal S1x1024 .f32) (x2 : Vec Ideal S1024x512 .bf16)
    (x3 : Vec Ideal S1x256x1024 .bf16) (x4 : Vec Ideal S512x1024 .bf16) (s : ℕ) (hs) (t : Fin 512) (j : Fin 1024) (r : Fin 1024)
    (hr : r.val = s + t.val) :
    half (View.ld x0 (Rect.unit (s := S1024x1024) ![s, 0] S512x1024.size hs)) (View.ld x1 r0_2) (View.ld x2 r0_3)
      (View.ld x3 r0_4) (View.ld x3 r0_5) (View.ld x3 r0_6) (View.ld x3 r0_7) (View.ld x3 r0_8) (View.ld x3 r0_9)
      (View.ld x3 r0_10) (View.ld x3 r0_11) (View.ld x4 r0_12) (ix2 t j) =
    Row.xattn (fun k => x0 (ix2 r k)) (fun k => x1 (ix2 0 k)) (fun a b => x2 (ix2 a b)) scale (keysOf (n := 1) x3 0) (valuesOf (n := 1) x3 0)
      (fun a b => x4 (ix2 a b)) j := by
  refine (half_apply _ _ _ _ _ _ _ _ _ _ _ _ (keysOf (n := 1) x3 0) (valuesOf (n := 1) x3 0)
    (fun i d => ld3_apply x3 0 0 0 _ i d _ _ _ rfl (by omega) (show d.val = 0 + d.val by omega))
    (fun i d => ld3_apply x3 0 0 128 _ i d _ _ _ rfl (by omega) rfl)
    (fun i d => ld3_apply x3 0 0 256 _ i d _ _ _ rfl (by omega) rfl)
    (fun i d => ld3_apply x3 0 0 384 _ i d _ _ _ rfl (by omega) rfl)
    (fun i d => ld3_apply x3 0 0 512 _ i d _ _ _ rfl (by omega) rfl)
    (fun i d => ld3_apply x3 0 0 640 _ i d _ _ _ rfl (by omega) (show 512 + (128 + d.val) = 640 + d.val by omega))
    (fun i d => ld3_apply x3 0 0 768 _ i d _ _ _ rfl (by omega) (show 512 + (256 + d.val) = 768 + d.val by omega))
    (fun i d => ld3_apply x3 0 0 896 _ i d _ _ _ rfl (by omega) (show 512 + (384 + d.val) = 896 + d.val by omega)) t j).trans ?_
  have e0 : (fun k => View.ld x0 (Rect.unit (s := S1024x1024) ![s, 0] S512x1024.size hs) (ix2 t k)) = fun k => x0 (ix2 r k) :=
    funext fun k => ld_apply x0 s 0 _ t k _ _ (by omega) (by omega)
  have e1 : (fun k => View.ld x1 r0_2 (ix2 0 k)) = fun k => x1 (ix2 0 k) := funext fun k => ld_apply x1 0 0 _ 0 k _ _ rfl (by omega)
  have e2 : (fun a b => View.ld x2 r0_3 (ix2 a b)) = fun a b => x2 (ix2 a b) :=
    funext fun a => funext fun b => ld_apply x2 0 0 _ a b _ _ (by omega) (by omega)
  have e4 : (fun a b => View.ld x4 r0_12 (ix2 a b)) = fun a b => x4 (ix2 a b) :=
    funext fun a => funext fun b => ld_apply x4 0 0 _ a b _ _ (by omega) (by omega)
  rw [e0, e1, e2, e4]

theorem first_half (x : Vec Ideal S512x1024 .f32) (g : Vec Ideal S1x1024 .f32) (wq : Vec Ideal S1024x512 .bf16)
    (k0 k1 k2 k3 v0 v1 v2 v3 : Vec Ideal S1x256x128 .bf16) (wo : Vec Ideal S512x1024 .bf16) :
    k0_pay1 x (k0_pay29 (k0_pay24 (k0_pay15 (k0_pay6 (k0_pay3 x g wq) k0)) v0) (k0_pay25 (k0_pay16 (k0_pay7 (k0_pay3 x g wq) k1)) v1)
      (k0_pay26 (k0_pay17 (k0_pay8 (k0_pay3 x g wq) k2)) v2) (k0_pay27 (k0_pay18 (k0_pay9 (k0_pay3 x g wq) k3)) v3)
      (k0_pay28 (k0_pay18 (k0_pay9 (k0_pay3 x g wq) k3)))) wo = half x g wq k0 k1 k2 k3 v0 v1 v2 v3 wo := rfl

theorem second_half (x : Vec Ideal S512x1024 .f32) (g : Vec Ideal S1x1024 .f32) (wq : Vec Ideal S1024x512 .bf16)
    (k0 k1 k2 k3 v0 v1 v2 v3 : Vec Ideal S1x256x128 .bf16) (wo : Vec Ideal S512x1024 .bf16) :
    k0_pay2 x (k0_pay23 (k0_pay14 (k0_pay13 (k0_pay4 x g wq) (Named.named κ "scale" 0x3E0293EE#32)) k3)
        (k0_pay22 (k0_pay13 (k0_pay4 x g wq) (Named.named κ "scale" 0x3E0293EE#32)) k3))
      (k0_pay30 (k0_pay19 (k0_pay10 (k0_pay4 x g wq) (Named.named κ "scale" 0x3E0293EE#32) k0)) v0)
      (k0_pay31 (k0_pay20 (k0_pay11 (k0_pay4 x g wq) (Named.named κ "scale" 0x3E0293EE#32) k1)) v1)
      (k0_pay32 (k0_pay21 (k0_pay12 (k0_pay4 x g wq) (Named.named κ "scale" 0x3E0293EE#32) k2)) v2) v3 wo =
    half x g wq k0 k1 k2 k3 v0 v1 v2 v3 wo := rfl

/-- A block of 1024 rows after the call. -/
theorem block_apply (x0 : Vec Ideal S1024x1024 .f32) (x1 : Vec Ideal S1x1024 .f32) (x2 : Vec Ideal S1024x512 .bf16)
    (x3 : Vec Ideal S1x256x1024 .bf16) (x4 : Vec Ideal S512x1024 .bf16) (r : Fin 1024) (j : Fin 1024) :
    out0_5 x0 x1 x2 x3 x4 (ix2 r j) =
      Row.xattn (fun k => x0 (ix2 r k)) (fun k => x1 (ix2 0 k)) (fun a b => x2 (ix2 a b)) scale (keysOf (n := 1) x3 0) (valuesOf (n := 1) x3 0)
        (fun a b => x4 (ix2 a b)) j := by
  unfold_out out0_5
  rw [first_half, second_half]
  refine View.canon_apply_of_pieces (Val := Elt Ideal) (fun y : S1024x1024.Idx => Row.xattn (fun k => x0 (ix2 (y 0 : Fin 1024) k)) (fun k => x1 (ix2 0 k))
    (fun a b => x2 (ix2 a b)) scale (keysOf (n := 1) x3 0) (valuesOf (n := 1) x3 0) (fun a b => x4 (ix2 a b)) (y 1 : Fin 1024)) _ ?_ (ix2 r j) (cover0_5 _ _ _)
  intro p hp k
  rcases List.mem_cons.mp hp with rfl | hp
  · idx_vars k
    refine (piece_apply x0 x1 x2 x3 x4 512 _ k0 k1 ⟨512 + k0.val, by omega⟩ rfl).trans ?_
    congr 1
    · exact funext fun k => congrArg (fun i => x0 (ix2 i k)) (Fin.ext (show 512 + k0.val = 512 + 1 * k0.val by omega))
    · exact Fin.ext (show k1.val = 0 + 1 * k1.val by omega)
  · obtain rfl := List.mem_singleton.mp hp
    idx_vars k
    refine (piece_apply x0 x1 x2 x3 x4 0 _ k0 k1 ⟨0 + k0.val, by omega⟩ rfl).trans ?_
    congr 1
    · exact funext fun k => congrArg (fun i => x0 (ix2 i k)) (Fin.ext (show 0 + k0.val = 0 + 1 * k0.val by omega))
    · exact Fin.ext (show k1.val = 0 + 1 * k1.val by omega)

/-! ## The array -/

/-- The batch of a row. -/
abbrev batch (r : Fin 16384) : Fin 2 := ⟨r.val / 8192, by omega⟩

/-- The call's result, from its operands. -/
def out (A0 : Vec Ideal S16384x1024 .f32) (A1 : Vec Ideal S1x1024 .f32) (A2 : Vec Ideal S1024x512 .bf16)
    (A3 : Vec Ideal S2x256x1024 .bf16) (A4 : Vec Ideal S512x1024 .bf16) : Vec Ideal S16384x1024 .f32 := fun y =>
  Row.xattn (fun k => A0 (ix2 (y 0 : Fin 16384) k)) (fun k => A1 (ix2 0 k)) (fun a b => A2 (ix2 a b)) scale
    (keysOf A3 (batch (y 0))) (valuesOf A3 (batch (y 0))) (fun a b => A4 (ix2 a b)) (y 1 : Fin 1024)

theorem points : cfg0.grid.N = 16 := N_0

theorem idx0 : ∀ t : Fin cfg0.N, win0_0.index t = ![t.val, 0] ∧ win0_1.index t = ![0, 0] ∧ win0_2.index t = ![0, 0] ∧
    win0_3.index t = ![t.val / 8, 0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- Row `r` of the `w`-th block of rows. -/
abbrev row (w : Fin 16) (r : Fin 1024) : Fin 16384 := ⟨1024 * w.val + r.val, by omega⟩

/-- The rows a point loads. -/
def cut (A : Vec Ideal S16384x1024 .f32) (w : Fin 16) : Vec Ideal S1024x1024 .f32 :=
  fun k => A (ix2 (row w (k 0)) (k 1 : Fin 1024))

/-- The memory a point loads. -/
def cut3 (A : Vec Ideal S2x256x1024 .bf16) (w : Fin 16) : Vec Ideal S1x256x1024 .bf16 :=
  fun k => A (ix3 (⟨w.val / 8, by omega⟩ : Fin 2) (k 1 : Fin 256) (k 2 : Fin 1024))

theorem blk0 (t : Fin cfg0.N) : iblk m c 0 t = cut (m ((c : Thread nD τ).loc main_arg0)) ⟨t.val, points ▸ t.isLt⟩ := by
  funext k
  unfold cut
  blk_ext [iblk, V, (idx0 t).1]
theorem blk1 (t : Fin cfg0.N) : iblk m c 1 t = (m ((c : Thread nD τ).loc main_arg1)) := by
  funext k
  blk_ext [iblk, V, (idx0 t).2.1]
theorem blk2 (t : Fin cfg0.N) : iblk m c 2 t = (m ((c : Thread nD τ).loc main_arg2)) := by
  funext k
  blk_ext [iblk, V, (idx0 t).2.2.1]
theorem blk3 (t : Fin cfg0.N) : iblk m c 3 t = cut3 (m ((c : Thread nD τ).loc main_arg3)) ⟨t.val, points ▸ t.isLt⟩ := by
  funext k
  unfold cut3
  blk_ext [iblk, V, (idx0 t).2.2.2.1]
theorem blk4 (t : Fin cfg0.N) : iblk m c 4 t = (m ((c : Thread nD τ).loc main_arg4)) := by
  funext k
  blk_ext [iblk, V, (idx0 t).2.2.2.2.1]

theorem keys_cut (A : Vec Ideal S2x256x1024 .bf16) (w : Fin 16) (r : Fin 1024) :
    keysOf (n := 1) (cut3 A w) 0 = keysOf A (batch (row w r)) ∧ valuesOf (n := 1) (cut3 A w) 0 = valuesOf A (batch (row w r)) := by
  have h : (⟨w.val / 8, by omega⟩ : Fin 2) = batch (row w r) := Fin.ext (show w.val / 8 = (1024 * w.val + r.val) / 8192 by omega)
  exact ⟨funext fun i => funext fun o => congrArg (fun b : Fin 2 => A (ix3 b i (⟨o.val, by omega⟩ : Fin 1024))) h,
    funext fun i => funext fun o => congrArg (fun b : Fin 2 => A (ix3 b i (⟨512 + o.val, by omega⟩ : Fin 1024))) h⟩

theorem final : (dats m 0 c).arrAt 5 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, blk0, blk1, blk2, blk3, blk4]
  idx_vars y
  refine (block_apply _ _ _ _ _ y0 y1).trans ?_
  rw [(keys_cut _ _ y0).1, (keys_cut _ _ y0).2]
  refine Eq.trans ?_ (congrArg (out _ _ _ _ _) (?_ : ix2 (row ⟨t.val, points ▸ t.isLt⟩ y0) y1 = _))
  · rfl
  · blk_ext [(idx0 t).2.2.2.2.2]

end Cert.Kernel4Ideal.Xattn
-- ==== Proof.XattnRef.lean ====
module

public import proofs.«01_k».proof.Proof.Finite
public import proofs.«01_k».proof.Proof.Xattn

/-! # The attention to the memory, read from the reference -/

@[expose] public section

set_option maxRecDepth 16384

noncomputable section

namespace Cert.Reference4Ideal.Xattn

open Cert.Reference4Ideal Cert.Reference4Ideal.Read Idealize.ShloMosaic
open Cert.Kernel4Ideal.Xattn (keysOf valuesOf batch)

theorem query_apply (A0 : Vec Ideal S16384x1024 .f32) (A1 : Vec Ideal S1x1024 .f32) (A2 : Vec Ideal S1024x512 .bf16)
    (r : Fin 16384) (j : Fin 512) : val_main_v13 (F := Ideal) A0 A1 A2 (ix2 r j) =
      Row.times (Row.rms (fun k => A0 (ix2 r k)) (fun k => A1 (ix2 0 k))) (fun a b => A2 (ix2 a b)) j := by
  unfold val_main_v13 val_main_v12 val_main_v11 val_main_v10 val_main_v9 val_main_v8 val_main_v7 val_main_v6 val_main_v5 val_main_v4 val_main_v3 val_main_v2
    val_main_v1 val_main_v0 val_main_cst val_main_cst_0 val_main_cst_1
  pointwise
  rfl

/-- Row `t` of a batch. -/
abbrev token (b : Fin 2) (t : Fin 8192) : Fin 16384 := ⟨b.val * 8192 + t.val, by omega⟩

/-- Channel `d` of head `a`. -/
abbrev channel (a : Fin 4) (d : Fin 128) : Fin 512 := ⟨a.val * 128 + d.val, by omega⟩

theorem logit_apply (A0 : Vec Ideal S16384x1024 .f32) (A1 : Vec Ideal S1x1024 .f32) (A2 : Vec Ideal S1024x512 .bf16)
    (A3 : Vec Ideal S2x256x1024 .bf16) (b : Fin 2) (a : Fin 4) (t : Fin 8192) (i : Fin 256) :
    val_main_v22 (F := Ideal) A0 A1 A2 A3 (ix4 b a t i) = Ideal.div (∑ d : Fin 128,
      Row.times (Row.rms (fun k => A0 (ix2 (token b t) k)) (fun k => A1 (ix2 0 k))) (fun a b => A2 (ix2 a b)) (channel a d) *
        keysOf A3 b i (channel a d)) (Ideal.sqrt (Ideal.ofBits .f32 1124073472#32)) := by
  unfold val_main_v22 val_main_v21 val_main_v20 val_main_cst_2 val_main_v19 val_main_v18 val_main_v17 val_main_v16 val_main_v15 val_main_v14
  pointwise
  simp only [query_apply]

theorem value_apply (A3 : Vec Ideal S2x256x1024 .bf16) (b : Fin 2) (i : Fin 256) (a : Fin 4) (d : Fin 128) :
    val_main_v35 (F := Ideal) A3 (ix4 b i a d) = valuesOf A3 b i (channel a d) := by
  unfold val_main_v35 val_main_v34 val_main_v16 val_main_v15
  pointwise
  exact congrArg (fun j : Fin 1024 => A3 (ix3 b i j)) (Fin.ext (show 512 + a.val * 128 + d.val = 512 + (a.val * 128 + d.val) by omega))

/-- The logits of a token's head. -/
abbrev logits (A0 : Vec Ideal S16384x1024 .f32) (A1 : Vec Ideal S1x1024 .f32) (A2 : Vec Ideal S1024x512 .bf16)
    (A3 : Vec Ideal S2x256x1024 .bf16) (b : Fin 2) (a : Fin 4) (t : Fin 8192) (i : Fin 256) : EReal :=
  val_main_v22 (F := Ideal) A0 A1 A2 A3 (ix4 b a t i)

theorem largest_apply (A0 : Vec Ideal S16384x1024 .f32) (A1 : Vec Ideal S1x1024 .f32) (A2 : Vec Ideal S1024x512 .bf16)
    (A3 : Vec Ideal S2x256x1024 .bf16) (b : Fin 2) (a : Fin 4) (t : Fin 8192) :
    val_main_v23 (F := Ideal) A0 A1 A2 A3 (ix3 b a t) = Finset.univ.sup (logits A0 A1 A2 A3 b a t) := by
  unfold val_main_v23 val_main_cst_3
  pointwise
  rw [Cert.KernelIdeal.Cmp.negInf_word]
  rfl

theorem top_apply (A0 : Vec Ideal S16384x1024 .f32) (A1 : Vec Ideal S1x1024 .f32) (A2 : Vec Ideal S1024x512 .bf16)
    (A3 : Vec Ideal S2x256x1024 .bf16) (b : Fin 2) (a : Fin 4) (t : Fin 8192) :
    val_main_v25 (F := Ideal) A0 A1 A2 A3 (ix3 b a t) = Finset.univ.sup (logits A0 A1 A2 A3 b a t) := by
  have e : val_main_v24 (F := Ideal) (ix3 b a t) = (⊥ : EReal) := by
    rw [val_main_v24_apply]
    exact Cert.KernelIdeal.Cmp.negInf_word
  rw [val_main_v25_apply, Ideal.maximumf_def, largest_apply, e]
  exact max_eq_right bot_le

theorem weight_apply (A0 : Vec Ideal S16384x1024 .f32) (A1 : Vec Ideal S1x1024 .f32) (A2 : Vec Ideal S1024x512 .bf16)
    (A3 : Vec Ideal S2x256x1024 .bf16) (b : Fin 2) (a : Fin 4) (t : Fin 8192) (i : Fin 256) :
    val_main_v29 (F := Ideal) A0 A1 A2 A3 (ix4 b a t i) =
      Ideal.exp (logits A0 A1 A2 A3 b a t i - Finset.univ.sup (logits A0 A1 A2 A3 b a t)) := by
  rw [← top_apply]
  unfold val_main_v29 val_main_v28 val_main_v27 val_main_v26
  generalize val_main_v25 (F := Ideal) A0 A1 A2 A3 = T
  show _ = Ideal.exp (val_main_v22 (F := Ideal) A0 A1 A2 A3 (ix4 b a t i) - _)
  generalize val_main_v22 (F := Ideal) A0 A1 A2 A3 = Y
  pointwise

theorem quotient_apply (A0 : Vec Ideal S16384x1024 .f32) (A1 : Vec Ideal S1x1024 .f32) (A2 : Vec Ideal S1024x512 .bf16)
    (A3 : Vec Ideal S2x256x1024 .bf16) (b : Fin 2) (a : Fin 4) (t : Fin 8192) (i : Fin 256) :
    val_main_v33 (F := Ideal) A0 A1 A2 A3 (ix4 b a t i) =
      Ideal.div (val_main_v29 (F := Ideal) A0 A1 A2 A3 (ix4 b a t i)) (∑ k : Fin 256, val_main_v29 (F := Ideal) A0 A1 A2 A3 (ix4 b a t k)) := by
  unfold val_main_v33 val_main_v32 val_main_v31 val_main_v30 val_main_cst_5
  generalize val_main_v29 (F := Ideal) A0 A1 A2 A3 = E
  pointwise

theorem head_apply (A0 : Vec Ideal S16384x1024 .f32) (A1 : Vec Ideal S1x1024 .f32) (A2 : Vec Ideal S1024x512 .bf16)
    (A3 : Vec Ideal S2x256x1024 .bf16) (r : Fin 16384) (o : Fin 512) :
    val_main_v38 (F := Ideal) A0 A1 A2 A3 (ix2 r o) = ∑ i : Fin 256,
      val_main_v35 (F := Ideal) A3 (ix4 (batch r) i (⟨o.val / 128, by omega⟩ : Fin 4) (⟨o.val % 128, by omega⟩ : Fin 128)) *
        val_main_v33 (F := Ideal) A0 A1 A2 A3 (ix4 (batch r) (⟨o.val / 128, by omega⟩ : Fin 4) (⟨r.val % 8192, by omega⟩ : Fin 8192) i) := by
  unfold val_main_v38 val_main_v37 val_main_v36
  pointwise

theorem res_apply (A0 : Vec Ideal S16384x1024 .f32) (A1 : Vec Ideal S1x1024 .f32) (A2 : Vec Ideal S1024x512 .bf16)
    (A3 : Vec Ideal S2x256x1024 .bf16) (A4 : Vec Ideal S512x1024 .bf16) (r : Fin 16384) (j : Fin 1024) :
    val_main_v41 (F := Ideal) A0 A1 A2 A3 A4 (ix2 r j) =
      A0 (ix2 r j) + Row.times (fun o => val_main_v38 (F := Ideal) A0 A1 A2 A3 (ix2 r o)) (fun a b => A4 (ix2 a b)) j := by
  unfold val_main_v41 val_main_v40 val_main_v39
  pointwise
  rfl

/-! ## The precondition -/

theorem gain_num (A0 : Vec Ideal S16384x1024 .f32) (A1 : Vec Ideal S1x1024 .f32) (A2 : Vec Ideal S1024x512 .bf16)
    (A3 : Vec Ideal S2x256x1024 .bf16) (A4 : Vec Ideal S512x1024 .bf16) (h : (Cert.Pre_finite.fn (F := Ideal) A0 A1 A2 A3 A4).1 = fun _ => 1#1) (j : Fin 1024) :
    Finite.Num (A1 (ix2 0 j)) := by
  have h' := congrFun h (ix2 0 j)
  unfold Cert.Pre_finite.fn at h'
  revert h'
  pointwise
  intro h'
  have e : max _ (-_) < Ideal.ofBits .f32 2139095040#32 := of_decide_eq_true (Finite.of_ofBool _ h')
  exact Finite.num_of_abs_lt (by simpa [Ideal.ofBits, Ideal.ieee] using e)

theorem weight_num (A0 : Vec Ideal S16384x1024 .f32) (A1 : Vec Ideal S1x1024 .f32) (A2 : Vec Ideal S1024x512 .bf16)
    (A3 : Vec Ideal S2x256x1024 .bf16) (A4 : Vec Ideal S512x1024 .bf16) (h : (Cert.Pre_finite.fn (F := Ideal) A0 A1 A2 A3 A4).2.1 = fun _ => 1#1) (i : Fin 1024) (j : Fin 512) :
    Finite.Num (A2 (ix2 i j)) := by
  have h' := congrFun h (ix2 i j)
  unfold Cert.Pre_finite.fn at h'
  revert h'
  pointwise
  intro h'
  have e : max _ (-_) < Ideal.ofBits .f32 2139095040#32 := of_decide_eq_true (Finite.of_ofBool _ h')
  exact Finite.num_of_abs_lt (by simpa [Ideal.ofBits, Ideal.ieee] using e)

theorem key_num (A0 : Vec Ideal S16384x1024 .f32) (A1 : Vec Ideal S1x1024 .f32) (A2 : Vec Ideal S1024x512 .bf16)
    (A3 : Vec Ideal S2x256x1024 .bf16) (A4 : Vec Ideal S512x1024 .bf16) (h : (Cert.Pre_finite.fn (F := Ideal) A0 A1 A2 A3 A4).2.2 = fun _ => 1#1) (b : Fin 2) (i : Fin 256) (o : Fin 512) :
    Finite.Num (keysOf A3 b i o) := by
  have h' := congrFun h (ix3 b i o)
  unfold Cert.Pre_finite.fn at h'
  revert h'
  pointwise
  intro h'
  have e : max _ (-_) < Ideal.ofBits .f32 2139095040#32 := of_decide_eq_true (Finite.of_ofBool _ h')
  exact Finite.num_of_abs_lt (by simpa [Ideal.ofBits, Ideal.ieee] using e)

/-- The reference computes the kernel's function. -/
theorem out_eq (A0 : Vec Ideal S16384x1024 .f32) (A1 : Vec Ideal S1x1024 .f32) (A2 : Vec Ideal S1024x512 .bf16)
    (A3 : Vec Ideal S2x256x1024 .bf16) (A4 : Vec Ideal S512x1024 .bf16) (hg : ∀ j, Finite.Num (A1 (ix2 0 j))) (hq : ∀ i j, Finite.Num (A2 (ix2 i j)))
    (hK : ∀ b i o, Finite.Num (keysOf A3 b i o)) :
    val_main_v41 (F := Ideal) A0 A1 A2 A3 A4 = Cert.Kernel4Ideal.Xattn.out A0 A1 A2 A3 A4 := by
  funext y
  idx_vars y
  refine (res_apply A0 A1 A2 A3 A4 y0 y1).trans ?_
  refine Eq.trans ?_ (Finite.xattn_eq (fun k => A0 (ix2 y0 k)) (fun k => A1 (ix2 0 k)) (fun a b => A2 (ix2 a b)) (keysOf A3 (batch y0))
    (valuesOf A3 (batch y0)) (fun a b => A4 (ix2 a b)) hg hq (hK (batch y0)) y1
    (fun o => logits A0 A1 A2 A3 (batch y0) (⟨o.val / 128, by omega⟩ : Fin 4) (⟨y0.val % 8192, by omega⟩ : Fin 8192)) fun o i => ?_)
  · congr 2
    funext o
    rw [head_apply]
    refine Finset.sum_congr rfl fun i _ => ?_
    rw [value_apply, quotient_apply]
    simp only [weight_apply]
    congr 1
    exact congrArg (valuesOf A3 (batch y0) i) (Fin.ext (show o.val / 128 * 128 + o.val % 128 = o.val by omega))
  · refine (logit_apply A0 A1 A2 A3 _ _ _ i).trans ?_
    have e : token (batch y0) (⟨y0.val % 8192, by omega⟩ : Fin 8192) = y0 :=
      Fin.ext (show y0.val / 8192 * 8192 + y0.val % 8192 = y0.val by omega)
    have e' : ∀ d, channel (⟨o.val / 128, by omega⟩ : Fin 4) d = Row.ofHead o d := fun d =>
      Fin.ext (show o.val / 128 * 128 + d.val = 128 * (o.val / 128) + d.val by omega)
    simp only [e, e']

end Cert.Reference4Ideal.Xattn
-- ==== Proof.InprojRow.lean ====
module

public import proofs.«01_k».proof.Proof.Row

/-! # The row functions of the layer's first call -/

@[expose] public section

noncomputable section

namespace Cert.Row

open Idealize.ShloMosaic

/-- The product of a matrix with a row. -/
def along {k n : ℕ} (x : Fin k → EReal) (w : Fin n → Fin k → EReal) (j : Fin n) : EReal := ∑ a, w j a * x a

/-- The Gaussian error linear unit, by the hyperbolic tangent. -/
def gelu (z : EReal) : EReal :=
  z * (Ideal.ofBits .f32 0x3F000000#32 * (1 + Ideal.tanh (Ideal.ofBits .f32 0x3F4C422A#32 *
    (z + Ideal.ofBits .f32 0x3D372713#32 * (z * (z * z))))))

/-- A row less its mean. -/
def centred (x : Fin 512 → EReal) (j : Fin 512) : EReal := x j - Ideal.div (∑ k, x k) (Ideal.ofBits .f32 0x44000000#32)

/-- Layer normalisation of a row, times a gain. -/
def layer (x g : Fin 512 → EReal) (j : Fin 512) : EReal :=
  centred x j * Ideal.rsqrt (Ideal.div (∑ k, centred x k * centred x k) (Ideal.ofBits .f32 0x44000000#32) +
    Ideal.ofBits .f32 0x358637BD#32) * g j

/-- What is added to lane `l` of a key of token `t`: lanes 64 and 65 hold the token's place in its chunk of 128. -/
def place (t l : ℕ) : EReal :=
  FloatOps.sitofp (F := Ideal) (w := 32) .f32 (Scalar.select
    (IntOp.ori (IntOp.cmpi .eq (BitVec.ofNat 32 l) 64#32) (IntOp.cmpi .eq (BitVec.ofNat 32 l) 65#32))
    (IntOp.andi (BitVec.ofNat 32 t) 127#32) 0#32)

/-- What is added to channel `f` of a value: channel 64 holds a one. -/
def unit (f : ℕ) : EReal := Scalar.select (IntOp.cmpi .eq (BitVec.ofNat 32 f) 64#32) 1 0

/-- A token's place in its chunk is its place counted from the start of its block of tokens. -/
theorem place_block (b t l : ℕ) (ht : b + t < 2 ^ 32) (h : b % 128 = 0) : place (b + t) l = place t l := by
  have e : IntOp.andi (BitVec.ofNat 32 (b + t)) 127#32 = IntOp.andi (BitVec.ofNat 32 t) 127#32 := by
    have low : ∀ n : ℕ, n < 2 ^ 32 → (BitVec.ofNat 32 n &&& 127#32).toNat = n % 128 := fun n hn => by
      rw [BitVec.toNat_and, BitVec.toNat_ofNat, Nat.mod_eq_of_lt hn]
      exact Nat.and_two_pow_sub_one_eq_mod n 7
    refine BitVec.eq_of_toNat_eq ((low _ ht).trans (Eq.trans ?_ (low t (by omega)).symm))
    omega
  unfold place
  rw [e]

end Cert.Row

end
-- ==== Proof.Inproj.lean ====
module

public import proofs.«01_k».proof.Proof.InprojRow
public import proofs.«01_k».proof.Proof.Ffn
public import proofs.«01_k».proof.Proof.Merge
public import proofs.«01_k».proof.Proof.Gen.Kernel6Ideal.Value

/-! # The first call's blocks

What the call of the layer's projections writes at a point, index by index. -/

@[expose] public section

set_option maxRecDepth 16384

noncomputable section

namespace Cert.Kernel6Ideal.Inproj

open Cert.Kernel6Ideal Cert.Kernel6Ideal.Gen Idealize.ShloMosaic Idealize.ShloMosaic.TcCoe Idealize.SL.Sem
open Cert.Kernel2Ideal.Ffn (ld_apply)
open Cert.Kernel3Ideal.Merge (ld3_apply)

/-- The normalised row `t` of a block. -/
abbrev nrow {n : ℕ} (x : (⟨2, ![n, 1024]⟩ : Shape).Idx → EReal) (g : Vec Ideal S1x1024 .f32) (t : Fin n) : Fin 1024 → EReal :=
  Row.rms (fun k => x (ix2 t k)) (fun k => g (ix2 0 k))

/-- The row's products with the columns of one matrix. -/
abbrev cols {n : ℕ} (x : (⟨2, ![n, 1024]⟩ : Shape).Idx → EReal) (g : Vec Ideal S1x1024 .f32) (w : Vec Ideal S1024x1792 .bf16)
    (t : Fin n) : Fin 1792 → EReal := Row.times (nrow x g t) (fun a b => w (ix2 a b))

/-- The row's products with the rows of the other. -/
abbrev feats {n : ℕ} (x : (⟨2, ![n, 1024]⟩ : Shape).Idx → EReal) (g : Vec Ideal S1x1024 .f32) (w : Vec Ideal S864x1024 .bf16)
    (t : Fin n) : Fin 864 → EReal := Row.along (nrow x g t) (fun a b => w (ix2 a b))

section payloads

variable (x : Vec Ideal S1024x1024 .f32) (g : Vec Ideal S1x1024 .f32) (wr : Vec Ideal S1024x1792 .bf16) (wn : Vec Ideal S864x1024 .bf16)

theorem rows_apply (t : Fin 1024) (j : Fin 1792) : k0_pay11 x g wr (ix2 t j) = cols x g wr t j := by
  unfold k0_pay11 k0_pay10
  pointwise
  rfl

theorem feats_apply (f : Fin 864) (t : Fin 1024) : k0_pay12 x g wn (ix2 f t) = feats x g wn t f := by
  unfold k0_pay12 k0_pay10
  pointwise
  rfl

theorem queries_apply (f : Fin 512) (t : Fin 1024) : k0_pay13 x g wn (ix3 0 f t) =
    feats x g wn t ⟨f.val, by omega⟩ * (((1 / 8) * (Real.log 2)⁻¹ : ℝ) : EReal) := by
  have h : k0_pay13 x g wn (ix3 0 f t) = k0_pay12 x g wn (ix2 ⟨f.val, by omega⟩ t) * (((1 / 8) * (Real.log 2)⁻¹ : ℝ) : EReal) := by
    unfold k0_pay13
    generalize k0_pay12 x g wn = T
    pointwise
    rfl
  rw [h, feats_apply]

theorem kv_apply (t : Fin 1024) (j : Fin 256) : k0_pay14 x g wr (ix2 t j) = cols x g wr t ⟨j.val, by omega⟩ := by
  have h : k0_pay14 x g wr (ix2 t j) = k0_pay11 x g wr (ix2 t ⟨j.val, by omega⟩) := by
    unfold k0_pay14
    generalize k0_pay11 x g wr = T
    pointwise
  rw [h, rows_apply]

theorem place_apply (t : Fin 1024) (l : Fin 128) : k0_pay18 (F := Ideal) k0_pay15 k0_pay16 k0_pay17 (ix2 t l) = Row.place t.val l.val := by
  unfold k0_pay18 k0_pay15 k0_pay16 k0_pay17
  pointwise
  rfl

theorem unit_apply (f : Fin 80) (t : Fin 1024) : k0_pay19 (F := Ideal) (ix2 f t) = Row.unit f.val := by
  unfold k0_pay19
  pointwise
  rfl

/-- A key's lane from the matrix's columns and what is added. -/
theorem key_apply (T : FVec Ideal S1024x1792 .f32) (t : Fin 1024) (l : Fin 128) :
    k0_pay20 T k0_pay15 k0_pay16 k0_pay17 (ix4 0 0 t l) = T (ix2 t ⟨256 + l.val, by omega⟩) + Row.place t.val l.val
    ∧ k0_pay22 T k0_pay15 k0_pay16 k0_pay17 (ix4 0 0 t l) = T (ix2 t ⟨384 + l.val, by omega⟩) + Row.place t.val l.val
    ∧ k0_pay25 (k0_pay24 T k0_pay15 k0_pay16 k0_pay17) (ix4 0 0 t l) = T (ix2 t ⟨512 + l.val, by omega⟩) + Row.place t.val l.val
    ∧ k0_pay27 T (k0_pay18 (F := Ideal) k0_pay15 k0_pay16 k0_pay17) (ix4 0 0 t l) = T (ix2 t ⟨640 + l.val, by omega⟩) + Row.place t.val l.val := by
  rw [← place_apply]
  unfold k0_pay20 k0_pay22 k0_pay25 k0_pay24 k0_pay27
  generalize k0_pay18 (F := Ideal) k0_pay15 k0_pay16 k0_pay17 = U
  refine ⟨?_, ?_, ?_, ?_⟩ <;> pointwise

/-- A value's channel from the matrix's rows and what is added. -/
theorem value_apply (T : FVec Ideal S864x1024 .f32) (f : Fin 80) (t : Fin 1024) :
    k0_pay21 T (ix4 0 0 f t) = T (ix2 ⟨512 + f.val, by omega⟩ t) + Row.unit f.val
    ∧ k0_pay23 T (ix4 0 0 f t) = T (ix2 ⟨592 + f.val, by omega⟩ t) + Row.unit f.val
    ∧ k0_pay26 T (k0_pay19 (F := Ideal)) (ix4 0 0 f t) = T (ix2 ⟨672 + f.val, by omega⟩ t) + Row.unit f.val
    ∧ k0_pay28 T (k0_pay19 (F := Ideal)) (ix4 0 0 f t) = T (ix2 ⟨752 + f.val, by omega⟩ t) + Row.unit f.val := by
  rw [← unit_apply f t]
  unfold k0_pay21 k0_pay23 k0_pay26 k0_pay28
  generalize k0_pay19 (F := Ideal) = U
  refine ⟨?_, ?_, ?_, ?_⟩ <;> pointwise

theorem gelu_apply (T : FVec Ideal S1024x1792 .f32) (t : Fin 1024) (j : Fin 1024) :
    k0_pay29 T (ix2 t j) = Row.gelu (T (ix2 t ⟨768 + j.val, by omega⟩)) := by
  unfold k0_pay29
  pointwise
  rfl

theorem first_apply (T : FVec Ideal S1024x1792 .f32) (t : Fin 1024) (j : Fin 512) :
    k0_pay30 T (ix2 t j) = Row.gelu (T (ix2 t ⟨768 + j.val, by omega⟩)) := by
  have h : k0_pay30 T (ix2 t j) = k0_pay29 T (ix2 t ⟨j.val, by omega⟩) := by
    unfold k0_pay30
    generalize k0_pay29 T = U
    pointwise
  rw [h, gelu_apply]

theorem layer_apply (T : FVec Ideal S1024x1024 .f32) (s : Vec Ideal S1x512 .f32) (t : Fin 1024) (j : Fin 512) :
    k0_pay1 T s (ix2 t j) = Row.layer (fun k => T (ix2 t ⟨512 + k.val, by omega⟩)) (fun k => s (ix2 0 k)) j := by
  unfold k0_pay1
  pointwise
  rfl

theorem gates_apply (T : FVec Ideal S864x1024 .f32) (f : Fin 32) (t : Fin 1024) :
    k0_pay2 T (ix3 0 f t) = Ideal.logistic (T (ix2 ⟨832 + f.val, by omega⟩ t)) := by
  unfold k0_pay2
  pointwise

end payloads

theorem zero2 : (![0, 0] : Fin 2 → ℕ) = fun _ => 0 := by decide
theorem zero3 : (![0, 0, 0] : Fin 3 → ℕ) = fun _ => 0 := by decide

section blocks

variable (x0 : Vec Ideal S1024x1024 .f32) (x1 : Vec Ideal S1x1024 .f32) (x2 : Vec Ideal S1x512 .f32)
  (x3 : Vec Ideal S1024x1792 .bf16) (x4 : Vec Ideal S864x1024 .bf16) (x5 : Vec Ideal S64x2048 .f32)
  (x6 x7 : Vec Ideal S32x1024 .f32) (x8 : Vec Ideal S64x1024 .f32) (x9 : Vec Ideal S64x512 .f32)
  (x10 : Vec Ideal S64x1024 .f32) (x11 : Vec Ideal S32x1024 .f32)

theorem pay31_eq : k0_pay31 x0 x1 x2 x3 x4 x5 x6 x7 x8 x9 x10 x11 = k0_pay11 x0 x1 x3 := by
  unfold k0_pay31
  rw [View.ld_unit_zero zero2, View.ld_unit_zero zero2, View.ld_unit_zero zero2]

theorem pay32_eq : k0_pay32 x0 x1 x2 x3 x4 x5 x6 x7 x8 x9 x10 x11 = k0_pay12 x0 x1 x4 := by
  unfold k0_pay32
  rw [View.ld_unit_zero zero2, View.ld_unit_zero zero2, View.ld_unit_zero zero2]

theorem block_queries : out0_12 x0 x1 x2 x3 x4 x5 x6 x7 x8 x9 x10 x11 = k0_pay13 x0 x1 x4 := by
  unfold out0_12
  rw [View.canon_unit_zero zero3, View.ld_unit_zero zero2, View.ld_unit_zero zero2, View.ld_unit_zero zero2]

theorem block_kv : out0_13 x0 x1 x2 x3 x4 x5 x6 x7 x8 x9 x10 x11 = k0_pay14 x0 x1 x3 := by
  unfold out0_13
  rw [View.canon_unit_zero zero2, View.ld_unit_zero zero2, View.ld_unit_zero zero2, View.ld_unit_zero zero2]

/-- A key's lane. -/
def key (x : Fin 1024 → Fin 1792 → EReal) (a : Fin 4) (t : Fin 1024) (l : Fin 128) : EReal :=
  x t ⟨256 + 128 * a.val + l.val, by omega⟩ + Row.place t.val l.val

theorem block_keys (a : Fin 4) (t : Fin 1024) (l : Fin 128) : out0_14 x0 x1 x2 x3 x4 x5 x6 x7 x8 x9 x10 x11 (ix4 0 a t l) =
    key (cols x0 x1 x3) a t l := by
  unfold out0_14
  rw [pay31_eq]
  refine View.canon_apply_of_pieces (Val := Elt Ideal) (fun y : S1x4x1024x128.Idx =>
    key (cols x0 x1 x3) (y 1 : Fin 4) (y 2 : Fin 1024) (y 3 : Fin 128)) _ ?_ (ix4 0 a t l) (cover0_14 _ _ _ _ _)
  have h := fun (t : Fin 1024) (l : Fin 128) => key_apply (k0_pay11 x0 x1 x3) t l
  simp only [rows_apply] at h
  have e : ∀ (a : Fin 4) (t t' : Fin 1024) (l l' : Fin 128) (n : ℕ) (hn : n + l.val < 1792), n = 256 + 128 * a.val → t'.val = t.val → l'.val = l.val →
      cols x0 x1 x3 t ⟨n + l.val, hn⟩ + Row.place t.val l.val = key (cols x0 x1 x3) a t' l' := by
    intro a t t' l l' n hn h1 h2 h3
    obtain rfl := Fin.ext h2
    obtain rfl := Fin.ext h3
    obtain rfl := h1
    rfl
  intro p hp k
  rcases List.mem_cons.mp hp with rfl | hp
  · idx_vars k
    obtain rfl : k0 = 0 := Subsingleton.elim _ _
    obtain rfl : k1 = 0 := Subsingleton.elim _ _
    exact (h k2 k3).2.2.2.trans (e _ _ _ _ _ _ _ (show 640 = 256 + 128 * (3 + 1 * 0) by omega) (show 0 + 1 * k2.val = _ by omega) (show 0 + 1 * k3.val = _ by omega))
  rcases List.mem_cons.mp hp with rfl | hp
  · idx_vars k
    obtain rfl : k0 = 0 := Subsingleton.elim _ _
    obtain rfl : k1 = 0 := Subsingleton.elim _ _
    exact (h k2 k3).2.2.1.trans (e _ _ _ _ _ _ _ (show 512 = 256 + 128 * (2 + 1 * 0) by omega) (show 0 + 1 * k2.val = _ by omega) (show 0 + 1 * k3.val = _ by omega))
  rcases List.mem_cons.mp hp with rfl | hp
  · idx_vars k
    obtain rfl : k0 = 0 := Subsingleton.elim _ _
    obtain rfl : k1 = 0 := Subsingleton.elim _ _
    exact (h k2 k3).2.1.trans (e _ _ _ _ _ _ _ (show 384 = 256 + 128 * (1 + 1 * 0) by omega) (show 0 + 1 * k2.val = _ by omega) (show 0 + 1 * k3.val = _ by omega))
  · obtain rfl := List.mem_singleton.mp hp
    idx_vars k
    obtain rfl : k0 = 0 := Subsingleton.elim _ _
    obtain rfl : k1 = 0 := Subsingleton.elim _ _
    exact (h k2 k3).1.trans (e _ _ _ _ _ _ _ (show 256 = 256 + 128 * (0 + 1 * 0) by omega) (show 0 + 1 * k2.val = _ by omega) (show 0 + 1 * k3.val = _ by omega))

/-- A value's channel. -/
def value (x : Fin 1024 → Fin 864 → EReal) (a : Fin 4) (f : Fin 80) (t : Fin 1024) : EReal :=
  x t ⟨512 + 80 * a.val + f.val, by omega⟩ + Row.unit f.val

theorem block_values (a : Fin 4) (f : Fin 80) (t : Fin 1024) : out0_15 x0 x1 x2 x3 x4 x5 x6 x7 x8 x9 x10 x11 (ix4 0 a f t) =
    value (feats x0 x1 x4) a f t := by
  unfold out0_15
  rw [pay32_eq]
  refine View.canon_apply_of_pieces (Val := Elt Ideal) (fun y : S1x4x80x1024.Idx =>
    value (feats x0 x1 x4) (y 1 : Fin 4) (y 2 : Fin 80) (y 3 : Fin 1024)) _ ?_ (ix4 0 a f t) (cover0_15 _ _ _ _ _)
  have h := fun (f : Fin 80) (t : Fin 1024) => value_apply (k0_pay12 x0 x1 x4) f t
  simp only [feats_apply] at h
  have e : ∀ (a : Fin 4) (t t' : Fin 1024) (l l' : Fin 80) (n : ℕ) (hn : n + l.val < 864), n = 512 + 80 * a.val → t'.val = t.val → l'.val = l.val →
      feats x0 x1 x4 t ⟨n + l.val, hn⟩ + Row.unit l.val = value (feats x0 x1 x4) a l' t' := by
    intro a t t' l l' n hn h1 h2 h3
    obtain rfl := Fin.ext h2
    obtain rfl := Fin.ext h3
    obtain rfl := h1
    rfl
  intro p hp k
  rcases List.mem_cons.mp hp with rfl | hp
  · idx_vars k
    obtain rfl : k0 = 0 := Subsingleton.elim _ _
    obtain rfl : k1 = 0 := Subsingleton.elim _ _
    exact (h k2 k3).2.2.2.trans (e _ _ _ _ _ _ _ (show 752 = 512 + 80 * (3 + 1 * 0) by omega) (show 0 + 1 * k3.val = _ by omega) (show 0 + 1 * k2.val = _ by omega))
  rcases List.mem_cons.mp hp with rfl | hp
  · idx_vars k
    obtain rfl : k0 = 0 := Subsingleton.elim _ _
    obtain rfl : k1 = 0 := Subsingleton.elim _ _
    exact (h k2 k3).2.2.1.trans (e _ _ _ _ _ _ _ (show 672 = 512 + 80 * (2 + 1 * 0) by omega) (show 0 + 1 * k3.val = _ by omega) (show 0 + 1 * k2.val = _ by omega))
  rcases List.mem_cons.mp hp with rfl | hp
  · idx_vars k
    obtain rfl : k0 = 0 := Subsingleton.elim _ _
    obtain rfl : k1 = 0 := Subsingleton.elim _ _
    exact (h k2 k3).2.1.trans (e _ _ _ _ _ _ _ (show 592 = 512 + 80 * (1 + 1 * 0) by omega) (show 0 + 1 * k3.val = _ by omega) (show 0 + 1 * k2.val = _ by omega))
  · obtain rfl := List.mem_singleton.mp hp
    idx_vars k
    obtain rfl : k0 = 0 := Subsingleton.elim _ _
    obtain rfl : k1 = 0 := Subsingleton.elim _ _
    exact (h k2 k3).1.trans (e _ _ _ _ _ _ _ (show 512 = 512 + 80 * (0 + 1 * 0) by omega) (show 0 + 1 * k3.val = _ by omega) (show 0 + 1 * k2.val = _ by omega))

theorem block_first (t : Fin 1024) (j : Fin 512) : out0_16 x0 x1 x2 x3 x4 x5 x6 x7 x8 x9 x10 x11 (ix2 t j) =
    Row.gelu (cols x0 x1 x3 t ⟨768 + j.val, by omega⟩) := by
  unfold out0_16
  rw [pay31_eq, ← rows_apply, ← first_apply]
  rw [View.canon_unit_zero zero2]

theorem block_second (t : Fin 1024) (j : Fin 512) : out0_17 x0 x1 x2 x3 x4 x5 x6 x7 x8 x9 x10 x11 (ix2 t j) =
    Row.layer (fun k => Row.gelu (cols x0 x1 x3 t ⟨1280 + k.val, by omega⟩)) (fun k => x2 (ix2 0 k)) j := by
  have h : Row.layer (fun k => Row.gelu (cols x0 x1 x3 t ⟨1280 + k.val, by omega⟩)) (fun k => x2 (ix2 0 k)) j =
      k0_pay1 (k0_pay29 (k0_pay11 x0 x1 x3)) x2 (ix2 t j) := by
    rw [layer_apply]
    congr 1
    funext k
    rw [gelu_apply, rows_apply]
    exact congrArg (fun i => Row.gelu (cols x0 x1 x3 t i)) (Fin.ext (show 1280 + k.val = 768 + (512 + k.val) by omega))
  rw [h]
  unfold out0_17
  rw [pay31_eq]
  rw [View.canon_unit_zero zero2, View.ld_unit_zero zero2]

theorem block_gates (f : Fin 32) (t : Fin 1024) : out0_18 x0 x1 x2 x3 x4 x5 x6 x7 x8 x9 x10 x11 (ix3 0 f t) =
    Ideal.logistic (feats x0 x1 x4 t ⟨832 + f.val, by omega⟩) := by
  unfold out0_18
  rw [pay32_eq, ← feats_apply, ← gates_apply]
  rw [View.canon_unit_zero zero3]

theorem block_cast19 : out0_19 x0 x1 x2 x3 x4 x5 x6 x7 x8 x9 x10 x11 = k0_pay3 x5 :=
  (View.canon_unit_zero zero2 _ _).trans (congrArg k0_pay3 (View.ld_unit_zero zero2 _ _))

theorem block_cast20 : out0_20 x0 x1 x2 x3 x4 x5 x6 x7 x8 x9 x10 x11 = k0_pay4 x6 :=
  (View.canon_unit_zero zero2 _ _).trans (congrArg k0_pay4 (View.ld_unit_zero zero2 _ _))

theorem block_cast21 : out0_21 x0 x1 x2 x3 x4 x5 x6 x7 x8 x9 x10 x11 = k0_pay5 x7 :=
  (View.canon_unit_zero zero2 _ _).trans (congrArg k0_pay5 (View.ld_unit_zero zero2 _ _))

theorem block_cast22 : out0_22 x0 x1 x2 x3 x4 x5 x6 x7 x8 x9 x10 x11 = k0_pay6 x8 :=
  (View.canon_unit_zero zero2 _ _).trans (congrArg k0_pay6 (View.ld_unit_zero zero2 _ _))

theorem block_cast23 : out0_23 x0 x1 x2 x3 x4 x5 x6 x7 x8 x9 x10 x11 = k0_pay7 x9 :=
  (View.canon_unit_zero zero2 _ _).trans (congrArg k0_pay7 (View.ld_unit_zero zero2 _ _))

theorem block_cast24 : out0_24 x0 x1 x2 x3 x4 x5 x6 x7 x8 x9 x10 x11 = k0_pay8 x10 :=
  (View.canon_unit_zero zero2 _ _).trans (congrArg k0_pay8 (View.ld_unit_zero zero2 _ _))

theorem block_cast25 : out0_25 x0 x1 x2 x3 x4 x5 x6 x7 x8 x9 x10 x11 = k0_pay9 x11 :=
  (View.canon_unit_zero zero2 _ _).trans (congrArg k0_pay9 (View.ld_unit_zero zero2 _ _))

end blocks

end Cert.Kernel6Ideal.Inproj

end
-- ==== Proof.InprojCall.lean ====
module

public import proofs.«01_k».proof.Proof.Inproj
public import proofs.«01_k».proof.Proof.Gen.Reference6Ideal.Read

/-! # The first call's results

The results of the call of the layer's projections, from the blocks its points write. -/

@[expose] public section

set_option maxRecDepth 16384

noncomputable section

namespace Cert.Kernel6Ideal.Inproj

open Cert.Kernel6Ideal Cert.Kernel6Ideal.Gen Idealize.ShloMosaic Idealize.ShloMosaic.TcCoe Idealize.SL.Sem

/-- Token `t` of batch `b` among all tokens. -/
abbrev token (b : Fin 2) (t : Fin 8192) : Fin 16384 := ⟨b.val * 8192 + t.val, by omega⟩

section results

variable (A0 : Vec Ideal S16384x1024 .f32) (A1 : Vec Ideal S1x1024 .f32) (A2 : Vec Ideal S1x512 .f32)
  (A3 : Vec Ideal S1024x1792 .bf16) (A4 : Vec Ideal S864x1024 .bf16)

/-- A query's channel. -/
def query (b : Fin 2) (f : Fin 512) (t : Fin 8192) : EReal :=
  feats A0 A1 A4 (token b t) ⟨f.val, by omega⟩ * (((1 / 8) * (Real.log 2)⁻¹ : ℝ) : EReal)

/-- The queries, tokens last. -/
def queries : Vec Ideal S2x512x8192 .bf16 := fun y => query A0 A1 A4 (y 0) (y 1) (y 2)

/-- A lane of what is compressed. -/
def lane (t : Fin 16384) (j : Fin 256) : EReal := cols A0 A1 A3 t ⟨j.val, by omega⟩

/-- The keys and values that are compressed. -/
def kv : Vec Ideal S16384x256 .f32 := fun y => lane A0 A1 A3 (y 0) (y 1)

/-- A key's lane. -/
def keyAt (b : Fin 2) (a : Fin 4) (t : Fin 8192) (l : Fin 128) : EReal :=
  cols A0 A1 A3 (token b t) ⟨256 + 128 * a.val + l.val, by omega⟩ + Row.place t.val l.val

/-- The keys with the tokens' places. -/
def keys : Vec Ideal S2x4x8192x128 .bf16 := fun y => keyAt A0 A1 A3 (y 0) (y 1) (y 2) (y 3)

/-- A value's channel. -/
def valueAt (b : Fin 2) (a : Fin 4) (f : Fin 80) (t : Fin 8192) : EReal :=
  feats A0 A1 A4 (token b t) ⟨512 + 80 * a.val + f.val, by omega⟩ + Row.unit f.val

/-- The values with a channel of ones, tokens last. -/
def values : Vec Ideal S2x4x80x8192 .bf16 := fun y => valueAt A0 A1 A4 (y 0) (y 1) (y 2) (y 3)

/-- A channel of the first half. -/
def firstAt (t : Fin 16384) (j : Fin 512) : EReal := Row.gelu (cols A0 A1 A3 t ⟨768 + j.val, by omega⟩)

/-- The first half of the spatial gating unit's channels. -/
def first : Vec Ideal S16384x512 .f32 := fun y => firstAt A0 A1 A3 (y 0) (y 1)

/-- A channel of the second half. -/
def secondAt (t : Fin 16384) (j : Fin 512) : EReal :=
  Row.layer (fun k => Row.gelu (cols A0 A1 A3 t ⟨1280 + k.val, by omega⟩)) (fun k => A2 (ix2 0 k)) j

/-- The second half, normalised. -/
def second : Vec Ideal S16384x512 .bf16 := fun y => secondAt A0 A1 A2 A3 (y 0) (y 1)

/-- A gate. -/
def gate (b : Fin 2) (f : Fin 32) (t : Fin 8192) : EReal := Ideal.logistic (feats A0 A1 A4 (token b t) ⟨832 + f.val, by omega⟩)

/-- The attention branches' gates, tokens last. -/
def gates : Vec Ideal S2x32x8192 .f32 := fun y => gate A0 A1 A4 (y 0) (y 1) (y 2)

end results

theorem points : cfg0.grid.N = 16 := N_0

/-- A grid point's number. -/
abbrev pt (t : Fin cfg0.N) : Fin 16 := ⟨t.val, points ▸ t.isLt⟩

theorem idx0 : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

theorem idx1 : ∀ t : Fin cfg0.N, win0_12.index t = ![t.val / 8, 0, t.val % 8] ∧ win0_13.index t = ![t.val, 0] ∧ win0_14.index t = ![t.val / 8, 0, t.val % 8, 0] ∧ win0_15.index t = ![t.val / 8, 0, 0, t.val % 8] ∧ win0_16.index t = ![t.val, 0] ∧ win0_17.index t = ![t.val, 0] ∧ win0_18.index t = ![t.val / 8, 0, t.val % 8] :=
  (by decide +kernel : ∀ t : Fin grid0.N, _)

theorem idx2 : ∀ t : Fin cfg0.N, win0_19.index t = ![t.val, 0] ∧ win0_20.index t = ![t.val, 0] ∧ win0_21.index t = ![t.val, 0] ∧ win0_22.index t = ![t.val, 0] ∧ win0_23.index t = ![t.val, 0] ∧ win0_24.index t = ![t.val, 0] ∧ win0_25.index t = ![t.val, 0] :=
  (by decide +kernel : ∀ t : Fin grid0.N, _)

/-- Row `r` of the `w`-th of sixteen blocks of `a` rows. -/
abbrev rowAt {n a : ℕ} (h : n = 16 * a) (w : Fin 16) (r : Fin a) : Fin n :=
  ⟨a * w.val + r.val, by have := w.isLt; have := r.isLt; subst h; nlinarith⟩

/-- The `w`-th of sixteen blocks of rows. -/
def slab {n a b : ℕ} {α : Type} (h : n = 16 * a) (A : (⟨2, ![n, b]⟩ : Shape).Idx → α) (w : Fin 16) : (⟨2, ![a, b]⟩ : Shape).Idx → α :=
  fun k => A (ix2 (rowAt h w (k 0)) (k 1 : Fin b))

/-- The batch of a point's tokens. -/
abbrev batchOf (w : Fin 16) : Fin 2 := ⟨w.val / 8, by omega⟩

/-- A point's token in its batch. -/
abbrev tokOf (w : Fin 16) (r : Fin 1024) : Fin 8192 := ⟨1024 * (w.val % 8) + r.val, by omega⟩

theorem token_tokOf (w : Fin 16) (r : Fin 1024) : token (batchOf w) (tokOf w r) = rowAt (n := 16384) (a := 1024) rfl w r :=
  Fin.ext (show w.val / 8 * 8192 + (1024 * (w.val % 8) + r.val) = 1024 * w.val + r.val by omega)

theorem place_tokOf (w : Fin 16) (r : Fin 1024) (l : Fin 128) : Row.place (tokOf w r).val l.val = Row.place r.val l.val :=
  Row.place_block _ _ _ (by omega) (by omega)

section points

variable (A0 : Vec Ideal S16384x1024 .f32) (A1 : Vec Ideal S1x1024 .f32) (A3 : Vec Ideal S1024x1792 .bf16) (A4 : Vec Ideal S864x1024 .bf16)
  (w : Fin 16)

theorem feats_slab (r : Fin 1024) : feats (slab (a := 1024) rfl A0 w) A1 A4 r = feats A0 A1 A4 (token (batchOf w) (tokOf w r)) := by
  rw [token_tokOf]
  rfl

theorem cols_slab (r : Fin 1024) : cols (slab (a := 1024) rfl A0 w) A1 A3 r = cols A0 A1 A3 (token (batchOf w) (tokOf w r)) := by
  rw [token_tokOf]
  rfl

theorem query_point (f : Fin 512) (r : Fin 1024) : feats (slab (a := 1024) rfl A0 w) A1 A4 r ⟨f.val, by omega⟩ * (((1 / 8) * (Real.log 2)⁻¹ : ℝ) : EReal) =
    queries A0 A1 A4 (ix3 (batchOf w) f (tokOf w r)) := by
  rw [feats_slab]
  rfl

theorem key_point (a : Fin 4) (r : Fin 1024) (l : Fin 128) : key (cols (slab (a := 1024) rfl A0 w) A1 A3) a r l =
    keys A0 A1 A3 (ix4 (batchOf w) a (tokOf w r) l) := by
  unfold key
  rw [cols_slab, ← place_tokOf w]
  rfl

theorem value_point (a : Fin 4) (f : Fin 80) (r : Fin 1024) : value (feats (slab (a := 1024) rfl A0 w) A1 A4) a f r =
    values A0 A1 A4 (ix4 (batchOf w) a f (tokOf w r)) := by
  unfold value
  rw [feats_slab]
  rfl

theorem gate_point (f : Fin 32) (r : Fin 1024) : Ideal.logistic (feats (slab (a := 1024) rfl A0 w) A1 A4 r ⟨832 + f.val, by omega⟩) =
    gates A0 A1 A4 (ix3 (batchOf w) f (tokOf w r)) := by
  rw [feats_slab]
  rfl

end points

variable (m : (ℓ : Loc nD τ sig) → Buf (Elt Ideal) ℓ) (c : Dev nD)

theorem blk0 (t : Fin cfg0.N) : iblk m c 0 t = slab (a := 1024) rfl (m ((c : Thread nD τ).loc main_arg0)) (pt t) := by
  funext k
  unfold slab
  blk_ext [iblk, V, (idx0 t).1]
theorem blk1 (t : Fin cfg0.N) : iblk m c 1 t = (m ((c : Thread nD τ).loc main_arg1)) := by
  funext k
  blk_ext [iblk, V, (idx0 t).2.1]
theorem blk2 (t : Fin cfg0.N) : iblk m c 2 t = (m ((c : Thread nD τ).loc main_arg2)) := by
  funext k
  blk_ext [iblk, V, (idx0 t).2.2.1]
theorem blk3 (t : Fin cfg0.N) : iblk m c 3 t = (m ((c : Thread nD τ).loc main_arg3)) := by
  funext k
  blk_ext [iblk, V, (idx0 t).2.2.2.1]
theorem blk4 (t : Fin cfg0.N) : iblk m c 4 t = (m ((c : Thread nD τ).loc main_arg4)) := by
  funext k
  blk_ext [iblk, V, (idx0 t).2.2.2.2.1]
theorem blk5 (t : Fin cfg0.N) : iblk m c 5 t = slab (a := 64) rfl (m ((c : Thread nD τ).loc main_arg5)) (pt t) := by
  funext k
  unfold slab
  blk_ext [iblk, V, (idx0 t).2.2.2.2.2.1]
theorem blk6 (t : Fin cfg0.N) : iblk m c 6 t = slab (a := 32) rfl (m ((c : Thread nD τ).loc main_arg6)) (pt t) := by
  funext k
  unfold slab
  blk_ext [iblk, V, (idx0 t).2.2.2.2.2.2.1]
theorem blk7 (t : Fin cfg0.N) : iblk m c 7 t = slab (a := 32) rfl (m ((c : Thread nD τ).loc main_arg7)) (pt t) := by
  funext k
  unfold slab
  blk_ext [iblk, V, (idx0 t).2.2.2.2.2.2.2.1]
theorem blk8 (t : Fin cfg0.N) : iblk m c 8 t = slab (a := 64) rfl (m ((c : Thread nD τ).loc main_arg8)) (pt t) := by
  funext k
  unfold slab
  blk_ext [iblk, V, (idx0 t).2.2.2.2.2.2.2.2.1]
theorem blk9 (t : Fin cfg0.N) : iblk m c 9 t = slab (a := 64) rfl (m ((c : Thread nD τ).loc main_arg9)) (pt t) := by
  funext k
  unfold slab
  blk_ext [iblk, V, (idx0 t).2.2.2.2.2.2.2.2.2.1]
theorem blk10 (t : Fin cfg0.N) : iblk m c 10 t = slab (a := 64) rfl (m ((c : Thread nD τ).loc main_arg10)) (pt t) := by
  funext k
  unfold slab
  blk_ext [iblk, V, (idx0 t).2.2.2.2.2.2.2.2.2.2.1]
theorem blk11 (t : Fin cfg0.N) : iblk m c 11 t = slab (a := 32) rfl (m ((c : Thread nD τ).loc main_arg11)) (pt t) := by
  funext k
  unfold slab
  blk_ext [iblk, V, (idx0 t).2.2.2.2.2.2.2.2.2.2.2]

/-- The queries. -/
theorem final_queries : (dats m 0 c).arrAt 12 cfg0.N = queries (m ((c : Thread nD τ).loc main_arg0)) (m ((c : Thread nD τ).loc main_arg1)) (m ((c : Thread nD τ).loc main_arg4)) := by
  refine (dats m 0 c).arrAt_eq_of_covers 12 _ (by decide +kernel) fun t hf y => ?_
  blk_simp
  rw [after0_12, blk0, blk1, blk4]
  idx_vars y
  obtain rfl : y0 = 0 := Subsingleton.elim _ _
  refine ((congrFun (block_queries _ _ _ _ _ _ _ _ _ _ _ _) _).trans (queries_apply _ _ _ y1 y2)).trans ?_
  refine Eq.trans ?_ (congrArg (queries _ _ _) (?_ : ix3 (batchOf (pt t)) y1 (tokOf (pt t) y2) = _))
  · exact query_point _ _ _ (pt t) y1 y2
  · blk_ext [(idx1 t).1]

/-- What is compressed. -/
theorem final_kv : (dats m 0 c).arrAt 13 cfg0.N = kv (m ((c : Thread nD τ).loc main_arg0)) (m ((c : Thread nD τ).loc main_arg1)) (m ((c : Thread nD τ).loc main_arg3)) := by
  refine (dats m 0 c).arrAt_eq_of_covers 13 _ (by decide +kernel) fun t hf y => ?_
  blk_simp
  rw [after0_13, blk0, blk1, blk3]
  idx_vars y
  refine ((congrFun (block_kv _ _ _ _ _ _ _ _ _ _ _ _) _).trans (kv_apply _ _ _ y0 y1)).trans ?_
  refine Eq.trans ?_ (congrArg (kv _ _ _) (?_ : ix2 (rowAt (a := 1024) rfl (pt t) y0) y1 = _))
  · rfl
  · blk_ext [(idx1 t).2.1]

/-- The keys. -/
theorem final_keys : (dats m 0 c).arrAt 14 cfg0.N = keys (m ((c : Thread nD τ).loc main_arg0)) (m ((c : Thread nD τ).loc main_arg1)) (m ((c : Thread nD τ).loc main_arg3)) := by
  refine (dats m 0 c).arrAt_eq_of_covers 14 _ (by decide +kernel) fun t hf y => ?_
  blk_simp
  rw [after0_14, blk0, blk1, blk3]
  idx_vars y
  obtain rfl : y0 = 0 := Subsingleton.elim _ _
  refine (block_keys _ _ _ _ _ _ _ _ _ _ _ _ y1 y2 y3).trans ?_
  refine Eq.trans ?_ (congrArg (keys _ _ _) (?_ : ix4 (batchOf (pt t)) y1 (tokOf (pt t) y2) y3 = _))
  · exact key_point _ _ _ (pt t) y1 y2 y3
  · blk_ext [(idx1 t).2.2.1]

/-- The values. -/
theorem final_values : (dats m 0 c).arrAt 15 cfg0.N = values (m ((c : Thread nD τ).loc main_arg0)) (m ((c : Thread nD τ).loc main_arg1)) (m ((c : Thread nD τ).loc main_arg4)) := by
  refine (dats m 0 c).arrAt_eq_of_covers 15 _ (by decide +kernel) fun t hf y => ?_
  blk_simp
  rw [after0_15, blk0, blk1, blk4]
  idx_vars y
  obtain rfl : y0 = 0 := Subsingleton.elim _ _
  refine (block_values _ _ _ _ _ _ _ _ _ _ _ _ y1 y2 y3).trans ?_
  refine Eq.trans ?_ (congrArg (values _ _ _) (?_ : ix4 (batchOf (pt t)) y1 y2 (tokOf (pt t) y3) = _))
  · exact value_point _ _ _ (pt t) y1 y2 y3
  · blk_ext [(idx1 t).2.2.2.1]

/-- The first half. -/
theorem final_first : (dats m 0 c).arrAt 16 cfg0.N = first (m ((c : Thread nD τ).loc main_arg0)) (m ((c : Thread nD τ).loc main_arg1)) (m ((c : Thread nD τ).loc main_arg3)) := by
  refine (dats m 0 c).arrAt_eq_of_covers 16 _ (by decide +kernel) fun t hf y => ?_
  blk_simp
  rw [after0_16, blk0, blk1, blk3]
  idx_vars y
  refine (block_first _ _ _ _ _ _ _ _ _ _ _ _ y0 y1).trans ?_
  refine Eq.trans ?_ (congrArg (first _ _ _) (?_ : ix2 (rowAt (a := 1024) rfl (pt t) y0) y1 = _))
  · rfl
  · blk_ext [(idx1 t).2.2.2.2.1]

/-- The second half. -/
theorem final_second : (dats m 0 c).arrAt 17 cfg0.N = second (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t hf y => ?_
  blk_simp
  rw [after0_17, blk0, blk1, blk2, blk3]
  idx_vars y
  refine (block_second _ _ _ _ _ _ _ _ _ _ _ _ y0 y1).trans ?_
  refine Eq.trans ?_ (congrArg (second _ _ _ _) (?_ : ix2 (rowAt (a := 1024) rfl (pt t) y0) y1 = _))
  · rfl
  · blk_ext [(idx1 t).2.2.2.2.2.1]

/-- The gates. -/
theorem final_gates : (dats m 0 c).arrAt 18 cfg0.N = gates (m ((c : Thread nD τ).loc main_arg0)) (m ((c : Thread nD τ).loc main_arg1)) (m ((c : Thread nD τ).loc main_arg4)) := by
  refine (dats m 0 c).arrAt_eq_of_covers 18 _ (by decide +kernel) fun t hf y => ?_
  blk_simp
  rw [after0_18, blk0, blk1, blk4]
  idx_vars y
  obtain rfl : y0 = 0 := Subsingleton.elim _ _
  refine (block_gates _ _ _ _ _ _ _ _ _ _ _ _ y1 y2).trans ?_
  refine Eq.trans ?_ (congrArg (gates _ _ _) (?_ : ix3 (batchOf (pt t)) y1 (tokOf (pt t) y2) = _))
  · exact gate_point _ _ _ (pt t) y1 y2
  · blk_ext [(idx1 t).2.2.2.2.2.2]

/-- A weight, cast. -/
theorem final_cast19 : (dats m 0 c).arrAt 19 cfg0.N = Cert.Reference6Ideal.Read.val_main_v92 (F := Ideal) (m ((c : Thread nD τ).loc main_arg5)) := by
  refine (dats m 0 c).arrAt_eq_of_covers 19 _ (by decide +kernel) fun t hf y => ?_
  blk_simp
  rw [after0_19, blk5]
  idx_vars y
  refine (congrFun (block_cast19 _ _ _ _ _ _ _ _ _ _ _ _) _).trans ?_
  refine Eq.trans ?_ (congrArg (Cert.Reference6Ideal.Read.val_main_v92 (F := Ideal) _) (?_ : ix2 (rowAt (a := 64) rfl (pt t) y0) y1 = _))
  · rfl
  · blk_ext [(idx2 t).1]

/-- A weight, cast. -/
theorem final_cast20 : (dats m 0 c).arrAt 20 cfg0.N = Cert.Reference6Ideal.Read.val_main_v93 (F := Ideal) (m ((c : Thread nD τ).loc main_arg6)) := by
  refine (dats m 0 c).arrAt_eq_of_covers 20 _ (by decide +kernel) fun t hf y => ?_
  blk_simp
  rw [after0_20, blk6]
  idx_vars y
  refine (congrFun (block_cast20 _ _ _ _ _ _ _ _ _ _ _ _) _).trans ?_
  refine Eq.trans ?_ (congrArg (Cert.Reference6Ideal.Read.val_main_v93 (F := Ideal) _) (?_ : ix2 (rowAt (a := 32) rfl (pt t) y0) y1 = _))
  · rfl
  · blk_ext [(idx2 t).2.1]

/-- A weight, cast. -/
theorem final_cast21 : (dats m 0 c).arrAt 21 cfg0.N = Cert.Reference6Ideal.Read.val_main_v94 (F := Ideal) (m ((c : Thread nD τ).loc main_arg7)) := by
  refine (dats m 0 c).arrAt_eq_of_covers 21 _ (by decide +kernel) fun t hf y => ?_
  blk_simp
  rw [after0_21, blk7]
  idx_vars y
  refine (congrFun (block_cast21 _ _ _ _ _ _ _ _ _ _ _ _) _).trans ?_
  refine Eq.trans ?_ (congrArg (Cert.Reference6Ideal.Read.val_main_v94 (F := Ideal) _) (?_ : ix2 (rowAt (a := 32) rfl (pt t) y0) y1 = _))
  · rfl
  · blk_ext [(idx2 t).2.2.1]

/-- A weight, cast. -/
theorem final_cast22 : (dats m 0 c).arrAt 22 cfg0.N = Cert.Reference6Ideal.Read.val_main_v95 (F := Ideal) (m ((c : Thread nD τ).loc main_arg8)) := by
  refine (dats m 0 c).arrAt_eq_of_covers 22 _ (by decide +kernel) fun t hf y => ?_
  blk_simp
  rw [after0_22, blk8]
  idx_vars y
  refine (congrFun (block_cast22 _ _ _ _ _ _ _ _ _ _ _ _) _).trans ?_
  refine Eq.trans ?_ (congrArg (Cert.Reference6Ideal.Read.val_main_v95 (F := Ideal) _) (?_ : ix2 (rowAt (a := 64) rfl (pt t) y0) y1 = _))
  · rfl
  · blk_ext [(idx2 t).2.2.2.1]

/-- A weight, cast. -/
theorem final_cast23 : (dats m 0 c).arrAt 23 cfg0.N = Cert.Reference6Ideal.Read.val_main_v96 (F := Ideal) (m ((c : Thread nD τ).loc main_arg9)) := by
  refine (dats m 0 c).arrAt_eq_of_covers 23 _ (by decide +kernel) fun t hf y => ?_
  blk_simp
  rw [after0_23, blk9]
  idx_vars y
  refine (congrFun (block_cast23 _ _ _ _ _ _ _ _ _ _ _ _) _).trans ?_
  refine Eq.trans ?_ (congrArg (Cert.Reference6Ideal.Read.val_main_v96 (F := Ideal) _) (?_ : ix2 (rowAt (a := 64) rfl (pt t) y0) y1 = _))
  · rfl
  · blk_ext [(idx2 t).2.2.2.2.1]

/-- A weight, cast. -/
theorem final_cast24 : (dats m 0 c).arrAt 24 cfg0.N = Cert.Reference6Ideal.Read.val_main_v97 (F := Ideal) (m ((c : Thread nD τ).loc main_arg10)) := by
  refine (dats m 0 c).arrAt_eq_of_covers 24 _ (by decide +kernel) fun t hf y => ?_
  blk_simp
  rw [after0_24, blk10]
  idx_vars y
  refine (congrFun (block_cast24 _ _ _ _ _ _ _ _ _ _ _ _) _).trans ?_
  refine Eq.trans ?_ (congrArg (Cert.Reference6Ideal.Read.val_main_v97 (F := Ideal) _) (?_ : ix2 (rowAt (a := 64) rfl (pt t) y0) y1 = _))
  · rfl
  · blk_ext [(idx2 t).2.2.2.2.2.1]

/-- A weight, cast. -/
theorem final_cast25 : (dats m 0 c).arrAt 25 cfg0.N = Cert.Reference6Ideal.Read.val_main_v98 (F := Ideal) (m ((c : Thread nD τ).loc main_arg11)) := by
  refine (dats m 0 c).arrAt_eq_of_covers 25 _ (by decide +kernel) fun t hf y => ?_
  blk_simp
  rw [after0_25, blk11]
  idx_vars y
  refine (congrFun (block_cast25 _ _ _ _ _ _ _ _ _ _ _ _) _).trans ?_
  refine Eq.trans ?_ (congrArg (Cert.Reference6Ideal.Read.val_main_v98 (F := Ideal) _) (?_ : ix2 (rowAt (a := 32) rfl (pt t) y0) y1 = _))
  · rfl
  · blk_ext [(idx2 t).2.2.2.2.2.2]

end Cert.Kernel6Ideal.Inproj

end
-- ==== Proof.InprojRef.lean ====
module

public import proofs.«01_k».proof.Proof.Finite
public import proofs.«01_k».proof.Proof.InprojCall

/-! # The first call against the problem's mathematics

The stages of the layer's projections, index by index, are the row functions the call's points compute. -/

@[expose] public section

set_option maxRecDepth 16384

noncomputable section

namespace Cert.Reference6Ideal.Inproj

open Cert.Reference6Ideal Cert.Reference6Ideal.Gen Cert.Reference6Ideal.Read Idealize.ShloMosaic Idealize.ShloMosaic.TcCoe Idealize.SL.Sem
open Cert.Kernel6Ideal.Inproj

variable (x0 : Vec Ideal S16384x1024 .f32) (x1 : Vec Ideal S1x1024 .f32) (x2 : Vec Ideal S1x512 .f32)
  (x3 : Vec Ideal S1024x1792 .bf16) (x4 : Vec Ideal S864x1024 .bf16)

theorem normed_apply (t : Fin 16384) (j : Fin 1024) : val_main_v11 (F := Ideal) x0 x1 (ix2 t j) = nrow x0 x1 t j := by
  unfold val_main_v11 val_main_v10 val_main_v9 val_main_v8 val_main_v7 val_main_v6 val_main_v5 val_main_v4 val_main_v3 val_main_v2
    val_main_v1 val_main_v0 val_main_cst val_main_cst_0 val_main_cst_1
  pointwise
  rfl

theorem cols_apply (t : Fin 16384) (j : Fin 1792) : val_main_v13 (F := Ideal) x0 x1 x3 (ix2 t j) = cols x0 x1 x3 t j := by
  have h : val_main_v13 (F := Ideal) x0 x1 x3 (ix2 t j) = ∑ a, val_main_v11 (F := Ideal) x0 x1 (ix2 t a) * x3 (ix2 a j) := by
    unfold val_main_v13 val_main_v12
    generalize val_main_v11 (F := Ideal) x0 x1 = T
    pointwise
  rw [h]
  exact Finset.sum_congr rfl fun a _ => congrArg (· * x3 (ix2 a j)) (normed_apply x0 x1 t a)

theorem feats_apply (b : Fin 2) (f : Fin 864) (t : Fin 8192) : val_main_v17 (F := Ideal) x0 x1 x4 (ix3 b f t) = feats x0 x1 x4 (token b t) f := by
  have h : val_main_v17 (F := Ideal) x0 x1 x4 (ix3 b f t) = ∑ a, val_main_v11 (F := Ideal) x0 x1 (ix2 (token b t) a) * x4 (ix2 f a) := by
    unfold val_main_v17 val_main_v16 val_main_v15 val_main_v14
    generalize val_main_v11 (F := Ideal) x0 x1 = T
    pointwise
  rw [h]
  exact Finset.sum_congr rfl fun a _ => (congrArg (· * x4 (ix2 f a)) (normed_apply x0 x1 _ a)).trans (mul_comm _ _)

theorem eight_log_two : val_main_v20 (F := Ideal) ix0 = ((8 * Real.log 2 : ℝ) : EReal) := by
  have h : Ideal.ofBits .f32 0x40000000#32 = ((2 : ℝ) : EReal) := by
    simp [Ideal.ofBits, Ideal.ieee]
    norm_num [← EReal.coe_mul]
  have h8 : Ideal.ofBits .f32 0x41000000#32 = ((8 : ℝ) : EReal) := by
    simp [Ideal.ofBits, Ideal.ieee]
    norm_num [← EReal.coe_mul]
  have hl : Ideal.log ((2 : ℝ) : EReal) = ((Real.log 2 : ℝ) : EReal) := by
    show (if (2 : ℝ) ≤ 0 then (⊥ : EReal) else (Real.log 2 : ℝ)) = _
    rw [if_neg (by norm_num)]
  unfold val_main_v20 val_main_v19 val_main_cst_2 val_main_cst_3
  pointwise
  rw [h, h8, hl, EReal.coe_mul]

theorem queries_eq : queries x0 x1 x4 = val_main_v80 (F := Ideal) x0 x1 x4 := by
  funext y
  idx_vars y
  have h : val_main_v80 (F := Ideal) x0 x1 x4 (ix3 y0 y1 y2) =
      Ideal.div (val_main_v17 (F := Ideal) x0 x1 x4 (ix3 y0 ⟨y1.val, by omega⟩ y2)) (val_main_v20 (F := Ideal) ix0) := by
    unfold val_main_v80 val_main_v22 val_main_v21 val_main_v18
    generalize val_main_v17 (F := Ideal) x0 x1 x4 = T
    generalize val_main_v20 (F := Ideal) = U
    pointwise
  rw [h, feats_apply, eight_log_two, Ideal.div_coe (ne_of_gt (by positivity))]
  show _ * _ = _ * _
  congr 2
  field_simp

theorem kv_eq : kv x0 x1 x3 = val_main_v81 (F := Ideal) x0 x1 x3 := by
  funext y
  idx_vars y
  have h : val_main_v81 (F := Ideal) x0 x1 x3 (ix2 y0 y1) = val_main_v13 (F := Ideal) x0 x1 x3 (ix2 y0 ⟨y1.val, by omega⟩) := by
    unfold val_main_v81
    generalize val_main_v13 (F := Ideal) x0 x1 x3 = T
    pointwise
  rw [h, cols_apply]
  rfl

theorem place_apply (b : Fin 2) (a : Fin 4) (t : Fin 8192) (l : Fin 128) : val_main_v36 (F := Ideal) (ix4 b a t l) = Row.place t.val l.val := by
  unfold val_main_v36 val_main_v35 val_main_call0_v1 val_main_call0_v0 val_main_c_6 val_main_v34 val_main_v33 val_main_v32 val_main_v31
    val_main_v30 val_main_c_4 val_main_c_5 val_main_v26 val_main_v25 val_main_c val_main_v24 val_main_v23
  pointwise
  rfl

theorem keys_eq : keys x0 x1 x3 = val_main_v82 (F := Ideal) x0 x1 x3 := by
  funext y
  idx_vars y
  have h : val_main_v82 (F := Ideal) x0 x1 x3 (ix4 y0 y1 y2 y3) =
      val_main_v13 (F := Ideal) x0 x1 x3 (ix2 (token y0 y2) ⟨256 + 128 * y1.val + y3.val, by omega⟩) + val_main_v36 (F := Ideal) (ix4 y0 y1 y2 y3) := by
    unfold val_main_v82 val_main_v37 val_main_v29 val_main_v28 val_main_v27
    generalize val_main_v13 (F := Ideal) x0 x1 x3 = T
    generalize val_main_v36 (F := Ideal) = U
    pointwise
    exact congrArg (fun i => T (ix2 _ i) + _) (Fin.ext (show 256 + (y1.val * 128 + y3.val) = 256 + 128 * y1.val + y3.val by omega))
  rw [h, cols_apply, place_apply]
  rfl

theorem unit_apply (b : Fin 2) (a : Fin 4) (f : Fin 80) (t : Fin 8192) : val_main_v44 (F := Ideal) (ix4 b a f t) = Row.unit f.val := by
  unfold val_main_v44 val_main_v41 val_main_v40 val_main_v39 val_main_v38 val_main_c_7 val_main_call1_v0 val_main_call1_v1 val_main_cst_8 val_main_cst_9
  rw [id_eq]
  pointwise
  rfl

theorem values_eq : values x0 x1 x4 = val_main_v83 (F := Ideal) x0 x1 x4 := by
  funext y
  idx_vars y
  have h : val_main_v83 (F := Ideal) x0 x1 x4 (ix4 y0 y1 y2 y3) =
      val_main_v17 (F := Ideal) x0 x1 x4 (ix3 y0 ⟨512 + 80 * y1.val + y2.val, by omega⟩ y3) + val_main_v44 (F := Ideal) (ix4 y0 y1 y2 y3) := by
    unfold val_main_v83 val_main_v45 val_main_v43 val_main_v42
    generalize val_main_v17 (F := Ideal) x0 x1 x4 = T
    generalize val_main_v44 (F := Ideal) = U
    pointwise
    exact congrArg (fun i => T (ix3 _ i _) + _) (Fin.ext (show 512 + (y1.val * 80 + y2.val) = 512 + 80 * y1.val + y2.val by omega))
  rw [h, feats_apply, unit_apply]
  rfl

theorem gelu_apply (t : Fin 16384) (j : Fin 1024) : val_main_v59 (F := Ideal) x0 x1 x3 (ix2 t j) =
    Row.gelu (cols x0 x1 x3 t ⟨768 + j.val, by omega⟩) := by
  rw [← cols_apply]
  have h : val_main_v59 (F := Ideal) x0 x1 x3 (ix2 t j) = (fun z : EReal => z * (Ideal.ofBits .f32 0x3F000000#32 * (1 + Ideal.tanh (Ideal.ofBits .f32 0x3F4C422A#32 *
      (z + Ideal.ofBits .f32 0x3D372713#32 * (z * z * z)))))) (val_main_v13 (F := Ideal) x0 x1 x3 (ix2 t ⟨768 + j.val, by omega⟩)) := by
    unfold val_main_v59 val_main_v58 val_main_v57 val_main_v56 val_main_v55 val_main_v54 val_main_v53 val_main_v52 val_main_v51 val_main_v50
      val_main_v49 val_main_v48 val_main_v47 val_main_v46 val_main_cst_10 val_main_cst_11 val_main_cst_12 val_main_cst_13
    generalize val_main_v13 (F := Ideal) x0 x1 x3 = T
    pointwise
  rw [h]
  generalize val_main_v13 (F := Ideal) x0 x1 x3 (ix2 t ⟨768 + j.val, by omega⟩) = z
  unfold Row.gelu
  rw [← mul_assoc z z z]

theorem first_eq : first x0 x1 x3 = val_main_v60 (F := Ideal) x0 x1 x3 := by
  funext y
  idx_vars y
  have h : val_main_v60 (F := Ideal) x0 x1 x3 (ix2 y0 y1) = val_main_v59 (F := Ideal) x0 x1 x3 (ix2 y0 ⟨y1.val, by omega⟩) := by
    unfold val_main_v60
    generalize val_main_v59 (F := Ideal) x0 x1 x3 = T
    pointwise
  rw [h, gelu_apply]
  rfl

theorem second_eq : second x0 x1 x2 x3 = val_main_v84 (F := Ideal) x0 x1 x2 x3 := by
  funext y
  idx_vars y
  have h : val_main_v84 (F := Ideal) x0 x1 x2 x3 (ix2 y0 y1) =
      Row.layer (fun k => val_main_v59 (F := Ideal) x0 x1 x3 (ix2 y0 ⟨512 + k.val, by omega⟩)) (fun k => x2 (ix2 0 k)) y1 := by
    unfold val_main_v84 val_main_v79 val_main_v78 val_main_v77 val_main_v76 val_main_v75 val_main_v74 val_main_v73 val_main_v72 val_main_v71 val_main_v70
      val_main_v69 val_main_v68 val_main_v67 val_main_v66 val_main_v65 val_main_v64 val_main_v63 val_main_v62 val_main_v61
      val_main_cst_14 val_main_cst_15 val_main_cst_16 val_main_cst_17 val_main_cst_18
    generalize val_main_v59 (F := Ideal) x0 x1 x3 = T
    pointwise
    rfl
  rw [h]
  show secondAt _ _ _ _ _ _ = _
  unfold secondAt
  congr 1
  funext k
  rw [gelu_apply]
  exact congrArg (fun i => Row.gelu (cols x0 x1 x3 y0 i)) (Fin.ext (show 1280 + k.val = 768 + (512 + k.val) by omega))

theorem gates_eq : gates x0 x1 x4 = val_main_v91 (F := Ideal) x0 x1 x4 := by
  funext y
  idx_vars y
  have h : val_main_v91 (F := Ideal) x0 x1 x4 (ix3 y0 y1 y2) =
      Ideal.logistic (val_main_v17 (F := Ideal) x0 x1 x4 (ix3 y0 ⟨832 + y1.val, by omega⟩ y2)) := by
    unfold val_main_v91 val_main_v90 val_main_v89 val_main_v88 val_main_v87 val_main_v86 val_main_v85 val_main_cst_19 val_main_cst_20
    generalize val_main_v17 (F := Ideal) x0 x1 x4 = T
    pointwise
    rfl
  rw [h, feats_apply]
  rfl

end Cert.Reference6Ideal.Inproj

end
-- ==== Proof.Compress.lean ====
module

public import proofs.«01_k».proof.Proof.Gen.Kernel7Ideal.Frame

/-! # What the compression call stores

The pieces the compression call stores into its two results at a grid point, in terms of the pooled products it
accumulates over the sixteen tokens of a half window. -/

@[expose] public section

set_option maxRecDepth 16384

noncomputable section

namespace Cert.Kernel7Ideal.Compress

open Cert.Kernel7Ideal Cert.Kernel7Ideal.Gen Idealize.ShloMosaic Idealize.ShloMosaic.TcCoe Idealize.SL.Sem

variable {F : FTy → Type} [FloatOps F]

/-- One token of every window with its position's vector added. -/
def tap (x : Vec F S1x512x128 .f32) (p : Vec F S1x1x128 .f32) : FVec F S512x128 .bf16 :=
  truncf .bf16 (addf (shapeCast S512x128 x shapeCasts_S1x512x128_S512x128)
    (broadcastTo S512x128 (shapeCast S1x128 p shapeCasts_S1x1x128_S1x128) broadcasts_S1x128_S512x128)) bitsLt_bf16_f32

/-- The product of two tokens of every window with their weights. -/
def pair (xa xb : Vec F S1x512x128 .f32) (pa pb : Vec F S1x1x128 .f32) (wa wb : Vec F S1x1x128x256 .bf16) :
    FVec F S512x256 .f32 :=
  matmul dot_S512x256_S256x256_S512x256_1_0_0_1_n_n none
    (concatenate S512x256 1 [⟨S512x128, tap xa pa⟩, ⟨S512x128, tap xb pb⟩] concatenates_S512x128_S512x128_S512x256_d1)
    (concatenate S256x256 0 [⟨S128x256, shapeCast S128x256 wa shapeCasts_S1x1x128x256_S128x256⟩,
      ⟨S128x256, shapeCast S128x256 wb shapeCasts_S1x1x128x256_S128x256⟩] concatenates_S128x256_S128x256_S256x256_d0)
    (constant S512x256 .f32 0x00000000#32)

/-- The products of a half window's sixteen tokens, two at a time, added up. -/
def pooled (x : Fin 16 → Vec F S1x512x128 .f32) (p : Fin 16 → Vec F S1x1x128 .f32) (w : Fin 16 → Vec F S1x1x128x256 .bf16) :
    FVec F S512x256 .f32 :=
  addf (addf (addf (addf (addf (addf (addf (addf (broadcast S512x256 (Scalar.ofBits .f32 0x00000000#32))
    (pair (x 0) (x 1) (p 0) (p 1) (w 0) (w 1))) (pair (x 2) (x 3) (p 2) (p 3) (w 2) (w 3)))
    (pair (x 4) (x 5) (p 4) (p 5) (w 4) (w 5))) (pair (x 6) (x 7) (p 6) (p 7) (w 6) (w 7)))
    (pair (x 8) (x 9) (p 8) (p 9) (w 8) (w 9))) (pair (x 10) (x 11) (p 10) (p 11) (w 10) (w 11)))
    (pair (x 12) (x 13) (p 12) (p 13) (w 12) (w 13))) (pair (x 14) (x 15) (p 14) (p 15) (w 14) (w 15))

/-- The first half windows' products plus the next windows' second halves. -/
def joined (a b : FVec F S512x256 .f32) : FVec F S512x256 .f32 := addf a (dynamicRotate 0 511#32 none b rotates_S512x256_d0)

/-- The hidden layer: the Gaussian error linear unit of every entry. -/
def unitOf (z : FVec F S512x256 .f32) : FVec F S512x256 .bf16 :=
  truncf .bf16 (mulf z (mulf (broadcast S512x256 (Scalar.ofBits .f32 0x3F000000#32))
    (addf (broadcast S512x256 (Scalar.ofBits .f32 0x3F800000#32)) (tanh (mulf (broadcast S512x256 (Scalar.ofBits .f32 0x3F4C422A#32))
      (addf z (mulf (broadcast S512x256 (Scalar.ofBits .f32 0x3D372713#32)) (mulf z (mulf z z)))))))) ) bitsLt_bf16_f32

/-- The compressed keys of both groups, side by side. -/
def keysOf (h : FVec F S512x256 .bf16) (w : Vec F S256x128 .bf16) : FVec F S512x128 .f32 :=
  matmul dot_S512x256_S256x128_S512x128_1_0_0_1_n_n none h w (constant S512x128 .f32 0x00000000#32)

/-- The compressed values of both groups, one above the other. -/
def valuesOf (h : FVec F S512x256 .bf16) (w : Vec F S128x256 .bf16) : FVec F S128x512 .f32 :=
  matmul dot_S128x256_S512x256_S128x512_1_1_0_0_n_n none w h (constant S128x512 .f32 0x00000000#32)

/-- Every window's token `t`. -/
abbrev rdX (m : Memref sig .tc .vmem S1x8192x128 .f32) (h : m.IsWhole) (X : Vec F S1x8192x128 .f32) (t : Fin 16)
    (ho : ∀ a, S1x512x128.size a = 0 ∨ (![0, t.val, 0] : Fin 3 → Nat) a + (![1, 16, 1] : Fin 3 → Nat) a * (S1x512x128.size a - 1) < S1x8192x128.size a) :
    Vec F S1x512x128 .f32 :=
  View.readAt (Elt F) m.view (⟨![0, t.val, 0], S1x512x128.size, ![1, 16, 1], ho⟩ : LoadRect S1x8192x128) (h.unread X)

/-- A load through a unit rectangle of a whole memref that holds `X`. -/
abbrev rd {s : Shape} {e : EltTy} (m : Memref sig .tc .vmem s e) (h : m.IsWhole) (X : Vec F s e)
    (o z : Fin s.rank → Nat) (ho : ∀ a, o a + z a ≤ s.size a) : Vec F ⟨s.rank, z⟩ e :=
  View.readAt (Elt F) m.view (Rect.unit o z ho).toLoadRect (h.unread X)

theorem inbX : ∀ (t : Fin 16) (a : Fin 3), S1x512x128.size a = 0 ∨ (![0, t.val, 0] : Fin 3 → Nat) a +
    (![1, 16, 1] : Fin 3 → Nat) a * (S1x512x128.size a - 1) < S1x8192x128.size a := by
  decide

theorem inbP : ∀ (j : Fin 2) (t : Fin 32) (a : Fin 3), (![j.val, t.val, 0] : Fin 3 → Nat) a + S1x1x128.size a ≤ S2x32x128.size a := by
  decide

theorem inbW : ∀ (j : Fin 2) (t : Fin 32) (a : Fin 4), (![j.val, t.val, 0, 0] : Fin 4 → Nat) a + S1x1x128x256.size a ≤ S2x32x128x256.size a := by
  decide

variable (c : Dev nD) (i : grid0.Coords) (arg1 : Memref sig .tc .vmem S1x8192x128 .f32) (harg1 : arg1.IsWhole)
  (arg2 : Memref sig .tc .vmem S1x8192x128 .f32) (harg2 : arg2.IsWhole) (arg3 : Memref sig .tc .vmem S2x32x128 .f32) (harg3 : arg3.IsWhole)
  (arg4 : Memref sig .tc .vmem S2x32x128x256 .bf16) (harg4 : arg4.IsWhole) (arg5 : Memref sig .tc .vmem S256x128 .bf16) (harg5 : arg5.IsWhole)
  (arg6 : Memref sig .tc .vmem S128x256 .bf16) (harg6 : arg6.IsWhole) (arg7 : Memref sig .tc .vmem S1x2x512x128 .bf16) (harg7 : arg7.IsWhole)
  (arg8 : Memref sig .tc .vmem S1x2x208x512 .bf16) (harg8 : arg8.IsWhole)
  (x0 x1 : Vec F S1x8192x128 .f32) (x2 : Vec F S2x32x128 .f32) (x3 : Vec F S2x32x128x256 .bf16) (x4 : Vec F S256x128 .bf16) (x5 : Vec F S128x256 .bf16)

/-- The products of the first half windows (`o = 0`) or of the second (`o = 16`). -/
def sideOf (m : Memref sig .tc .vmem S1x8192x128 .f32) (h : m.IsWhole) (X : Vec F S1x8192x128 .f32) (j o : Fin 2) : FVec F S512x256 .f32 :=
  pooled (fun t => rdX m h X t (inbX t))
    (fun t => rd arg3 harg3 x2 ![j.val, (⟨16 * o.val + t.val, by omega⟩ : Fin 32).val, 0] S1x1x128.size (inbP j _))
    (fun t => rd arg4 harg4 x3 ![j.val, (⟨16 * o.val + t.val, by omega⟩ : Fin 32).val, 0, 0] S1x1x128x256.size (inbW j _))

/-- The hidden layer before its unit. -/
def sumOf (m : Memref sig .tc .vmem S1x8192x128 .f32) (h : m.IsWhole) (X : Vec F S1x8192x128 .f32) (j : Fin 2) : FVec F S512x256 .f32 :=
  joined (sideOf arg3 harg3 arg4 harg4 x2 x3 m h X j 0) (sideOf arg3 harg3 arg4 harg4 x2 x3 m h X j 1)

/-- The pieces stored into the keys. -/
theorem pieces_keys :
    (kernelRun0_A c i arg1 harg1 arg2 harg2 arg3 harg3 arg4 harg4 arg5 harg5 arg6 harg6 arg7 harg7 arg8 harg8 x0 x1 x2 x3 x4 x5).1 =
    [⟨Rect.unit (s := S1x2x512x128) ![0, 1, 0, 0] S1x1x512x128.size inb_S1x2x512x128_S1x1x512x128_0_1_0_0,
      k0_pay1 (k0_pay103 (keysOf (unitOf (sumOf arg3 harg3 arg4 harg4 x2 x3 arg1 harg1 x0 0))
        (rd arg5 harg5 x4 ![0, 0] S256x128.size inb_S256x128_S256x128_0_0)) (iota .tc S512x128 32 [1] iota_S512x128_d1_w32) k0_pay96)⟩,
     ⟨Rect.unit (s := S1x2x512x128) ![0, 0, 0, 0] S1x1x512x128.size inb_S1x2x512x128_S1x1x512x128_0_0_0_0,
      k0_pay99 (keysOf (unitOf (sumOf arg3 harg3 arg4 harg4 x2 x3 arg1 harg1 x0 0))
        (rd arg5 harg5 x4 ![0, 0] S256x128.size inb_S256x128_S256x128_0_0)) (iota .tc S512x128 32 [1] iota_S512x128_d1_w32) k0_pay96⟩] := by
  unfold kernelRun0_A
  dsimp only
  rfl

/-- The pieces stored into the values. -/
theorem pieces_values :
    (kernelRun0_A c i arg1 harg1 arg2 harg2 arg3 harg3 arg4 harg4 arg5 harg5 arg6 harg6 arg7 harg7 arg8 harg8 x0 x1 x2 x3 x4 x5).2.1 =
    [⟨Rect.unit (s := S1x2x208x512) ![0, 1, 80, 0] S1x1x128x512.size inb_S1x2x208x512_S1x1x128x512_0_1_80_0, k0_pay4 k0_pay97⟩,
     ⟨Rect.unit (s := S1x2x208x512) ![0, 1, 64, 0] S1x1x16x512.size inb_S1x2x208x512_S1x1x16x512_0_1_64_0,
      k0_pay3 (k0_pay98 (iota .tc S16x512 32 [0] iota_S16x512_d0_w32))⟩,
     ⟨Rect.unit (s := S1x2x208x512) ![0, 1, 0, 0] S1x1x64x512.size inb_S1x2x208x512_S1x1x64x512_0_1_0_0,
      k0_pay2 (valuesOf (unitOf (sumOf arg3 harg3 arg4 harg4 x2 x3 arg2 harg2 x1 1))
        (rd arg6 harg6 x5 ![0, 0] S128x256.size inb_S128x256_S128x256_0_0))⟩,
     ⟨Rect.unit (s := S1x2x208x512) ![0, 0, 80, 0] S1x1x128x512.size inb_S1x2x208x512_S1x1x128x512_0_0_80_0, k0_pay102 k0_pay97⟩,
     ⟨Rect.unit (s := S1x2x208x512) ![0, 0, 64, 0] S1x1x16x512.size inb_S1x2x208x512_S1x1x16x512_0_0_64_0,
      k0_pay101 (iota .tc S16x512 32 [0] iota_S16x512_d0_w32)⟩,
     ⟨Rect.unit (s := S1x2x208x512) ![0, 0, 0, 0] S1x1x64x512.size inb_S1x2x208x512_S1x1x64x512_0_0_0_0,
      k0_pay100 (valuesOf (unitOf (sumOf arg3 harg3 arg4 harg4 x2 x3 arg2 harg2 x1 1))
        (rd arg6 harg6 x5 ![0, 0] S128x256.size inb_S128x256_S128x256_0_0))⟩] := by
  unfold kernelRun0_A
  dsimp only
  rfl

end Cert.Kernel7Ideal.Compress

end
-- ==== Proof.CompressAt.lean ====
module

public import proofs.«01_k».proof.Proof.Compress
public import proofs.«01_k».proof.Proof.InprojRow
public import proofs.«01_k».proof.Proof.Column

/-! # The compression call's blocks

What the compression call writes at a point, index by index. -/

@[expose] public section

set_option maxRecDepth 16384

noncomputable section

namespace Cert.Kernel7Ideal.Compress

open Cert.Kernel7Ideal Cert.Kernel7Ideal.Gen Idealize.ShloMosaic Idealize.ShloMosaic.TcCoe Idealize.SL.Sem

/-- A token with its position's vector added, times one column of the position's weights. -/
def one (x p w : Fin 128 → EReal) : EReal := ∑ c, (x c + p c) * w c

theorem tap_apply (x : Vec Ideal S1x512x128 .f32) (p : Vec Ideal S1x1x128 .f32) (i : Fin 512) (c : Fin 128) :
    tap x p (ix2 i c) = x (ix3 0 i c) + p (ix3 0 0 c) := by
  unfold tap
  pointwise

theorem left_apply (a b : FVec Ideal S512x128 .bf16) (i : Fin 512) (c : Fin 128) :
    concatenate S512x256 1 [⟨S512x128, a⟩, ⟨S512x128, b⟩] concatenates_S512x128_S512x128_S512x256_d1 (ix2 i ⟨c.val, by omega⟩) = a (ix2 i c)
    ∧ concatenate S512x256 1 [⟨S512x128, a⟩, ⟨S512x128, b⟩] concatenates_S512x128_S512x128_S512x256_d1 (ix2 i ⟨128 + c.val, by omega⟩) = b (ix2 i c) := by
  constructor <;> pointwise

theorem right_apply (a b : FVec Ideal S128x256 .bf16) (c : Fin 128) (f : Fin 256) :
    concatenate S256x256 0 [⟨S128x256, a⟩, ⟨S128x256, b⟩] concatenates_S128x256_S128x256_S256x256_d0 (ix2 ⟨c.val, by omega⟩ f) = a (ix2 c f)
    ∧ concatenate S256x256 0 [⟨S128x256, a⟩, ⟨S128x256, b⟩] concatenates_S128x256_S128x256_S256x256_d0 (ix2 ⟨128 + c.val, by omega⟩ f) = b (ix2 c f) := by
  constructor <;> pointwise

theorem product_apply (a : FVec Ideal S512x256 .bf16) (b : FVec Ideal S256x256 .bf16) (i : Fin 512) (f : Fin 256) :
    matmul dot_S512x256_S256x256_S512x256_1_0_0_1_n_n none a b (constant (F := Ideal) S512x256 .f32 0x00000000#32) (ix2 i f) =
      ∑ k : Fin 256, a (ix2 i k) * b (ix2 k f) := by
  pointwise

theorem weight_apply (w : Vec Ideal S1x1x128x256 .bf16) (c : Fin 128) (f : Fin 256) :
    shapeCast S128x256 w shapeCasts_S1x1x128x256_S128x256 (ix2 c f) = w (ix4 0 0 c f) := by
  pointwise

theorem pair_apply (xa xb : Vec Ideal S1x512x128 .f32) (pa pb : Vec Ideal S1x1x128 .f32) (wa wb : Vec Ideal S1x1x128x256 .bf16)
    (i : Fin 512) (f : Fin 256) : pair xa xb pa pb wa wb (ix2 i f) =
      one (fun c => xa (ix3 0 i c)) (fun c => pa (ix3 0 0 c)) (fun c => wa (ix4 0 0 c f)) +
      one (fun c => xb (ix3 0 i c)) (fun c => pb (ix3 0 0 c)) (fun c => wb (ix4 0 0 c f)) := by
  unfold pair
  rw [product_apply, Cert.KernelIdeal.Cmp.sum_two]
  unfold one
  congr 1
  · refine Finset.sum_congr rfl fun c _ => ?_
    rw [(left_apply _ _ i c).1, (right_apply _ _ c f).1, tap_apply, weight_apply]
  · refine Finset.sum_congr rfl fun c _ => ?_
    rw [(left_apply _ _ i c).2, (right_apply _ _ c f).2, tap_apply, weight_apply]

theorem pairs (g : Fin 16 → EReal) : 0 + (g 0 + g 1) + (g 2 + g 3) + (g 4 + g 5) + (g 6 + g 7) + (g 8 + g 9) + (g 10 + g 11) +
    (g 12 + g 13) + (g 14 + g 15) = ∑ t, g t := by
  rw [zero_add]
  simp only [Fin.sum_univ_succ, Fin.sum_univ_zero, add_zero, ← add_assoc]
  rfl

theorem zero_apply (i : Fin 512) (f : Fin 256) :
    broadcast (α := Ideal .f32) S512x256 (Scalar.ofBits (F := Ideal) .f32 0x00000000#32) (ix2 i f) = (0 : EReal) := by
  pointwise

theorem add_apply (a b : FVec Ideal S512x256 .f32) (i : Fin 512) (f : Fin 256) : addf a b (ix2 i f) = (a (ix2 i f) : EReal) + b (ix2 i f) := rfl

theorem pooled_apply (x : Fin 16 → Vec Ideal S1x512x128 .f32) (p : Fin 16 → Vec Ideal S1x1x128 .f32)
    (w : Fin 16 → Vec Ideal S1x1x128x256 .bf16) (i : Fin 512) (f : Fin 256) : pooled x p w (ix2 i f) =
      ∑ t, one (fun c => x t (ix3 0 i c)) (fun c => p t (ix3 0 0 c)) (fun c => w t (ix4 0 0 c f)) := by
  unfold pooled
  simp only [add_apply, pair_apply, zero_apply]
  exact pairs fun t => one (fun c => x t (ix3 0 i c)) (fun c => p t (ix3 0 0 c)) (fun c => w t (ix4 0 0 c f))

/-- The window after a window; the first one after the last. -/
abbrev after (i : Fin 512) : Fin 512 := ⟨(i.val + 1) % 512, Nat.mod_lt _ (by omega)⟩

theorem joined_apply (a b : FVec Ideal S512x256 .f32) (i : Fin 512) (f : Fin 256) :
    joined a b (ix2 i f) = a (ix2 i f) + b (ix2 (after i) f) := by
  unfold joined
  pointwise
  congr 2

theorem unitOf_apply (z : FVec Ideal S512x256 .f32) (i : Fin 512) (f : Fin 256) : unitOf z (ix2 i f) = Row.gelu (z (ix2 i f)) := by
  unfold unitOf
  pointwise
  rfl

theorem keysOf_apply (h : FVec Ideal S512x256 .bf16) (w : Vec Ideal S256x128 .bf16) (i : Fin 512) (l : Fin 128) :
    keysOf h w (ix2 i l) = ∑ f : Fin 256, h (ix2 i f) * w (ix2 f l) := by
  unfold keysOf
  pointwise

theorem valuesOf_apply (h : FVec Ideal S512x256 .bf16) (w : Vec Ideal S128x256 .bf16) (i : Fin 512) (d : Fin 128) :
    valuesOf h w (ix2 d i) = ∑ f : Fin 256, w (ix2 d f) * h (ix2 i f) := by
  unfold valuesOf
  pointwise

/-- A window's hidden entry: the tokens `x` of one half of the lanes, the positions' vectors `p` and their weights `w`. -/
def hidden (x : Fin 8192 → Fin 128 → EReal) (p : Fin 32 → Fin 128 → EReal) (w : Fin 32 → Fin 128 → Fin 256 → EReal) (i : Fin 512) (f : Fin 256) : EReal :=
  Row.gelu ((∑ t : Fin 16, one (x ⟨16 * i.val + t.val, by omega⟩) (p ⟨t.val, by omega⟩) (fun c => w ⟨t.val, by omega⟩ c f)) +
    ∑ t : Fin 16, one (x ⟨16 * (after i).val + t.val, by have := (after i).isLt; omega⟩) (p ⟨16 + t.val, by omega⟩) (fun c => w ⟨16 + t.val, by omega⟩ c f))

theorem rdX_apply (m : Memref sig .tc .vmem S1x8192x128 .f32) (h : m.IsWhole) (X : Vec Ideal S1x8192x128 .f32) (t : Fin 16) (ho)
    (i : Fin 512) (c : Fin 128) : rdX m h X t ho (ix3 0 i c) = X (ix3 0 ⟨16 * i.val + t.val, by omega⟩ c) := by
  rw [rdX, h.readAt_unread]
  congr 1
  funext a
  refine Fin.ext ?_
  fin_cases a
  · show 0 + 1 * 0 = 0
    rfl
  · show t.val + 16 * i.val = 16 * i.val + t.val
    omega
  · show 0 + 1 * c.val = c.val
    omega

theorem rdP_apply (m : Memref sig .tc .vmem S2x32x128 .f32) (h : m.IsWhole) (X : Vec Ideal S2x32x128 .f32) (j o : Fin 2) (t : Fin 16)
    (ho : ∀ a, (![j.val, 16 * o.val + t.val, 0] : Fin 3 → Nat) a + S1x1x128.size a ≤ S2x32x128.size a)
    (c : Fin 128) : rd m h X ![j.val, 16 * o.val + t.val, 0] S1x1x128.size ho (ix3 0 0 c) =
    X (ix3 j ⟨16 * o.val + t.val, by omega⟩ c) := by
  rw [rd, h.readAt_unread]
  congr 1
  funext a
  refine Fin.ext ?_
  fin_cases a
  · show j.val + 1 * 0 = j.val
    omega
  · show 16 * o.val + t.val + 1 * 0 = 16 * o.val + t.val
    omega
  · show 0 + 1 * c.val = c.val
    omega

theorem rdW_apply (m : Memref sig .tc .vmem S2x32x128x256 .bf16) (h : m.IsWhole) (X : Vec Ideal S2x32x128x256 .bf16) (j o : Fin 2) (t : Fin 16)
    (ho : ∀ a, (![j.val, 16 * o.val + t.val, 0, 0] : Fin 4 → Nat) a + S1x1x128x256.size a ≤ S2x32x128x256.size a)
    (c : Fin 128) (f : Fin 256) : rd m h X ![j.val, 16 * o.val + t.val, 0, 0] S1x1x128x256.size ho (ix4 0 0 c f) =
    X (ix4 j ⟨16 * o.val + t.val, by omega⟩ c f) := by
  rw [rd, h.readAt_unread]
  congr 1
  funext a
  refine Fin.ext ?_
  fin_cases a
  · show j.val + 1 * 0 = j.val
    omega
  · show 16 * o.val + t.val + 1 * 0 = 16 * o.val + t.val
    omega
  · show 0 + 1 * c.val = c.val
    omega
  · show 0 + 1 * f.val = f.val
    omega

theorem rdAll_apply {n k : Nat} (m : Memref sig .tc .vmem ⟨2, ![n, k]⟩ .bf16) (h : m.IsWhole) (X : Vec Ideal ⟨2, ![n, k]⟩ .bf16) (ho)
    (i : Fin n) (c : Fin k) : rd m h X ![0, 0] ![n, k] ho (ix2 i c) = X (ix2 i c) := by
  rw [rd, h.readAt_unread]
  congr 1
  funext a
  refine Fin.ext ?_
  fin_cases a
  · show 0 + 1 * i.val = i.val
    omega
  · show 0 + 1 * c.val = c.val
    omega

variable (arg3 : Memref sig .tc .vmem S2x32x128 .f32) (harg3 : arg3.IsWhole)
  (arg4 : Memref sig .tc .vmem S2x32x128x256 .bf16) (harg4 : arg4.IsWhole) (x2 : Vec Ideal S2x32x128 .f32) (x3 : Vec Ideal S2x32x128x256 .bf16)

theorem hidden_apply (m : Memref sig .tc .vmem S1x8192x128 .f32) (h : m.IsWhole) (X : Vec Ideal S1x8192x128 .f32) (j : Fin 2) (i : Fin 512)
    (f : Fin 256) : unitOf (sumOf arg3 harg3 arg4 harg4 x2 x3 m h X j) (ix2 i f) =
      hidden (fun t c => X (ix3 0 t c)) (fun t c => x2 (ix3 j t c)) (fun t c f => x3 (ix4 j t c f)) i f := by
  rw [unitOf_apply]
  unfold sumOf sideOf hidden
  rw [joined_apply, pooled_apply, pooled_apply]
  refine congrArg Row.gelu (congrArg₂ (· + ·) (Finset.sum_congr rfl fun t _ => ?_) (Finset.sum_congr rfl fun t _ => ?_))
  · have e : (⟨16 * (0 : Fin 2).val + t.val, by have := t.isLt; omega⟩ : Fin 32) = ⟨t.val, by omega⟩ :=
      Fin.ext (Nat.zero_add _)
    congr 1
    · exact funext fun c => rdX_apply _ _ _ _ _ _ _
    · exact funext fun c => (rdP_apply _ _ _ _ 0 _ _ _).trans (congrArg (fun s => x2 (ix3 j s c)) e)
    · exact funext fun c => (rdW_apply _ _ _ _ 0 _ _ _ _).trans (congrArg (fun s => x3 (ix4 j s c f)) e)
  · congr 1
    · exact funext fun c => rdX_apply _ _ _ _ _ _ _
    · exact funext fun c => rdP_apply _ _ _ _ 1 _ _ _
    · exact funext fun c => rdW_apply _ _ _ _ 1 _ _ _ _

/-- What the lanes past a key's sixty-four hold: the first two, the window's place in its chunk of 128 windows in tokens. -/
def extra (i l : ℕ) : EReal :=
  FloatOps.sitofp (F := Ideal) (w := 32) .f32 (Scalar.select (IntOp.cmpi .slt (BitVec.ofNat 32 l) 2#32)
    (IntOp.muli 16#32 (IntOp.andi (BitVec.ofNat 32 i) 127#32)) 0#32)

/-- The rows of ones: a one in the first of sixteen. -/
def ones (r : ℕ) : EReal := Scalar.select (IntOp.cmpi .eq (BitVec.ofNat 32 r) 0#32) 1 0

/-- Whether window `i` overlaps selection block `r`. -/
def overlap (r i : ℕ) : EReal := Scalar.select (IntOp.andi
    (IntOp.cmpi .slt (IntOp.muli (BitVec.ofNat 32 i) 16#32) (IntOp.addi (IntOp.muli (BitVec.ofNat 32 r) 64#32) 64#32))
    (IntOp.cmpi .sge (IntOp.addi (IntOp.muli (BitVec.ofNat 32 i) 16#32) 31#32) (IntOp.muli (BitVec.ofNat 32 r) 64#32))) 1 0

theorem feature_apply (i : Fin 512) (l : Fin 128) : k0_pay96 (F := Ideal) (ix2 i l) =
    FloatOps.sitofp (F := Ideal) (w := 32) .f32 (Scalar.select
      (IntOp.ori (IntOp.cmpi .eq (BitVec.ofNat 32 l.val) 64#32) (IntOp.cmpi .eq (BitVec.ofNat 32 l.val) 65#32))
      (IntOp.muli 16#32 (IntOp.andi (BitVec.ofNat 32 i.val) 127#32)) 0#32) := by
  unfold k0_pay96
  pointwise

theorem feature_lane (i : Fin 512) (l : Fin 128) (h : 64 ≤ l.val) : k0_pay96 (F := Ideal) (ix2 i l) = extra i.val (l.val - 64) := by
  have e : ∀ l : Fin 128, 64 ≤ l.val → IntOp.ori (IntOp.cmpi .eq (BitVec.ofNat 32 l.val) 64#32) (IntOp.cmpi .eq (BitVec.ofNat 32 l.val) 65#32) =
      IntOp.cmpi .slt (BitVec.ofNat 32 (l.val - 64)) 2#32 := by decide
  rw [feature_apply, e l h]
  rfl

theorem overlap_apply (r : Fin 128) (i : Fin 512) : k0_pay97 (F := Ideal) (ix2 r i) = overlap r.val i.val := by
  unfold k0_pay97
  pointwise
  rfl

theorem ones_apply (r : Fin 16) (i : Fin 512) : k0_pay98 (F := Ideal) (iota .tc S16x512 32 [0] iota_S16x512_d0_w32) (ix2 r i) = ones r.val := by
  unfold k0_pay98
  pointwise
  rfl

/-- Whether a lane holds a key's channel. -/
theorem lane_lt : ∀ l : Fin 128, (IntOp.cmpi .slt (BitVec.ofNat 32 l.val) 64#32 : BitVec 1) = if l.val < 64 then 1#1 else 0#1 := by
  decide

/-- A key's lane: `k` its channels, `i` its window. -/
def keyLane (k : Fin 64 → EReal) (i : ℕ) (l : Fin 128) : EReal := if h : l.val < 64 then k ⟨l.val, h⟩ else extra i (l.val - 64)

theorem first_select (T : FVec Ideal S512x128 .f32) (U : FVec Ideal S512x128 .f32) (i : Fin 512) (l : Fin 128) :
    k0_pay99 T (iota .tc S512x128 32 [1] iota_S512x128_d1_w32) U (ix4 0 0 i l) =
      Scalar.select (IntOp.cmpi .slt (BitVec.ofNat 32 l.val) 64#32) (T (ix2 i l)) (U (ix2 i l)) := by
  unfold k0_pay99
  pointwise

theorem second_select (T : FVec Ideal S512x128 .f32) (U : FVec Ideal S512x128 .f32) (i : Fin 512) (l : Fin 128) :
    k0_pay1 (k0_pay103 T (iota .tc S512x128 32 [1] iota_S512x128_d1_w32) U) (ix4 0 0 i l) =
      Scalar.select (IntOp.cmpi .slt (BitVec.ofNat 32 l.val) 64#32) (T (ix2 i ⟨(l.val + 128 - 64) % 128, Nat.mod_lt _ (by omega)⟩)) (U (ix2 i l)) := by
  unfold k0_pay1 k0_pay103
  pointwise

theorem first_key (T : FVec Ideal S512x128 .f32) (i : Fin 512) (l : Fin 128) :
    k0_pay99 T (iota .tc S512x128 32 [1] iota_S512x128_d1_w32) k0_pay96 (ix4 0 0 i l) =
      keyLane (fun d => T (ix2 i ⟨64 * (0 : Fin 2).val + d.val, by omega⟩)) i.val l := by
  rw [first_select, lane_lt]
  unfold keyLane
  by_cases h : l.val < 64
  · rw [if_pos h, dif_pos h]
    refine congrArg (fun d => T (ix2 i d)) (Fin.ext ?_)
    show l.val = 64 * 0 + l.val
    omega
  · rw [if_neg h, dif_neg h]
    exact feature_lane i l (by omega)

theorem second_key (T : FVec Ideal S512x128 .f32) (i : Fin 512) (l : Fin 128) :
    k0_pay1 (k0_pay103 T (iota .tc S512x128 32 [1] iota_S512x128_d1_w32) k0_pay96) (ix4 0 0 i l) =
      keyLane (fun d => T (ix2 i ⟨64 * (1 : Fin 2).val + d.val, by omega⟩)) i.val l := by
  rw [second_select, lane_lt]
  unfold keyLane
  by_cases h : l.val < 64
  · rw [if_pos h, dif_pos h]
    refine congrArg (fun d => T (ix2 i d)) (Fin.ext ?_)
    show (l.val + 128 - 64) % 128 = 64 * 1 + l.val
    omega
  · rw [if_neg h, dif_neg h]
    exact feature_lane i l (by omega)

/-- A value's row: `v` its channels, `i` its window. -/
def valueRow (v : Fin 64 → EReal) (r : Fin 208) (i : ℕ) : EReal :=
  if h : r.val < 64 then v ⟨r.val, h⟩ else if r.val < 80 then ones (r.val - 64) else overlap (r.val - 80) i

theorem value_rows (T : FVec Ideal S128x512 .f32) (d : Fin 64) (i : Fin 512) :
    k0_pay100 T (ix4 0 0 d i) = T (ix2 ⟨64 * (0 : Fin 2).val + d.val, by omega⟩ i)
    ∧ k0_pay2 T (ix4 0 0 d i) = T (ix2 ⟨64 * (1 : Fin 2).val + d.val, by omega⟩ i) := by
  constructor
  · have h : k0_pay100 T (ix4 0 0 d i) = T (ix2 ⟨d.val, by omega⟩ i) := by
      unfold k0_pay100
      pointwise
    refine h.trans (congrArg (fun d => T (ix2 d i)) (Fin.ext ?_))
    show d.val = 64 * 0 + d.val
    omega
  · have h : k0_pay2 T (ix4 0 0 d i) = T (ix2 ⟨64 + d.val, by omega⟩ i) := by
      unfold k0_pay2
      pointwise
    exact h.trans rfl

theorem ones_rows (T : FVec Ideal S16x512 .bf16) (r : Fin 16) (i : Fin 512) : k0_pay3 T (ix4 0 0 r i) = T (ix2 r i) := by
  unfold k0_pay3
  pointwise

theorem overlap_rows (T : FVec Ideal S128x512 .bf16) (r : Fin 128) (i : Fin 512) :
    k0_pay4 T (ix4 0 0 r i) = T (ix2 r i) ∧ k0_pay102 T (ix4 0 0 r i) = T (ix2 r i) := by
  unfold k0_pay4 k0_pay102
  constructor <;> pointwise

end Cert.Kernel7Ideal.Compress

end
-- ==== Proof.CompressCall.lean ====
module

public import proofs.«01_k».proof.Proof.CompressAt
public import proofs.«01_k».proof.Proof.Gen.Kernel7Ideal.Value
public import Idealize.ShloMosaic.Lib.Pipeline.ValueKit.Geometry
public import Idealize.ShloMosaic.Lib.Pipeline.ValueKit.Point

/-! # The compression call's results

The two results of the compression call, from the blocks its points write. -/

@[expose] public section

set_option maxRecDepth 16384

noncomputable section

namespace Cert.Kernel7Ideal.Compress

open Cert.Kernel7Ideal Cert.Kernel7Ideal.Gen Idealize.ShloMosaic Idealize.ShloMosaic.TcCoe Idealize.SL.Sem

section block

variable (c : Dev nD) (i : grid0.Coords) (arg1 : Memref sig .tc .vmem S1x8192x128 .f32) (harg1 : arg1.IsWhole)
  (arg2 : Memref sig .tc .vmem S1x8192x128 .f32) (harg2 : arg2.IsWhole) (arg3 : Memref sig .tc .vmem S2x32x128 .f32) (harg3 : arg3.IsWhole)
  (arg4 : Memref sig .tc .vmem S2x32x128x256 .bf16) (harg4 : arg4.IsWhole) (arg5 : Memref sig .tc .vmem S256x128 .bf16) (harg5 : arg5.IsWhole)
  (arg6 : Memref sig .tc .vmem S128x256 .bf16) (harg6 : arg6.IsWhole) (arg7 : Memref sig .tc .vmem S1x2x512x128 .bf16) (harg7 : arg7.IsWhole)
  (arg8 : Memref sig .tc .vmem S1x2x208x512 .bf16) (harg8 : arg8.IsWhole)
  (x0 x1 : Vec Ideal S1x8192x128 .f32) (x2 : Vec Ideal S2x32x128 .f32) (x3 : Vec Ideal S2x32x128x256 .bf16) (x4 : Vec Ideal S256x128 .bf16) (x5 : Vec Ideal S128x256 .bf16)

/-- The hidden layer of one half of a batch's lanes. -/
abbrev hiddenOf (X : Vec Ideal S1x8192x128 .f32) (j : Fin 2) : Fin 512 → Fin 256 → EReal :=
  hidden (fun t c => X (ix3 0 t c)) (fun t c => x2 (ix3 j t c)) (fun t c f => x3 (ix4 j t c f))

/-- A key's lane, from the hidden layer. -/
def keyAt (h : Fin 512 → Fin 256 → EReal) (w : Vec Ideal S256x128 .bf16) (g : Fin 2) (i : Fin 512) (l : Fin 128) : EReal :=
  keyLane (fun d => ∑ f : Fin 256, h i f * w (ix2 f ⟨64 * g.val + d.val, by omega⟩)) i.val l

/-- A value's row, from the hidden layer. -/
def valueAt (h : Fin 512 → Fin 256 → EReal) (w : Vec Ideal S128x256 .bf16) (g : Fin 2) (r : Fin 208) (i : Fin 512) : EReal :=
  valueRow (fun d => ∑ f : Fin 256, w (ix2 ⟨64 * g.val + d.val, by omega⟩ f) * h i f) r i.val

theorem keysOf_hidden (i : Fin 512) (l : Fin 128) :
    keysOf (unitOf (sumOf arg3 harg3 arg4 harg4 x2 x3 arg1 harg1 x0 0)) (rd arg5 harg5 x4 ![0, 0] S256x128.size inb_S256x128_S256x128_0_0) (ix2 i l) =
      ∑ f : Fin 256, hiddenOf x2 x3 x0 0 i f * x4 (ix2 f l) := by
  rw [keysOf_apply]
  exact Finset.sum_congr rfl fun f _ => congrArg₂ (· * ·) (hidden_apply _ _ _ _ _ _ _ _ _ _ _ _) (rdAll_apply _ _ _ _ _ _)

theorem valuesOf_hidden (d : Fin 128) (i : Fin 512) :
    valuesOf (unitOf (sumOf arg3 harg3 arg4 harg4 x2 x3 arg2 harg2 x1 1)) (rd arg6 harg6 x5 ![0, 0] S128x256.size inb_S128x256_S128x256_0_0) (ix2 d i) =
      ∑ f : Fin 256, x5 (ix2 d f) * hiddenOf x2 x3 x1 1 i f := by
  rw [valuesOf_apply]
  exact Finset.sum_congr rfl fun f _ => congrArg₂ (· * ·) (rdAll_apply _ _ _ _ _ _) (hidden_apply _ _ _ _ _ _ _ _ _ _ _ _)

theorem keyAt_congr (h : Fin 512 → Fin 256 → EReal) (w : Vec Ideal S256x128 .bf16) {g g' : Fin 2} {i i' : Fin 512} {l l' : Fin 128}
    (eg : g'.val = g.val) (ei : i'.val = i.val) (el : l'.val = l.val) : keyAt h w g i l = keyAt h w g' i' l' := by
  rw [Fin.ext eg, Fin.ext ei, Fin.ext el]

theorem valueAt_congr (h : Fin 512 → Fin 256 → EReal) (w : Vec Ideal S128x256 .bf16) {g g' : Fin 2} {i i' : Fin 512} {r r' : Fin 208}
    (eg : g'.val = g.val) (er : r'.val = r.val) (ei : i'.val = i.val) : valueAt h w g r i = valueAt h w g' r' i' := by
  rw [Fin.ext eg, Fin.ext ei, Fin.ext er]

theorem block_keys (g : Fin 2) (n : Fin 512) (l : Fin 128) :
    out0_A_6 c i arg1 harg1 arg2 harg2 arg3 harg3 arg4 harg4 arg5 harg5 arg6 harg6 arg7 harg7 arg8 harg8 x0 x1 x2 x3 x4 x5 (ix4 0 g n l) =
      keyAt (hiddenOf x2 x3 x0 0) x4 g n l := by
  unfold out0_A_6
  rw [View.read_writes_junk_eq_canon]
  refine View.canon_apply_of_pieces (Val := Elt Ideal) (fun y : S1x2x512x128.Idx =>
    keyAt (hiddenOf x2 x3 x0 0) x4 (y 1 : Fin 2) (y 2 : Fin 512) (y 3 : Fin 128)) _ ?_ (ix4 0 g n l)
    (cover0_A_6 c i arg1 harg1 arg2 harg2 arg3 harg3 arg4 harg4 arg5 harg5 arg6 harg6 arg7 harg7 arg8 harg8 x0 x1 x2 x3 x4 x5 _)
  rw [pieces_keys]
  intro p hp k
  rcases List.mem_cons.mp hp with rfl | hp
  · idx_vars k
    obtain rfl : k0 = 0 := Subsingleton.elim _ _
    obtain rfl : k1 = 0 := Subsingleton.elim _ _
    refine (second_key _ k2 k3).trans ?_
    refine (congrArg (fun k => keyLane k k2.val k3) (funext fun d => keysOf_hidden _ _ _ _ _ _ _ _ _ _ _ _ _ _)).trans ?_
    exact keyAt_congr (g := 1) _ _ (show 1 + 1 * 0 = 1 by omega) (show 0 + 1 * k2.val = _ by omega) (show 0 + 1 * k3.val = _ by omega)
  · obtain rfl := List.mem_singleton.mp hp
    idx_vars k
    obtain rfl : k0 = 0 := Subsingleton.elim _ _
    obtain rfl : k1 = 0 := Subsingleton.elim _ _
    refine (first_key _ k2 k3).trans ?_
    refine (congrArg (fun k => keyLane k k2.val k3) (funext fun d => keysOf_hidden _ _ _ _ _ _ _ _ _ _ _ _ _ _)).trans ?_
    exact keyAt_congr (g := 0) _ _ (show 0 + 1 * 0 = 0 by omega) (show 0 + 1 * k2.val = _ by omega) (show 0 + 1 * k3.val = _ by omega)

/-- A channel's row. -/
theorem valueAt_low (h : Fin 512 → Fin 256 → EReal) (w : Vec Ideal S128x256 .bf16) (g : Fin 2) (d : Fin 64) (i : Fin 512) :
    valueAt h w g ⟨d.val, by omega⟩ i = ∑ f : Fin 256, w (ix2 ⟨64 * g.val + d.val, by omega⟩ f) * h i f := by
  unfold valueAt valueRow
  rw [dif_pos d.isLt]

/-- A row of ones. -/
theorem valueAt_mid (h : Fin 512 → Fin 256 → EReal) (w : Vec Ideal S128x256 .bf16) (g : Fin 2) (r : Fin 16) (i : Fin 512) :
    valueAt h w g ⟨64 + r.val, by omega⟩ i = ones r.val := by
  unfold valueAt valueRow
  rw [dif_neg (by show ¬64 + r.val < 64; omega), if_pos (by show 64 + r.val < 80; omega)]
  congr 1
  show 64 + r.val - 64 = r.val
  omega

/-- A selection block's row. -/
theorem valueAt_high (h : Fin 512 → Fin 256 → EReal) (w : Vec Ideal S128x256 .bf16) (g : Fin 2) (r : Fin 128) (i : Fin 512) :
    valueAt h w g ⟨80 + r.val, by omega⟩ i = overlap r.val i.val := by
  unfold valueAt valueRow
  rw [dif_neg (by show ¬80 + r.val < 64; omega), if_neg (by show ¬80 + r.val < 80; omega)]
  congr 1
  show 80 + r.val - 80 = r.val
  omega

theorem block_values (g : Fin 2) (r : Fin 208) (n : Fin 512) :
    out0_A_7 c i arg1 harg1 arg2 harg2 arg3 harg3 arg4 harg4 arg5 harg5 arg6 harg6 arg7 harg7 arg8 harg8 x0 x1 x2 x3 x4 x5 (ix4 0 g r n) =
      valueAt (hiddenOf x2 x3 x1 1) x5 g r n := by
  unfold out0_A_7
  rw [View.read_writes_junk_eq_canon]
  refine View.canon_apply_of_pieces (Val := Elt Ideal) (fun y : S1x2x208x512.Idx =>
    valueAt (hiddenOf x2 x3 x1 1) x5 (y 1 : Fin 2) (y 2 : Fin 208) (y 3 : Fin 512)) _ ?_ (ix4 0 g r n)
    (cover0_A_7 c i arg1 harg1 arg2 harg2 arg3 harg3 arg4 harg4 arg5 harg5 arg6 harg6 arg7 harg7 arg8 harg8 x0 x1 x2 x3 x4 x5 _)
  rw [pieces_values]
  intro p hp k
  rcases List.mem_cons.mp hp with rfl | hp
  · idx_vars k
    obtain rfl : k0 = 0 := Subsingleton.elim _ _
    obtain rfl : k1 = 0 := Subsingleton.elim _ _
    refine (overlap_rows _ k2 k3).1.trans ((overlap_apply k2 k3).trans ((valueAt_high (hiddenOf x2 x3 x1 1) x5 1 k2 k3).symm.trans ?_))
    exact valueAt_congr _ _ (show 1 + 1 * 0 = 1 by omega) (show 80 + 1 * k2.val = 80 + k2.val by omega) (show 0 + 1 * k3.val = _ by omega)
  rcases List.mem_cons.mp hp with rfl | hp
  · idx_vars k
    obtain rfl : k0 = 0 := Subsingleton.elim _ _
    obtain rfl : k1 = 0 := Subsingleton.elim _ _
    refine (ones_rows _ k2 k3).trans ((ones_apply k2 k3).trans ((valueAt_mid (hiddenOf x2 x3 x1 1) x5 1 k2 k3).symm.trans ?_))
    exact valueAt_congr _ _ (show 1 + 1 * 0 = 1 by omega) (show 64 + 1 * k2.val = 64 + k2.val by omega) (show 0 + 1 * k3.val = _ by omega)
  rcases List.mem_cons.mp hp with rfl | hp
  · idx_vars k
    obtain rfl : k0 = 0 := Subsingleton.elim _ _
    obtain rfl : k1 = 0 := Subsingleton.elim _ _
    refine (value_rows _ k2 k3).2.trans ((valuesOf_hidden _ _ _ _ _ _ _ _ _ _ _ _ _ _).trans ((valueAt_low (hiddenOf x2 x3 x1 1) x5 1 k2 k3).symm.trans ?_))
    exact valueAt_congr _ _ (show 1 + 1 * 0 = 1 by omega) (show 0 + 1 * k2.val = k2.val by omega) (show 0 + 1 * k3.val = _ by omega)
  rcases List.mem_cons.mp hp with rfl | hp
  · idx_vars k
    obtain rfl : k0 = 0 := Subsingleton.elim _ _
    obtain rfl : k1 = 0 := Subsingleton.elim _ _
    refine (overlap_rows _ k2 k3).2.trans ((overlap_apply k2 k3).trans ((valueAt_high (hiddenOf x2 x3 x1 1) x5 0 k2 k3).symm.trans ?_))
    exact valueAt_congr _ _ (show 0 + 1 * 0 = 0 by omega) (show 80 + 1 * k2.val = 80 + k2.val by omega) (show 0 + 1 * k3.val = _ by omega)
  rcases List.mem_cons.mp hp with rfl | hp
  · idx_vars k
    obtain rfl : k0 = 0 := Subsingleton.elim _ _
    obtain rfl : k1 = 0 := Subsingleton.elim _ _
    refine (ones_rows _ k2 k3).trans ((ones_apply k2 k3).trans ((valueAt_mid (hiddenOf x2 x3 x1 1) x5 0 k2 k3).symm.trans ?_))
    exact valueAt_congr _ _ (show 0 + 1 * 0 = 0 by omega) (show 64 + 1 * k2.val = 64 + k2.val by omega) (show 0 + 1 * k3.val = _ by omega)
  · obtain rfl := List.mem_singleton.mp hp
    idx_vars k
    obtain rfl : k0 = 0 := Subsingleton.elim _ _
    obtain rfl : k1 = 0 := Subsingleton.elim _ _
    refine (value_rows _ k2 k3).1.trans ((valuesOf_hidden _ _ _ _ _ _ _ _ _ _ _ _ _ _).trans ((valueAt_low (hiddenOf x2 x3 x1 1) x5 0 k2 k3).symm.trans ?_))
    exact valueAt_congr _ _ (show 0 + 1 * 0 = 0 by omega) (show 0 + 1 * k2.val = k2.val by omega) (show 0 + 1 * k3.val = _ by omega)

end block

section results

variable (A0 : Vec Ideal S2x8192x256 .f32) (A1 : Vec Ideal S2x32x128 .f32) (A2 : Vec Ideal S2x32x128x256 .bf16)
  (A3 : Vec Ideal S256x128 .bf16) (A4 : Vec Ideal S128x256 .bf16)

/-- The hidden layer of batch `b`: of the keys (`j = 0`) or of the values (`j = 1`). -/
def layer (b j : Fin 2) : Fin 512 → Fin 256 → EReal :=
  hidden (fun t c => A0 (ix3 b t ⟨128 * j.val + c.val, by omega⟩)) (fun t c => A1 (ix3 j t c)) (fun t c f => A2 (ix4 j t c f))

/-- The compressed keys. -/
def keys : Vec Ideal S2x2x512x128 .bf16 := fun y => keyAt (layer A0 A1 A2 (y 0) 0) A3 (y 1) (y 2) (y 3)

/-- The compressed values. -/
def values : Vec Ideal S2x2x208x512 .bf16 := fun y => valueAt (layer A0 A1 A2 (y 0) 1) A4 (y 1) (y 2) (y 3)

/-- A lane of half of a batch's lanes. -/
abbrev laneOf (j : Fin 2) (c : Fin 128) : Fin 256 := ⟨128 * j.val + c.val, by omega⟩

/-- Half of a batch's lanes. -/
def halfOf (b j : Fin 2) : Vec Ideal S1x8192x128 .f32 := fun k => A0 (ix3 b (k 1 : Fin 8192) (laneOf j (k 2)))

end results

theorem points : cfg0.grid.N = 2 := N_0

/-- A grid point's batch. -/
abbrev pt (t : Fin cfg0.N) : Fin 2 := ⟨t.val, points ▸ t.isLt⟩

theorem idx : ∀ t : Fin cfg0.N, win0_0.index t = ![t.val, 0, 0] ∧ win0_1.index t = ![t.val, 0, 1] ∧ win0_2.index t = ![0, 0, 0] ∧
    win0_3.index t = ![0, 0, 0, 0] ∧ win0_4.index t = ![0, 0] ∧ win0_5.index t = ![0, 0] ∧ win0_6.index t = ![t.val, 0, 0, 0] ∧ win0_7.index t = ![t.val, 0, 0, 0] :=
  (by decide +kernel : ∀ t : Fin grid0.N, _)

variable (m : (ℓ : Loc nD τ sig) → Buf (Elt Ideal) ℓ) (c : Dev nD)

theorem blk0 (t : Fin cfg0.N) : iblk m c 0 t = halfOf (m ((c : Thread nD τ).loc main_arg0)) (pt t) 0 := by
  funext k
  unfold halfOf
  blk_ext [iblk, V, (idx t).1]
theorem blk1 (t : Fin cfg0.N) : iblk m c 1 t = halfOf (m ((c : Thread nD τ).loc main_arg0)) (pt t) 1 := by
  funext k
  unfold halfOf
  blk_ext [iblk, V, (idx t).2.1]
theorem blk2 (t : Fin cfg0.N) : iblk m c 2 t = (m ((c : Thread nD τ).loc main_arg1)) := by
  funext k
  blk_ext [iblk, V, (idx t).2.2.1]
theorem blk3 (t : Fin cfg0.N) : iblk m c 3 t = (m ((c : Thread nD τ).loc main_arg2)) := by
  funext k
  blk_ext [iblk, V, (idx t).2.2.2.1]
theorem blk4 (t : Fin cfg0.N) : iblk m c 4 t = (m ((c : Thread nD τ).loc main_arg3)) := by
  funext k
  blk_ext [iblk, V, (idx t).2.2.2.2.1]
theorem blk5 (t : Fin cfg0.N) : iblk m c 5 t = (m ((c : Thread nD τ).loc main_arg4)) := by
  funext k
  blk_ext [iblk, V, (idx t).2.2.2.2.2.1]

/-- The keys. -/
theorem final_keys : (dats m 0 c).arrAt 6 cfg0.N = keys (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  rw [blk0, blk1, blk2, blk3, blk4, blk5]
  idx_vars y
  obtain rfl : y0 = 0 := Subsingleton.elim _ _
  refine (block_keys _ _ _ _ _ _ _ _ _ _ _ _ _ _ _ _ _ _ _ _ _ _ _ _ y1 y2 y3).trans ?_
  refine Eq.trans ?_ (congrArg (keys _ _ _ _) (?_ : ix4 (pt t) y1 y2 y3 = _))
  · rfl
  · blk_ext [(idx t).2.2.2.2.2.2.1]

/-- The values. -/
theorem final_values : (dats m 0 c).arrAt 7 cfg0.N = values (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  unfold outsAt0
  rw [blk0, blk1, blk2, blk3, blk4, blk5]
  idx_vars y
  obtain rfl : y0 = 0 := Subsingleton.elim _ _
  refine (block_values _ _ _ _ _ _ _ _ _ _ _ _ _ _ _ _ _ _ _ _ _ _ _ _ y1 y2 y3).trans ?_
  refine Eq.trans ?_ (congrArg (values _ _ _ _) (?_ : ix4 (pt t) y1 y2 y3 = _))
  · rfl
  · blk_ext [(idx t).2.2.2.2.2.2.2]

end Cert.Kernel7Ideal.Compress

end
-- ==== Proof.CompressRef.lean ====
module

public import proofs.«01_k».proof.Proof.CompressCall
public import proofs.«01_k».proof.Proof.Gen.Reference7Ideal.Read

/-! # The compression call against the problem's mathematics

The stages of the compression of keys and values, index by index, are what the call's points compute. -/

@[expose] public section

set_option maxRecDepth 16384

noncomputable section

namespace Cert.Reference7Ideal.Compress

open Cert.Reference7Ideal Cert.Reference7Ideal.Gen Cert.Reference7Ideal.Read Idealize.ShloMosaic Idealize.ShloMosaic.TcCoe Idealize.SL.Sem
open Cert.Kernel7Ideal.Compress

/-! ## One hidden layer -/

/-- Every chunk of sixteen tokens, replaced by the next one. -/
def shifted (C : FVec Ideal S2x512x16x128 .f32) : FVec Ideal S2x512x16x128 .f32 :=
  concatenate S2x512x16x128 1 [⟨S2x511x16x128, extractStridedSlice S2x511x16x128 ![0, 1, 0, 0] C slices_S2x512x16x128_S2x511x16x128_0_1_0_0⟩,
    ⟨S2x1x16x128, extractStridedSlice S2x1x16x128 ![0, 0, 0, 0] C slices_S2x512x16x128_S2x1x16x128_0_0_0_0⟩]
    concatenates_S2x511x16x128_S2x1x16x128_S2x512x16x128_d1

/-- The windows of thirty-two tokens: a chunk and the next one. -/
def windows (C : FVec Ideal S2x512x16x128 .f32) : FVec Ideal S2x512x32x128 .f32 :=
  concatenate S2x512x32x128 2 [⟨S2x512x16x128, C⟩, ⟨S2x512x16x128, shifted C⟩] concatenates_S2x512x16x128_S2x512x16x128_S2x512x32x128_d2

theorem shifted_next (C : FVec Ideal S2x512x16x128 .f32) (b : Fin 2) (i : Fin 511) (s : Fin 16) (k : Fin 128) :
    shifted C (ix4 b ⟨i.val, by omega⟩ s k) = C (ix4 b ⟨1 + i.val, by omega⟩ s k) := by
  unfold shifted
  pointwise

theorem shifted_last (C : FVec Ideal S2x512x16x128 .f32) (b : Fin 2) (o : Fin 1) (s : Fin 16) (k : Fin 128) :
    shifted C (ix4 b ⟨511 + o.val, by omega⟩ s k) = C (ix4 b ⟨o.val, by omega⟩ s k) := by
  unfold shifted
  pointwise

theorem shifted_apply (C : FVec Ideal S2x512x16x128 .f32) (b : Fin 2) (i : Fin 512) (s : Fin 16) (k : Fin 128) :
    shifted C (ix4 b i s k) = C (ix4 b (after i) s k) := by
  by_cases h : i.val < 511
  · refine (shifted_next C b ⟨i.val, h⟩ s k).trans (congrArg (fun j => C (ix4 b j s k)) (Fin.ext ?_))
    show 1 + i.val = (i.val + 1) % 512
    omega
  · have e : i = ⟨511 + (0 : Fin 1).val, by show 511 + 0 < 512; omega⟩ := Fin.ext (show i.val = 511 + 0 by omega)
    have e' : after i = ⟨(0 : Fin 1).val, by show 0 < 512; omega⟩ := Fin.ext (show (i.val + 1) % 512 = 0 by omega)
    rw [e', e]
    exact shifted_last C b 0 s k

theorem windows_low (C : FVec Ideal S2x512x16x128 .f32) (b : Fin 2) (i : Fin 512) (s : Fin 16) (k : Fin 128) :
    windows C (ix4 b i ⟨s.val, by omega⟩ k) = C (ix4 b i s k) := by
  unfold windows
  generalize shifted C = D
  pointwise

theorem windows_high (C : FVec Ideal S2x512x16x128 .f32) (b : Fin 2) (i : Fin 512) (s : Fin 16) (k : Fin 128) :
    windows C (ix4 b i ⟨16 + s.val, by omega⟩ k) = C (ix4 b (after i) s k) := by
  refine Eq.trans ?_ (shifted_apply C b i s k)
  unfold windows
  generalize shifted C = D
  pointwise

theorem chunks_apply (X : FVec Ideal S2x8192x128 .f32) (b : Fin 2) (i : Fin 512) (s : Fin 16) (k : Fin 128) :
    shapeCast S2x512x16x128 X shapeCasts_S2x8192x128_S2x512x16x128 (ix4 b i s k) = X (ix3 b ⟨16 * i.val + s.val, by omega⟩ k) := by
  refine shapeCast_apply X shapeCasts_S2x8192x128_S2x512x16x128 _ (ix3 b ⟨16 * i.val + s.val, by omega⟩ k) ?_
  rewrite [Shape.rowMajor_val_three, Shape.rowMajor_val_four]
  show (b.val * 8192 + (16 * i.val + s.val)) * 128 + k.val = ((b.val * 512 + i.val) * 16 + s.val) * 128 + k.val
  omega

/-- Every window's thirty-two tokens, times their positions' weights. -/
def dense (Z : FVec Ideal S2x512x32x128 .f32) (W : FVec Ideal S32x128x256 .f32) : FVec Ideal S2x512x256 .f32 :=
  Host.dotGeneral dot_S2x512x4096_S4096x256_S2x512x256_2_0_01_1_n_n none (shapeCast _ Z shapeCasts_S2x512x32x128_S2x512x4096)
    (shapeCast _ W shapeCasts_S32x128x256_S4096x256)

/-- A channel of a window's tokens, one after another. -/
abbrev chan (t : Fin 32) (k : Fin 128) : Fin 4096 := ⟨k.val + 128 * t.val, by omega⟩

theorem flat_apply (Z : FVec Ideal S2x512x32x128 .f32) (b : Fin 2) (i : Fin 512) (t : Fin 32) (k : Fin 128) :
    shapeCast S2x512x4096 Z shapeCasts_S2x512x32x128_S2x512x4096 (ix3 b i (chan t k)) = Z (ix4 b i t k) := by
  refine shapeCast_apply Z shapeCasts_S2x512x32x128_S2x512x4096 _ (ix4 b i t k) ?_
  rewrite [Shape.rowMajor_val_four, Shape.rowMajor_val_three]
  show ((b.val * 512 + i.val) * 32 + t.val) * 128 + k.val = (b.val * 512 + i.val) * 4096 + (k.val + 128 * t.val)
  omega

theorem flatW_apply (W : FVec Ideal S32x128x256 .f32) (t : Fin 32) (k : Fin 128) (f : Fin 256) :
    shapeCast S4096x256 W shapeCasts_S32x128x256_S4096x256 (ix2 (chan t k) f) = W (ix3 t k f) := by
  refine shapeCast_apply W shapeCasts_S32x128x256_S4096x256 _ (ix3 t k f) ?_
  rewrite [Shape.rowMajor_val_three, Shape.rowMajor_val_two]
  show (t.val * 128 + k.val) * 256 + f.val = (k.val + 128 * t.val) * 256 + f.val
  omega

theorem sum_chan (g : Fin 4096 → EReal) : ∑ a, g a = ∑ t : Fin 32, ∑ k : Fin 128, g (chan t k) := by
  rw [← (finProdFinEquiv (m := 32) (n := 128)).sum_comp g, Fintype.sum_prod_type]
  rfl

theorem dense_apply (Z : FVec Ideal S2x512x32x128 .f32) (W : FVec Ideal S32x128x256 .f32) (b : Fin 2) (i : Fin 512) (f : Fin 256) :
    dense Z W (ix3 b i f) = ∑ t : Fin 32, ∑ k : Fin 128, Z (ix4 b i t k) * W (ix3 t k f) := by
  have h : dense Z W (ix3 b i f) = ∑ a : Fin 4096, shapeCast S2x512x4096 Z shapeCasts_S2x512x32x128_S2x512x4096 (ix3 b i a) *
      shapeCast S4096x256 W shapeCasts_S32x128x256_S4096x256 (ix2 a f) := by
    unfold dense
    generalize shapeCast S2x512x4096 Z shapeCasts_S2x512x32x128_S2x512x4096 = Y
    generalize shapeCast S4096x256 W shapeCasts_S32x128x256_S4096x256 = V
    pointwise
  rw [h, sum_chan]
  exact Finset.sum_congr rfl fun t _ => Finset.sum_congr rfl fun k _ => congrArg₂ (· * ·) (flat_apply _ _ _ _ _) (flatW_apply _ _ _ _)

/-- The positions' vectors, for every window. -/
def places (P : FVec Ideal S32x128 .f32) : FVec Ideal S2x512x32x128 .f32 :=
  broadcastInDim S2x512x32x128 ![0, 1, 2, 3] bcast_S1x1x32x128_S2x512x32x128_0_1_2_3 (broadcastInDim S1x1x32x128 ![2, 3] bcast_S32x128_S1x1x32x128_2_3 P)

theorem places_apply (P : FVec Ideal S32x128 .f32) (b : Fin 2) (i : Fin 512) (t : Fin 32) (k : Fin 128) : places P (ix4 b i t k) = P (ix2 t k) := by
  unfold places
  pointwise

theorem sum_halves (g : Fin 32 → EReal) : ∑ t, g t = (∑ t : Fin 16, g ⟨t.val, by omega⟩) + ∑ t : Fin 16, g ⟨16 + t.val, by omega⟩ :=
  Fin.sum_univ_add (a := 16) (b := 16) g

/-- The Gaussian error linear unit as the problem writes it. -/
def unitAt (T : FVec Ideal S2x512x256 .f32) : FVec Ideal S2x512x256 .f32 :=
  mulf T (mulf (val_main_v27 (F := Ideal)) (addf (val_main_v25 (F := Ideal)) (Host.tanh (mulf (val_main_v22 (F := Ideal))
    (addf T (mulf (val_main_v19 (F := Ideal)) (mulf (mulf T T) T)))))))

theorem unitAt_apply (T : FVec Ideal S2x512x256 .f32) (b : Fin 2) (i : Fin 512) (f : Fin 256) : unitAt T (ix3 b i f) = Row.gelu (T (ix3 b i f)) := by
  have h : unitAt T (ix3 b i f) = (fun z : EReal => z * (Ideal.ofBits .f32 0x3F000000#32 * (1 + Ideal.tanh (Ideal.ofBits .f32 0x3F4C422A#32 *
      (z + Ideal.ofBits .f32 0x3D372713#32 * (z * z * z)))))) (T (ix3 b i f)) := by
    unfold unitAt val_main_v27 val_main_v25 val_main_v22 val_main_v19 val_main_cst val_main_cst_0 val_main_cst_1 val_main_cst_2
    pointwise
  rw [h]
  generalize T (ix3 b i f) = z
  unfold Row.gelu
  rw [← mul_assoc z z z]

/-- The hidden layer as the problem writes it. -/
def hiddenAt (X : FVec Ideal S2x8192x128 .f32) (P : FVec Ideal S32x128 .f32) (W : FVec Ideal S32x128x256 .f32) : FVec Ideal S2x512x256 .f32 :=
  unitAt (dense (addf (windows (shapeCast _ X shapeCasts_S2x8192x128_S2x512x16x128)) (places P)) W)

theorem hiddenAt_apply (X : FVec Ideal S2x8192x128 .f32) (P : FVec Ideal S32x128 .f32) (W : FVec Ideal S32x128x256 .f32) (b : Fin 2) (i : Fin 512)
    (f : Fin 256) : hiddenAt X P W (ix3 b i f) = hidden (fun t c => X (ix3 b t c)) (fun t c => P (ix2 t c)) (fun t c f => W (ix3 t c f)) i f := by
  unfold hiddenAt
  rw [unitAt_apply, dense_apply, sum_halves]
  have add : ∀ (A B : FVec Ideal S2x512x32x128 .f32) (y : S2x512x32x128.Idx), addf A B y = (A y : EReal) + B y := fun _ _ _ => rfl
  refine congrArg Row.gelu (congrArg₂ (· + ·) (Finset.sum_congr rfl fun t _ => ?_) (Finset.sum_congr rfl fun t _ => ?_))
  · refine Finset.sum_congr rfl fun k _ => ?_
    rw [add, windows_low, chunks_apply, places_apply]
  · refine Finset.sum_congr rfl fun k _ => ?_
    rw [add, windows_high, chunks_apply, places_apply]

/-! ## The two results -/

variable (x0 : Vec Ideal S2x8192x256 .f32) (x1 : Vec Ideal S2x32x128 .f32) (x2 : Vec Ideal S2x32x128x256 .bf16)
  (x3 : Vec Ideal S256x128 .bf16) (x4 : Vec Ideal S128x256 .bf16)

theorem operands_keys (b : Fin 2) (t : Fin 8192) (p : Fin 32) (k : Fin 128) (f : Fin 256) :
    val_main_v0 (F := Ideal) x0 (ix3 b t k) = x0 (ix3 b t (laneOf 0 k)) ∧ val_main_v2 (F := Ideal) x1 (ix2 p k) = x1 (ix3 0 p k) ∧
    val_main_v14 (F := Ideal) x2 (ix3 p k f) = x2 (ix4 0 p k f) := by
  refine ⟨?_, ?_, ?_⟩
  · have h : val_main_v0 (F := Ideal) x0 (ix3 b t k) = x0 (ix3 b t ⟨k.val, by omega⟩) := by
      unfold val_main_v0
      pointwise
    refine h.trans (congrArg (fun j => x0 (ix3 b t j)) (Fin.ext ?_))
    show k.val = 128 * 0 + k.val
    omega
  · unfold val_main_v2 val_main_v1
    pointwise
  · unfold val_main_v14 val_main_v4 val_main_v3
    pointwise

theorem operands_values (b : Fin 2) (t : Fin 8192) (p : Fin 32) (k : Fin 128) (f : Fin 256) :
    val_main_v32 (F := Ideal) x0 (ix3 b t k) = x0 (ix3 b t (laneOf 1 k)) ∧ val_main_v34 (F := Ideal) x1 (ix2 p k) = x1 (ix3 1 p k) ∧
    val_main_v46 (F := Ideal) x2 (ix3 p k f) = x2 (ix4 1 p k f) := by
  refine ⟨?_, ?_, ?_⟩
  · have h : val_main_v32 (F := Ideal) x0 (ix3 b t k) = x0 (ix3 b t ⟨128 + k.val, by omega⟩) := by
      unfold val_main_v32
      pointwise
    exact h
  · unfold val_main_v34 val_main_v33
    pointwise
  · unfold val_main_v46 val_main_v36 val_main_v35
    pointwise

theorem hidden_keys (b : Fin 2) (i : Fin 512) (f : Fin 256) : val_main_v29 (F := Ideal) x0 x1 x2 (ix3 b i f) = layer x0 x1 x2 b 0 i f := by
  have e : val_main_v29 (F := Ideal) x0 x1 x2 = hiddenAt (val_main_v0 (F := Ideal) x0) (val_main_v2 (F := Ideal) x1) (val_main_v14 (F := Ideal) x2) := rfl
  rw [e, hiddenAt_apply]
  unfold layer
  congr 1
  · exact funext fun t => funext fun k => (operands_keys x0 x1 x2 b t 0 k 0).1
  · exact funext fun p => funext fun k => (operands_keys x0 x1 x2 b 0 p k 0).2.1
  · exact funext fun p => funext fun k => funext fun f => (operands_keys x0 x1 x2 b 0 p k f).2.2

theorem hidden_values (b : Fin 2) (i : Fin 512) (f : Fin 256) : val_main_v61 (F := Ideal) x0 x1 x2 (ix3 b i f) = layer x0 x1 x2 b 1 i f := by
  have e : val_main_v61 (F := Ideal) x0 x1 x2 = hiddenAt (val_main_v32 (F := Ideal) x0) (val_main_v34 (F := Ideal) x1) (val_main_v46 (F := Ideal) x2) := rfl
  rw [e, hiddenAt_apply]
  unfold layer
  congr 1
  · exact funext fun t => funext fun k => (operands_values x0 x1 x2 b t 0 k 0).1
  · exact funext fun p => funext fun k => (operands_values x0 x1 x2 b 0 p k 0).2.1
  · exact funext fun p => funext fun k => funext fun f => (operands_values x0 x1 x2 b 0 p k f).2.2

theorem channels_keys (b : Fin 2) (i : Fin 512) (l : Fin 128) : val_main_v31 (F := Ideal) x0 x1 x2 x3 (ix3 b i l) =
    ∑ f : Fin 256, layer x0 x1 x2 b 0 i f * x3 (ix2 f l) := by
  have h : val_main_v31 (F := Ideal) x0 x1 x2 x3 (ix3 b i l) = ∑ f : Fin 256, val_main_v29 (F := Ideal) x0 x1 x2 (ix3 b i f) * x3 (ix2 f l) := by
    unfold val_main_v31 val_main_v30
    generalize val_main_v29 (F := Ideal) x0 x1 x2 = T
    pointwise
  rw [h]
  exact Finset.sum_congr rfl fun f _ => congrArg (· * x3 (ix2 f l)) (hidden_keys x0 x1 x2 b i f)

theorem channels_values (b : Fin 2) (i : Fin 512) (d : Fin 128) : val_main_v64 (F := Ideal) x0 x1 x2 x4 (ix3 b i d) =
    ∑ f : Fin 256, x4 (ix2 d f) * layer x0 x1 x2 b 1 i f := by
  have h : val_main_v64 (F := Ideal) x0 x1 x2 x4 (ix3 b i d) = ∑ f : Fin 256, val_main_v61 (F := Ideal) x0 x1 x2 (ix3 b i f) * x4 (ix2 d f) := by
    unfold val_main_v64 val_main_v63 val_main_v62
    generalize val_main_v61 (F := Ideal) x0 x1 x2 = T
    pointwise
  rw [h]
  exact Finset.sum_congr rfl fun f _ => (congrArg (· * x4 (ix2 d f)) (hidden_values x0 x1 x2 b i f)).trans (mul_comm _ _)

/-- A group's channel among both groups'. -/
abbrev groupChan (g : Fin 2) (d : Fin 64) : Fin 128 := ⟨64 * g.val + d.val, by omega⟩

theorem grouped_keys (T : FVec Ideal S2x512x128 .f32) (b g : Fin 2) (i : Fin 512) (d : Fin 64) :
    shapeCast S2x512x2x64 T shapeCasts_S2x512x128_S2x512x2x64 (ix4 b i g d) = T (ix3 b i (groupChan g d)) := by
  refine shapeCast_apply T shapeCasts_S2x512x128_S2x512x2x64 _ (ix3 b i (groupChan g d)) ?_
  rewrite [Shape.rowMajor_val_three, Shape.rowMajor_val_four]
  show (b.val * 512 + i.val) * 128 + (64 * g.val + d.val) = ((b.val * 512 + i.val) * 2 + g.val) * 64 + d.val
  omega

theorem extra_apply (b g : Fin 2) (i : Fin 512) (l : Fin 64) : val_main_v74 (F := Ideal) (ix4 b g i l) = extra i.val l.val := by
  unfold val_main_v74 val_main_v73 val_main_call0_v1 val_main_call0_v0 val_main_c_9 val_main_v72 val_main_v71 val_main_c_8 val_main_v70 val_main_v69
    val_main_c_7 val_main_v68 val_main_v67 val_main_c val_main_v66 val_main_v65
  pointwise
  rfl

theorem ones_ref (b g : Fin 2) (r : Fin 16) (i : Fin 512) : val_main_v98 (F := Ideal) (ix4 b g r i) = ones r.val := by
  unfold val_main_v98 val_main_v81 val_main_v80 val_main_v79 val_main_c_10 val_main_v78 val_main_call1_v0 val_main_call1_v1 val_main_cst_11 val_main_cst_12
  rw [id_eq]
  pointwise
  rfl

theorem overlap_ref (b g : Fin 2) (r : Fin 128) (i : Fin 512) : val_main_v99 (F := Ideal) (ix4 b g r i) = overlap r.val i.val := by
  unfold val_main_v99 val_main_v95 val_main_v94 val_main_v93 val_main_v92 val_main_v91 val_main_c_16 val_main_v90 val_main_v89 val_main_v88 val_main_c_15
    val_main_v87 val_main_v86 val_main_c_14 val_main_v85 val_main_v84 val_main_v83 val_main_c_13 val_main_v82 val_main_call2_v0 val_main_call2_v1
    val_main_cst_17 val_main_cst_18
  rw [id_eq]
  pointwise
  rfl

theorem lanes (b g : Fin 2) (i : Fin 512) (l : Fin 64) :
    val_main_v101 (F := Ideal) x0 x1 x2 x3 (ix4 b g i ⟨l.val, by omega⟩) = val_main_v31 (F := Ideal) x0 x1 x2 x3 (ix3 b i (groupChan g l))
    ∧ val_main_v101 (F := Ideal) x0 x1 x2 x3 (ix4 b g i ⟨64 + l.val, by omega⟩) = extra i.val l.val := by
  rw [← extra_apply b g, ← grouped_keys (val_main_v31 (F := Ideal) x0 x1 x2 x3) b g i l]
  unfold val_main_v101 val_main_v77 val_main_v76 val_main_v75
  generalize shapeCast _ (val_main_v31 (F := Ideal) x0 x1 x2 x3) shapeCasts_S2x512x128_S2x512x2x64 = T
  generalize val_main_v74 (F := Ideal) = U
  constructor <;> pointwise

theorem keys_eq : keys x0 x1 x2 x3 = val_main_v101 (F := Ideal) x0 x1 x2 x3 := by
  funext y
  idx_vars y
  show keyAt _ _ y1 y2 y3 = _
  unfold keyAt keyLane
  by_cases h : y3.val < 64
  · rw [dif_pos h]
    exact ((lanes x0 x1 x2 x3 y0 y1 y2 ⟨y3.val, h⟩).1.trans (channels_keys _ _ _ _ _ _ _)).symm
  · rw [dif_neg h]
    have e : y3 = ⟨64 + (⟨y3.val - 64, by omega⟩ : Fin 64).val, by show 64 + (y3.val - 64) < 128; omega⟩ := Fin.ext (show y3.val = 64 + (y3.val - 64) by omega)
    refine Eq.trans ?_ (congrArg (fun l => val_main_v101 (F := Ideal) x0 x1 x2 x3 (ix4 y0 y1 y2 l)) e.symm)
    exact (lanes x0 x1 x2 x3 y0 y1 y2 ⟨y3.val - 64, by omega⟩).2.symm

section rows

variable (b g : Fin 2) (i : Fin 512)

theorem row_low (r : Fin 64) : val_main_v102 (F := Ideal) x0 x1 x2 x4 (ix4 b g ⟨r.val, by omega⟩ i) =
    val_main_v64 (F := Ideal) x0 x1 x2 x4 (ix3 b i (groupChan g r)) := by
  rw [← grouped_keys (val_main_v64 (F := Ideal) x0 x1 x2 x4) b g i r]
  unfold val_main_v102 val_main_v100 val_main_v97 val_main_v96
  generalize shapeCast _ (val_main_v64 (F := Ideal) x0 x1 x2 x4) shapeCasts_S2x512x128_S2x512x2x64 = T
  generalize val_main_v98 (F := Ideal) = U
  generalize val_main_v99 (F := Ideal) = V
  pointwise

theorem row_mid (r : Fin 16) : val_main_v102 (F := Ideal) x0 x1 x2 x4 (ix4 b g ⟨64 + r.val, by omega⟩ i) = ones r.val := by
  rw [← ones_ref b g r i]
  unfold val_main_v102 val_main_v100
  generalize val_main_v97 (F := Ideal) x0 x1 x2 x4 = T
  generalize val_main_v98 (F := Ideal) = U
  generalize val_main_v99 (F := Ideal) = V
  pointwise

theorem row_high (r : Fin 128) : val_main_v102 (F := Ideal) x0 x1 x2 x4 (ix4 b g ⟨80 + r.val, by omega⟩ i) = overlap r.val i.val := by
  rw [← overlap_ref b g r i]
  unfold val_main_v102 val_main_v100
  generalize val_main_v97 (F := Ideal) x0 x1 x2 x4 = T
  generalize val_main_v98 (F := Ideal) = U
  generalize val_main_v99 (F := Ideal) = V
  pointwise
  rw [dif_neg (by omega), dif_neg (by omega)]
  exact congrArg (fun r => V (ix4 b g r i)) (Fin.ext (show 80 + r.val - 64 - 16 = r.val by omega))

end rows

theorem values_eq : values x0 x1 x2 x4 = val_main_v102 (F := Ideal) x0 x1 x2 x4 := by
  funext y
  idx_vars y
  show valueAt _ _ y1 y2 y3 = _
  unfold valueAt valueRow
  by_cases h : y2.val < 64
  · rw [dif_pos h]
    exact ((row_low x0 x1 x2 x4 y0 y1 y3 ⟨y2.val, h⟩).trans (channels_values _ _ _ _ _ _ _)).symm
  · rw [dif_neg h]
    by_cases h' : y2.val < 80
    · rw [if_pos h']
      have e : y2 = ⟨64 + (⟨y2.val - 64, by omega⟩ : Fin 16).val, by show 64 + (y2.val - 64) < 208; omega⟩ := Fin.ext (show y2.val = 64 + (y2.val - 64) by omega)
      refine Eq.trans ?_ (congrArg (fun r => val_main_v102 (F := Ideal) x0 x1 x2 x4 (ix4 y0 y1 r y3)) e.symm)
      exact (row_mid x0 x1 x2 x4 y0 y1 y3 ⟨y2.val - 64, by omega⟩).symm
    · rw [if_neg h']
      have e : y2 = ⟨80 + (⟨y2.val - 80, by omega⟩ : Fin 128).val, by show 80 + (y2.val - 80) < 208; omega⟩ := Fin.ext (show y2.val = 80 + (y2.val - 80) by omega)
      refine Eq.trans ?_ (congrArg (fun r => val_main_v102 (F := Ideal) x0 x1 x2 x4 (ix4 y0 y1 r y3)) e.symm)
      exact (row_high x0 x1 x2 x4 y0 y1 y3 ⟨y2.val - 80, by omega⟩).symm

end Cert.Reference7Ideal.Compress

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_augmented
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Match
public import proofs.«01_k».proof.Proof.SelMatch
public import proofs.«01_k».proof.Proof.FlagMatch
public import proofs.«01_k».proof.Proof.Ffn
public import proofs.«01_k».proof.Proof.Merge
public import proofs.«01_k».proof.Proof.Memkv
public import proofs.«01_k».proof.Proof.XattnRef
public import proofs.«01_k».proof.Proof.InprojRef
public import proofs.«01_k».proof.Proof.CompressRef
public import Idealize.ShloMosaic.Adequacy
public import Idealize.ShloMosaic.Init

@[expose] public section

noncomputable section

namespace Cert.KernelIdeal.Cmp

open Cert.KernelIdeal Cert.KernelIdeal.Gen Idealize.ShloMosaic Idealize.ShloMosaic.TcCoe Idealize.SL.Sem

/-- The kernel runs, its first result is the compressed attention of its arguments and its second the blocks they select. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) =
        ocmp (m ((c : Thread nD τ).loc main_arg0)) (m ((c : Thread nD τ).loc main_arg1)) (m ((c : Thread nD τ).loc main_arg2))
          (m ((c : Thread nD τ).loc main_arg3))
      ∧ r.2.mem ((c : Thread nD τ).loc main_v0_1) =
        osel (m ((c : Thread nD τ).loc main_arg0)) (m ((c : Thread nD τ).loc main_arg1)) (m ((c : Thread nD τ).loc main_arg2))
      ∧ r.2.mem ((c : Thread nD τ).loc main_v0_2) =
        oflag (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2.1.trans (selFinal m c), (h c).2.2.1.trans (flagFinal m c), (h c).2.2.2⟩) (Cert.KernelIdeal.Value.run_blocks m ρ)

end Cert.KernelIdeal.Cmp

namespace Cert.Proof

open Idealize.ShloMosaic Idealize.SL.Sem Cert.Kernel

/-- Each named word of the kernel reads as the exact number it stands for. -/
theorem preserves : preserves_Kernel_KernelIdeal :=
  ⟨IdealRules.named_const.statement Cert.KernelIdeal.κ "slope0" .f32 0x3F38AA3B#32 (((1 / 2) * (Real.log 2)⁻¹ : ℝ) : EReal) rfl,
   IdealRules.named_const.statement Cert.KernelIdeal.κ "slope1" .f32 0x3EB8AA3B#32 (((1 / 4) * (Real.log 2)⁻¹ : ℝ) : EReal) rfl,
   IdealRules.named_const.statement Cert.KernelIdeal.κ "slope2" .f32 0x3E38AA3B#32 (((1 / 8) * (Real.log 2)⁻¹ : ℝ) : EReal) rfl,
   IdealRules.named_const.statement Cert.KernelIdeal.κ "slope3" .f32 0x3DB8AA3B#32 (((1 / 16) * (Real.log 2)⁻¹ : ℝ) : EReal) rfl,
   IdealRules.named_const.statement Cert.KernelIdeal.κ "slope4" .f32 0x3D38AA3B#32 (((1 / 32) * (Real.log 2)⁻¹ : ℝ) : EReal) rfl,
   IdealRules.named_const.statement Cert.KernelIdeal.κ "slope5" .f32 0x3CB8AA3B#32 (((1 / 64) * (Real.log 2)⁻¹ : ℝ) : EReal) rfl,
   IdealRules.named_const.statement Cert.KernelIdeal.κ "slope6" .f32 0x3C38AA3B#32 (((1 / 128) * (Real.log 2)⁻¹ : ℝ) : EReal) rfl,
   IdealRules.named_const.statement Cert.KernelIdeal.κ "slope7" .f32 0x3BB8AA3B#32 (((1 / 256) * (Real.log 2)⁻¹ : ℝ) : EReal) rfl,
   IdealRules.named_const.statement Cert.KernelIdeal.κ "big" .f32 0x7149F2CA#32 ⊤ rfl,
   IdealRules.named_const.statement Cert.KernelIdeal.κ "neg" .f32 0xF149F2CA#32 ⊥ rfl⟩

/-- The reference runs, leaves its arguments alone and has no counter to leave off zero. -/
theorem frame_reference : quiescent_ReferenceIdeal := fun m ρ _ =>
  (θ_run Cert.ReferenceIdeal.defs _ _).mono (fun r h => And.intro (fun c => (h c).2.2.2) (sem_eq_zero_of_no_sems (by decide) r.2))
    (Cert.ReferenceIdeal.Value.run (F := Ideal) m ρ)

/-- The kernel's compressed attention, its selected blocks and their flags are the reference's, on keys and values carrying their extra lanes. -/
theorem algebraic : algebraic_KernelIdeal_ReferenceIdeal_pre_augmented := fun m ρ m' ρ' hpre hag =>
  ⟨fun c => Cert.KernelIdeal.Cmp.ocmp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.KernelIdeal.Cmp.osel (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Cmp.oflag (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Cmp.run_kernel m ρ,
    (θ_run Cert.ReferenceIdeal.defs _ _).mono (fun r h c => ⟨(h c).1.trans (by
      rw [Cert.ReferenceIdeal.Read.val_main_v56_eq, (hag c).1, (hag c).2.1, (hag c).2.2.1, (hag c).2.2.2]
      exact (Cert.KernelIdeal.Cmp.ocmp_eq _ _ _ _ (Cert.KernelIdeal.Cmp.augmented_keys _ _ _ _ (hpre c).1)
        (Cert.KernelIdeal.Cmp.augmented_vals _ _ _ _ (hpre c).2.1)).symm), (h c).2.1.trans (by
      rw [Cert.ReferenceIdeal.Read.val_main_v114_eq, (hag c).1, (hag c).2.1]
      exact (Cert.KernelIdeal.Cmp.osel_eq _ _ _ (Cert.KernelIdeal.Cmp.augmented_keys _ _ _ _ (hpre c).1)
        (Cert.KernelIdeal.Cmp.augmented_vals _ _ _ _ (hpre c).2.1) (Cert.KernelIdeal.Cmp.augmented_rows _ _ _ _ (hpre c).2.2)).symm), (h c).2.2.1.trans (by
      rw [Cert.ReferenceIdeal.Read.val_main_v123_eq, (hag c).1, (hag c).2.1]
      exact (Cert.KernelIdeal.Cmp.oflag_eq _ _ _ (Cert.KernelIdeal.Cmp.augmented_keys _ _ _ _ (hpre c).1)
        (Cert.KernelIdeal.Cmp.augmented_vals _ _ _ _ (hpre c).2.1) (Cert.KernelIdeal.Cmp.augmented_rows _ _ _ _ (hpre c).2.2)).symm), (h c).2.2.2⟩) (Cert.ReferenceIdeal.Value.run m' ρ')⟩

/-! ## The feed-forward part -/

/-- The reference runs, leaves its arguments alone and has no counter to leave off zero. -/
theorem frame_reference2 : quiescent_Reference2Ideal := fun m ρ _ =>
  (θ_run Cert.Reference2Ideal.defs _ _).mono (fun r h => And.intro (fun c => (h c).2) (sem_eq_zero_of_no_sems (by decide) r.2))
    (Cert.Reference2Ideal.Value.run (F := Ideal) m ρ)

/-- The kernel's feed-forward part and last normalisation are the reference's. -/
theorem algebraic2 : algebraic_Kernel2Ideal_Reference2Ideal := fun m ρ m' ρ' _ hag =>
  ⟨fun c => Cert.Kernel2Ideal.Ffn.out (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)),
    (θ_run Cert.Kernel2Ideal.defs _ _).mono (fun r h c => ⟨(h c).1.trans (Cert.Kernel2Ideal.Ffn.final m c), (h c).2⟩)
      (Cert.Kernel2Ideal.Value.run_blocks m ρ),
    (θ_run Cert.Reference2Ideal.defs _ _).mono (fun r h c => ⟨(h c).1.trans (by
      rw [Cert.Reference2Ideal.Read.val_main_v32_eq, (hag c).1, (hag c).2.1, (hag c).2.2.1, (hag c).2.2.2.1, (hag c).2.2.2.2]
      exact (Cert.Kernel2Ideal.Ffn.out_eq _ _ _ _ _).symm), (h c).2⟩) (Cert.Reference2Ideal.Value.run m' ρ')⟩

/-! ## The merge of the two mixers -/

/-- The reference runs, leaves its arguments alone and has no counter to leave off zero. -/
theorem frame_reference3 : quiescent_Reference3Ideal := fun m ρ _ =>
  (θ_run Cert.Reference3Ideal.defs _ _).mono (fun r h => And.intro (fun c => (h c).2.2.2) (sem_eq_zero_of_no_sems (by decide) r.2))
    (Cert.Reference3Ideal.Value.run (F := Ideal) m ρ)

/-- The kernel's merged residual stream is the reference's, and the feed-forward weights are passed on. -/
theorem algebraic3 : algebraic_Kernel3Ideal_Reference3Ideal := fun m ρ m' ρ' _ hag =>
  ⟨fun c => Cert.Kernel3Ideal.Merge.out (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      (m ((c.tc : Thread Cert.Kernel3Ideal.nD Cert.Kernel3Ideal.τ).loc Cert.Kernel3Ideal.main_arg9))
      (m ((c.tc : Thread Cert.Kernel3Ideal.nD Cert.Kernel3Ideal.τ).loc Cert.Kernel3Ideal.main_arg10))
      (m ((c.tc : Thread Cert.Kernel3Ideal.nD Cert.Kernel3Ideal.τ).loc Cert.Kernel3Ideal.main_arg11)),
    fun c => Cert.Reference3Ideal.Read.val_main_v49 (F := Ideal) (m ((c.tc : Thread Cert.Kernel3Ideal.nD Cert.Kernel3Ideal.τ).loc Cert.Kernel3Ideal.main_arg12)),
    fun c => Cert.Reference3Ideal.Read.val_main_v50 (F := Ideal) (m ((c.tc : Thread Cert.Kernel3Ideal.nD Cert.Kernel3Ideal.τ).loc Cert.Kernel3Ideal.main_arg13)),
    (θ_run Cert.Kernel3Ideal.defs _ _).mono (fun r h c => ⟨(h c).1.trans (Cert.Kernel3Ideal.Merge.final m c),
      (h c).2.1.trans (Cert.Kernel3Ideal.Merge.passed_gate_up m c), (h c).2.2.1.trans (Cert.Kernel3Ideal.Merge.passed_down m c), (h c).2.2.2⟩)
      (Cert.Kernel3Ideal.Value.run_blocks m ρ),
    (θ_run Cert.Reference3Ideal.defs _ _).mono (fun r h c => ⟨(h c).1.trans (by
      rw [Cert.Reference3Ideal.Read.val_main_v48_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
      exact (Cert.Kernel3Ideal.Merge.out_eq _ _ _ _ _ _ _ _ _ _ _ _ ).symm),
      (h c).2.1.trans (by rw [(hag c).2.2.2.2.2.2.2.2.2.2.2.2.1]; rfl),
      (h c).2.2.1.trans (by rw [(hag c).2.2.2.2.2.2.2.2.2.2.2.2.2]; rfl), (h c).2.2.2⟩) (Cert.Reference3Ideal.Value.run m' ρ')⟩

/-! ## The cross-attention into the memory -/

/-- The reference runs, leaves its arguments alone and has no counter to leave off zero. -/
theorem frame_reference4 : quiescent_Reference4Ideal := fun m ρ _ =>
  (θ_run Cert.Reference4Ideal.defs _ _).mono (fun r h => And.intro (fun c => (h c).2) (sem_eq_zero_of_no_sems (by decide) r.2))
    (Cert.Reference4Ideal.Value.run (F := Ideal) m ρ)

/-- The kernel's named word reads as the exact scale of its logits. -/
theorem preserves4 : preserves_Kernel4_Kernel4Ideal :=
  IdealRules.named_const.statement Cert.Kernel4Ideal.κ "scale" .f32 0x3E0293EE#32 (((Real.sqrt 128)⁻¹ * (Real.log 2)⁻¹ : ℝ) : EReal) rfl

/-- The kernel's attention to the memory is the reference's, where the gains, the queries' weights and the keys are finite. -/
theorem algebraic4 : algebraic_Kernel4Ideal_Reference4Ideal_pre_finite := fun m ρ m' ρ' hpre hag =>
  ⟨fun c => Cert.Kernel4Ideal.Xattn.out (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)),
    (θ_run Cert.Kernel4Ideal.defs _ _).mono (fun r h c => ⟨(h c).1.trans (Cert.Kernel4Ideal.Xattn.final m c), (h c).2⟩)
      (Cert.Kernel4Ideal.Value.run_blocks m ρ),
    (θ_run Cert.Reference4Ideal.defs _ _).mono (fun r h c => ⟨(h c).1.trans (by
      rw [Cert.Reference4Ideal.Read.val_main_v41_eq, (hag c).1, (hag c).2.1, (hag c).2.2.1, (hag c).2.2.2.1, (hag c).2.2.2.2]
      exact Cert.Reference4Ideal.Xattn.out_eq _ _ _ _ _ (Cert.Reference4Ideal.Xattn.gain_num _ _ _ _ _ (hpre c).1)
        (Cert.Reference4Ideal.Xattn.weight_num _ _ _ _ _ (hpre c).2.1) (Cert.Reference4Ideal.Xattn.key_num _ _ _ _ _ (hpre c).2.2)),
      (h c).2⟩) (Cert.Reference4Ideal.Value.run m' ρ')⟩

/-! ## The memory's keys and values -/

/-- The reference runs, leaves its arguments alone and has no counter to leave off zero. -/
theorem frame_reference5 : quiescent_Reference5Ideal := fun m ρ _ =>
  (θ_run Cert.Reference5Ideal.defs _ _).mono (fun r h => And.intro (fun c => (h c).2) (sem_eq_zero_of_no_sems (by decide) r.2))
    (Cert.Reference5Ideal.Value.run (F := Ideal) m ρ)

/-- The kernel's keys and values are the reference's. -/
theorem algebraic5 : algebraic_Kernel5Ideal_Reference5Ideal := fun m ρ m' ρ' _ hag =>
  ⟨fun c => Cert.Kernel5Ideal.Memkv.out (n := 2) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)),
    (θ_run Cert.Kernel5Ideal.defs _ _).mono (fun r h c => ⟨(h c).1.trans (Cert.Kernel5Ideal.Memkv.final m c), (h c).2⟩)
      (Cert.Kernel5Ideal.Value.run_blocks m ρ),
    (θ_run Cert.Reference5Ideal.defs _ _).mono (fun r h c => ⟨(h c).1.trans (by
      rw [Cert.Reference5Ideal.Read.val_main_v15_eq, (hag c).1, (hag c).2.1, (hag c).2.2]
      exact (Cert.Kernel5Ideal.Memkv.out_eq _ _ _).symm), (h c).2⟩) (Cert.Reference5Ideal.Value.run m' ρ')⟩

/-! ## The layer's projections -/

/-- The reference runs, leaves its arguments alone and has no counter to leave off zero. -/
theorem frame_reference6 : quiescent_Reference6Ideal := fun m ρ _ =>
  (θ_run Cert.Reference6Ideal.defs _ _).mono (fun r h => And.intro (fun c => (h c).2.2.2.2.2.2.2.2.2.2.2.2.2.2) (sem_eq_zero_of_no_sems (by decide) r.2))
    (Cert.Reference6Ideal.Value.run (F := Ideal) m ρ)

/-- The kernel's named word reads as the exact scale of its queries. -/
theorem preserves6 : preserves_Kernel6_Kernel6Ideal :=
  IdealRules.named_const.statement Cert.Kernel6Ideal.κ "qscale" .f32 0x3E38AA3B#32 (((1 / 8) * (Real.log 2)⁻¹ : ℝ) : EReal) rfl

/-- The kernel's projections are the reference's, and the weights are passed on. -/
theorem algebraic6 : algebraic_Kernel6Ideal_Reference6Ideal := fun m ρ m' ρ' _ hag =>
  ⟨fun c => Cert.Kernel6Ideal.Inproj.queries (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)),
    fun c => Cert.Kernel6Ideal.Inproj.kv (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    fun c => Cert.Kernel6Ideal.Inproj.keys (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    fun c => Cert.Kernel6Ideal.Inproj.values (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)),
    fun c => Cert.Kernel6Ideal.Inproj.first (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    fun c => Cert.Kernel6Ideal.Inproj.second (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    fun c => Cert.Kernel6Ideal.Inproj.gates (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)),
    fun c => Cert.Reference6Ideal.Read.val_main_v92 (F := Ideal) (m ((c.tc : Thread Cert.Kernel6Ideal.nD Cert.Kernel6Ideal.τ).loc Cert.Kernel6Ideal.main_arg5)),
    fun c => Cert.Reference6Ideal.Read.val_main_v93 (F := Ideal) (m ((c.tc : Thread Cert.Kernel6Ideal.nD Cert.Kernel6Ideal.τ).loc Cert.Kernel6Ideal.main_arg6)),
    fun c => Cert.Reference6Ideal.Read.val_main_v94 (F := Ideal) (m ((c.tc : Thread Cert.Kernel6Ideal.nD Cert.Kernel6Ideal.τ).loc Cert.Kernel6Ideal.main_arg7)),
    fun c => Cert.Reference6Ideal.Read.val_main_v95 (F := Ideal) (m ((c.tc : Thread Cert.Kernel6Ideal.nD Cert.Kernel6Ideal.τ).loc Cert.Kernel6Ideal.main_arg8)),
    fun c => Cert.Reference6Ideal.Read.val_main_v96 (F := Ideal) (m ((c.tc : Thread Cert.Kernel6Ideal.nD Cert.Kernel6Ideal.τ).loc Cert.Kernel6Ideal.main_arg9)),
    fun c => Cert.Reference6Ideal.Read.val_main_v97 (F := Ideal) (m ((c.tc : Thread Cert.Kernel6Ideal.nD Cert.Kernel6Ideal.τ).loc Cert.Kernel6Ideal.main_arg10)),
    fun c => Cert.Reference6Ideal.Read.val_main_v98 (F := Ideal) (m ((c.tc : Thread Cert.Kernel6Ideal.nD Cert.Kernel6Ideal.τ).loc Cert.Kernel6Ideal.main_arg11)),
    (θ_run Cert.Kernel6Ideal.defs _ _).mono (fun r h c => ⟨(h c).1.trans (Cert.Kernel6Ideal.Inproj.final_queries m c),
      (h c).2.1.trans (Cert.Kernel6Ideal.Inproj.final_kv m c),
      (h c).2.2.1.trans (Cert.Kernel6Ideal.Inproj.final_keys m c),
      (h c).2.2.2.1.trans (Cert.Kernel6Ideal.Inproj.final_values m c),
      (h c).2.2.2.2.1.trans (Cert.Kernel6Ideal.Inproj.final_first m c),
      (h c).2.2.2.2.2.1.trans (Cert.Kernel6Ideal.Inproj.final_second m c),
      (h c).2.2.2.2.2.2.1.trans (Cert.Kernel6Ideal.Inproj.final_gates m c),
      (h c).2.2.2.2.2.2.2.1.trans (Cert.Kernel6Ideal.Inproj.final_cast19 m c),
      (h c).2.2.2.2.2.2.2.2.1.trans (Cert.Kernel6Ideal.Inproj.final_cast20 m c),
      (h c).2.2.2.2.2.2.2.2.2.1.trans (Cert.Kernel6Ideal.Inproj.final_cast21 m c),
      (h c).2.2.2.2.2.2.2.2.2.2.1.trans (Cert.Kernel6Ideal.Inproj.final_cast22 m c),
      (h c).2.2.2.2.2.2.2.2.2.2.2.1.trans (Cert.Kernel6Ideal.Inproj.final_cast23 m c),
      (h c).2.2.2.2.2.2.2.2.2.2.2.2.1.trans (Cert.Kernel6Ideal.Inproj.final_cast24 m c),
      (h c).2.2.2.2.2.2.2.2.2.2.2.2.2.1.trans (Cert.Kernel6Ideal.Inproj.final_cast25 m c),
      (h c).2.2.2.2.2.2.2.2.2.2.2.2.2.2⟩) (Cert.Kernel6Ideal.Value.run_blocks m ρ),
    (θ_run Cert.Reference6Ideal.defs _ _).mono (fun r h c => ⟨(h c).1.trans (by
      rw [Cert.Reference6Ideal.Read.val_main_v80_eq, (hag c).1, (hag c).2.1, (hag c).2.2.2.2.1]
      exact (Cert.Reference6Ideal.Inproj.queries_eq _ _ _).symm),
      (h c).2.1.trans (by
      rw [Cert.Reference6Ideal.Read.val_main_v81_eq, (hag c).1, (hag c).2.1, (hag c).2.2.2.1]
      exact (Cert.Reference6Ideal.Inproj.kv_eq _ _ _).symm),
      (h c).2.2.1.trans (by
      rw [Cert.Reference6Ideal.Read.val_main_v82_eq, (hag c).1, (hag c).2.1, (hag c).2.2.2.1]
      exact (Cert.Reference6Ideal.Inproj.keys_eq _ _ _).symm),
      (h c).2.2.2.1.trans (by
      rw [Cert.Reference6Ideal.Read.val_main_v83_eq, (hag c).1, (hag c).2.1, (hag c).2.2.2.2.1]
      exact (Cert.Reference6Ideal.Inproj.values_eq _ _ _).symm),
      (h c).2.2.2.2.1.trans (by
      rw [Cert.Reference6Ideal.Read.val_main_v60_eq, (hag c).1, (hag c).2.1, (hag c).2.2.2.1]
      exact (Cert.Reference6Ideal.Inproj.first_eq _ _ _).symm),
      (h c).2.2.2.2.2.1.trans (by
      rw [Cert.Reference6Ideal.Read.val_main_v84_eq, (hag c).1, (hag c).2.1, (hag c).2.2.1, (hag c).2.2.2.1]
      exact (Cert.Reference6Ideal.Inproj.second_eq _ _ _ _).symm),
      (h c).2.2.2.2.2.2.1.trans (by
      rw [Cert.Reference6Ideal.Read.val_main_v91_eq, (hag c).1, (hag c).2.1, (hag c).2.2.2.2.1]
      exact (Cert.Reference6Ideal.Inproj.gates_eq _ _ _).symm),
      (h c).2.2.2.2.2.2.2.1.trans (by rw [(hag c).2.2.2.2.2.1]; rfl),
      (h c).2.2.2.2.2.2.2.2.1.trans (by rw [(hag c).2.2.2.2.2.2.1]; rfl),
      (h c).2.2.2.2.2.2.2.2.2.1.trans (by rw [(hag c).2.2.2.2.2.2.2.1]; rfl),
      (h c).2.2.2.2.2.2.2.2.2.2.1.trans (by rw [(hag c).2.2.2.2.2.2.2.2.1]; rfl),
      (h c).2.2.2.2.2.2.2.2.2.2.2.1.trans (by rw [(hag c).2.2.2.2.2.2.2.2.2.1]; rfl),
      (h c).2.2.2.2.2.2.2.2.2.2.2.2.1.trans (by rw [(hag c).2.2.2.2.2.2.2.2.2.2.1]; rfl),
      (h c).2.2.2.2.2.2.2.2.2.2.2.2.2.1.trans (by rw [(hag c).2.2.2.2.2.2.2.2.2.2.2]; rfl),
      (h c).2.2.2.2.2.2.2.2.2.2.2.2.2.2⟩) (Cert.Reference6Ideal.Value.run m' ρ')⟩

/-- The seventh reference keeps its frame. -/
theorem frame_reference7 : quiescent_Reference7Ideal := fun m ρ _ =>
  (θ_run Cert.Reference7Ideal.defs _ _).mono (fun r h => And.intro (fun c => (h c).2.2) (sem_eq_zero_of_no_sems (by decide) r.2))
    (Cert.Reference7Ideal.Value.run (F := Ideal) m ρ)

/-- The kernel's compressed keys and values are the reference's. -/
theorem algebraic7 : algebraic_Kernel7Ideal_Reference7Ideal := fun m ρ m' ρ' _ hag =>
  ⟨fun c => Cert.Kernel7Ideal.Compress.keys (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Kernel7Ideal.Compress.values (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg4)),
    (θ_run Cert.Kernel7Ideal.defs _ _).mono (fun r h c => ⟨(h c).1.trans (Cert.Kernel7Ideal.Compress.final_keys m c),
      (h c).2.1.trans (Cert.Kernel7Ideal.Compress.final_values m c),
      (h c).2.2⟩) (Cert.Kernel7Ideal.Value.run_blocks m ρ),
    (θ_run Cert.Reference7Ideal.defs _ _).mono (fun r h c => ⟨(h c).1.trans (by
      rw [Cert.Reference7Ideal.Read.val_main_v101_eq, (hag c).1, (hag c).2.1, (hag c).2.2.1, (hag c).2.2.2.1]
      exact (Cert.Reference7Ideal.Compress.keys_eq _ _ _ _).symm),
      (h c).2.1.trans (by
      rw [Cert.Reference7Ideal.Read.val_main_v102_eq, (hag c).1, (hag c).2.1, (hag c).2.2.1, (hag c).2.2.2.2]
      exact (Cert.Reference7Ideal.Compress.values_eq _ _ _ _).symm),
      (h c).2.2⟩) (Cert.Reference7Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_augmented.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  preserves, algebraic, trivial, algebraic2, trivial, algebraic3, preserves4, algebraic4, trivial, algebraic5, preserves6, algebraic6,
  trivial, algebraic7⟩

end Cert.Proof

end
